-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Ffn [hPre_layer_in_stack : Cert.Pre_layer_in_stack.Facts] (m : (ℓ : Loc Cert.Ffn.nD Cert.Ffn.τ Cert.Ffn.sig) → Buf (Elt Bits) ℓ) : Prop :=
  ∀ c : Dev Cert.Ffn.nD,
    (Cert.Pre_layer_in_stack.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6))) = (fun _ => 1#1)

def Pre_FfnIdeal [hPre_layer_in_stack : Cert.Pre_layer_in_stack.Facts] (m : (ℓ : Loc Cert.FfnIdeal.nD Cert.FfnIdeal.τ Cert.FfnIdeal.sig) → Buf (Elt Ideal) ℓ) : Prop :=
  ∀ c : Dev Cert.FfnIdeal.nD,
    (Cert.Pre_layer_in_stack.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_layer_in_stack [hPre_layer_in_stack : Cert.Pre_layer_in_stack.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_layer_in_stack.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))) = (fun _ => 1#1)

def Pre_Qkv [hPre_layer_in_proj : Cert.Pre_layer_in_proj.Facts] (m : (ℓ : Loc Cert.Qkv.nD Cert.Qkv.τ Cert.Qkv.sig) → Buf (Elt Bits) ℓ) : Prop :=
  ∀ c : Dev Cert.Qkv.nD,
    (Cert.Pre_layer_in_proj.fn (F := Bits) (m ((c.tc : Thread Cert.Qkv.nD Cert.Qkv.τ).loc Cert.Qkv.main_arg0)) (m ((c.tc : Thread Cert.Qkv.nD Cert.Qkv.τ).loc Cert.Qkv.main_arg1)) (m ((c.tc : Thread Cert.Qkv.nD Cert.Qkv.τ).loc Cert.Qkv.main_arg2)) (m ((c.tc : Thread Cert.Qkv.nD Cert.Qkv.τ).loc Cert.Qkv.main_arg3))) = (fun _ => 1#1)

def Pre_QkvIdeal [hPre_layer_in_proj : Cert.Pre_layer_in_proj.Facts] (m : (ℓ : Loc Cert.QkvIdeal.nD Cert.QkvIdeal.τ Cert.QkvIdeal.sig) → Buf (Elt Ideal) ℓ) : Prop :=
  ∀ c : Dev Cert.QkvIdeal.nD,
    (Cert.Pre_layer_in_proj.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3))) = (fun _ => 1#1)

def Pre_QkvReferenceIdeal (m : (ℓ : Loc Cert.QkvReferenceIdeal.nD Cert.QkvReferenceIdeal.τ Cert.QkvReferenceIdeal.sig) → Buf (Elt Ideal) ℓ) : Prop :=
  True

def Pre_QkvReferenceIdeal_layer_in_proj [hPre_layer_in_proj : Cert.Pre_layer_in_proj.Facts] (m : (ℓ : Loc Cert.QkvReferenceIdeal.nD Cert.QkvReferenceIdeal.τ Cert.QkvReferenceIdeal.sig) → Buf (Elt Ideal) ℓ) : Prop :=
  ∀ c : Dev Cert.QkvReferenceIdeal.nD,
    (Cert.Pre_layer_in_proj.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3))) = (fun _ => 1#1)

def Pre_Rest [hPre_layer_in_proj : Cert.Pre_layer_in_proj.Facts] (m : (ℓ : Loc Cert.Rest.nD Cert.Rest.τ Cert.Rest.sig) → Buf (Elt Bits) ℓ) : Prop :=
  ∀ c : Dev Cert.Rest.nD,
    (Cert.Pre_layer_in_proj.fn (F := Bits) (m ((c.tc : Thread Cert.Rest.nD Cert.Rest.τ).loc Cert.Rest.main_arg0)) (m ((c.tc : Thread Cert.Rest.nD Cert.Rest.τ).loc Cert.Rest.main_arg1)) (m ((c.tc : Thread Cert.Rest.nD Cert.Rest.τ).loc Cert.Rest.main_arg2)) (m ((c.tc : Thread Cert.Rest.nD Cert.Rest.τ).loc Cert.Rest.main_arg3))) = (fun _ => 1#1)

def Pre_RestIdeal [hPre_layer_in_proj : Cert.Pre_layer_in_proj.Facts] (m : (ℓ : Loc Cert.RestIdeal.nD Cert.RestIdeal.τ Cert.RestIdeal.sig) → Buf (Elt Ideal) ℓ) : Prop :=
  ∀ c : Dev Cert.RestIdeal.nD,
    (Cert.Pre_layer_in_proj.fn (F := Ideal) (m ((c.tc : Thread Cert.RestIdeal.nD Cert.RestIdeal.τ).loc Cert.RestIdeal.main_arg0)) (m ((c.tc : Thread Cert.RestIdeal.nD Cert.RestIdeal.τ).loc Cert.RestIdeal.main_arg1)) (m ((c.tc : Thread Cert.RestIdeal.nD Cert.RestIdeal.τ).loc Cert.RestIdeal.main_arg2)) (m ((c.tc : Thread Cert.RestIdeal.nD Cert.RestIdeal.τ).loc Cert.RestIdeal.main_arg3))) = (fun _ => 1#1)

def Pre_RestReferenceIdeal (m : (ℓ : Loc Cert.RestReferenceIdeal.nD Cert.RestReferenceIdeal.τ Cert.RestReferenceIdeal.sig) → Buf (Elt Ideal) ℓ) : Prop :=
  True

def Pre_RestReferenceIdeal_layer_in_proj [hPre_layer_in_proj : Cert.Pre_layer_in_proj.Facts] (m : (ℓ : Loc Cert.RestReferenceIdeal.nD Cert.RestReferenceIdeal.τ Cert.RestReferenceIdeal.sig) → Buf (Elt Ideal) ℓ) : Prop :=
  ∀ c : Dev Cert.RestReferenceIdeal.nD,
    (Cert.Pre_layer_in_proj.fn (F := Ideal) (m ((c.tc : Thread Cert.RestReferenceIdeal.nD Cert.RestReferenceIdeal.τ).loc Cert.RestReferenceIdeal.main_arg0)) (m ((c.tc : Thread Cert.RestReferenceIdeal.nD Cert.RestReferenceIdeal.τ).loc Cert.RestReferenceIdeal.main_arg1)) (m ((c.tc : Thread Cert.RestReferenceIdeal.nD Cert.RestReferenceIdeal.τ).loc Cert.RestReferenceIdeal.main_arg2)) (m ((c.tc : Thread Cert.RestReferenceIdeal.nD Cert.RestReferenceIdeal.τ).loc Cert.RestReferenceIdeal.main_arg3))) = (fun _ => 1#1)

def Pre_Outproj [hPre_layer_in_outproj : Cert.Pre_layer_in_outproj.Facts] (m : (ℓ : Loc Cert.Outproj.nD Cert.Outproj.τ Cert.Outproj.sig) → Buf (Elt Bits) ℓ) : Prop :=
  ∀ c : Dev Cert.Outproj.nD,
    (Cert.Pre_layer_in_outproj.fn (F := Bits) (m ((c.tc : Thread Cert.Outproj.nD Cert.Outproj.τ).loc Cert.Outproj.main_arg0)) (m ((c.tc : Thread Cert.Outproj.nD Cert.Outproj.τ).loc Cert.Outproj.main_arg1)) (m ((c.tc : Thread Cert.Outproj.nD Cert.Outproj.τ).loc Cert.Outproj.main_arg2)) (m ((c.tc : Thread Cert.Outproj.nD Cert.Outproj.τ).loc Cert.Outproj.main_arg3)) (m ((c.tc : Thread Cert.Outproj.nD Cert.Outproj.τ).loc Cert.Outproj.main_arg4)) (m ((c.tc : Thread Cert.Outproj.nD Cert.Outproj.τ).loc Cert.Outproj.main_arg5)) (m ((c.tc : Thread Cert.Outproj.nD Cert.Outproj.τ).loc Cert.Outproj.main_arg6)) (m ((c.tc : Thread Cert.Outproj.nD Cert.Outproj.τ).loc Cert.Outproj.main_arg7))) = (fun _ => 1#1)

def Pre_OutprojIdeal [hPre_layer_in_outproj : Cert.Pre_layer_in_outproj.Facts] (m : (ℓ : Loc Cert.OutprojIdeal.nD Cert.OutprojIdeal.τ Cert.OutprojIdeal.sig) → Buf (Elt Ideal) ℓ) : Prop :=
  ∀ c : Dev Cert.OutprojIdeal.nD,
    (Cert.Pre_layer_in_outproj.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6)) (m ((c.tc : Thread Cert.OutprojIdeal.nD Cert.OutprojIdeal.τ).loc Cert.OutprojIdeal.main_arg7))) = (fun _ => 1#1)

def Pre_OutprojReferenceIdeal (m : (ℓ : Loc Cert.OutprojReferenceIdeal.nD Cert.OutprojReferenceIdeal.τ Cert.OutprojReferenceIdeal.sig) → Buf (Elt Ideal) ℓ) : Prop :=
  True

def Pre_OutprojReferenceIdeal_layer_in_outproj [hPre_layer_in_outproj : Cert.Pre_layer_in_outproj.Facts] (m : (ℓ : Loc Cert.OutprojReferenceIdeal.nD Cert.OutprojReferenceIdeal.τ Cert.OutprojReferenceIdeal.sig) → Buf (Elt Ideal) ℓ) : Prop :=
  ∀ c : Dev Cert.OutprojReferenceIdeal.nD,
    (Cert.Pre_layer_in_outproj.fn (F := Ideal) (m ((c.tc : Thread Cert.OutprojReferenceIdeal.nD Cert.OutprojReferenceIdeal.τ).loc Cert.OutprojReferenceIdeal.main_arg0)) (m ((c.tc : Thread Cert.OutprojReferenceIdeal.nD Cert.OutprojReferenceIdeal.τ).loc Cert.OutprojReferenceIdeal.main_arg1)) (m ((c.tc : Thread Cert.OutprojReferenceIdeal.nD Cert.OutprojReferenceIdeal.τ).loc Cert.OutprojReferenceIdeal.main_arg2)) (m ((c.tc : Thread Cert.OutprojReferenceIdeal.nD Cert.OutprojReferenceIdeal.τ).loc Cert.OutprojReferenceIdeal.main_arg3)) (m ((c.tc : Thread Cert.OutprojReferenceIdeal.nD Cert.OutprojReferenceIdeal.τ).loc Cert.OutprojReferenceIdeal.main_arg4)) (m ((c.tc : Thread Cert.OutprojReferenceIdeal.nD Cert.OutprojReferenceIdeal.τ).loc Cert.OutprojReferenceIdeal.main_arg5)) (m ((c.tc : Thread Cert.OutprojReferenceIdeal.nD Cert.OutprojReferenceIdeal.τ).loc Cert.OutprojReferenceIdeal.main_arg6)) (m ((c.tc : Thread Cert.OutprojReferenceIdeal.nD Cert.OutprojReferenceIdeal.τ).loc Cert.OutprojReferenceIdeal.main_arg7))) = (fun _ => 1#1)

def Pre_Conv [hPre_layer_in_conv : Cert.Pre_layer_in_conv.Facts] (m : (ℓ : Loc Cert.Conv.nD Cert.Conv.τ Cert.Conv.sig) → Buf (Elt Bits) ℓ) : Prop :=
  ∀ c : Dev Cert.Conv.nD,
    (Cert.Pre_layer_in_conv.fn (F := Bits) (m ((c.tc : Thread Cert.Conv.nD Cert.Conv.τ).loc Cert.Conv.main_arg0)) (m ((c.tc : Thread Cert.Conv.nD Cert.Conv.τ).loc Cert.Conv.main_arg1)) (m ((c.tc : Thread Cert.Conv.nD Cert.Conv.τ).loc Cert.Conv.main_arg2)) (m ((c.tc : Thread Cert.Conv.nD Cert.Conv.τ).loc Cert.Conv.main_arg3)) (m ((c.tc : Thread Cert.Conv.nD Cert.Conv.τ).loc Cert.Conv.main_arg4)) (m ((c.tc : Thread Cert.Conv.nD Cert.Conv.τ).loc Cert.Conv.main_arg5)) (m ((c.tc : Thread Cert.Conv.nD Cert.Conv.τ).loc Cert.Conv.main_arg6))) = (fun _ => 1#1)

def Pre_ConvIdeal [hPre_layer_in_conv : Cert.Pre_layer_in_conv.Facts] (m : (ℓ : Loc Cert.ConvIdeal.nD Cert.ConvIdeal.τ Cert.ConvIdeal.sig) → Buf (Elt Ideal) ℓ) : Prop :=
  ∀ c : Dev Cert.ConvIdeal.nD,
    (Cert.Pre_layer_in_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5)) (m ((c.tc : Thread Cert.ConvIdeal.nD Cert.ConvIdeal.τ).loc Cert.ConvIdeal.main_arg6))) = (fun _ => 1#1)

def Pre_ConvReferenceIdeal (m : (ℓ : Loc Cert.ConvReferenceIdeal.nD Cert.ConvReferenceIdeal.τ Cert.ConvReferenceIdeal.sig) → Buf (Elt Ideal) ℓ) : Prop :=
  True

def Pre_ConvReferenceIdeal_layer_in_conv [hPre_layer_in_conv : Cert.Pre_layer_in_conv.Facts] (m : (ℓ : Loc Cert.ConvReferenceIdeal.nD Cert.ConvReferenceIdeal.τ Cert.ConvReferenceIdeal.sig) → Buf (Elt Ideal) ℓ) : Prop :=
  ∀ c : Dev Cert.ConvReferenceIdeal.nD,
    (Cert.Pre_layer_in_conv.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5)) (m ((c.tc : Thread Cert.ConvReferenceIdeal.nD Cert.ConvReferenceIdeal.τ).loc Cert.ConvReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Ffn [hFfn : Cert.Ffn.Facts] [hPre_layer_in_stack : Cert.Pre_layer_in_stack.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] [hPre_layer_in_stack : Cert.Pre_layer_in_stack.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnReferenceIdeal_pre_layer_in_stack [hFfnReferenceIdeal : Cert.FfnReferenceIdeal.Facts] [hPre_layer_in_stack : Cert.Pre_layer_in_stack.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_layer_in_stack m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Qkv [hQkv : Cert.Qkv.Facts] [hPre_layer_in_proj : Cert.Pre_layer_in_proj.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] [hPre_layer_in_proj : Cert.Pre_layer_in_proj.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3))
      ∧ r.2.sem = fun _ => 0)

def quiescent_QkvReferenceIdeal_pre_layer_in_proj [hQkvReferenceIdeal : Cert.QkvReferenceIdeal.Facts] [hPre_layer_in_proj : Cert.Pre_layer_in_proj.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal_layer_in_proj m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3))
      ∧ r.2.sem = fun _ => 0)

def quiescent_Rest [hRest : Cert.Rest.Facts] [hPre_layer_in_proj : Cert.Pre_layer_in_proj.Facts] : Prop :=
  ∀ (m : (ℓ : Loc Cert.Rest.nD Cert.Rest.τ Cert.Rest.sig) → Buf (Elt Bits) ℓ) (g : Dev Cert.Rest.nD → PrngReg), Pre_Rest m →
    θ_run (Cert.Rest.defs (F := Bits)) (onTc (τ := Cert.Rest.τ) (Cert.Rest.main (F := Bits))) ⟨m, fun _ => 0, g⟩ (fun r => (∀ c : Dev Cert.Rest.nD,
      r.2.mem ((c.tc : Thread Cert.Rest.nD Cert.Rest.τ).loc Cert.Rest.main_arg0) = m ((c.tc : Thread Cert.Rest.nD Cert.Rest.τ).loc Cert.Rest.main_arg0)
      ∧ r.2.mem ((c.tc : Thread Cert.Rest.nD Cert.Rest.τ).loc Cert.Rest.main_arg1) = m ((c.tc : Thread Cert.Rest.nD Cert.Rest.τ).loc Cert.Rest.main_arg1)
      ∧ r.2.mem ((c.tc : Thread Cert.Rest.nD Cert.Rest.τ).loc Cert.Rest.main_arg2) = m ((c.tc : Thread Cert.Rest.nD Cert.Rest.τ).loc Cert.Rest.main_arg2)
      ∧ r.2.mem ((c.tc : Thread Cert.Rest.nD Cert.Rest.τ).loc Cert.Rest.main_arg3) = m ((c.tc : Thread Cert.Rest.nD Cert.Rest.τ).loc Cert.Rest.main_arg3))
      ∧ r.2.sem = fun _ => 0)

def quiescent_RestIdeal [hRestIdeal : Cert.RestIdeal.Facts] [hPre_layer_in_proj : Cert.Pre_layer_in_proj.Facts] : Prop :=
  ∀ (m : (ℓ : Loc Cert.RestIdeal.nD Cert.RestIdeal.τ Cert.RestIdeal.sig) → Buf (Elt Ideal) ℓ) (g : Dev Cert.RestIdeal.nD → PrngReg), Pre_RestIdeal m →
    θ_run (Cert.RestIdeal.defs (F := Ideal)) (onTc (τ := Cert.RestIdeal.τ) (Cert.RestIdeal.main (F := Ideal))) ⟨m, fun _ => 0, g⟩ (fun r => (∀ c : Dev Cert.RestIdeal.nD,
      r.2.mem ((c.tc : Thread Cert.RestIdeal.nD Cert.RestIdeal.τ).loc Cert.RestIdeal.main_arg0) = m ((c.tc : Thread Cert.RestIdeal.nD Cert.RestIdeal.τ).loc Cert.RestIdeal.main_arg0)
      ∧ r.2.mem ((c.tc : Thread Cert.RestIdeal.nD Cert.RestIdeal.τ).loc Cert.RestIdeal.main_arg1) = m ((c.tc : Thread Cert.RestIdeal.nD Cert.RestIdeal.τ).loc Cert.RestIdeal.main_arg1)
      ∧ r.2.mem ((c.tc : Thread Cert.RestIdeal.nD Cert.RestIdeal.τ).loc Cert.RestIdeal.main_arg2) = m ((c.tc : Thread Cert.RestIdeal.nD Cert.RestIdeal.τ).loc Cert.RestIdeal.main_arg2)
      ∧ r.2.mem ((c.tc : Thread Cert.RestIdeal.nD Cert.RestIdeal.τ).loc Cert.RestIdeal.main_arg3) = m ((c.tc : Thread Cert.RestIdeal.nD Cert.RestIdeal.τ).loc Cert.RestIdeal.main_arg3))
      ∧ r.2.sem = fun _ => 0)

def quiescent_RestReferenceIdeal [hRestReferenceIdeal : Cert.RestReferenceIdeal.Facts] : Prop :=
  ∀ (m : (ℓ : Loc Cert.RestReferenceIdeal.nD Cert.RestReferenceIdeal.τ Cert.RestReferenceIdeal.sig) → Buf (Elt Ideal) ℓ) (g : Dev Cert.RestReferenceIdeal.nD → PrngReg), Pre_RestReferenceIdeal m →
    θ_run (Cert.RestReferenceIdeal.defs (F := Ideal)) (onTc (τ := Cert.RestReferenceIdeal.τ) (Cert.RestReferenceIdeal.main (F := Ideal))) ⟨m, fun _ => 0, g⟩ (fun r => (∀ c : Dev Cert.RestReferenceIdeal.nD,
      r.2.mem ((c.tc : Thread Cert.RestReferenceIdeal.nD Cert.RestReferenceIdeal.τ).loc Cert.RestReferenceIdeal.main_arg0) = m ((c.tc : Thread Cert.RestReferenceIdeal.nD Cert.RestReferenceIdeal.τ).loc Cert.RestReferenceIdeal.main_arg0)
      ∧ r.2.mem ((c.tc : Thread Cert.RestReferenceIdeal.nD Cert.RestReferenceIdeal.τ).loc Cert.RestReferenceIdeal.main_arg1) = m ((c.tc : Thread Cert.RestReferenceIdeal.nD Cert.RestReferenceIdeal.τ).loc Cert.RestReferenceIdeal.main_arg1)
      ∧ r.2.mem ((c.tc : Thread Cert.RestReferenceIdeal.nD Cert.RestReferenceIdeal.τ).loc Cert.RestReferenceIdeal.main_arg2) = m ((c.tc : Thread Cert.RestReferenceIdeal.nD Cert.RestReferenceIdeal.τ).loc Cert.RestReferenceIdeal.main_arg2)
      ∧ r.2.mem ((c.tc : Thread Cert.RestReferenceIdeal.nD Cert.RestReferenceIdeal.τ).loc Cert.RestReferenceIdeal.main_arg3) = m ((c.tc : Thread Cert.RestReferenceIdeal.nD Cert.RestReferenceIdeal.τ).loc Cert.RestReferenceIdeal.main_arg3))
      ∧ r.2.sem = fun _ => 0)

def quiescent_RestReferenceIdeal_pre_layer_in_proj [hRestReferenceIdeal : Cert.RestReferenceIdeal.Facts] [hPre_layer_in_proj : Cert.Pre_layer_in_proj.Facts] : Prop :=
  ∀ (m : (ℓ : Loc Cert.RestReferenceIdeal.nD Cert.RestReferenceIdeal.τ Cert.RestReferenceIdeal.sig) → Buf (Elt Ideal) ℓ) (g : Dev Cert.RestReferenceIdeal.nD → PrngReg), Pre_RestReferenceIdeal_layer_in_proj m →
    θ_run (Cert.RestReferenceIdeal.defs (F := Ideal)) (onTc (τ := Cert.RestReferenceIdeal.τ) (Cert.RestReferenceIdeal.main (F := Ideal))) ⟨m, fun _ => 0, g⟩ (fun r => (∀ c : Dev Cert.RestReferenceIdeal.nD,
      r.2.mem ((c.tc : Thread Cert.RestReferenceIdeal.nD Cert.RestReferenceIdeal.τ).loc Cert.RestReferenceIdeal.main_arg0) = m ((c.tc : Thread Cert.RestReferenceIdeal.nD Cert.RestReferenceIdeal.τ).loc Cert.RestReferenceIdeal.main_arg0)
      ∧ r.2.mem ((c.tc : Thread Cert.RestReferenceIdeal.nD Cert.RestReferenceIdeal.τ).loc Cert.RestReferenceIdeal.main_arg1) = m ((c.tc : Thread Cert.RestReferenceIdeal.nD Cert.RestReferenceIdeal.τ).loc Cert.RestReferenceIdeal.main_arg1)
      ∧ r.2.mem ((c.tc : Thread Cert.RestReferenceIdeal.nD Cert.RestReferenceIdeal.τ).loc Cert.RestReferenceIdeal.main_arg2) = m ((c.tc : Thread Cert.RestReferenceIdeal.nD Cert.RestReferenceIdeal.τ).loc Cert.RestReferenceIdeal.main_arg2)
      ∧ r.2.mem ((c.tc : Thread Cert.RestReferenceIdeal.nD Cert.RestReferenceIdeal.τ).loc Cert.RestReferenceIdeal.main_arg3) = m ((c.tc : Thread Cert.RestReferenceIdeal.nD Cert.RestReferenceIdeal.τ).loc Cert.RestReferenceIdeal.main_arg3))
      ∧ r.2.sem = fun _ => 0)

def quiescent_Outproj [hOutproj : Cert.Outproj.Facts] [hPre_layer_in_outproj : Cert.Pre_layer_in_outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7))
      ∧ r.2.sem = fun _ => 0)

def quiescent_OutprojIdeal [hOutprojIdeal : Cert.OutprojIdeal.Facts] [hPre_layer_in_outproj : Cert.Pre_layer_in_outproj.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6)
      ∧ r.2.mem ((c.tc : Thread Cert.OutprojReferenceIdeal.nD Cert.OutprojReferenceIdeal.τ).loc Cert.OutprojReferenceIdeal.main_arg7) = m ((c.tc : Thread Cert.OutprojReferenceIdeal.nD Cert.OutprojReferenceIdeal.τ).loc Cert.OutprojReferenceIdeal.main_arg7))
      ∧ r.2.sem = fun _ => 0)

def quiescent_OutprojReferenceIdeal_pre_layer_in_outproj [hOutprojReferenceIdeal : Cert.OutprojReferenceIdeal.Facts] [hPre_layer_in_outproj : Cert.Pre_layer_in_outproj.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal_layer_in_outproj m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6)
      ∧ r.2.mem ((c.tc : Thread Cert.OutprojReferenceIdeal.nD Cert.OutprojReferenceIdeal.τ).loc Cert.OutprojReferenceIdeal.main_arg7) = m ((c.tc : Thread Cert.OutprojReferenceIdeal.nD Cert.OutprojReferenceIdeal.τ).loc Cert.OutprojReferenceIdeal.main_arg7))
      ∧ r.2.sem = fun _ => 0)

def quiescent_Conv [hConv : Cert.Conv.Facts] [hPre_layer_in_conv : Cert.Pre_layer_in_conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] [hPre_layer_in_conv : Cert.Pre_layer_in_conv.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6))
      ∧ r.2.sem = fun _ => 0)

def quiescent_ConvReferenceIdeal_pre_layer_in_conv [hConvReferenceIdeal : Cert.ConvReferenceIdeal.Facts] [hPre_layer_in_conv : Cert.Pre_layer_in_conv.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal_layer_in_conv m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Ffn_FfnIdeal : Prop :=
  True

def algebraic_FfnIdeal_FfnReferenceIdeal [hFfnIdeal : Cert.FfnIdeal.Facts] [hFfnReferenceIdeal : Cert.FfnReferenceIdeal.Facts] [hPre_layer_in_stack : Cert.Pre_layer_in_stack.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v43) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Qkv_QkvIdeal : Prop :=
  True

def algebraic_QkvIdeal_QkvReferenceIdeal [hQkvIdeal : Cert.QkvIdeal.Facts] [hQkvReferenceIdeal : Cert.QkvReferenceIdeal.Facts] [hPre_layer_in_proj : Cert.Pre_layer_in_proj.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v20) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3))

def preserves_Rest_RestIdeal : Prop :=
  True

def algebraic_RestIdeal_RestReferenceIdeal [hRestIdeal : Cert.RestIdeal.Facts] [hRestReferenceIdeal : Cert.RestReferenceIdeal.Facts] [hPre_layer_in_proj : Cert.Pre_layer_in_proj.Facts] : Prop :=
  ∀ (m : (ℓ : Loc Cert.RestIdeal.nD Cert.RestIdeal.τ Cert.RestIdeal.sig) → Buf (Elt Ideal) ℓ) (g : Dev Cert.RestIdeal.nD → PrngReg)
    (m' : (ℓ : Loc Cert.RestReferenceIdeal.nD Cert.RestReferenceIdeal.τ Cert.RestReferenceIdeal.sig) → Buf (Elt Ideal) ℓ) (g' : Dev Cert.RestReferenceIdeal.nD → PrngReg), Pre_RestIdeal m →
    (∀ c : Dev Cert.RestIdeal.nD,
      m' ((c.tc : Thread Cert.RestReferenceIdeal.nD Cert.RestReferenceIdeal.τ).loc Cert.RestReferenceIdeal.main_arg0) = m ((c.tc : Thread Cert.RestIdeal.nD Cert.RestIdeal.τ).loc Cert.RestIdeal.main_arg0)
      ∧ m' ((c.tc : Thread Cert.RestReferenceIdeal.nD Cert.RestReferenceIdeal.τ).loc Cert.RestReferenceIdeal.main_arg1) = m ((c.tc : Thread Cert.RestIdeal.nD Cert.RestIdeal.τ).loc Cert.RestIdeal.main_arg1)
      ∧ m' ((c.tc : Thread Cert.RestReferenceIdeal.nD Cert.RestReferenceIdeal.τ).loc Cert.RestReferenceIdeal.main_arg2) = m ((c.tc : Thread Cert.RestIdeal.nD Cert.RestIdeal.τ).loc Cert.RestIdeal.main_arg2)
      ∧ m' ((c.tc : Thread Cert.RestReferenceIdeal.nD Cert.RestReferenceIdeal.τ).loc Cert.RestReferenceIdeal.main_arg3) = m ((c.tc : Thread Cert.RestIdeal.nD Cert.RestIdeal.τ).loc Cert.RestIdeal.main_arg3)) →
    ∃ (v0 : (c : Dev Cert.RestIdeal.nD) → Buf (Elt Ideal) ((c.tc : Thread Cert.RestIdeal.nD Cert.RestIdeal.τ).loc Cert.RestIdeal.main_v0)),
      θ_run (Cert.RestIdeal.defs (F := Ideal)) (onTc (τ := Cert.RestIdeal.τ) (Cert.RestIdeal.main (F := Ideal))) ⟨m, fun _ => 0, g⟩ (fun r => ∀ c : Dev Cert.RestIdeal.nD,
          r.2.mem ((c.tc : Thread Cert.RestIdeal.nD Cert.RestIdeal.τ).loc Cert.RestIdeal.main_v0) = v0 c
          ∧ r.2.mem ((c.tc : Thread Cert.RestIdeal.nD Cert.RestIdeal.τ).loc Cert.RestIdeal.main_arg0) = m ((c.tc : Thread Cert.RestIdeal.nD Cert.RestIdeal.τ).loc Cert.RestIdeal.main_arg0)
          ∧ r.2.mem ((c.tc : Thread Cert.RestIdeal.nD Cert.RestIdeal.τ).loc Cert.RestIdeal.main_arg1) = m ((c.tc : Thread Cert.RestIdeal.nD Cert.RestIdeal.τ).loc Cert.RestIdeal.main_arg1)
          ∧ r.2.mem ((c.tc : Thread Cert.RestIdeal.nD Cert.RestIdeal.τ).loc Cert.RestIdeal.main_arg2) = m ((c.tc : Thread Cert.RestIdeal.nD Cert.RestIdeal.τ).loc Cert.RestIdeal.main_arg2)
          ∧ r.2.mem ((c.tc : Thread Cert.RestIdeal.nD Cert.RestIdeal.τ).loc Cert.RestIdeal.main_arg3) = m ((c.tc : Thread Cert.RestIdeal.nD Cert.RestIdeal.τ).loc Cert.RestIdeal.main_arg3))
      ∧ θ_run (Cert.RestReferenceIdeal.defs (F := Ideal)) (onTc (τ := Cert.RestReferenceIdeal.τ) (Cert.RestReferenceIdeal.main (F := Ideal))) ⟨m', fun _ => 0, g'⟩ (fun r => ∀ c : Dev Cert.RestReferenceIdeal.nD,
          r.2.mem ((c.tc : Thread Cert.RestReferenceIdeal.nD Cert.RestReferenceIdeal.τ).loc Cert.RestReferenceIdeal.main_v19) = v0 c
          ∧ r.2.mem ((c.tc : Thread Cert.RestReferenceIdeal.nD Cert.RestReferenceIdeal.τ).loc Cert.RestReferenceIdeal.main_arg0) = m' ((c.tc : Thread Cert.RestReferenceIdeal.nD Cert.RestReferenceIdeal.τ).loc Cert.RestReferenceIdeal.main_arg0)
          ∧ r.2.mem ((c.tc : Thread Cert.RestReferenceIdeal.nD Cert.RestReferenceIdeal.τ).loc Cert.RestReferenceIdeal.main_arg1) = m' ((c.tc : Thread Cert.RestReferenceIdeal.nD Cert.RestReferenceIdeal.τ).loc Cert.RestReferenceIdeal.main_arg1)
          ∧ r.2.mem ((c.tc : Thread Cert.RestReferenceIdeal.nD Cert.RestReferenceIdeal.τ).loc Cert.RestReferenceIdeal.main_arg2) = m' ((c.tc : Thread Cert.RestReferenceIdeal.nD Cert.RestReferenceIdeal.τ).loc Cert.RestReferenceIdeal.main_arg2)
          ∧ r.2.mem ((c.tc : Thread Cert.RestReferenceIdeal.nD Cert.RestReferenceIdeal.τ).loc Cert.RestReferenceIdeal.main_arg3) = m' ((c.tc : Thread Cert.RestReferenceIdeal.nD Cert.RestReferenceIdeal.τ).loc Cert.RestReferenceIdeal.main_arg3))

def preserves_Outproj_OutprojIdeal : Prop :=
  True

def algebraic_OutprojIdeal_OutprojReferenceIdeal [hOutprojIdeal : Cert.OutprojIdeal.Facts] [hOutprojReferenceIdeal : Cert.OutprojReferenceIdeal.Facts] [hPre_layer_in_outproj : Cert.Pre_layer_in_outproj.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)
      ∧ m' ((c.tc : Thread Cert.OutprojReferenceIdeal.nD Cert.OutprojReferenceIdeal.τ).loc Cert.OutprojReferenceIdeal.main_arg5) = m ((c.tc : Thread Cert.OutprojIdeal.nD Cert.OutprojIdeal.τ).loc Cert.OutprojIdeal.main_arg5)
      ∧ m' ((c.tc : Thread Cert.OutprojReferenceIdeal.nD Cert.OutprojReferenceIdeal.τ).loc Cert.OutprojReferenceIdeal.main_arg6) = m ((c.tc : Thread Cert.OutprojIdeal.nD Cert.OutprojIdeal.τ).loc Cert.OutprojIdeal.main_arg6)
      ∧ m' ((c.tc : Thread Cert.OutprojReferenceIdeal.nD Cert.OutprojReferenceIdeal.τ).loc Cert.OutprojReferenceIdeal.main_arg7) = m ((c.tc : Thread Cert.OutprojIdeal.nD Cert.OutprojIdeal.τ).loc Cert.OutprojIdeal.main_arg7)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v36) = v0 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5)
          ∧ r.2.mem ((c.tc : Thread Cert.OutprojReferenceIdeal.nD Cert.OutprojReferenceIdeal.τ).loc Cert.OutprojReferenceIdeal.main_arg6) = m' ((c.tc : Thread Cert.OutprojReferenceIdeal.nD Cert.OutprojReferenceIdeal.τ).loc Cert.OutprojReferenceIdeal.main_arg6)
          ∧ r.2.mem ((c.tc : Thread Cert.OutprojReferenceIdeal.nD Cert.OutprojReferenceIdeal.τ).loc Cert.OutprojReferenceIdeal.main_arg7) = m' ((c.tc : Thread Cert.OutprojReferenceIdeal.nD Cert.OutprojReferenceIdeal.τ).loc Cert.OutprojReferenceIdeal.main_arg7))

def preserves_Conv_ConvIdeal : Prop :=
  True

def algebraic_ConvIdeal_ConvReferenceIdeal [hConvIdeal : Cert.ConvIdeal.Facts] [hConvReferenceIdeal : Cert.ConvReferenceIdeal.Facts] [hPre_layer_in_conv : Cert.Pre_layer_in_conv.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)
      ∧ m' ((c.tc : Thread Cert.ConvReferenceIdeal.nD Cert.ConvReferenceIdeal.τ).loc Cert.ConvReferenceIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v278) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hQkv : Cert.Qkv.Facts) (hQkvIdeal : Cert.QkvIdeal.Facts) (hQkvReferenceIdeal : Cert.QkvReferenceIdeal.Facts) (hRest : Cert.Rest.Facts) (hRestIdeal : Cert.RestIdeal.Facts) (hRestReferenceIdeal : Cert.RestReferenceIdeal.Facts) (hOutproj : Cert.Outproj.Facts) (hOutprojIdeal : Cert.OutprojIdeal.Facts) (hOutprojReferenceIdeal : Cert.OutprojReferenceIdeal.Facts) (hConv : Cert.Conv.Facts) (hConvIdeal : Cert.ConvIdeal.Facts) (hConvReferenceIdeal : Cert.ConvReferenceIdeal.Facts) (hPre_finite_qk : Cert.Pre_finite_qk.Facts) (hPre_layer_in_stack : Cert.Pre_layer_in_stack.Facts) (hPre_layer_in_proj : Cert.Pre_layer_in_proj.Facts) (hPre_layer_in_outproj : Cert.Pre_layer_in_outproj.Facts) (hPre_layer_in_conv : Cert.Pre_layer_in_conv.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Ffn (hFfn := hFfn) (hPre_layer_in_stack := hPre_layer_in_stack)
    ∧ quiescent_FfnIdeal (hFfnIdeal := hFfnIdeal) (hPre_layer_in_stack := hPre_layer_in_stack)
    ∧ quiescent_FfnReferenceIdeal (hFfnReferenceIdeal := hFfnReferenceIdeal)
    ∧ quiescent_FfnReferenceIdeal_pre_layer_in_stack (hFfnReferenceIdeal := hFfnReferenceIdeal) (hPre_layer_in_stack := hPre_layer_in_stack)
    ∧ quiescent_Qkv (hQkv := hQkv) (hPre_layer_in_proj := hPre_layer_in_proj)
    ∧ quiescent_QkvIdeal (hQkvIdeal := hQkvIdeal) (hPre_layer_in_proj := hPre_layer_in_proj)
    ∧ quiescent_QkvReferenceIdeal (hQkvReferenceIdeal := hQkvReferenceIdeal)
    ∧ quiescent_QkvReferenceIdeal_pre_layer_in_proj (hQkvReferenceIdeal := hQkvReferenceIdeal) (hPre_layer_in_proj := hPre_layer_in_proj)
    ∧ quiescent_Rest (hRest := hRest) (hPre_layer_in_proj := hPre_layer_in_proj)
    ∧ quiescent_RestIdeal (hRestIdeal := hRestIdeal) (hPre_layer_in_proj := hPre_layer_in_proj)
    ∧ quiescent_RestReferenceIdeal (hRestReferenceIdeal := hRestReferenceIdeal)
    ∧ quiescent_RestReferenceIdeal_pre_layer_in_proj (hRestReferenceIdeal := hRestReferenceIdeal) (hPre_layer_in_proj := hPre_layer_in_proj)
    ∧ quiescent_Outproj (hOutproj := hOutproj) (hPre_layer_in_outproj := hPre_layer_in_outproj)
    ∧ quiescent_OutprojIdeal (hOutprojIdeal := hOutprojIdeal) (hPre_layer_in_outproj := hPre_layer_in_outproj)
    ∧ quiescent_OutprojReferenceIdeal (hOutprojReferenceIdeal := hOutprojReferenceIdeal)
    ∧ quiescent_OutprojReferenceIdeal_pre_layer_in_outproj (hOutprojReferenceIdeal := hOutprojReferenceIdeal) (hPre_layer_in_outproj := hPre_layer_in_outproj)
    ∧ quiescent_Conv (hConv := hConv) (hPre_layer_in_conv := hPre_layer_in_conv)
    ∧ quiescent_ConvIdeal (hConvIdeal := hConvIdeal) (hPre_layer_in_conv := hPre_layer_in_conv)
    ∧ quiescent_ConvReferenceIdeal (hConvReferenceIdeal := hConvReferenceIdeal)
    ∧ quiescent_ConvReferenceIdeal_pre_layer_in_conv (hConvReferenceIdeal := hConvReferenceIdeal) (hPre_layer_in_conv := hPre_layer_in_conv)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Ffn_FfnIdeal
    ∧ algebraic_FfnIdeal_FfnReferenceIdeal (hFfnIdeal := hFfnIdeal) (hFfnReferenceIdeal := hFfnReferenceIdeal) (hPre_layer_in_stack := hPre_layer_in_stack)
    ∧ preserves_Qkv_QkvIdeal
    ∧ algebraic_QkvIdeal_QkvReferenceIdeal (hQkvIdeal := hQkvIdeal) (hQkvReferenceIdeal := hQkvReferenceIdeal) (hPre_layer_in_proj := hPre_layer_in_proj)
    ∧ preserves_Rest_RestIdeal
    ∧ algebraic_RestIdeal_RestReferenceIdeal (hRestIdeal := hRestIdeal) (hRestReferenceIdeal := hRestReferenceIdeal) (hPre_layer_in_proj := hPre_layer_in_proj)
    ∧ preserves_Outproj_OutprojIdeal
    ∧ algebraic_OutprojIdeal_OutprojReferenceIdeal (hOutprojIdeal := hOutprojIdeal) (hOutprojReferenceIdeal := hOutprojReferenceIdeal) (hPre_layer_in_outproj := hPre_layer_in_outproj)
    ∧ preserves_Conv_ConvIdeal
    ∧ algebraic_ConvIdeal_ConvReferenceIdeal (hConvIdeal := hConvIdeal) (hConvReferenceIdeal := hConvReferenceIdeal) (hPre_layer_in_conv := hPre_layer_in_conv)
-- ==== Pre_finite_qk.lean ====
abbrev S4x2048x3072 : Shape := ⟨3, ![4, 2048, 3072]⟩
abbrev S4x2048x2048 : Shape := ⟨3, ![4, 2048, 2048]⟩
abbrev S_ : Shape := ⟨0, ![]⟩

class Facts : Prop where
  slices_S4x2048x3072_S4x2048x2048_0_0_0 : S4x2048x3072.Slices ![0, 0, 0] S4x2048x2048
  bitsLt_bf16_f32 : FTy.bits .bf16 < FTy.bits .f32
  bcast_S_S4x2048x2048 : S_.BroadcastsInDim S4x2048x2048 (![] : Fin 0 → Fin S4x2048x2048.rank)

variable [Facts]

def fn {F : FTy → Type} [FloatOps F] (main_arg0 : FVec F S4x2048x3072 .bf16) : IVec S4x2048x2048 1 :=
  let main_v0 : FVec F S4x2048x2048 .bf16 := (extractStridedSlice S4x2048x2048 ![0, 0, 0] · slices_S4x2048x3072_S4x2048x2048_0_0_0) main_arg0
  let main_v1 : FVec F S4x2048x2048 .f32 := (extf .f32 · bitsLt_bf16_f32) main_v0
  let main_v2 : FVec F S4x2048x2048 .f32 := Host.absf main_v1
  let main_cst : FVec F S_ .f32 := constant S_ .f32 0x7F800000#32
  let main_v3 : FVec F S4x2048x2048 .f32 := broadcastInDim S4x2048x2048 ![] bcast_S_S4x2048x2048 main_cst
  let main_v4 : IVec S4x2048x2048 1 := cmpf .olt main_v2 main_v3
  main_v4
-- ==== Pre_layer_in_conv.lean ====
abbrev S1 : Shape := ⟨1, ![1]⟩
abbrev S4x2048x2048 : Shape := ⟨3, ![4, 2048, 2048]⟩
abbrev S4x31x512 : Shape := ⟨3, ![4, 31, 512]⟩
abbrev S4x1x512 : Shape := ⟨3, ![4, 1, 512]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x2048x2048 .f32) (main_arg2 : FVec F S4x31x512 .f32) (main_arg3 : FVec F S4x1x512 .f32) (main_arg4 : FVec F S4x1x512 .f32) (main_arg5 : FVec F S4x1x512 .f32) (main_arg6 : FVec F S4x1x512 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_layer_in_outproj.lean ====
abbrev S1 : Shape := ⟨1, ![1]⟩
abbrev S8192x1024 : Shape := ⟨2, ![8192, 1024]⟩
abbrev S8192x512 : Shape := ⟨2, ![8192, 512]⟩
abbrev S4x1x1024 : Shape := ⟨3, ![4, 1, 1024]⟩
abbrev S4x2048x2048 : Shape := ⟨3, ![4, 2048, 2048]⟩
abbrev S8192x2048 : Shape := ⟨2, ![8192, 2048]⟩
abbrev S4x1x2048 : Shape := ⟨3, ![4, 1, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8192x1024 .f32) (main_arg2 : FVec F S8192x512 .bf16) (main_arg3 : FVec F S8192x512 .bf16) (main_arg4 : FVec F S4x1x1024 .f32) (main_arg5 : FVec F S4x2048x2048 .bf16) (main_arg6 : FVec F S8192x2048 .f32) (main_arg7 : FVec F S4x1x2048 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_layer_in_proj.lean ====
abbrev S1 : Shape := ⟨1, ![1]⟩
abbrev S8192x2048 : Shape := ⟨2, ![8192, 2048]⟩
abbrev S4x1x2048 : Shape := ⟨3, ![4, 1, 2048]⟩
abbrev S4x2048x5120 : Shape := ⟨3, ![4, 2048, 5120]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8192x2048 .f32) (main_arg2 : FVec F S4x1x2048 .f32) (main_arg3 : FVec F S4x2048x5120 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_layer_in_stack.lean ====
abbrev S1 : Shape := ⟨1, ![1]⟩
abbrev S8192x2048 : Shape := ⟨2, ![8192, 2048]⟩
abbrev S4x1x2048 : Shape := ⟨3, ![4, 1, 2048]⟩
abbrev S4x2048x5632 : Shape := ⟨3, ![4, 2048, 5632]⟩
abbrev S4x5632x2048 : Shape := ⟨3, ![4, 5632, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8192x2048 .f32) (main_arg2 : FVec F S4x1x2048 .f32) (main_arg3 : FVec F S4x2048x5632 .bf16) (main_arg4 : FVec F S4x2048x5632 .bf16) (main_arg5 : FVec F S4x5632x2048 .bf16) (main_arg6 : FVec F S4x1x2048 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Kernel.lean ====
abbrev S4x2048x3072 : Shape := ⟨3, ![4, 2048, 3072]⟩
abbrev S4x2048x1024 : Shape := ⟨3, ![4, 2048, 1024]⟩
abbrev S1x2048x128 : Shape := ⟨3, ![1, 2048, 128]⟩
abbrev S256x256 : Shape := ⟨2, ![256, 256]⟩
abbrev S1x256x128 : Shape := ⟨3, ![1, 256, 128]⟩
abbrev S256x128 : Shape := ⟨2, ![256, 128]⟩
abbrev S256x1 : Shape := ⟨2, ![256, 1]⟩
abbrev S256 : Shape := ⟨1, ![256]⟩

abbrev nBuf : Space → Nat
  | .hbm => 2
  | .vmem => 8
  | .smem => 0
  | _ => 0

abbrev bufTy : (tb : Table) → Fin (tcTables nBuf tb) → BufTy
  | .hbm, ⟨0, _⟩ => ⟨S4x2048x3072, .bf16⟩
  | .hbm, ⟨1, _⟩ => ⟨S4x2048x1024, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .f32⟩
  | .local _ .vmem, ⟨7, _⟩ => ⟨S1x2048x128, .f32⟩
  | _, _ => ⟨S4x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v10 : BitVec 32 := Scalar.muli arg6 c256_i32
  v10
def k0_off1 (k0_t1 : Fin k0_t1_loop.trips) : Fin 3 → Nat :=
  let c0 : Index := 0#32
  let c0_i32 : BitVec 32 := 0#32
  let c1_i32 : BitVec 32 := 1#32
  let arg6 : BitVec 32 := Scf.iv c0_i32 c1_i32 k0_t1
  let c256_i32 : BitVec 32 := 256#32
  let v10 : BitVec 32 := Scalar.muli arg6 c256_i32
  let v11 : BitVec 32 := v10
  let v12 : Index := Scalar.indexCast v11
  let c0_1 : Index := 0#32
  ![0, v12.toNat, 0]
@[reducible] def k0_t2_loop (k0_t1 : Fin k0_t1_loop.trips) : Scf.Loop 32 :=
  let c0_i32_19 : BitVec 32 := 0#32
  let c0_i32 : BitVec 32 := 0#32
  let c1_i32 : BitVec 32 := 1#32
  let arg6 : BitVec 32 := Scf.iv c0_i32 c1_i32 k0_t1
  let v60 : BitVec 32 := Scalar.subi arg6 c0_i32_19
  let c1_i32_20 : BitVec 32 := 1#32
  let v62 : BitVec 32 := Scalar.divsi v60 c1_i32_20
  let v63 : BitVec 32 := Scalar.muli v62 c1_i32_20
  let v64 : BitVec 32 := Scalar.addi c0_i32_19 v63
  let c1_i32_21 : BitVec 32 := 1#32
  ⟨c0_i32_19, v64, c1_i32_21⟩
def k0_mult2 (k0_t1 : Fin k0_t1_loop.trips) (k0_t2 : Fin (k0_t2_loop k0_t1).trips) : BitVec 32 :=
  let c0_i32 : BitVec 32 := 0#32
  let c1_i32 : BitVec 32 := 1#32
  let arg6 : BitVec 32 := Scf.iv c0_i32 c1_i32 k0_t1
  let c1_i32_25 : BitVec 32 := 1#32
  let v71 : BitVec 32 := Scalar.subi arg6 c1_i32_25
  let c0_i32_19 : BitVec 32 := 0#32
  let c1_i32_21 : BitVec 32 := 1#32
  let arg7 : BitVec 32 := Scf.iv c0_i32_19 c1_i32_21 k0_t2
  let v72 : BitVec 32 := Scalar.subi v71 arg7
  let c256_i32_26 : BitVec 32 := 256#32
  let v73 : BitVec 32 := Scalar.muli v72 c256_i32_26
  v73
def k0_off2 (k0_t1 : Fin k0_t1_loop.trips) (k0_t2 : Fin (k0_t2_loop k0_t1).trips) : Fin 3 → Nat :=
  let c0_27 : Index := 0#32
  let c0_i32 : BitVec 32 := 0#32
  let c1_i32 : BitVec 32 := 1#32
  let arg6 : BitVec 32 := Scf.iv c0_i32 c1_i32 k0_t1
  let c1_i32_25 : BitVec 32 := 1#32
  let v71 : BitVec 32 := Scalar.subi arg6 c1_i32_25
  let c0_i32_19 : BitVec 32 := 0#32
  let c1_i32_21 : BitVec 32 := 1#32
  let arg7 : BitVec 32 := Scf.iv c0_i32_19 c1_i32_21 k0_t2
  let v72 : BitVec 32 := Scalar.subi v71 arg7
  let c256_i32_26 : BitVec 32 := 256#32
  let v73 : BitVec 32 := Scalar.muli v72 c256_i32_26
  let v74 : BitVec 32 := v73
  let v75 : Index := Scalar.indexCast v74
  let c0_28 : Index := 0#32
  ![0, v75.toNat, 0]
@[reducible] def k0_t3_loop (k0_t1 : Fin k0_t1_loop.trips) : Scf.Loop 32 :=
  let c0_i32_19 : BitVec 32 := 0#32
  let c0_i32 : BitVec 32 := 0#32
  let c1_i32 : BitVec 32 := 1#32
  let arg6 : BitVec 32 := Scf.iv c0_i32 c1_i32 k0_t1
  let v60 : BitVec 32 := Scalar.subi arg6 c0_i32_19
  let c1_i32_20 : BitVec 32 := 1#32
  let v62 : BitVec 32 := Scalar.divsi v60 c1_i32_20
  let v63 : BitVec 32 := Scalar.muli v62 c1_i32_20
  let v64 : BitVec 32 := Scalar.addi c0_i32_19 v63
  let v61 : BitVec 32 := Scalar.addi c0_i32_19 v60
  let c1_i32_22 : BitVec 32 := 1#32
  ⟨v64, v61, c1_i32_22⟩
def k0_mult3 (k0_t1 : Fin k0_t1_loop.trips) (k0_t3 : Fin (k0_t3_loop k0_t1).trips) : BitVec 32 :=
  let c0_i32 : BitVec 32 := 0#32
  let c1_i32 : BitVec 32 := 1#32
  let arg6 : BitVec 32 := Scf.iv c0_i32 c1_i32 k0_t1
  let c1_i32_25 : BitVec 32 := 1#32
  let v71 : BitVec 32 := Scalar.subi arg6 c1_i32_25
  let c0_i32_19 : BitVec 32 := 0#32
  let v60 : BitVec 32 := Scalar.subi arg6 c0_i32_19
  let c1_i32_20 : BitVec 32 := 1#32
  let v62 : BitVec 32 := Scalar.divsi v60 c1_i32_20
  let v63 : BitVec 32 := Scalar.muli v62 c1_i32_20
  let v64 : BitVec 32 := Scalar.addi c0_i32_19 v63
  let c1_i32_22 : BitVec 32 := 1#32
  let arg7 : BitVec 32 := Scf.iv v64 c1_i32_22 k0_t3
  let v72 : BitVec 32 := Scalar.subi v71 arg7
  let c256_i32_26 : BitVec 32 := 256#32
  let v73 : BitVec 32 := Scalar.muli v72 c256_i32_26
  v73
def k0_off3 (k0_t1 : Fin k0_t1_loop.trips) (k0_t3 : Fin (k0_t3_loop k0_t1).trips) : Fin 3 → Nat :=
  let c0_27 : Index := 0#32
  let c0_i32 : BitVec 32 := 0#32
  let c1_i32 : BitVec 32 := 1#32
  let arg6 : BitVec 32 := Scf.iv c0_i32 c1_i32 k0_t1
  let c1_i32_25 : BitVec 32 := 1#32
  let v71 : BitVec 32 := Scalar.subi arg6 c1_i32_25
  let c0_i32_19 : BitVec 32 := 0#32
  let v60 : BitVec 32 := Scalar.subi arg6 c0_i32_19
  let c1_i32_20 : BitVec 32 := 1#32
  let v62 : BitVec 32 := Scalar.divsi v60 c1_i32_20
  let v63 : BitVec 32 := Scalar.muli v62 c1_i32_20
  let v64 : BitVec 32 := Scalar.addi c0_i32_19 v63
  let c1_i32_22 : BitVec 32 := 1#32
  let arg7 : BitVec 32 := Scf.iv v64 c1_i32_22 k0_t3
  let v72 : BitVec 32 := Scalar.subi v71 arg7
  let c256_i32_26 : BitVec 32 := 256#32
  let v73 : BitVec 32 := Scalar.muli v72 c256_i32_26
  let v74 : BitVec 32 := v73
  let v75 : Index := Scalar.indexCast v74
  let c0_28 : Index := 0#32
  ![0, v75.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x2048x3072 : Shape := ⟨3, ![4, 2048, 3072]⟩
abbrev S4x2048x1024 : Shape := ⟨3, ![4, 2048, 1024]⟩
abbrev S4x2048x8x128 : Shape := ⟨4, ![4, 2048, 8, 128]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x128x2048 : Shape := ⟨4, ![4, 8, 128, 2048]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x3072, .bf16⟩
  | .hbm, ⟨1, _⟩ => ⟨S4x2048x3072, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x8x128, .f32⟩
  | .hbm, ⟨6, _⟩ => ⟨S4x2048x8x128, .f32⟩
  | .hbm, ⟨7, _⟩ => ⟨S4x2048x8x128, .f32⟩
  | .hbm, ⟨8, _⟩ => ⟨S4x8x2048x2048, .f32⟩
  | .hbm, ⟨9, _⟩ => ⟨S_, .f32⟩
  | .hbm, ⟨10, _⟩ => ⟨S4x8x2048x2048, .f32⟩
  | .hbm, ⟨11, _⟩ => ⟨S4x8x2048x2048, .f32⟩
  | .hbm, ⟨12, _⟩ => ⟨S2048, .i32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S4x8x2048x2048, .f32⟩
  | .hbm, ⟨19, _⟩ => ⟨S4x8x2048x2048, .f32⟩
  | .hbm, ⟨20, _⟩ => ⟨S_, .f32⟩
  | .hbm, ⟨21, _⟩ => ⟨S4x8x2048x2048, .f32⟩
  | .hbm, ⟨22, _⟩ => ⟨S4x8x2048x2048, .f32⟩
  | .hbm, ⟨23, _⟩ => ⟨S4x8x2048x2048, .f32⟩
  | .hbm, ⟨24, _⟩ => ⟨S4x8x2048x2048, .f32⟩
  | .hbm, ⟨25, _⟩ => ⟨S4x8x2048x2048, .i1⟩
  | .hbm, ⟨26, _⟩ => ⟨S4x8x2048x2048, .f32⟩
  | .hbm, ⟨27, _⟩ => ⟨S4x8x2048x2048, .f32⟩
  | .hbm, ⟨28, _⟩ => ⟨S4x8x2048x2048, .f32⟩
  | .hbm, ⟨29, _⟩ => ⟨S4x8x2048x2048, .f32⟩
  | .hbm, ⟨30, _⟩ => ⟨S4x8x2048x2048, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S_, .f32⟩
  | .hbm, ⟨36, _⟩ => ⟨S_, .f32⟩
  | .hbm, ⟨37, _⟩ => ⟨S4x8x2048x2048, .i1⟩
  | .hbm, ⟨38, _⟩ => ⟨S4x8x2048x2048, .f32⟩
  | .hbm, ⟨39, _⟩ => ⟨S4x8x2048x2048, .f32⟩
  | .hbm, ⟨40, _⟩ => ⟨S_, .f32⟩
  | .hbm, ⟨41, _⟩ => ⟨S_, .f32⟩
  | .hbm, ⟨42, _⟩ => ⟨S4x8x2048x2048, .f32⟩
  | .hbm, ⟨43, _⟩ => ⟨S4x8x2048x2048, .f32⟩
  | .hbm, ⟨44, _⟩ => ⟨S4x8x2048x2048, .f32⟩
  | .hbm, ⟨45, _⟩ => ⟨S_, .f32⟩
  | .hbm, ⟨46, _⟩ => ⟨S4x8x2048x2048, .f32⟩
  | .hbm, ⟨47, _⟩ => ⟨S4x8x2048x2048, .f32⟩
  | .hbm, ⟨48, _⟩ => ⟨S4x8x2048x2048, .f32⟩
  | .hbm, ⟨49, _⟩ => ⟨S4x8x2048x2048, .f32⟩
  | .hbm, ⟨50, _⟩ => ⟨S4x8x2048x2048, .i1⟩
  | .hbm, ⟨51, _⟩ => ⟨S4x8x2048x2048, .f32⟩
  | .hbm, ⟨52, _⟩ => ⟨S4x8x2048x2048, .f32⟩
  | .hbm, ⟨53, _⟩ => ⟨S4x8x2048x2048, .f32⟩
  | .hbm, ⟨54, _⟩ => ⟨S4x8x2048x2048, .f32⟩
  | .hbm, ⟨55, _⟩ => ⟨S4x8x2048x2048, .f32⟩
  | .hbm, ⟨56, _⟩ => ⟨S4x8x2048x2048, .f32⟩
  | .hbm, ⟨57, _⟩ => ⟨S4x8x2048x2048, .f32⟩
  | .hbm, ⟨58, _⟩ => ⟨S4x8x2048x2048, .f32⟩
  | .hbm, ⟨59, _⟩ => ⟨S4x8x2048x2048, .f32⟩
  | .hbm, ⟨60, _⟩ => ⟨S4x8x2048x2048, .f32⟩
  | .hbm, ⟨61, _⟩ => ⟨S4x8x2048x2048, .f32⟩
  | .hbm, ⟨62, _⟩ => ⟨S_, .f32⟩
  | .hbm, ⟨63, _⟩ => ⟨S_, .f32⟩
  | .hbm, ⟨64, _⟩ => ⟨S4x8x2048x2048, .i1⟩
  | .hbm, ⟨65, _⟩ => ⟨S4x8x2048x2048, .f32⟩
  | .hbm, ⟨66, _⟩ => ⟨S4x8x2048x2048, .f32⟩
  | .hbm, ⟨67, _⟩ => ⟨S4x8x128x2048, .f32⟩
  | .hbm, ⟨68, _⟩ => ⟨S4x2048x8x128, .f32⟩
  | .hbm, ⟨69, _⟩ => ⟨S4x2048x1024, .f32⟩
  | _, _ => ⟨S4x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩

abbrev nD : Nat := 1
abbrev τ : Topo := Topo.v7x

variable {F : FTy → Type} [FloatOps F]
-- ==== Ffn.lean ====
abbrev S1 : Shape := ⟨1, ![1]⟩
abbrev S8192x2048 : Shape := ⟨2, ![8192, 2048]⟩
abbrev S4x1x2048 : Shape := ⟨3, ![4, 1, 2048]⟩
abbrev S4x2048x5632 : Shape := ⟨3, ![4, 2048, 5632]⟩
abbrev S4x5632x2048 : Shape := ⟨3, ![4, 5632, 2048]⟩
abbrev S512x2048 : Shape := ⟨2, ![512, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1x2048 : Shape := ⟨2, ![1, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 7
  | .vmem => 14
  | .smem => 1
  | _ => 0

abbrev bufTy : (tb : Table) → Fin (tcTables nBuf tb) → BufTy
  | .hbm, ⟨0, _⟩ => ⟨S8192x2048, .f32⟩
  | .hbm, ⟨1, _⟩ => ⟨S4x1x2048, .f32⟩
  | .hbm, ⟨2, _⟩ => ⟨S4x2048x5632, .bf16⟩
  | .hbm, ⟨3, _⟩ => ⟨S4x2048x5632, .bf16⟩
  | .hbm, ⟨4, _⟩ => ⟨S4x5632x2048, .bf16⟩
  | .hbm, ⟨5, _⟩ => ⟨S4x1x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | .local _ .smem, ⟨0, _⟩ => ⟨S1, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond4 (i : grid0.Coords) : BitVec 1 :=
  let arg1 : BitVec 32 := BitVec.ofNat 32 (i 1).val
  let c10_i32 : BitVec 32 := 10#32
  let v29 : BitVec 1 := Scalar.cmpi .eq arg1 c10_i32
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg1.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S1 : Shape := ⟨1, ![1]⟩
abbrev S8192x2048 : Shape := ⟨2, ![8192, 2048]⟩
abbrev S4x1x2048 : Shape := ⟨3, ![4, 1, 2048]⟩
abbrev S4x2048x5632 : Shape := ⟨3, ![4, 2048, 5632]⟩
abbrev S4x5632x2048 : Shape := ⟨3, ![4, 5632, 2048]⟩
abbrev S_ : Shape := ⟨0, ![]⟩
abbrev S1x1x2048 : Shape := ⟨3, ![1, 1, 2048]⟩
abbrev S1x2048 : Shape := ⟨2, ![1, 2048]⟩
abbrev S8192 : Shape := ⟨1, ![8192]⟩
abbrev S8192x1 : Shape := ⟨2, ![8192, 1]⟩
abbrev S1x2048x5632 : Shape := ⟨3, ![1, 2048, 5632]⟩
abbrev S2048x5632 : Shape := ⟨2, ![2048, 5632]⟩
abbrev S8192x5632 : Shape := ⟨2, ![8192, 5632]⟩
abbrev S1x5632x2048 : Shape := ⟨3, ![1, 5632, 2048]⟩
abbrev S5632x2048 : Shape := ⟨2, ![5632, 2048]⟩

abbrev nBuf : Space → Nat
  | .hbm => 75
  | .vmem => 0
  | .smem => 0
  | _ => 0

abbrev bufTy : (tb : Table) → Fin (tcTables nBuf tb) → BufTy
  | .hbm, ⟨0, _⟩ => ⟨S1, .i32⟩
  | .hbm, ⟨1, _⟩ => ⟨S8192x2048, .f32⟩
  | .hbm, ⟨2, _⟩ => ⟨S4x1x2048, .f32⟩
  | .hbm, ⟨3, _⟩ => ⟨S4x2048x5632, .bf16⟩
  | .hbm, ⟨4, _⟩ => ⟨S4x2048x5632, .bf16⟩
  | .hbm, ⟨5, _⟩ => ⟨S4x5632x2048, .bf16⟩
  | .hbm, ⟨6, _⟩ => ⟨S4x1x2048, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1x1x2048, .f32⟩
  | .hbm, ⟨11, _⟩ => ⟨S1x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .i32⟩
  | .hbm, ⟨28, _⟩ => ⟨S_, .i32⟩
  | .hbm, ⟨29, _⟩ => ⟨S1x2048x5632, .bf16⟩
  | .hbm, ⟨30, _⟩ => ⟨S2048x5632, .bf16⟩
  | .hbm, ⟨31, _⟩ => ⟨S2048x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S_, .i32⟩
  | .hbm, ⟨43, _⟩ => ⟨S_, .i32⟩
  | .hbm, ⟨44, _⟩ => ⟨S1x2048x5632, .bf16⟩
  | .hbm, ⟨45, _⟩ => ⟨S2048x5632, .bf16⟩
  | .hbm, ⟨46, _⟩ => ⟨S2048x5632, .f32⟩
  | .hbm, ⟨47, _⟩ => ⟨S8192x5632, .f32⟩
  | .hbm, ⟨48, _⟩ => ⟨S8192x5632, .f32⟩
  | .hbm, ⟨49, _⟩ => ⟨S_, .i32⟩
  | .hbm, ⟨50, _⟩ => ⟨S_, .i32⟩
  | .hbm, ⟨51, _⟩ => ⟨S1x5632x2048, .bf16⟩
  | .hbm, ⟨52, _⟩ => ⟨S5632x2048, .bf16⟩
  | .hbm, ⟨53, _⟩ => ⟨S5632x2048, .f32⟩
  | .hbm, ⟨54, _⟩ => ⟨S8192x2048, .f32⟩
  | .hbm, ⟨55, _⟩ => ⟨S_, .i32⟩
  | .hbm, ⟨56, _⟩ => ⟨S_, .i32⟩
  | .hbm, ⟨57, _⟩ => ⟨S1x1x2048, .f32⟩
  | .hbm, ⟨58, _⟩ => ⟨S1x2048, .f32⟩
  | .hbm, ⟨59, _⟩ => ⟨S8192x2048, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v19 : Ref sig .tc := ⟨.hbm, 41, rfl⟩
abbrev main_c_5 : Ref sig .tc := ⟨.hbm, 42, rfl⟩
abbrev main_c_6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_7 : Ref sig .tc := ⟨.hbm, 49, rfl⟩
abbrev main_c_8 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_9 : Ref sig .tc := ⟨.hbm, 55, rfl⟩
abbrev main_c_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_cst_12 : Ref sig .tc := ⟨.hbm, 63, rfl⟩
abbrev main_v34 : Ref sig .tc := ⟨.hbm, 64, rfl⟩
abbrev main_v35 : Ref sig .tc := ⟨.hbm, 65, rfl⟩
abbrev main_cst_13 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩

abbrev nD : Nat := 1
abbrev τ : Topo := Topo.v7x

variable {F : FTy → Type} [FloatOps F]
-- ==== Qkv.lean ====
abbrev S1 : Shape := ⟨1, ![1]⟩
abbrev S8192x2048 : Shape := ⟨2, ![8192, 2048]⟩
abbrev S4x1x2048 : Shape := ⟨3, ![4, 1, 2048]⟩
abbrev S4x2048x5120 : Shape := ⟨3, ![4, 2048, 5120]⟩
abbrev S8192x3072 : Shape := ⟨2, ![8192, 3072]⟩
abbrev S1024x2048 : Shape := ⟨2, ![1024, 2048]⟩
abbrev S1x1x2048 : Shape := ⟨3, ![1, 1, 2048]⟩
abbrev S1x2048x1024 : Shape := ⟨3, ![1, 2048, 1024]⟩
abbrev S1024x1024 : Shape := ⟨2, ![1024, 1024]⟩
abbrev S1x2048 : Shape := ⟨2, ![1, 2048]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 4
  | .vmem => 8
  | .smem => 1
  | _ => 0

abbrev bufTy : (tb : Table) → Fin (tcTables nBuf tb) → BufTy
  | .hbm, ⟨0, _⟩ => ⟨S8192x2048, .f32⟩
  | .hbm, ⟨1, _⟩ => ⟨S4x1x2048, .f32⟩
  | .hbm, ⟨2, _⟩ => ⟨S4x2048x5120, .bf16⟩
  | .hbm, ⟨3, _⟩ => ⟨S8192x3072, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | .local _ .smem, ⟨0, _⟩ => ⟨S1, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 3], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 32 := Scalar.addi c0_i32 arg1
  let c0_i32_0 : BitVec 32 := 0#32
  let c0_i32_1 : BitVec 32 := 0#32
  ![v0.toNat, c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvReferenceIdeal.lean ====
abbrev S1 : Shape := ⟨1, ![1]⟩
abbrev S8192x2048 : Shape := ⟨2, ![8192, 2048]⟩
abbrev S4x1x2048 : Shape := ⟨3, ![4, 1, 2048]⟩
abbrev S4x2048x5120 : Shape := ⟨3, ![4, 2048, 5120]⟩
abbrev S_ : Shape := ⟨0, ![]⟩
abbrev S1x1x2048 : Shape := ⟨3, ![1, 1, 2048]⟩
abbrev S1x2048 : Shape := ⟨2, ![1, 2048]⟩
abbrev S8192 : Shape := ⟨1, ![8192]⟩
abbrev S8192x1 : Shape := ⟨2, ![8192, 1]⟩
abbrev S1x2048x5120 : Shape := ⟨3, ![1, 2048, 5120]⟩
abbrev S2048x5120 : Shape := ⟨2, ![2048, 5120]⟩
abbrev S8192x5120 : Shape := ⟨2, ![8192, 5120]⟩
abbrev S8192x3072 : Shape := ⟨2, ![8192, 3072]⟩

abbrev nBuf : Space → Nat
  | .hbm => 32
  | .vmem => 0
  | .smem => 0
  | _ => 0

abbrev bufTy : (tb : Table) → Fin (tcTables nBuf tb) → BufTy
  | .hbm, ⟨0, _⟩ => ⟨S1, .i32⟩
  | .hbm, ⟨1, _⟩ => ⟨S8192x2048, .f32⟩
  | .hbm, ⟨2, _⟩ => ⟨S4x1x2048, .f32⟩
  | .hbm, ⟨3, _⟩ => ⟨S4x2048x5120, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1x1x2048, .f32⟩
  | .hbm, ⟨8, _⟩ => ⟨S1x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .i32⟩
  | .hbm, ⟨25, _⟩ => ⟨S_, .i32⟩
  | .hbm, ⟨26, _⟩ => ⟨S1x2048x5120, .bf16⟩
  | .hbm, ⟨27, _⟩ => ⟨S2048x5120, .bf16⟩
  | .hbm, ⟨28, _⟩ => ⟨S2048x5120, .f32⟩
  | .hbm, ⟨29, _⟩ => ⟨S8192x5120, .f32⟩
  | .hbm, ⟨30, _⟩ => ⟨S8192x3072, .f32⟩
  | .hbm, ⟨31, _⟩ => ⟨S8192x3072, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Rest.lean ====
abbrev S1 : Shape := ⟨1, ![1]⟩
abbrev S8192x2048 : Shape := ⟨2, ![8192, 2048]⟩
abbrev S4x1x2048 : Shape := ⟨3, ![4, 1, 2048]⟩
abbrev S4x2048x5120 : Shape := ⟨3, ![4, 2048, 5120]⟩
abbrev S1024x2048 : Shape := ⟨2, ![1024, 2048]⟩
abbrev S1x1x2048 : Shape := ⟨3, ![1, 1, 2048]⟩
abbrev S1x2048x1024 : Shape := ⟨3, ![1, 2048, 1024]⟩
abbrev S1024x1024 : Shape := ⟨2, ![1024, 1024]⟩
abbrev S1x2048 : Shape := ⟨2, ![1, 2048]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 4
  | .vmem => 8
  | .smem => 1
  | _ => 0

abbrev bufTy : (tb : Table) → Fin (tcTables nBuf tb) → BufTy
  | .hbm, ⟨0, _⟩ => ⟨S8192x2048, .f32⟩
  | .hbm, ⟨1, _⟩ => ⟨S4x1x2048, .f32⟩
  | .hbm, ⟨2, _⟩ => ⟨S4x2048x5120, .bf16⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | .local _ .smem, ⟨0, _⟩ => ⟨S1, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c3_i32 : BitVec 32 := 3#32
  let v1 : BitVec 32 := Scalar.addi c3_i32 arg1
  let c0_i32 : BitVec 32 := 0#32
  let c0_i32_0 : BitVec 32 := 0#32
  ![v0.toNat, c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RestReferenceIdeal.lean ====
abbrev S1 : Shape := ⟨1, ![1]⟩
abbrev S8192x2048 : Shape := ⟨2, ![8192, 2048]⟩
abbrev S4x1x2048 : Shape := ⟨3, ![4, 1, 2048]⟩
abbrev S4x2048x5120 : Shape := ⟨3, ![4, 2048, 5120]⟩
abbrev S_ : Shape := ⟨0, ![]⟩
abbrev S1x1x2048 : Shape := ⟨3, ![1, 1, 2048]⟩
abbrev S1x2048 : Shape := ⟨2, ![1, 2048]⟩
abbrev S8192 : Shape := ⟨1, ![8192]⟩
abbrev S8192x1 : Shape := ⟨2, ![8192, 1]⟩
abbrev S1x2048x5120 : Shape := ⟨3, ![1, 2048, 5120]⟩
abbrev S2048x5120 : Shape := ⟨2, ![2048, 5120]⟩
abbrev S8192x5120 : Shape := ⟨2, ![8192, 5120]⟩

abbrev nBuf : Space → Nat
  | .hbm => 31
  | .vmem => 0
  | .smem => 0
  | _ => 0

abbrev bufTy : (tb : Table) → Fin (tcTables nBuf tb) → BufTy
  | .hbm, ⟨0, _⟩ => ⟨S1, .i32⟩
  | .hbm, ⟨1, _⟩ => ⟨S8192x2048, .f32⟩
  | .hbm, ⟨2, _⟩ => ⟨S4x1x2048, .f32⟩
  | .hbm, ⟨3, _⟩ => ⟨S4x2048x5120, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1x1x2048, .f32⟩
  | .hbm, ⟨8, _⟩ => ⟨S1x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .i32⟩
  | .hbm, ⟨25, _⟩ => ⟨S_, .i32⟩
  | .hbm, ⟨26, _⟩ => ⟨S1x2048x5120, .bf16⟩
  | .hbm, ⟨27, _⟩ => ⟨S2048x5120, .bf16⟩
  | .hbm, ⟨28, _⟩ => ⟨S2048x5120, .f32⟩
  | .hbm, ⟨29, _⟩ => ⟨S8192x5120, .f32⟩
  | .hbm, ⟨30, _⟩ => ⟨S8192x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Outproj.lean ====
abbrev S1 : Shape := ⟨1, ![1]⟩
abbrev S8192x1024 : Shape := ⟨2, ![8192, 1024]⟩
abbrev S8192x512 : Shape := ⟨2, ![8192, 512]⟩
abbrev S4x1x1024 : Shape := ⟨3, ![4, 1, 1024]⟩
abbrev S4x2048x2048 : Shape := ⟨3, ![4, 2048, 2048]⟩
abbrev S8192x2048 : Shape := ⟨2, ![8192, 2048]⟩
abbrev S4x1x2048 : Shape := ⟨3, ![4, 1, 2048]⟩
abbrev S512x1024 : Shape := ⟨2, ![512, 1024]⟩
abbrev S512x512 : Shape := ⟨2, ![512, 512]⟩
abbrev S1x1x1024 : Shape := ⟨3, ![1, 1, 1024]⟩
abbrev S1x2048x2048 : Shape := ⟨3, ![1, 2048, 2048]⟩
abbrev S512x2048 : Shape := ⟨2, ![512, 2048]⟩
abbrev S1x1x2048 : Shape := ⟨3, ![1, 1, 2048]⟩
abbrev S1x1024 : Shape := ⟨2, ![1, 1024]⟩
abbrev S512 : Shape := ⟨1, ![512]⟩
abbrev S512x1 : Shape := ⟨2, ![512, 1]⟩
abbrev S2048x2048 : Shape := ⟨2, ![2048, 2048]⟩
abbrev S1x2048 : Shape := ⟨2, ![1, 2048]⟩

abbrev nBuf : Space → Nat
  | .hbm => 8
  | .vmem => 14
  | .smem => 1
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S4x1x1024, .f32⟩
  | .hbm, ⟨4, _⟩ => ⟨S4x2048x2048, .bf16⟩
  | .hbm, ⟨5, _⟩ => ⟨S8192x2048, .f32⟩
  | .hbm, ⟨6, _⟩ => ⟨S4x1x2048, .f32⟩
  | .hbm, ⟨7, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1x1024, .f32⟩
  | .local _ .vmem, ⟨7, _⟩ => ⟨S1x2048x2048, .bf16⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .smem, ⟨0, _⟩ => ⟨S1, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutprojReferenceIdeal.lean ====
abbrev S1 : Shape := ⟨1, ![1]⟩
abbrev S8192x1024 : Shape := ⟨2, ![8192, 1024]⟩
abbrev S8192x512 : Shape := ⟨2, ![8192, 512]⟩
abbrev S4x1x1024 : Shape := ⟨3, ![4, 1, 1024]⟩
abbrev S4x2048x2048 : Shape := ⟨3, ![4, 2048, 2048]⟩
abbrev S8192x2048 : Shape := ⟨2, ![8192, 2048]⟩
abbrev S4x1x2048 : Shape := ⟨3, ![4, 1, 2048]⟩
abbrev S_ : Shape := ⟨0, ![]⟩
abbrev S1x1x1024 : Shape := ⟨3, ![1, 1, 1024]⟩
abbrev S1x1024 : Shape := ⟨2, ![1, 1024]⟩
abbrev S8192 : Shape := ⟨1, ![8192]⟩
abbrev S8192x1 : Shape := ⟨2, ![8192, 1]⟩
abbrev S1x2048x2048 : Shape := ⟨3, ![1, 2048, 2048]⟩
abbrev S2048x2048 : Shape := ⟨2, ![2048, 2048]⟩
abbrev S1x1x2048 : Shape := ⟨3, ![1, 1, 2048]⟩
abbrev S1x2048 : Shape := ⟨2, ![1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S1, .i32⟩
  | .hbm, ⟨1, _⟩ => ⟨S8192x1024, .f32⟩
  | .hbm, ⟨2, _⟩ => ⟨S8192x512, .bf16⟩
  | .hbm, ⟨3, _⟩ => ⟨S8192x512, .bf16⟩
  | .hbm, ⟨4, _⟩ => ⟨S4x1x1024, .f32⟩
  | .hbm, ⟨5, _⟩ => ⟨S4x2048x2048, .bf16⟩
  | .hbm, ⟨6, _⟩ => ⟨S8192x2048, .f32⟩
  | .hbm, ⟨7, _⟩ => ⟨S4x1x2048, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1x1x1024, .f32⟩
  | .hbm, ⟨12, _⟩ => ⟨S1x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x512, .f32⟩
  | .hbm, ⟨29, _⟩ => ⟨S8192x512, .f32⟩
  | .hbm, ⟨30, _⟩ => ⟨S8192x2048, .f32⟩
  | .hbm, ⟨31, _⟩ => ⟨S_, .i32⟩
  | .hbm, ⟨32, _⟩ => ⟨S_, .i32⟩
  | .hbm, ⟨33, _⟩ => ⟨S1x2048x2048, .bf16⟩
  | .hbm, ⟨34, _⟩ => ⟨S2048x2048, .bf16⟩
  | .hbm, ⟨35, _⟩ => ⟨S2048x2048, .f32⟩
  | .hbm, ⟨36, _⟩ => ⟨S8192x2048, .f32⟩
  | .hbm, ⟨37, _⟩ => ⟨S_, .i32⟩
  | .hbm, ⟨38, _⟩ => ⟨S_, .i32⟩
  | .hbm, ⟨39, _⟩ => ⟨S1x1x2048, .f32⟩
  | .hbm, ⟨40, _⟩ => ⟨S1x2048, .f32⟩
  | .hbm, ⟨41, _⟩ => ⟨S8192x2048, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_c_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Conv.lean ====
abbrev S1 : Shape := ⟨1, ![1]⟩
abbrev S4x2048x2048 : Shape := ⟨3, ![4, 2048, 2048]⟩
abbrev S4x31x512 : Shape := ⟨3, ![4, 31, 512]⟩
abbrev S4x1x512 : Shape := ⟨3, ![4, 1, 512]⟩
abbrev S4x2048x512 : Shape := ⟨3, ![4, 2048, 512]⟩
abbrev S1x256x512 : Shape := ⟨3, ![1, 256, 512]⟩
abbrev S1x31x512 : Shape := ⟨3, ![1, 31, 512]⟩
abbrev S1x1x512 : Shape := ⟨3, ![1, 1, 512]⟩
abbrev S288x512 : Shape := ⟨2, ![288, 512]⟩
abbrev S32x512 : Shape := ⟨2, ![32, 512]⟩
abbrev S256x512 : Shape := ⟨2, ![256, 512]⟩
abbrev S1x512 : Shape := ⟨2, ![1, 512]⟩
abbrev S32 : Shape := ⟨1, ![32]⟩
abbrev S32x1 : Shape := ⟨2, ![32, 1]⟩
abbrev S1x32x512 : Shape := ⟨3, ![1, 32, 512]⟩

abbrev nBuf : Space → Nat
  | .hbm => 7
  | .vmem => 12
  | .smem => 1
  | _ => 0

abbrev bufTy : (tb : Table) → Fin (tcTables nBuf tb) → BufTy
  | .hbm, ⟨0, _⟩ => ⟨S4x2048x2048, .f32⟩
  | .hbm, ⟨1, _⟩ => ⟨S4x31x512, .f32⟩
  | .hbm, ⟨2, _⟩ => ⟨S4x1x512, .f32⟩
  | .hbm, ⟨3, _⟩ => ⟨S4x1x512, .f32⟩
  | .hbm, ⟨4, _⟩ => ⟨S4x1x512, .f32⟩
  | .hbm, ⟨5, _⟩ => ⟨S4x1x512, .f32⟩
  | .hbm, ⟨6, _⟩ => ⟨S4x2048x512, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x31x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x256x512, .bf16⟩
  | .local _ .vmem, ⟨10, _⟩ => ⟨S1x256x512, .bf16⟩
  | .local _ .vmem, ⟨11, _⟩ => ⟨S288x512, .f32⟩
  | .local _ .smem, ⟨0, _⟩ => ⟨S1, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvReferenceIdeal.lean ====
abbrev S1 : Shape := ⟨1, ![1]⟩
abbrev S4x2048x2048 : Shape := ⟨3, ![4, 2048, 2048]⟩
abbrev S4x31x512 : Shape := ⟨3, ![4, 31, 512]⟩
abbrev S4x1x512 : Shape := ⟨3, ![4, 1, 512]⟩
abbrev S_ : Shape := ⟨0, ![]⟩
abbrev S4x2048x512 : Shape := ⟨3, ![4, 2048, 512]⟩
abbrev S1x31x512 : Shape := ⟨3, ![1, 31, 512]⟩
abbrev S31x512 : Shape := ⟨2, ![31, 512]⟩
abbrev S4x2078x512 : Shape := ⟨3, ![4, 2078, 512]⟩
abbrev S1x512 : Shape := ⟨2, ![1, 512]⟩
abbrev S512 : Shape := ⟨1, ![512]⟩
abbrev S1x1x512 : Shape := ⟨3, ![1, 1, 512]⟩
abbrev S4x2048 : Shape := ⟨2, ![4, 2048]⟩
abbrev S4x2048x1 : Shape := ⟨3, ![4, 2048, 1]⟩

abbrev nBuf : Space → Nat
  | .hbm => 317
  | .vmem => 0
  | .smem => 0
  | _ => 0

abbrev hbmTy0_0 (i : Nat) : BufTy := match i % 128 with
  | 0 => ⟨S1, .i32⟩
  | 1 => ⟨S4x2048x2048, .f32⟩
  | 2 => ⟨S4x31x512, .f32⟩
  | 3 => ⟨S4x1x512, .f32⟩
  | 4 => ⟨S4x1x512, .f32⟩
  | 5 => ⟨S4x1x512, .f32⟩
  | 6 => ⟨S4x1x512, .f32⟩
  | 7 => ⟨S_, .i32⟩
  | 8 => ⟨S4x2048x512, .f32⟩
  | 9 => ⟨S4x2048x512, .f32⟩
  | 10 => ⟨S4x2048x512, .f32⟩
  | 11 => ⟨S4x2048x512, .f32⟩
  | 12 => ⟨S_, .f32⟩
  | 13 => ⟨S4x2048x512, .f32⟩
  | 14 => ⟨S4x2048x512, .f32⟩
  | 15 => ⟨S_, .f32⟩
  | 16 => ⟨S4x2048x512, .f32⟩
  | 17 => ⟨S4x2048x512, .f32⟩
  | 18 => ⟨S4x2048x512, .f32⟩
  | 19 => ⟨S_, .i32⟩
  | 20 => ⟨S_, .i32⟩
  | 21 => ⟨S1x31x512, .f32⟩
  | 22 => ⟨S31x512, .f32⟩
  | 23 => ⟨S_, .i32⟩
  | 24 => ⟨S_, .f32⟩
  | 25 => ⟨S4x2078x512, .f32⟩
  | 26 => ⟨S4x2048x512, .f32⟩
  | 27 => ⟨S1x512, .f32⟩
  | 28 => ⟨S512, .f32⟩
  | 29 => ⟨S1x1x512, .f32⟩
  | 30 => ⟨S4x2048x512, .f32⟩
  | 31 => ⟨S4x2048x512, .f32⟩
  | 32 => ⟨S_, .f32⟩
  | 33 => ⟨S4x2048x512, .f32⟩
  | 34 => ⟨S4x2048x512, .f32⟩
  | 35 => ⟨S4x2048x512, .f32⟩
  | 36 => ⟨S1x512, .f32⟩
  | 37 => ⟨S512, .f32⟩
  | 38 => ⟨S1x1x512, .f32⟩
  | 39 => ⟨S4x2048x512, .f32⟩
  | 40 => ⟨S4x2048x512, .f32⟩
  | 41 => ⟨S4x2048x512, .f32⟩
  | 42 => ⟨S4x2048x512, .f32⟩
  | 43 => ⟨S1x512, .f32⟩
  | 44 => ⟨S512, .f32⟩
  | 45 => ⟨S1x1x512, .f32⟩
  | 46 => ⟨S4x2048x512, .f32⟩
  | 47 => ⟨S4x2048x512, .f32⟩
  | 48 => ⟨S4x2048x512, .f32⟩
  | 49 => ⟨S4x2048x512, .f32⟩
  | 50 => ⟨S1x512, .f32⟩
  | 51 => ⟨S512, .f32⟩
  | 52 => ⟨S1x1x512, .f32⟩
  | 53 => ⟨S4x2048x512, .f32⟩
  | 54 => ⟨S4x2048x512, .f32⟩
  | 55 => ⟨S4x2048x512, .f32⟩
  | 56 => ⟨S4x2048x512, .f32⟩
  | 57 => ⟨S1x512, .f32⟩
  | 58 => ⟨S512, .f32⟩
  | 59 => ⟨S1x1x512, .f32⟩
  | 60 => ⟨S4x2048x512, .f32⟩
  | 61 => ⟨S4x2048x512, .f32⟩
  | 62 => ⟨S4x2048x512, .f32⟩
  | 63 => ⟨S4x2048x512, .f32⟩
  | 64 => ⟨S1x512, .f32⟩
  | 65 => ⟨S512, .f32⟩
  | 66 => ⟨S1x1x512, .f32⟩
  | 67 => ⟨S4x2048x512, .f32⟩
  | 68 => ⟨S4x2048x512, .f32⟩
  | 69 => ⟨S4x2048x512, .f32⟩
  | 70 => ⟨S4x2048x512, .f32⟩
  | 71 => ⟨S1x512, .f32⟩
  | 72 => ⟨S512, .f32⟩
  | 73 => ⟨S1x1x512, .f32⟩
  | 74 => ⟨S4x2048x512, .f32⟩
  | 75 => ⟨S4x2048x512, .f32⟩
  | 76 => ⟨S4x2048x512, .f32⟩
  | 77 => ⟨S4x2048x512, .f32⟩
  | 78 => ⟨S1x512, .f32⟩
  | 79 => ⟨S512, .f32⟩
  | 80 => ⟨S1x1x512, .f32⟩
  | 81 => ⟨S4x2048x512, .f32⟩
  | 82 => ⟨S4x2048x512, .f32⟩
  | 83 => ⟨S4x2048x512, .f32⟩
  | 84 => ⟨S4x2048x512, .f32⟩
  | 85 => ⟨S1x512, .f32⟩
  | 86 => ⟨S512, .f32⟩
  | 87 => ⟨S1x1x512, .f32⟩
  | 88 => ⟨S4x2048x512, .f32⟩
  | 89 => ⟨S4x2048x512, .f32⟩
  | 90 => ⟨S4x2048x512, .f32⟩
  | 91 => ⟨S4x2048x512, .f32⟩
  | 92 => ⟨S1x512, .f32⟩
  | 93 => ⟨S512, .f32⟩
  | 94 => ⟨S1x1x512, .f32⟩
  | 95 => ⟨S4x2048x512, .f32⟩
  | 96 => ⟨S4x2048x512, .f32⟩
  | 97 => ⟨S4x2048x512, .f32⟩
  | 98 => ⟨S4x2048x512, .f32⟩
  | 99 => ⟨S1x512, .f32⟩
  | 100 => ⟨S512, .f32⟩
  | 101 => ⟨S1x1x512, .f32⟩
  | 102 => ⟨S4x2048x512, .f32⟩
  | 103 => ⟨S4x2048x512, .f32⟩
  | 104 => ⟨S4x2048x512, .f32⟩
  | 105 => ⟨S4x2048x512, .f32⟩
  | 106 => ⟨S1x512, .f32⟩
  | 107 => ⟨S512, .f32⟩
  | 108 => ⟨S1x1x512, .f32⟩
  | 109 => ⟨S4x2048x512, .f32⟩
  | 110 => ⟨S4x2048x512, .f32⟩
  | 111 => ⟨S4x2048x512, .f32⟩
  | 112 => ⟨S4x2048x512, .f32⟩
  | 113 => ⟨S1x512, .f32⟩
  | 114 => ⟨S512, .f32⟩
  | 115 => ⟨S1x1x512, .f32⟩
  | 116 => ⟨S4x2048x512, .f32⟩
  | 117 => ⟨S4x2048x512, .f32⟩
  | 118 => ⟨S4x2048x512, .f32⟩
  | 119 => ⟨S4x2048x512, .f32⟩
  | 120 => ⟨S1x512, .f32⟩
  | 121 => ⟨S512, .f32⟩
  | 122 => ⟨S1x1x512, .f32⟩
  | 123 => ⟨S4x2048x512, .f32⟩
  | 124 => ⟨S4x2048x512, .f32⟩
  | 125 => ⟨S4x2048x512, .f32⟩
  | 126 => ⟨S4x2048x512, .f32⟩
  | 127 => ⟨S1x512, .f32⟩
  | _ => ⟨S1, .i32⟩

abbrev hbmTy0_1 (i : Nat) : BufTy := match i % 128 with
  | 0 => ⟨S512, .f32⟩
  | 1 => ⟨S1x1x512, .f32⟩
  | 2 => ⟨S4x2048x512, .f32⟩
  | 3 => ⟨S4x2048x512, .f32⟩
  | 4 => ⟨S4x2048x512, .f32⟩
  | 5 => ⟨S4x2048x512, .f32⟩
  | 6 => ⟨S1x512, .f32⟩
  | 7 => ⟨S512, .f32⟩
  | 8 => ⟨S1x1x512, .f32⟩
  | 9 => ⟨S4x2048x512, .f32⟩
  | 10 => ⟨S4x2048x512, .f32⟩
  | 11 => ⟨S4x2048x512, .f32⟩
  | 12 => ⟨S4x2048x512, .f32⟩
  | 13 => ⟨S1x512, .f32⟩
  | 14 => ⟨S512, .f32⟩
  | 15 => ⟨S1x1x512, .f32⟩
  | 16 => ⟨S4x2048x512, .f32⟩
  | 17 => ⟨S4x2048x512, .f32⟩
  | 18 => ⟨S4x2048x512, .f32⟩
  | 19 => ⟨S4x2048x512, .f32⟩
  | 20 => ⟨S1x512, .f32⟩
  | 21 => ⟨S512, .f32⟩
  | 22 => ⟨S1x1x512, .f32⟩
  | 23 => ⟨S4x2048x512, .f32⟩
  | 24 => ⟨S4x2048x512, .f32⟩
  | 25 => ⟨S4x2048x512, .f32⟩
  | 26 => ⟨S4x2048x512, .f32⟩
  | 27 => ⟨S1x512, .f32⟩
  | 28 => ⟨S512, .f32⟩
  | 29 => ⟨S1x1x512, .f32⟩
  | 30 => ⟨S4x2048x512, .f32⟩
  | 31 => ⟨S4x2048x512, .f32⟩
  | 32 => ⟨S4x2048x512, .f32⟩
  | 33 => ⟨S4x2048x512, .f32⟩
  | 34 => ⟨S1x512, .f32⟩
  | 35 => ⟨S512, .f32⟩
  | 36 => ⟨S1x1x512, .f32⟩
  | 37 => ⟨S4x2048x512, .f32⟩
  | 38 => ⟨S4x2048x512, .f32⟩
  | 39 => ⟨S4x2048x512, .f32⟩
  | 40 => ⟨S4x2048x512, .f32⟩
  | 41 => ⟨S1x512, .f32⟩
  | 42 => ⟨S512, .f32⟩
  | 43 => ⟨S1x1x512, .f32⟩
  | 44 => ⟨S4x2048x512, .f32⟩
  | 45 => ⟨S4x2048x512, .f32⟩
  | 46 => ⟨S4x2048x512, .f32⟩
  | 47 => ⟨S4x2048x512, .f32⟩
  | 48 => ⟨S1x512, .f32⟩
  | 49 => ⟨S512, .f32⟩
  | 50 => ⟨S1x1x512, .f32⟩
  | 51 => ⟨S4x2048x512, .f32⟩
  | 52 => ⟨S4x2048x512, .f32⟩
  | 53 => ⟨S4x2048x512, .f32⟩
  | 54 => ⟨S4x2048x512, .f32⟩
  | 55 => ⟨S1x512, .f32⟩
  | 56 => ⟨S512, .f32⟩
  | 57 => ⟨S1x1x512, .f32⟩
  | 58 => ⟨S4x2048x512, .f32⟩
  | 59 => ⟨S4x2048x512, .f32⟩
  | 60 => ⟨S4x2048x512, .f32⟩
  | 61 => ⟨S4x2048x512, .f32⟩
  | 62 => ⟨S1x512, .f32⟩
  | 63 => ⟨S512, .f32⟩
  | 64 => ⟨S1x1x512, .f32⟩
  | 65 => ⟨S4x2048x512, .f32⟩
  | 66 => ⟨S4x2048x512, .f32⟩
  | 67 => ⟨S4x2048x512, .f32⟩
  | 68 => ⟨S4x2048x512, .f32⟩
  | 69 => ⟨S1x512, .f32⟩
  | 70 => ⟨S512, .f32⟩
  | 71 => ⟨S1x1x512, .f32⟩
  | 72 => ⟨S4x2048x512, .f32⟩
  | 73 => ⟨S4x2048x512, .f32⟩
  | 74 => ⟨S4x2048x512, .f32⟩
  | 75 => ⟨S4x2048x512, .f32⟩
  | 76 => ⟨S1x512, .f32⟩
  | 77 => ⟨S512, .f32⟩
  | 78 => ⟨S1x1x512, .f32⟩
  | 79 => ⟨S4x2048x512, .f32⟩
  | 80 => ⟨S4x2048x512, .f32⟩
  | 81 => ⟨S4x2048x512, .f32⟩
  | 82 => ⟨S4x2048x512, .f32⟩
  | 83 => ⟨S1x512, .f32⟩
  | 84 => ⟨S512, .f32⟩
  | 85 => ⟨S1x1x512, .f32⟩
  | 86 => ⟨S4x2048x512, .f32⟩
  | 87 => ⟨S4x2048x512, .f32⟩
  | 88 => ⟨S4x2048x512, .f32⟩
  | 89 => ⟨S4x2048x512, .f32⟩
  | 90 => ⟨S1x512, .f32⟩
  | 91 => ⟨S512, .f32⟩
  | 92 => ⟨S1x1x512, .f32⟩
  | 93 => ⟨S4x2048x512, .f32⟩
  | 94 => ⟨S4x2048x512, .f32⟩
  | 95 => ⟨S4x2048x512, .f32⟩
  | 96 => ⟨S4x2048x512, .f32⟩
  | 97 => ⟨S1x512, .f32⟩
  | 98 => ⟨S512, .f32⟩
  | 99 => ⟨S1x1x512, .f32⟩
  | 100 => ⟨S4x2048x512, .f32⟩
  | 101 => ⟨S4x2048x512, .f32⟩
  | 102 => ⟨S4x2048x512, .f32⟩
  | 103 => ⟨S4x2048x512, .f32⟩
  | 104 => ⟨S1x512, .f32⟩
  | 105 => ⟨S512, .f32⟩
  | 106 => ⟨S1x1x512, .f32⟩
  | 107 => ⟨S4x2048x512, .f32⟩
  | 108 => ⟨S4x2048x512, .f32⟩
  | 109 => ⟨S4x2048x512, .f32⟩
  | 110 => ⟨S4x2048x512, .f32⟩
  | 111 => ⟨S1x512, .f32⟩
  | 112 => ⟨S512, .f32⟩
  | 113 => ⟨S1x1x512, .f32⟩
  | 114 => ⟨S4x2048x512, .f32⟩
  | 115 => ⟨S4x2048x512, .f32⟩
  | 116 => ⟨S4x2048x512, .f32⟩
  | 117 => ⟨S_, .i32⟩
  | 118 => ⟨S_, .i32⟩
  | 119 => ⟨S1x1x512, .f32⟩
  | 120 => ⟨S1x512, .f32⟩
  | 121 => ⟨S1x1x512, .f32⟩
  | 122 => ⟨S4x2048x512, .f32⟩
  | 123 => ⟨S4x2048x512, .f32⟩
  | 124 => ⟨S_, .f32⟩
  | 125 => ⟨S4x2048, .f32⟩
  | 126 => ⟨S4x2048x1, .f32⟩
  | 127 => ⟨S_, .f32⟩
  | _ => ⟨S1, .i32⟩

abbrev hbmTy0_2 (i : Nat) : BufTy := match i % 128 with
  | 0 => ⟨S4x2048x1, .f32⟩
  | 1 => ⟨S4x2048x1, .f32⟩
  | 2 => ⟨S4x2048x512, .f32⟩
  | 3 => ⟨S4x2048x512, .f32⟩
  | 4 => ⟨S4x2048x512, .f32⟩
  | 5 => ⟨S_, .f32⟩
  | 6 => ⟨S4x2048, .f32⟩
  | 7 => ⟨S4x2048x1, .f32⟩
  | 8 => ⟨S_, .f32⟩
  | 9 => ⟨S4x2048x1, .f32⟩
  | 10 => ⟨S4x2048x1, .f32⟩
  | 11 => ⟨S_, .f32⟩
  | 12 => ⟨S4x2048x1, .f32⟩
  | 13 => ⟨S4x2048x1, .f32⟩
  | 14 => ⟨S4x2048x1, .f32⟩
  | 15 => ⟨S4x2048x512, .f32⟩
  | 16 => ⟨S4x2048x512, .f32⟩
  | 17 => ⟨S_, .i32⟩
  | 18 => ⟨S_, .i32⟩
  | 19 => ⟨S1x1x512, .f32⟩
  | 20 => ⟨S1x512, .f32⟩
  | 21 => ⟨S1x1x512, .f32⟩
  | 22 => ⟨S4x2048x512, .f32⟩
  | 23 => ⟨S4x2048x512, .f32⟩
  | 24 => ⟨S_, .i32⟩
  | 25 => ⟨S_, .i32⟩
  | 26 => ⟨S1x1x512, .f32⟩
  | 27 => ⟨S1x512, .f32⟩
  | 28 => ⟨S1x1x512, .f32⟩
  | 29 => ⟨S4x2048x512, .f32⟩
  | 30 => ⟨S4x2048x512, .f32⟩
  | 31 => ⟨S4x2048x512, .f32⟩
  | 32 => ⟨S4x2048x512, .f32⟩
  | 33 => ⟨S_, .f32⟩
  | 34 => ⟨S4x2048x512, .f32⟩
  | 35 => ⟨S4x2048x512, .f32⟩
  | 36 => ⟨S_, .f32⟩
  | 37 => ⟨S4x2048x512, .f32⟩
  | 38 => ⟨S4x2048x512, .f32⟩
  | 39 => ⟨S4x2048x512, .f32⟩
  | 40 => ⟨S_, .i32⟩
  | 41 => ⟨S_, .i32⟩
  | 42 => ⟨S1x1x512, .f32⟩
  | 43 => ⟨S1x512, .f32⟩
  | 44 => ⟨S4x2048x512, .f32⟩
  | 45 => ⟨S_, .f32⟩
  | 46 => ⟨S4x2048, .f32⟩
  | 47 => ⟨S4x2048x1, .f32⟩
  | 48 => ⟨S_, .f32⟩
  | 49 => ⟨S4x2048x1, .f32⟩
  | 50 => ⟨S4x2048x1, .f32⟩
  | 51 => ⟨S_, .f32⟩
  | 52 => ⟨S4x2048x1, .f32⟩
  | 53 => ⟨S4x2048x1, .f32⟩
  | 54 => ⟨S4x2048x1, .f32⟩
  | 55 => ⟨S4x2048x512, .f32⟩
  | 56 => ⟨S4x2048x512, .f32⟩
  | 57 => ⟨S1x1x512, .f32⟩
  | 58 => ⟨S4x2048x512, .f32⟩
  | 59 => ⟨S4x2048x512, .f32⟩
  | 60 => ⟨S4x2048x512, .bf16⟩
  | _ => ⟨S1, .i32⟩

abbrev hbmTy (i : Nat) : BufTy := match i / 128 with
  | 0 => hbmTy0_0 i
  | 1 => hbmTy0_1 i
  | 2 => hbmTy0_2 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_c_4 : Ref sig .tc := ⟨.hbm, 245, rfl⟩
abbrev main_c_5 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_cst_6 : Ref sig .tc := ⟨.hbm, 252, rfl⟩
abbrev main_v236 : Ref sig .tc := ⟨.hbm, 253, rfl⟩
abbrev main_v237 : Ref sig .tc := ⟨.hbm, 254, rfl⟩
abbrev main_cst_7 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_cst_8 : Ref sig .tc := ⟨.hbm, 261, rfl⟩
abbrev main_v243 : Ref sig .tc := ⟨.hbm, 262, rfl⟩
abbrev main_v244 : Ref sig .tc := ⟨.hbm, 263, rfl⟩
abbrev main_cst_9 : Ref sig .tc := ⟨.hbm, 264, rfl⟩
abbrev main_v245 : Ref sig .tc := ⟨.hbm, 265, rfl⟩
abbrev main_v246 : Ref sig .tc := ⟨.hbm, 266, rfl⟩
abbrev main_cst_10 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_c_11 : Ref sig .tc := ⟨.hbm, 273, rfl⟩
abbrev main_c_12 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_c_13 : Ref sig .tc := ⟨.hbm, 280, rfl⟩
abbrev main_c_14 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_call1_v0 : Ref sig .tc := ⟨.hbm, 287, rfl⟩
abbrev main_call1_v1 : Ref sig .tc := ⟨.hbm, 288, rfl⟩
abbrev main_call1_cst : Ref sig .tc := ⟨.hbm, 289, rfl⟩
abbrev main_call1_v2 : Ref sig .tc := ⟨.hbm, 290, rfl⟩
abbrev main_call1_v3 : Ref sig .tc := ⟨.hbm, 291, rfl⟩
abbrev main_call1_cst_0 : Ref sig .tc := ⟨.hbm, 292, rfl⟩
abbrev main_call1_v4 : Ref sig .tc := ⟨.hbm, 293, rfl⟩
abbrev main_call1_v5 : Ref sig .tc := ⟨.hbm, 294, rfl⟩
abbrev main_v262 : Ref sig .tc := ⟨.hbm, 295, rfl⟩
abbrev main_c_15 : Ref sig .tc := ⟨.hbm, 296, rfl⟩
abbrev main_c_16 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_cst_17 : Ref sig .tc := ⟨.hbm, 301, rfl⟩
abbrev main_v266 : Ref sig .tc := ⟨.hbm, 302, rfl⟩
abbrev main_v267 : Ref sig .tc := ⟨.hbm, 303, rfl⟩
abbrev main_cst_18 : Ref sig .tc := ⟨.hbm, 304, rfl⟩
abbrev main_v268 : Ref sig .tc := ⟨.hbm, 305, rfl⟩
abbrev main_v269 : Ref sig .tc := ⟨.hbm, 306, rfl⟩
abbrev main_cst_19 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩

abbrev nD : Nat := 1
abbrev τ : Topo := Topo.v7x

variable {F : FTy → Type} [FloatOps F]
-- ==== Proof.AttnI.lean ====
/-
  The attention kernel's run: one trip of its loop over query blocks (the key blocks' loop inside), the loop by its
  invariant, the body at a grid point, and the launch. For any float values; the claims read it at the instance they
  are stated at.
-/
module

public import proofs.«01_k».proof.Proof.Gen.KernelIdeal.Frame
public import proofs.«01_k».proof.Proof.Gen.KernelIdeal.Loops
public import Idealize.ShloMosaic.Lib.Tactic
public import Idealize.ShloMosaic.Lib.WholeRead
public import Idealize.ShloMosaic.Lib.Pointwise.Index

@[expose] public section

set_option maxRecDepth 16384

noncomputable section

namespace Cert.Proof.AttnI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resource algebra of the run. -/
local notation "𝕄" => MT nD τ sig Unit (Elt F) ℕ (UR sig nD τ) ℕ

/-- A staging memref of a bf16 operand. -/
abbrev MI := Memref sig .tc .vmem S1x2048x128 .bf16
/-- The staging memref of the result. -/
abbrev MO := Memref sig .tc .vmem S1x2048x128 .f32

abbrev 𝒱₀ : Variants := Variants.none

/-! ## One trip over a query block -/

/-- What a trip holds: queries, keys and values at their contents, the result's buffer at `g`. -/
abbrev Trip (c : Dev nD) (a2 a3 a4 : MI) (a5 : MO) (X2 : BufTy.Contents (Elt F) a2.view.ty)
    (X3 : BufTy.Contents (Elt F) a3.view.ty) (X4 : BufTy.Contents (Elt F) a4.view.ty) (g : BufTy.Contents (Elt F) a5.view.ty) : sProp 𝕄 :=
  iprop((a2.view.loc (c : Thread nD τ) ↦[a2.view.set]{fullShare} X2) ∗ (a3.view.loc (c : Thread nD τ) ↦[a3.view.set]{fullShare} X3)
    ∗ (a4.view.loc (c : Thread nD τ) ↦[a4.view.set]{fullShare} X4) ∗ (a5.view.loc (c : Thread nD τ) ↦[a5.view.set]{fullShare} g))

/-- The pieces that trip `k` writes into the result's buffer, found by running it, with the proof that it does. -/
@[irreducible] def trip (c : Dev nD) (i : grid0.Coords) (a2 : MI) (h2 : a2.IsWhole) (a3 : MI) (h3 : a3.IsWhole) (a4 : MI) (h4 : a4.IsWhole)
    (a5 : MO) (h5 : a5.IsWhole) (X2 : BufTy.Contents (Elt F) a2.view.ty) (X3 : BufTy.Contents (Elt F) a3.view.ty)
    (X4 : BufTy.Contents (Elt F) a4.view.ty) (k : Fin k0_t1_loop.trips) :
    { L : List (View.Piece (Elt F) S1x2048x128 .f32) // ∀ (E : Set ℕ) (g : BufTy.Contents (Elt F) a5.view.ty) (u : Unit),
      Trip (F := F) c a2 a3 a4 a5 X2 X3 X4 g
      ⊢ wp frame (wpE (defs₀ (F := F)) 𝒱₀ (c : Thread nD τ) none) E (k0_t1_body (F := F) i a2 h2 a3 h3 a4 h4 a5 h5 k u)
          (fun _ => Trip (F := F) c a2 a3 a4 a5 X2 X3 X4 (a5.view.writes (Elt F) g L)) } := by
  refine ⟨?_, fun E g u => ?run⟩
  case run =>
    unfold k0_t1_body
    iintro ⟨H2, H3, H4, H5⟩
    sl_exec
    sl_step
    sl_close

/-- Trip `k`'s pieces. -/
abbrev tripL (c : Dev nD) (i : grid0.Coords) (a2 : MI) (h2 : a2.IsWhole) (a3 : MI) (h3 : a3.IsWhole) (a4 : MI) (h4 : a4.IsWhole)
    (a5 : MO) (h5 : a5.IsWhole) (X2 : BufTy.Contents (Elt F) a2.view.ty) (X3 : BufTy.Contents (Elt F) a3.view.ty)
    (X4 : BufTy.Contents (Elt F) a4.view.ty) (k : Fin k0_t1_loop.trips) : List (View.Piece (Elt F) S1x2048x128 .f32) :=
  (trip (F := F) c i a2 h2 a3 h3 a4 h4 a5 h5 X2 X3 X4 k).1

/-! ## The loop over query blocks -/

/-- The pieces written before trip `n`, the last one first. -/
def pieces (c : Dev nD) (i : grid0.Coords) (a2 : MI) (h2 : a2.IsWhole) (a3 : MI) (h3 : a3.IsWhole) (a4 : MI) (h4 : a4.IsWhole)
    (a5 : MO) (h5 : a5.IsWhole) (X2 : BufTy.Contents (Elt F) a2.view.ty) (X3 : BufTy.Contents (Elt F) a3.view.ty)
    (X4 : BufTy.Contents (Elt F) a4.view.ty) : ℕ → List (View.Piece (Elt F) S1x2048x128 .f32)
  | 0 => []
  | n + 1 => (if h : n < k0_t1_loop.trips then tripL (F := F) c i a2 h2 a3 h3 a4 h4 a5 h5 X2 X3 X4 ⟨n, h⟩ else [])
      ++ pieces c i a2 h2 a3 h3 a4 h4 a5 h5 X2 X3 X4 n

theorem pieces_succ (c : Dev nD) (i : grid0.Coords) (a2 : MI) (h2 : a2.IsWhole) (a3 : MI) (h3 : a3.IsWhole) (a4 : MI) (h4 : a4.IsWhole)
    (a5 : MO) (h5 : a5.IsWhole) (X2 : BufTy.Contents (Elt F) a2.view.ty) (X3 : BufTy.Contents (Elt F) a3.view.ty)
    (X4 : BufTy.Contents (Elt F) a4.view.ty) (k : Fin k0_t1_loop.trips) :
    pieces (F := F) c i a2 h2 a3 h3 a4 h4 a5 h5 X2 X3 X4 (k.val + 1)
      = tripL (F := F) c i a2 h2 a3 h3 a4 h4 a5 h5 X2 X3 X4 k ++ pieces (F := F) c i a2 h2 a3 h3 a4 h4 a5 h5 X2 X3 X4 k.val := by
  rw [pieces, dif_pos k.isLt]

/-- Before trip `k` the operands' buffers are as they were and the result's holds the pieces of the trips before. -/
abbrev inv (c : Dev nD) (i : grid0.Coords) (a2 : MI) (h2 : a2.IsWhole) (a3 : MI) (h3 : a3.IsWhole) (a4 : MI) (h4 : a4.IsWhole)
    (a5 : MO) (h5 : a5.IsWhole) (X2 : BufTy.Contents (Elt F) a2.view.ty) (X3 : BufTy.Contents (Elt F) a3.view.ty)
    (X4 : BufTy.Contents (Elt F) a4.view.ty) (g : BufTy.Contents (Elt F) a5.view.ty) (k : ℕ) (_ : Unit) : sProp 𝕄 :=
  Trip (F := F) c a2 a3 a4 a5 X2 X3 X4 (a5.view.writes (Elt F) g (pieces (F := F) c i a2 h2 a3 h3 a4 h4 a5 h5 X2 X3 X4 k))

set_option warn.classDefReducibility false in
/-- The loop by that invariant. -/
def loopInv (c : Dev nD) (E : Set ℕ) (i : grid0.Coords) (a2 : MI) (h2 : a2.IsWhole) (a3 : MI) (h3 : a3.IsWhole) (a4 : MI) (h4 : a4.IsWhole)
    (a5 : MO) (h5 : a5.IsWhole) (X2 : BufTy.Contents (Elt F) a2.view.ty) (X3 : BufTy.Contents (Elt F) a3.view.ty)
    (X4 : BufTy.Contents (Elt F) a4.view.ty) (g : BufTy.Contents (Elt F) a5.view.ty) :
    LoopInvTy_k0_t1 (F := F) Unit ℕ (UR sig nD τ) ℕ 𝒱₀ c none E i a2 h2 a3 h3 a4 h4 a5 h5 where
  inv := inv (F := F) c i a2 h2 a3 h3 a4 h4 a5 h5 X2 X3 X4 g
  step k acc := by
    iintro H
    iapply (wp_wand_r Idealize.ShloMosaic.frame (wpE (defs₀ (F := F)) 𝒱₀ (c : Thread nD τ) none) E)
    isplitl [H]
    · iapply ((trip (F := F) c i a2 h2 a3 h3 a4 h4 a5 h5 X2 X3 X4 k).2 E
        (a5.view.writes (Elt F) g (pieces (F := F) c i a2 h2 a3 h3 a4 h4 a5 h5 X2 X3 X4 k)) acc)
      iexact H
    · iintro %yld H
      unfold inv
      rw [pieces_succ, View.writes_append]
      iexact H

/-! ## What a trip writes, as a function of the blocks -/

/-- Rows `256 n … 256 n + 255` of a head's 2048 rows (past the end: its last row). -/
def blk (x : Vec F S1x2048x128 .bf16) (n : ℕ) : Vec F S1x256x128 .bf16 :=
  fun y => x (ix3 (y 0) (⟨min (256 * n + (y 1).val) 2047, by omega⟩ : Fin 2048) (y 2))

/-- One key block's step of the inner loop: the carried sum and the accumulated product. -/
def stepF (q : FVec F S256x128 .bf16) (kb vb : Vec F S1x256x128 .bf16) (s : FVec F S256x1 .f32 × FVec F S256x128 .f32) :
    FVec F S256x1 .f32 × FVec F S256x128 .f32 :=
  (k0_pay10 q s.1 kb, k0_pay9 (k0_pay2 (F := F)) q s.1 s.2 kb vb)

/-- The state after `j` steps of the inner loop of query block `n`, which walks the key blocks downwards. -/
def stF (q : FVec F S256x128 .bf16) (x3 x4 : Vec F S1x2048x128 .bf16) (n : ℕ) (s : FVec F S256x1 .f32 × FVec F S256x128 .f32) :
    ℕ → FVec F S256x1 .f32 × FVec F S256x128 .f32
  | 0 => s
  | j + 1 => stepF q (blk x3 (n - 1 - j)) (blk x4 (n - 1 - j)) (stF q x3 x4 n s j)

/-- The state after the diagonal block of query block `n`. -/
def initF (x2 x3 x4 : Vec F S1x2048x128 .bf16) (n : ℕ) : FVec F S256x1 .f32 × FVec F S256x128 .f32 :=
  (k0_pay4 (k0_pay17 (F := F)) (k0_pay22 k0_pay1 (blk x2 n) (blk x3 n)),
    k0_pay3 (k0_pay18 (F := F)) (k0_pay19 (blk x4 n)) (k0_pay23 k0_pay1 (k0_pay2 (F := F)) (blk x2 n) (blk x3 n)))

/-- The rows that query block `n` writes. -/
def rowF (x2 x3 x4 : Vec F S1x2048x128 .bf16) (n : ℕ) : FVec F S1x256x128 .f32 :=
  k0_pay5 (stF (k0_pay16 (blk x2 n)) x3 x4 n (initF x2 x3 x4 n) n).2

/-- The head's whole result. -/
def outF (x2 x3 x4 : Vec F S1x2048x128 .bf16) : Vec F S1x2048x128 .f32 :=
  fun y => rowF x2 x3 x4 ((y 1).val / 256) (ix3 (y 0) (⟨(y 1).val % 256, Nat.mod_lt _ (by decide)⟩ : Fin 256) (y 2))

/-- Row `256 n + r` of the head's result is row `r` of query block `n`. -/
theorem out_row (x2 x3 x4 : Vec F S1x2048x128 .bf16) (z : S1x2048x128.Idx) (n : ℕ) (y : S1x256x128.Idx)
    (h0 : (z 0).val = (y 0).val) (h1 : (z 1).val = 256 * n + (y 1).val) (h2 : (z 2).val = (y 2).val) :
    outF x2 x3 x4 z = rowF x2 x3 x4 n y := by
  have hy : (y 1).val < 256 := (y 1).isLt
  unfold outF
  have e : (z 1).val / 256 = n := by omega
  rw [e]
  refine congrArg _ (funext fun d => Fin.ext ?_)
  match d with
  | ⟨0, _⟩ => exact h0
  | ⟨1, _⟩ => show (z 1).val % 256 = (y 1).val; omega
  | ⟨2, _⟩ => exact h2

/-- The outer loop makes eight trips, -/
theorem trips1 : k0_t1_loop.trips = 8 := by decide +kernel

theorem lt_trips (k : Fin k0_t1_loop.trips) : k.val < 8 := Nat.lt_of_lt_of_eq k.isLt trips1

/-- the inner loop of query block `k` makes `k`, -/
theorem trips2 : ∀ k : Fin k0_t1_loop.trips, (k0_t2_loop k).trips = k.val := by decide +kernel

/-- and the loop over the remainder none. -/
theorem trips3 : ∀ k : Fin k0_t1_loop.trips, (k0_t3_loop k).trips = 0 := by decide +kernel

/-- The inner loop's step `j` reads block `k - 1 - j`. -/
theorem off2_eq : ∀ (k : Fin k0_t1_loop.trips) (j : Fin (k0_t2_loop k).trips),
    k0_off2 k j = ![0, 256 * (k.val - 1 - j.val), 0] := by decide +kernel

/-- A load of a head's 256 rows at offset `256 n` reads that block. -/
theorem load_blk {a : MI} (h : a.IsWhole) (x : Vec F S1x2048x128 .bf16) (off : Fin 3 → ℕ) (n : ℕ) (hn : n < 8)
    (hoff : off = ![0, 256 * n, 0]) (inb : ∀ i, off i + S1x256x128.size i ≤ S1x2048x128.size i) :
    View.readAt (Elt F) a.view (Rect.unit (s := S1x2048x128) off S1x256x128.size inb).toLoadRect (h.unread x) = blk x n := by
  subst hoff
  funext y
  rw [h.readAt_unread]
  refine congrArg x (funext fun d => Fin.ext ?_)
  have h1 : (y 1).val < 256 := (y 1).isLt
  match d with
  | ⟨0, _⟩ => show 0 + 1 * (y 0).val = (y 0).val; omega
  | ⟨1, _⟩ => show 256 * n + 1 * (y 1).val = min (256 * n + (y 1).val) 2047; omega
  | ⟨2, _⟩ => show 0 + 1 * (y 2).val = (y 2).val; omega

/-- A step of the inner loop over whole buffers is the step over their blocks. -/
theorem tripR_eq (c : Dev nD) (i : grid0.Coords) (a2 : MI) (h2 : a2.IsWhole) (a3 : MI) (h3 : a3.IsWhole) (a4 : MI) (h4 : a4.IsWhole)
    (a5 : MO) (h5 : a5.IsWhole) (k : Fin k0_t1_loop.trips) (w : BitVec 32) (q : FVec F S256x128 .bf16)
    (x3 x4 : Vec F S1x2048x128 .bf16) (j : Fin (k0_t2_loop k).trips) (s : FVec F S256x1 .f32 × FVec F S256x128 .f32) :
    tripR_k0_t2 (F := F) 𝒱₀ c none i a2 h2 a3 h3 a4 h4 a5 h5 k w q (h3.unread x3) (h4.unread x4) j s
      = stepF q (blk x3 (k.val - 1 - j.val)) (blk x4 (k.val - 1 - j.val)) s := by
  have hj : k.val - 1 - j.val < 8 := by have := lt_trips k; omega
  unfold tripR_k0_t2 trip_k0_t2 stepF
  dsimp only
  rw [← load_blk h3 x3 _ _ hj (off2_eq k j) (k0_off2_inb k j), ← load_blk h4 x4 _ _ hj (off2_eq k j) (k0_off2_inb k j)]
  rfl

/-- So the inner loop's state is the blocks' state. -/
theorem st2_eq (c : Dev nD) (i : grid0.Coords) (a2 : MI) (h2 : a2.IsWhole) (a3 : MI) (h3 : a3.IsWhole) (a4 : MI) (h4 : a4.IsWhole)
    (a5 : MO) (h5 : a5.IsWhole) (k : Fin k0_t1_loop.trips) (w : BitVec 32) (q : FVec F S256x128 .bf16)
    (x3 x4 : Vec F S1x2048x128 .bf16) (s : FVec F S256x1 .f32 × FVec F S256x128 .f32) (n : ℕ) (hn : n ≤ k.val) :
    st_k0_t2 (F := F) 𝒱₀ c none i a2 h2 a3 h3 a4 h4 a5 h5 k w q (h3.unread x3) (h4.unread x4) s n = stF q x3 x4 k.val s n := by
  induction n with
  | zero => rfl
  | succ n ih =>
    have hlt : n < (k0_t2_loop k).trips := by rw [trips2]; omega
    have := st_k0_t2_succ (F := F) 𝒱₀ c none i a2 h2 a3 h3 a4 h4 a5 h5 k w q (h3.unread x3) (h4.unread x4) s ⟨n, hlt⟩
    simp only at this
    rw [this, ih (by omega), tripR_eq]
    rfl

/-- Trip `k` writes one piece, the rows of query block `k`. -/
theorem tripL_eq (c : Dev nD) (i : grid0.Coords) (a2 : MI) (h2 : a2.IsWhole) (a3 : MI) (h3 : a3.IsWhole) (a4 : MI) (h4 : a4.IsWhole)
    (a5 : MO) (h5 : a5.IsWhole) (x2 x3 x4 : Vec F S1x2048x128 .bf16) (k : Fin k0_t1_loop.trips) :
    tripL (F := F) c i a2 h2 a3 h3 a4 h4 a5 h5 (h2.unread x2) (h3.unread x3) (h4.unread x4) k
      = [⟨Rect.unit (s := S1x2048x128) (k0_off1 k) S1x256x128.size (k0_off1_inb k), rowF x2 x3 x4 k.val⟩] := by
  have hk := lt_trips k
  have e2 := load_blk h2 x2 _ _ hk (k0_off1_eq k) (k0_off1_inb k)
  have e3 := load_blk h3 x3 _ _ hk (k0_off1_eq k) (k0_off1_inb k)
  have e4 := load_blk h4 x4 _ _ hk (k0_off1_eq k) (k0_off1_inb k)
  have E : ∀ w w' : BitVec 32, ∀ q s, q = k0_pay16 (blk x2 k.val) → s = initF x2 x3 x4 k.val →
      k0_pay5 (st_k0_t3 (F := F) 𝒱₀ c none i a2 h2 a3 h3 a4 h4 a5 h5 k w q w' (h3.unread x3) (h4.unread x4)
        ((st_k0_t2 (F := F) 𝒱₀ c none i a2 h2 a3 h3 a4 h4 a5 h5 k w q (h3.unread x3) (h4.unread x4) s (k0_t2_loop k).trips).1,
         (st_k0_t2 (F := F) 𝒱₀ c none i a2 h2 a3 h3 a4 h4 a5 h5 k w q (h3.unread x3) (h4.unread x4) s (k0_t2_loop k).trips).2)
        (k0_t3_loop k).trips).2 = rowF x2 x3 x4 k.val := by
    intro w w' q s hq hs
    subst hq hs
    rw [trips3, trips2, st2_eq _ _ _ _ _ _ _ _ _ _ _ _ _ _ _ _ _ le_rfl]
    rfl
  unfold tripL trip
  dsimp only
  refine congrArg (fun p => [(⟨_, p⟩ : View.Piece (Elt F) S1x2048x128 .f32)]) (E _ _ _ _ ?_ ?_)
  · rw [← e2]; rfl
  · unfold initF; rw [← e2, ← e3, ← e4]; rfl

/-- The pieces of the first `n` trips are rows of the head's result, -/
theorem pieces_val (c : Dev nD) (i : grid0.Coords) (a2 : MI) (h2 : a2.IsWhole) (a3 : MI) (h3 : a3.IsWhole) (a4 : MI) (h4 : a4.IsWhole)
    (a5 : MO) (h5 : a5.IsWhole) (x2 x3 x4 : Vec F S1x2048x128 .bf16) (n : ℕ) (hn : n ≤ 8) :
    ∀ p ∈ pieces (F := F) c i a2 h2 a3 h3 a4 h4 a5 h5 (h2.unread x2) (h3.unread x3) (h4.unread x4) n,
      ∀ y : p.1.shape.Idx, p.2 y = outF x2 x3 x4 (p.1.emb y) := by
  induction n with
  | zero => intro p hp; exact absurd hp List.not_mem_nil
  | succ n ih =>
    have hlt : n < k0_t1_loop.trips := by rw [trips1]; omega
    have hs := pieces_succ (F := F) c i a2 h2 a3 h3 a4 h4 a5 h5 (h2.unread x2) (h3.unread x3) (h4.unread x4) ⟨n, hlt⟩
    simp only at hs
    rw [hs, tripL_eq]
    intro p hp
    rcases List.mem_append.mp hp with hp | hp
    · obtain rfl := List.mem_singleton.mp hp
      intro y
      have ho : ∀ d, k0_off1 ⟨n, hlt⟩ d = (![0, 256 * n, 0] : Fin 3 → ℕ) d := fun d => congrFun (k0_off1_eq ⟨n, hlt⟩) d
      refine (out_row x2 x3 x4 _ n y ?_ ?_ ?_).symm
      · show k0_off1 ⟨n, hlt⟩ 0 + 1 * (y 0).val = (y 0).val
        rw [ho]; show 0 + 1 * (y 0).val = (y 0).val; omega
      · show k0_off1 ⟨n, hlt⟩ 1 + 1 * (y 1).val = 256 * n + (y 1).val
        rw [ho]; show 256 * n + 1 * (y 1).val = 256 * n + (y 1).val; omega
      · show k0_off1 ⟨n, hlt⟩ 2 + 1 * (y 2).val = (y 2).val
        rw [ho]; show 0 + 1 * (y 2).val = (y 2).val; omega
    · exact ih (by omega) p hp

/-- and together they hold the first `256 n` rows. -/
theorem pieces_cover (c : Dev nD) (i : grid0.Coords) (a2 : MI) (h2 : a2.IsWhole) (a3 : MI) (h3 : a3.IsWhole) (a4 : MI) (h4 : a4.IsWhole)
    (a5 : MO) (h5 : a5.IsWhole) (x2 x3 x4 : Vec F S1x2048x128 .bf16) (y : S1x2048x128.Idx) (n : ℕ) (hn : n ≤ 8) (hy : (y 1).val < 256 * n) :
    ∃ p ∈ pieces (F := F) c i a2 h2 a3 h3 a4 h4 a5 h5 (h2.unread x2) (h3.unread x3) (h4.unread x4) n, y ∈ p.1.set := by
  induction n with
  | zero => omega
  | succ n ih =>
    have hlt : n < k0_t1_loop.trips := by rw [trips1]; omega
    have hs := pieces_succ (F := F) c i a2 h2 a3 h3 a4 h4 a5 h5 (h2.unread x2) (h3.unread x3) (h4.unread x4) ⟨n, hlt⟩
    simp only at hs
    rw [hs, tripL_eq]
    by_cases hlo : (y 1).val < 256 * n
    · obtain ⟨p, hp, hm⟩ := ih (by omega) hlo
      exact ⟨p, List.mem_append_right _ hp, hm⟩
    · refine ⟨_, List.mem_append_left _ (List.mem_singleton.mpr rfl), ?_⟩
      have ho : ∀ d, k0_off1 ⟨n, hlt⟩ d = (![0, 256 * n, 0] : Fin 3 → ℕ) d := fun d => congrFun (k0_off1_eq ⟨n, hlt⟩) d
      refine (LoadRect.mem_set _).mpr fun d => ?_
      match d with
      | ⟨0, _⟩ =>
        refine ⟨(y 0).val, (y 0).isLt, ?_⟩
        show (y 0).val = k0_off1 ⟨n, hlt⟩ 0 + 1 * (y 0).val
        rw [ho]; show (y 0).val = 0 + 1 * (y 0).val; omega
      | ⟨1, _⟩ =>
        refine ⟨(y 1).val - 256 * n, show (y 1).val - 256 * n < 256 by omega, ?_⟩
        show (y 1).val = k0_off1 ⟨n, hlt⟩ 1 + 1 * ((y 1).val - 256 * n)
        rw [ho]; show (y 1).val = 256 * n + 1 * ((y 1).val - 256 * n); omega
      | ⟨2, _⟩ =>
        refine ⟨(y 2).val, (y 2).isLt, ?_⟩
        show (y 2).val = k0_off1 ⟨n, hlt⟩ 2 + 1 * (y 2).val
        rw [ho]; show (y 2).val = 0 + 1 * (y 2).val; omega

/-! ## The body on whole staging memrefs -/

/-- What the body leaves in the result's staging buffer over contents `g`. -/
abbrev outRaw (c : Dev nD) (i : grid0.Coords) (a2 : MI) (h2 : a2.IsWhole) (a3 : MI) (h3 : a3.IsWhole) (a4 : MI) (h4 : a4.IsWhole)
    (a5 : MO) (h5 : a5.IsWhole) (x2 x3 x4 : Vec F S1x2048x128 .bf16) (g : BufTy.Contents (Elt F) a5.view.ty) : BufTy.Contents (Elt F) a5.view.ty :=
  a5.view.writes (Elt F) g (pieces (F := F) c i a2 h2 a3 h3 a4 h4 a5 h5 (h2.unread x2) (h3.unread x3) (h4.unread x4) k0_t1_loop.trips)

/-- The body's triple: the operands' buffers keep their blocks, the result's takes the loop's pieces. -/
theorem kernel_run (c : Dev nD) (i : grid0.Coords) (a2 : MI) (h2 : a2.IsWhole) (a3 : MI) (h3 : a3.IsWhole) (a4 : MI) (h4 : a4.IsWhole)
    (a5 : MO) (h5 : a5.IsWhole) (x2 x3 x4 : Vec F S1x2048x128 .bf16) (E : Set ℕ) (K : PUnit → sProp 𝕄) :
    iprop(owns (c : Thread nD τ) a2 fullShare x2 ∗ owns (c : Thread nD τ) a3 fullShare x3 ∗ owns (c : Thread nD τ) a4 fullShare x4
        ∗ (∃ d, owns (c : Thread nD τ) a5 fullShare d)
        ∗ (iprop(owns (c : Thread nD τ) a2 fullShare x2 ∗ owns (c : Thread nD τ) a3 fullShare x3 ∗ owns (c : Thread nD τ) a4 fullShare x4
            ∗ (∃ g : BufTy.Contents (Elt F) a5.view.ty, owns (c : Thread nD τ) a5 fullShare
                (a5.view.read (Elt F) (outRaw c i a2 h2 a3 h3 a4 h4 a5 h5 x2 x3 x4 g)))) -∗ K ⟨⟩))
      ⊢ wp frame (wpE (defs₀ (F := F)) 𝒱₀ (c : Thread nD τ) none) E (cc0_stickbreak_attn i a2 h2 a3 h3 a4 h4 a5 h5) K := by
  unfold owns
  iintro ⟨⟨%f2, %hf2, H2⟩, ⟨%f3, %hf3, H3⟩, ⟨%f4, %hf4, H4⟩, ⟨%d5, %f5, -, H5⟩, Hk⟩
  obtain rfl := h2.eq_unread hf2; obtain rfl := h3.eq_unread hf3; obtain rfl := h4.eq_unread hf4
  let L := loopInv (F := F) c E i a2 h2 a3 h3 a4 h4 a5 h5 (h2.unread x2) (h3.unread x3) (h4.unread x4) f5
  sl_unfold [cc0_stickbreak_attn]
  sl_exec
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  iexists f5
  iexists _; isplitr; swap; · iexact H5
  ipureintro; rfl

/-- Read back, the result's buffer holds the head's result, whatever it held before. -/
theorem read_out (c : Dev nD) (i : grid0.Coords) (a2 : MI) (h2 : a2.IsWhole) (a3 : MI) (h3 : a3.IsWhole) (a4 : MI) (h4 : a4.IsWhole)
    (a5 : MO) (h5 : a5.IsWhole) (x2 x3 x4 : Vec F S1x2048x128 .bf16) (g : BufTy.Contents (Elt F) a5.view.ty) :
    a5.view.read (Elt F) (outRaw c i a2 h2 a3 h3 a4 h4 a5 h5 x2 x3 x4 g) = outF x2 x3 x4 := by
  funext y
  unfold outRaw
  rw [trips1]
  exact View.read_writes_apply_of_pieces _ _ (outF x2 x3 x4) _ (pieces_val c i a2 h2 a3 h3 a4 h4 a5 h5 x2 x3 x4 8 le_rfl) y
    (pieces_cover c i a2 h2 a3 h3 a4 h4 a5 h5 x2 x3 x4 y 8 le_rfl (by have h : (y 1).val < 2048 := (y 1).isLt; omega))

/-! ## The pipeline -/

variable (m : (ℓ : Loc nD τ sig) → Buf (Elt F) ℓ) (ρ : Dev nD → PrngReg)

/-- The head's result at grid point `t`. -/
def outAt (c : Dev nD) (t : Fin cfg0.N) : Vec F S1x2048x128 .f32 := outF (iblk m c 0 t) (iblk m c 1 t) (iblk m c 2 t)

/-- The proof data: the arrays as found, each operand's buffer at its block after the body, the result's at `outAt`; the
    three operands are blocks of one array, each holding its share of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- At every grid point the body takes the operands' blocks to themselves and the result's buffer to the head's result. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3]
  unfold outAt
  iintro ⟨HΦ, Ho, ⟨%d0, H0⟩, ⟨%d1, H1⟩, ⟨%d2, H2⟩, ⟨%d3, H3⟩⟩
  iapply (kernel_run c _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  iintro ⟨H0, H1, H2, ⟨%g, H3⟩⟩
  rw [read_out]
  isplitl [HΦ]; · iexact HΦ
  isplitl [Ho]; · iexact Ho
  isplitl [H0]; · iexact H0
  isplitl [H1]; · iexact H1
  isplitl [H2]; · iexact H2
  iexact H3

set_option backward.isDefEq.respectTransparency.types false in
/-- Every run of the program from zero counters terminates with the arrays at the proof data's contents and every
    counter back at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl) (hΦ := fun _ _ => rfl)

/-- The argument array is unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_with_sems (frame_of m ρ (dats m) fun _ _ => rfl) (run_main m ρ)

end Cert.Proof.AttnI

end
-- ==== Proof.Math.lean ====
module

public import Idealize.ShloMosaic.PureOps.Ideal.Laws
public import Idealize.ShloMosaic.Lib.WordCmp
public import Mathlib.Algebra.BigOperators.Intervals

@[expose] public section

noncomputable section

/-! The scalar mathematics of stick-breaking attention: the two log-probabilities of a score, the weight of a key, and
    the sums over a block of keys as sums over intervals. -/

namespace Cert.Proof.SB

open Idealize.ShloMosaic Finset

/-! ## Finite extended reals -/

/-- A finite extended real. -/
def Fin' (x : EReal) : Prop := x ≠ ⊤ ∧ x ≠ ⊥

theorem Fin'.coe {x : EReal} (h : Fin' x) : ((x.toReal : ℝ) : EReal) = x := EReal.coe_toReal h.1 h.2

/-- An extended real whose absolute value is below `⊤` is finite. -/
theorem fin_of_abs {x : EReal} (h : max x (-x) < ⊤) : Fin' x := by
  refine ⟨fun e => ?_, fun e => ?_⟩
  · rw [e] at h; simp at h
  · rw [e] at h; simp at h

/-- The coercion of a sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-! ## The log-probabilities of a score -/

/-- `log (1 + e^(-|z|))`. -/
def sp (z : ℝ) : ℝ := Real.log (1 + Real.exp (-|z|))
/-- The log-probability of stopping at a key of score `z`. -/
def lb (z : ℝ) : ℝ := min z 0 - sp z
/-- The log-probability of passing it. -/
def lk (z : ℝ) : ℝ := -max z 0 - sp z

theorem absf_coe (z : ℝ) : (FloatOps.absf (F := Ideal) (φ := .f32) (z : EReal) : EReal) = ((|z| : ℝ) : EReal) := by
  rw [Ideal.absf_def, ← EReal.coe_neg, abs_eq_max_neg]; exact (EReal.coe_strictMono.monotone.map_max).symm

theorem exp_coe (z : ℝ) : Ideal.exp (z : EReal) = ((Real.exp z : ℝ) : EReal) := rfl

theorem log1p_coe (z : ℝ) : Ideal.log1p ((Real.exp z : ℝ) : EReal) = ((Real.log (1 + Real.exp z) : ℝ) : EReal) := by
  have h : (1 : EReal) + ((Real.exp z : ℝ) : EReal) = ((1 + Real.exp z : ℝ) : EReal) := by push_cast; rfl
  have hp : ¬ (1 + Real.exp z ≤ 0) := not_le.mpr (by positivity)
  unfold Ideal.log1p
  rw [h]
  show (if 1 + Real.exp z ≤ 0 then (⊥ : EReal) else ((Real.log (1 + Real.exp z) : ℝ) : EReal)) = _
  rw [if_neg hp]

theorem max_zero_coe (z : ℝ) : max (z : EReal) 0 = ((max z 0 : ℝ) : EReal) := (EReal.coe_strictMono.monotone.map_max (a := z) (b := 0)).symm
theorem min_zero_coe (z : ℝ) : min (z : EReal) 0 = ((min z 0 : ℝ) : EReal) := (EReal.coe_strictMono.monotone.map_min (a := z) (b := 0)).symm

/-- The kernel's softplus term. -/
theorem sp_eq (z : ℝ) : Ideal.log1p (Ideal.exp (0 - FloatOps.absf (F := Ideal) (φ := .f32) (z : EReal))) = ((sp z : ℝ) : EReal) := by
  rw [absf_coe, zero_sub, ← EReal.coe_neg, exp_coe, log1p_coe]; rfl

theorem lb_eq (z : ℝ) : min (z : EReal) 0 - ((sp z : ℝ) : EReal) = ((lb z : ℝ) : EReal) := by
  rw [min_zero_coe, ← EReal.coe_sub]; rfl

theorem lk_eq (z : ℝ) : 0 - max (z : EReal) 0 - ((sp z : ℝ) : EReal) = ((lk z : ℝ) : EReal) := by
  rw [max_zero_coe, zero_sub, ← EReal.coe_neg, ← EReal.coe_sub]; rfl

/-- The scale of the scores, a finite number. -/
def κ : ℝ := (Ideal.ofBits .f32 0x3DB504F3#32).toReal

theorem κ_eq : Ideal.ofBits .f32 0x3DB504F3#32 = ((κ : ℝ) : EReal) := by
  refine (EReal.coe_toReal ?_ ?_).symm <;> simp [Ideal.ofBits, Ideal.ieee, -EReal.coe_mul]

/-! ## The weight of a key -/

/-- The weight that row `t` of scores `ζ` puts on key `s`: what is left of the stick by the keys between, times the
    probability of stopping at `s`; none at a key not before `t`. -/
def wt (ζ : ℕ → ℝ) (t s : ℕ) : ℝ := if s < t then Real.exp (lb (ζ s) + ∑ u ∈ Ico (s + 1) t, lk (ζ u)) else 0

/-- A sum over a block of 256 consecutive numbers. -/
theorem sum_blk {M : Type*} [AddCommMonoid M] (f : ℕ → M) (b : ℕ) : ∑ x : Fin 256, f (b + x.val) = ∑ u ∈ Ico b (b + 256), f u := by
  rw [Fin.sum_univ_eq_sum_range (fun x => f (b + x)) 256, sum_Ico_eq_sum_range, Nat.add_sub_cancel_left]

/-- The part of a block strictly between `c` and `r`. -/
theorem sum_between (f : ℕ → ℝ) (b c r : ℕ) (hr : r ≤ 256) :
    ∑ x : Fin 256, (if x.val < r then f (b + x.val) else 0) * (if c < x.val then 1 else 0) = ∑ u ∈ Ico (b + c + 1) (b + r), f u := by
  rw [Fin.sum_univ_eq_sum_range (fun x => (if x < r then f (b + x) else 0) * (if c < x then (1 : ℝ) else 0)) 256]
  have : ∑ u ∈ Ico (b + c + 1) (b + r), f u = ∑ x ∈ Ico (c + 1) r, f (b + x) := by
    rw [sum_Ico_add (fun x => f x) (c + 1) r b, show c + 1 + b = b + c + 1 by omega, show r + b = b + r by omega]
  rw [this, range_eq_Ico]
  symm
  have hsub : Ico (c + 1) r ⊆ Ico 0 256 := Ico_subset_Ico (Nat.zero_le _) hr
  rw [← sum_subset hsub]
  · refine sum_congr rfl fun x hx => ?_
    rw [mem_Ico] at hx
    rw [if_pos hx.2, if_pos (by omega), mul_one]
  · intro x _ hx
    rw [mem_Ico] at hx
    by_cases h1 : c < x
    · rw [if_neg (by omega), zero_mul]
    · rw [if_neg h1, mul_zero]

/-! ## Comparisons of small words -/

theorem sgt_small {a b : ℕ} (ha : a < 2048) (hb : b < 2048) :
    IntOp.cmpi .sgt (BitVec.ofNat 32 a) (BitVec.ofNat 32 b) = if b < a then 1#1 else 0#1 := by
  rw [WordCmp.cmpi_sgt_ofNat (by norm_num; omega) (by norm_num; omega)]
  by_cases h : b < a <;> simp [h]

theorem slt_small {a b : ℕ} (ha : a < 2048) (hb : b < 2048) :
    IntOp.cmpi .slt (BitVec.ofNat 32 a) (BitVec.ofNat 32 b) = if a < b then 1#1 else 0#1 := by
  rw [WordCmp.cmpi_slt_ofNat (by norm_num; omega) (by norm_num; omega)]
  by_cases h : a < b <;> simp [h]

/-- An entry of the matrix that selects the later keys. -/
theorem later_entry {a b : ℕ} (ha : a < 2048) (hb : b < 2048) :
    FloatOps.sitofp (F := Ideal) .f32 (BitVec.setWidth 32 (IntOp.cmpi .sgt (BitVec.ofNat 32 a) (BitVec.ofNat 32 b)))
      = (((if b < a then 1 else 0 : ℝ)) : EReal) := by
  rw [sgt_small ha hb]
  show (((BitVec.setWidth 32 (if b < a then 1#1 else 0#1)).toInt : ℝ) : EReal) = _
  split <;> simp

end Cert.Proof.SB

end
-- ==== Proof.AttnV.lean ====
module

public import proofs.«01_k».proof.Proof.AttnI
public import proofs.«01_k».proof.Proof.Math
public import Idealize.ShloMosaic.Lib.Pointwise

@[expose] public section

noncomputable section

/-! The kernel's result on one head, as the weighted sum of the values, over the extended reals. -/

namespace Cert.Proof.AttnV

open Cert.KernelIdeal Cert.KernelIdeal.Gen Idealize.ShloMosaic Cert.Proof.AttnI Cert.Proof.SB Finset

/-- An array of finite entries. -/
abbrev FinV (x : Vec Ideal S1x2048x128 .bf16) : Prop := ∀ y, Fin' (x y)

/-- Row `n`, column `d` of a head's array (past the end: its last row). -/
def at' (x : Vec Ideal S1x2048x128 .bf16) (n : ℕ) (d : Fin 128) : EReal := x (ix3 0 (⟨min n 2047, by omega⟩ : Fin 2048) d)

/-- The score of query `t` against key `s`. -/
def score (x2 x3 : Vec Ideal S1x2048x128 .bf16) (t s : ℕ) : ℝ := (∑ d : Fin 128, (at' x2 t d).toReal * (at' x3 s d).toReal) * κ

/-- A block's entry is its array's. -/
theorem blk_at (x : Vec Ideal S1x2048x128 .bf16) (n : ℕ) (a : Fin 1) (c : Fin 256) (d : Fin 128) :
    blk (F := Ideal) x n (ix3 a c d) = at' x (256 * n + c.val) d := by
  have : a = 0 := Subsingleton.elim _ _
  subst this
  rfl

/-- The product of finite rows is the score. -/
theorem score_eq {x2 x3 : Vec Ideal S1x2048x128 .bf16} (h2 : FinV x2) (h3 : FinV x3) (t s : ℕ) :
    (∑ d : Fin 128, at' x2 t d * at' x3 s d) * Ideal.ofBits .f32 0x3DB504F3#32 = ((score x2 x3 t s : ℝ) : EReal) := by
  rw [κ_eq]
  unfold score
  rw [EReal.coe_mul, coe_sum]
  refine congrArg (· * _) (sum_congr rfl fun d _ => ?_)
  rw [EReal.coe_mul]
  exact congrArg₂ (· * ·) (h2 _).coe.symm (h3 _).coe.symm

section Block
variable {x2 x3 : Vec Ideal S1x2048x128 .bf16} (h2 : FinV x2) (h3 : FinV x3) (n m : ℕ) (r c : Fin 256)
include h2 h3

theorem pay6_eq : k0_pay6 (F := Ideal) (k0_pay16 (blk x2 n)) (blk x3 m) (ix2 r c)
    = ((score x2 x3 (256 * n + r.val) (256 * m + c.val) : ℝ) : EReal) := by
  pointwise [k0_pay6, k0_pay16]
  simp only [blk_at]
  exact score_eq h2 h3 _ _

theorem pay20_eq : k0_pay20 (F := Ideal) (blk x2 n) (blk x3 m) (ix2 r c)
    = ((score x2 x3 (256 * n + r.val) (256 * m + c.val) : ℝ) : EReal) := pay6_eq h2 h3 n m r c

theorem pay7_eq : k0_pay7 (F := Ideal) (k0_pay16 (blk x2 n)) (blk x3 m) (ix2 r c)
    = ((sp (score x2 x3 (256 * n + r.val) (256 * m + c.val)) : ℝ) : EReal) := by
  rw [← sp_eq, ← pay6_eq h2 h3]
  pointwise [k0_pay7]

theorem pay21_eq : k0_pay21 (F := Ideal) (blk x2 n) (blk x3 m) (ix2 r c)
    = ((sp (score x2 x3 (256 * n + r.val) (256 * m + c.val)) : ℝ) : EReal) := pay7_eq h2 h3 n m r c

theorem pay8_eq : k0_pay8 (F := Ideal) (k0_pay16 (blk x2 n)) (blk x3 m) (ix2 r c)
    = ((lk (score x2 x3 (256 * n + r.val) (256 * m + c.val)) : ℝ) : EReal) := by
  rw [← lk_eq, ← pay7_eq h2 h3, ← pay6_eq h2 h3]
  pointwise [k0_pay8]

/-- The masked log-probabilities of passing, on the diagonal block. -/
theorem pay22_eq : k0_pay22 (F := Ideal) k0_pay1 (blk x2 n) (blk x3 m) (ix2 r c)
    = (((if c.val < r.val then lk (score x2 x3 (256 * n + r.val) (256 * m + c.val)) else 0 : ℝ)) : EReal) := by
  have e := pay8_eq h2 h3 n m r c
  have hs := slt_small (a := c.val) (b := r.val) (by omega) (by omega)
  rw [show k0_pay22 (F := Ideal) k0_pay1 (blk x2 n) (blk x3 m) (ix2 r c)
    = Scalar.select (IntOp.cmpi .slt (BitVec.ofNat 32 c.val) (BitVec.ofNat 32 r.val))
        (k0_pay8 (F := Ideal) (k0_pay16 (blk x2 n)) (blk x3 m) (ix2 r c)) 0 by
      pointwise [k0_pay22, k0_pay21, k0_pay20, k0_pay16, k0_pay1, k0_pay8, k0_pay7, k0_pay6], e, hs]
  by_cases h : c.val < r.val <;> simp [h, Scalar.select]

end Block

section Later
variable (c : Fin 256)

/-- The part of a sum that comes after key `c` of a block, the products with the selecting matrix carried out: the first
    product gives it, the second, of the differences, is zero. -/
theorem later_sum (f : Fin 256 → ℝ) :
    ((∑ x : Fin 256, ((f x : ℝ) : EReal) * FloatOps.sitofp (F := Ideal) .f32 (BitVec.setWidth 32 (IntOp.cmpi .sgt (BitVec.ofNat 32 x.val) (BitVec.ofNat 32 c.val))))
      + ∑ x : Fin 256, (((f x : ℝ) : EReal) - ((f x : ℝ) : EReal)) * FloatOps.sitofp (F := Ideal) .f32 (BitVec.setWidth 32 (IntOp.cmpi .sgt (BitVec.ofNat 32 x.val) (BitVec.ofNat 32 c.val))))
      = ((∑ x : Fin 256, f x * (if c.val < x.val then 1 else 0) : ℝ) : EReal) := by
  have e : ∀ x : Fin 256, FloatOps.sitofp (F := Ideal) .f32 (BitVec.setWidth 32 (IntOp.cmpi .sgt (BitVec.ofNat 32 x.val) (BitVec.ofNat 32 c.val)))
      = (((if c.val < x.val then 1 else 0 : ℝ)) : EReal) := fun x => later_entry (by omega) (by omega)
  simp only [e]
  simp only [← EReal.coe_sub, sub_self, EReal.coe_zero, zero_mul, sum_const_zero, add_zero]
  rw [coe_sum]
  exact sum_congr rfl fun x _ => (EReal.coe_mul (f x) _).symm

end Later

section Row
variable {x2 x3 : Vec Ideal S1x2048x128 .bf16} (h2 : FinV x2) (h3 : FinV x3) (x4 : Vec Ideal S1x2048x128 .bf16)
include h2 h3

/-- The carried sum after the diagonal block: of the log-probabilities of passing the row's keys in it. -/
theorem init_carry (n : ℕ) (r : Fin 256) : (initF (F := Ideal) x2 x3 x4 n).1 (ix2 r (0 : Fin 1))
    = ((∑ u ∈ Ico (256 * n) (256 * n + r.val), lk (score x2 x3 (256 * n + r.val) u) : ℝ) : EReal) := by
  unfold initF
  pointwise [k0_pay4, k0_pay17]
  simp only [pay22_eq h2 h3]
  rw [← coe_sum]
  refine congrArg _ ?_
  rw [Fin.sum_univ_eq_sum_range (fun x => if x < r.val then lk (score x2 x3 (256 * n + r.val) (256 * n + x)) else 0) 256,
    sum_Ico_eq_sum_range, Nat.add_sub_cancel_left, ← sum_filter]
  refine sum_congr (ext fun x => ?_) fun _ _ => rfl
  simp only [mem_filter, mem_range]
  omega

/-- The accumulated product after the diagonal block. -/
theorem init_acc (n : ℕ) (r : Fin 256) (d : Fin 128) : (initF (F := Ideal) x2 x3 x4 n).2 (ix2 r d)
    = ∑ s ∈ Ico (256 * n) (256 * (n + 1)), ((wt (score x2 x3 (256 * n + r.val)) (256 * n + r.val) s : ℝ) : EReal) * at' x4 s d := by
  rw [show 256 * (n + 1) = 256 * n + 256 by ring, ← sum_blk (fun s => ((wt (score x2 x3 (256 * n + r.val)) (256 * n + r.val) s : ℝ) : EReal) * at' x4 s d)]
  unfold initF
  pointwise [k0_pay3, k0_pay18, k0_pay19]
  refine sum_congr rfl fun c _ => ?_
  rw [blk_at]
  rw [show k0_pay1 (ix2 r c) = IntOp.cmpi .slt (BitVec.ofNat 32 c.val) (BitVec.ofNat 32 r.val) by pointwise [k0_pay1]]
  pointwise [k0_pay23, k0_pay2, k0_pay17]
  rw [pay20_eq h2 h3, pay21_eq h2 h3, lb_eq]
  simp only [pay22_eq h2 h3]
  have hs := sum_between (fun u => lk (score x2 x3 (256 * n + r.val) u)) (256 * n) c.val r.val (by omega)
  rw [later_sum, hs, slt_small (by omega) (by omega), ← EReal.coe_add, exp_coe]
  unfold wt
  by_cases h : c.val < r.val
  · rw [if_pos h, if_pos (by omega)]; rfl
  · rw [if_neg h, if_neg (by omega), EReal.coe_zero, zero_mul]; rfl

/-- After `j` steps the state of row `r` is the sum and the weighted sum over the keys of the blocks done. -/
theorem st_eq (n : ℕ) (r : Fin 256) (j : ℕ) (hj : j ≤ n) :
    (stF (F := Ideal) (k0_pay16 (blk x2 n)) x3 x4 n (initF x2 x3 x4 n) j).1 (ix2 r (0 : Fin 1))
        = ((∑ u ∈ Ico (256 * (n - j)) (256 * n + r.val), lk (score x2 x3 (256 * n + r.val) u) : ℝ) : EReal)
      ∧ ∀ d, (stF (F := Ideal) (k0_pay16 (blk x2 n)) x3 x4 n (initF x2 x3 x4 n) j).2 (ix2 r d)
        = ∑ s ∈ Ico (256 * (n - j)) (256 * (n + 1)), ((wt (score x2 x3 (256 * n + r.val)) (256 * n + r.val) s : ℝ) : EReal) * at' x4 s d := by
  induction j with
  | zero => exact ⟨init_carry h2 h3 x4 n r, init_acc h2 h3 x4 n r⟩
  | succ j ih =>
    obtain ⟨ih1, ih2⟩ := ih (by omega)
    obtain ⟨b, hb⟩ : ∃ b, b = n - 1 - j := ⟨_, rfl⟩
    have e1 : 256 * (n - (j + 1)) = 256 * b := by omega
    have e2 : 256 * (n - j) = 256 * b + 256 := by omega
    have hbn : 256 * b + 256 ≤ 256 * n + r.val := by omega
    rw [e2] at ih1 ih2
    rw [e1]
    refine ⟨?_, fun d => ?_⟩
    · unfold stF stepF
      rw [← hb]
      pointwise [k0_pay10]
      simp only [pay8_eq h2 h3]
      rw [ih1, ← coe_sum, ← EReal.coe_add, sum_blk (fun u => lk (score x2 x3 (256 * n + r.val) u)), add_comm,
        sum_Ico_consecutive _ (by omega) hbn]
    · unfold stF stepF
      rw [← hb]
      pointwise [k0_pay9, k0_pay2]
      rw [ih2, add_comm, ← sum_Ico_consecutive _ (show 256 * b ≤ 256 * b + 256 by omega) (show 256 * b + 256 ≤ 256 * (n + 1) by omega),
        ← sum_blk (fun s => ((wt (score x2 x3 (256 * n + r.val)) (256 * n + r.val) s : ℝ) : EReal) * at' x4 s d)]
      refine congrArg (· + _) (sum_congr rfl fun c _ => ?_)
      rw [blk_at]
      refine congrArg (· * _) ?_
      rw [pay6_eq h2 h3, pay7_eq h2 h3, lb_eq, ih1]
      simp only [pay8_eq h2 h3]
      rw [later_sum, ← EReal.coe_add, ← EReal.coe_add, exp_coe]
      have hs := sum_between (fun u => lk (score x2 x3 (256 * n + r.val) u)) (256 * b) c.val 256 le_rfl
      simp only [Fin.is_lt, if_true] at hs
      rw [hs]
      unfold wt
      rw [if_pos (by omega), add_assoc, sum_Ico_consecutive _ (by omega) hbn]

/-- The head's result: row `t` is the weighted sum of the values. -/
theorem out_eq (t : Fin 2048) (d : Fin 128) : outF (F := Ideal) x2 x3 x4 (ix3 (0 : Fin 1) t d)
    = ∑ s ∈ range 2048, ((wt (score x2 x3 t.val) t.val s : ℝ) : EReal) * at' x4 s d := by
  obtain ⟨n, hn⟩ : ∃ n, n = t.val / 256 := ⟨_, rfl⟩
  obtain ⟨r, hr⟩ : ∃ r : Fin 256, r.val = t.val % 256 := ⟨⟨t.val % 256, Nat.mod_lt _ (by decide)⟩, rfl⟩
  have ht : t.val = 256 * n + r.val := by omega
  rw [out_row x2 x3 x4 _ n (ix3 (0 : Fin 1) r d) rfl ht rfl]
  unfold rowF
  pointwise [k0_pay5]
  rw [(st_eq h2 h3 x4 n r n le_rfl).2 d, ← ht, Nat.sub_self, Nat.mul_zero, range_eq_Ico]
  refine sum_subset (Ico_subset_Ico le_rfl (by omega)) fun s _ hs => ?_
  rw [mem_Ico] at hs
  unfold wt
  rw [if_neg (by omega), EReal.coe_zero, zero_mul]

end Row

end Cert.Proof.AttnV

end
-- ==== Proof.RefI.lean ====
module

public import proofs.«01_k».proof.Proof.Gen.ReferenceIdeal.Run
public import proofs.«01_k».proof.Proof.Gen.ReferenceIdeal.Read
public import proofs.«01_k».proof.Proof.AttnV

@[expose] public section

noncomputable section

/-! The reference's result, read as the weighted sums of the values, over the extended reals. -/

namespace Cert.Proof.RefI

open Cert.ReferenceIdeal Cert.ReferenceIdeal.Gen Cert.ReferenceIdeal.Read Idealize.ShloMosaic Cert.Proof.SB Cert.Proof.AttnV Finset

/-- One of the 24 heads of the projections: 128 columns of a batch's array. -/
def hd (X : Vec Ideal S4x2048x3072 .bf16) (b : Fin 4) (o : Fin 24) : Vec Ideal ⟨3, ![1, 2048, 128]⟩ .bf16 :=
  fun y => X (ix3 b (y 1) (⟨128 * o.val + (y 2).val, by have h : (y 2).val < 128 := (y 2).isLt; omega⟩ : Fin 3072))

/-- The heads of the queries, keys and values. -/
abbrev oq (h : Fin 8) : Fin 24 := ⟨h.val, by omega⟩
abbrev ok (h : Fin 8) : Fin 24 := ⟨8 + h.val, by omega⟩
abbrev ov (h : Fin 8) : Fin 24 := ⟨16 + h.val, by omega⟩

/-- The score of query `t` against key `s` in batch `b`, head `h`. -/
def sc (X : Vec Ideal S4x2048x3072 .bf16) (b : Fin 4) (h : Fin 8) (t s : ℕ) : ℝ := score (hd X b (oq h)) (hd X b (ok h)) t s

/-- The attention: in each batch and head, row `t` is the sum of the values weighted by the stick-breaking weights. -/
def attn (X : Vec Ideal S4x2048x3072 .bf16) : Vec Ideal S4x2048x1024 .f32 := fun y =>
  have h2 : (y 2).val < 1024 := (y 2).isLt
  let h : Fin 8 := ⟨(y 2).val / 128, by omega⟩
  ∑ s ∈ range 2048, ((wt (sc X (y 0) h (y 1).val) (y 1).val s : ℝ) : EReal)
    * at' (hd X (y 0) (ov h)) s ⟨(y 2).val % 128, Nat.mod_lt _ (by decide)⟩

/-! ## The running sum -/

/-- Folding an addition is adding the sum. -/
theorem foldl_add {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The window of the running sum. -/
abbrev W : Shape := ⟨4, ![1, 1, 1, 2048]⟩

theorem W_numel : W.numel = 2048 := by decide +kernel

/-- Its positions, one by one. -/
theorem W_symm (n : Fin W.numel) : (W.rowMajor.symm n 0).val = 0 ∧ (W.rowMajor.symm n 1).val = 0 ∧ (W.rowMajor.symm n 2).val = 0 ∧ (W.rowMajor.symm n 3).val = n.val := by
  obtain ⟨w, rfl⟩ := W.rowMajor.surjective n
  rw [Equiv.symm_apply_apply, Shape.rowMajor_val_four]
  have h0 : (w 0).val < 1 := (w 0).isLt
  have h1 : (w 1).val < 1 := (w 1).isLt
  have h2 : (w 2).val < 1 := (w 2).isLt
  refine ⟨by omega, by omega, by omega, ?_⟩
  show (w 3).val = (((w 0).val * 1 + (w 1).val) * 1 + (w 2).val) * 2048 + (w 3).val
  omega

/-- The sum over the window: of the entries of a row from an entry on. -/
theorem window_sum (x : Vec Ideal S4x8x2048x2048 .f32) (j : S4x8x2048x2048.Idx) (f : ℕ → EReal)
    (hx : ∀ i : S4x8x2048x2048.Idx, i 0 = j 0 → i 1 = j 1 → i 2 = j 2 → x i = f (i 3).val) (hf : ∀ u, 2048 ≤ u → f u = 0)
    (init : Vec Ideal S_ .f32) (hi : ∀ i, init i = 0) (h) (hu) :
    Host.reduceWindowAdd (F := Ideal) (φ := .f32) ![1, 1, 1, 2048] ![1, 1, 1, 1] ![0, 0, 0, 0] ![0, 0, 0, 2047] x init h hu j
      = ∑ n ∈ range 2048, f ((j 3).val + n) := by
  have hj0 : (j 0).val < 4 := (j 0).isLt
  have hj1 : (j 1).val < 8 := (j 1).isLt
  have hj2 : (j 2).val < 2048 := (j 2).isLt
  unfold Host.reduceWindowAdd
  rw [hi, Ideal.hostReduceWindowAdd_def]
  unfold Ideal.hostReduceWindowAdd Host.reduceWindow
  dsimp only
  refine Eq.trans (b := List.foldl (fun (r : EReal) (n : Fin W.numel) => r + f ((j 3).val + n.val)) 0 (List.finRange W.numel))
    (congrArg (fun F => List.foldl F (0 : EReal) (List.finRange W.numel)) (funext fun r => funext fun n => congrArg (r + ·) ?_)) ?_
  · obtain ⟨w0, w1, w2, w3⟩ := W_symm n
    split
    · next hin =>
      refine (hx _ (Fin.ext ?_) (Fin.ext ?_) (Fin.ext ?_)).trans (congrArg f ?_)
      · show (j 0).val * 1 + (W.rowMajor.symm n 0).val - 0 = (j 0).val
        omega
      · show (j 1).val * 1 + (W.rowMajor.symm n 1).val - 0 = (j 1).val
        omega
      · show (j 2).val * 1 + (W.rowMajor.symm n 2).val - 0 = (j 2).val
        omega
      · show (j 3).val * 1 + (W.rowMajor.symm n 3).val - 0 = (j 3).val + n.val
        omega
    · next hin =>
      refine (hf _ ?_).symm
      by_contra hlt
      refine hin fun a => ?_
      match a with
      | ⟨0, _⟩ => exact ⟨Nat.zero_le _, show (j 0).val * 1 + (W.rowMajor.symm n 0).val - 0 < 4 by omega⟩
      | ⟨1, _⟩ => exact ⟨Nat.zero_le _, show (j 1).val * 1 + (W.rowMajor.symm n 1).val - 0 < 8 by omega⟩
      | ⟨2, _⟩ => exact ⟨Nat.zero_le _, show (j 2).val * 1 + (W.rowMajor.symm n 2).val - 0 < 2048 by omega⟩
      | ⟨3, _⟩ => exact ⟨Nat.zero_le _, show (j 3).val * 1 + (W.rowMajor.symm n 3).val - 0 < 2048 by omega⟩
  rw [foldl_add (fun n : Fin W.numel => f ((j 3).val + n.val)), zero_add, ← Fin.sum_univ_def, Fin.sum_univ_eq_sum_range (fun n => f ((j 3).val + n)), W_numel]

/-! ## The scores and their log-probabilities -/

section Values
variable (X : Vec Ideal S4x2048x3072 .bf16)

/-- The queries, keys and values by head. -/
theorem v4_at (i : S4x2048x8x128.Idx) : val_main_v4 (F := Ideal) X i = at' (hd X (i 0) (oq (i 2))) (i 1).val (i 3) := by
  have h0 : (i 0).val < 4 := (i 0).isLt
  have h1 : (i 1).val < 2048 := (i 1).isLt
  have h2 : (i 2).val < 8 := (i 2).isLt
  have h3 : (i 3).val < 128 := (i 3).isLt
  rw [val_main_v4_apply, val_main_v1_apply, val_main_v0_apply]
  refine congrArg X (funext fun a => Fin.ext ?_)
  match a with
  | ⟨0, _⟩ => show ((((i 0).val * 2048 + (i 1).val) * 8 + (i 2).val) * 128 + (i 3).val) / 2097152 = (i 0).val; omega
  | ⟨1, _⟩ => show ((((i 0).val * 2048 + (i 1).val) * 8 + (i 2).val) * 128 + (i 3).val) / 1024 % 2048 = min (i 1).val 2047; omega
  | ⟨2, _⟩ => show ((((i 0).val * 2048 + (i 1).val) * 8 + (i 2).val) * 128 + (i 3).val) % 1024 = 128 * (i 2).val + (i 3).val; omega

theorem v5_at (i : S4x2048x8x128.Idx) : val_main_v5 (F := Ideal) X i = at' (hd X (i 0) (ok (i 2))) (i 1).val (i 3) := by
  have h0 : (i 0).val < 4 := (i 0).isLt
  have h1 : (i 1).val < 2048 := (i 1).isLt
  have h2 : (i 2).val < 8 := (i 2).isLt
  have h3 : (i 3).val < 128 := (i 3).isLt
  rw [val_main_v5_apply, val_main_v2_apply, val_main_v0_apply]
  refine congrArg X (funext fun a => Fin.ext ?_)
  match a with
  | ⟨0, _⟩ => show ((((i 0).val * 2048 + (i 1).val) * 8 + (i 2).val) * 128 + (i 3).val) / 2097152 = (i 0).val; omega
  | ⟨1, _⟩ => show ((((i 0).val * 2048 + (i 1).val) * 8 + (i 2).val) * 128 + (i 3).val) / 1024 % 2048 = min (i 1).val 2047; omega
  | ⟨2, _⟩ => show 1024 + ((((i 0).val * 2048 + (i 1).val) * 8 + (i 2).val) * 128 + (i 3).val) % 1024 = 128 * (8 + (i 2).val) + (i 3).val; omega

theorem v6_at (i : S4x2048x8x128.Idx) : val_main_v6 (F := Ideal) X i = at' (hd X (i 0) (ov (i 2))) (i 1).val (i 3) := by
  have h0 : (i 0).val < 4 := (i 0).isLt
  have h1 : (i 1).val < 2048 := (i 1).isLt
  have h2 : (i 2).val < 8 := (i 2).isLt
  have h3 : (i 3).val < 128 := (i 3).isLt
  rw [val_main_v6_apply, val_main_v3_apply, val_main_v0_apply]
  refine congrArg X (funext fun a => Fin.ext ?_)
  match a with
  | ⟨0, _⟩ => show ((((i 0).val * 2048 + (i 1).val) * 8 + (i 2).val) * 128 + (i 3).val) / 2097152 = (i 0).val; omega
  | ⟨1, _⟩ => show ((((i 0).val * 2048 + (i 1).val) * 8 + (i 2).val) * 128 + (i 3).val) / 1024 % 2048 = min (i 1).val 2047; omega
  | ⟨2, _⟩ => show 2048 + ((((i 0).val * 2048 + (i 1).val) * 8 + (i 2).val) * 128 + (i 3).val) % 1024 = 128 * (16 + (i 2).val) + (i 3).val; omega

/-- The mask: the keys before the query. -/
theorem mask_at (i : S2048x2048.Idx) : val_main_v15 (F := Ideal) i = if (i 1).val < (i 0).val then 1#1 else 0#1 := by
  rw [val_main_v15_apply, val_main_v13_apply, val_main_v11_apply, val_main_v10_apply, val_main_v14_apply, val_main_v12_apply, val_main_v10_apply]
  exact slt_small (i 1).isLt (i 0).isLt

variable (hq : ∀ b h, FinV (hd X b (oq h))) (hk : ∀ b h, FinV (hd X b (ok h)))

/-- The scaled scores. -/
theorem v9_at (hq : ∀ b h, FinV (hd X b (oq h))) (hk : ∀ b h, FinV (hd X b (ok h))) (i : S4x8x2048x2048.Idx) :
    val_main_v9 (F := Ideal) X i = ((sc X (i 0) (i 1) (i 2).val (i 3).val : ℝ) : EReal) := by
  rw [val_main_v9_apply, val_main_v7_apply, val_main_v8_apply, val_main_cst_apply]
  refine Eq.trans ?_ (score_eq (hq _ _) (hk _ _) _ _)
  show (∑ k : Fin 128, _) * Ideal.ofBits .f32 0x3DB504F3#32 = _
  refine congrArg (· * _) (sum_congr rfl fun d _ => ?_)
  rw [v4_at, v5_at]
  rfl

/-- The log of the sigmoid of `-w`, as the reference writes it. -/
theorem logsig (w : ℝ) : FloatOps.hostNegf (F := Ideal) (φ := .f32) (Scalar.select
      (FloatOps.cmpf (F := Ideal) (φ := .f32) .une (FloatOps.subf (w : EReal) (Ideal.ofBits .f32 0x00000000#32)) (FloatOps.subf (w : EReal) (Ideal.ofBits .f32 0x00000000#32)))
      (FloatOps.addf (F := Ideal) (φ := .f32) (w : EReal) (Ideal.ofBits .f32 0x00000000#32))
      (FloatOps.addf (F := Ideal) (φ := .f32) (FloatOps.maximumf (F := Ideal) (φ := .f32) (w : EReal) (Ideal.ofBits .f32 0x00000000#32))
        (FloatOps.hostUnary (F := Ideal) (φ := .f32) .log1p (FloatOps.hostUnary (F := Ideal) (φ := .f32) .exp (FloatOps.hostNegf (F := Ideal) (φ := .f32)
          (FloatOps.hostAbsf (F := Ideal) (φ := .f32) (FloatOps.subf (F := Ideal) (φ := .f32) (w : EReal) (Ideal.ofBits .f32 0x00000000#32))))))))
      = ((-(max w 0 + sp w) : ℝ) : EReal) := by
  have e0 : (FloatOps.subf (F := Ideal) (φ := .f32) (w : EReal) (Ideal.ofBits .f32 0x00000000#32) : EReal) = (w : EReal) := by
    rw [Ideal.ofBits_zero_f32]; exact sub_zero _
  rw [e0]
  have e1 : FloatOps.cmpf (F := Ideal) (φ := .f32) .une (w : EReal) (w : EReal) = 0#1 := by
    rw [Ideal.cmpf_def]; simp [Ideal.cmp]
  rw [e1, Ideal.ofBits_zero_f32]
  have e2 := sp_eq w
  rw [zero_sub] at e2
  show -(max (w : EReal) 0 + Ideal.log1p (Ideal.exp (-(FloatOps.absf (F := Ideal) (φ := .f32) (w : EReal))))) = _
  rw [e2, max_zero_coe, ← EReal.coe_add, ← EReal.coe_neg]

theorem lb_neg (z : ℝ) : -(max (-z) 0 + sp (-z)) = lb z := by
  have h : sp (-z) = sp z := by unfold sp; rw [abs_neg]
  have h2 : max (-z) 0 = -min z 0 := by rw [← neg_zero, max_neg_neg, neg_zero]
  unfold lb
  rw [h, h2]
  ring

theorem lk_neg (z : ℝ) : -(max z 0 + sp z) = lk z := by unfold lk; ring

/-- The log-probability of passing. -/
theorem v17_at (hq : ∀ b h, FinV (hd X b (oq h))) (hk : ∀ b h, FinV (hd X b (ok h))) (i : S4x8x2048x2048.Idx) :
    val_main_v17 (F := Ideal) X i = ((lk (sc X (i 0) (i 1) (i 2).val (i 3).val) : ℝ) : EReal) := by
  have e : val_main_call0_v0 (F := Ideal) X i = ((sc X (i 0) (i 1) (i 2).val (i 3).val : ℝ) : EReal) := by
    rw [val_main_call0_v0_apply, val_main_v16_apply, v9_at X hq hk]
    show - -((_ : ℝ) : EReal) = _
    rw [neg_neg]
  rw [val_main_v17_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v5_apply, val_main_call0_call0_v2_apply,
    val_main_call0_call0_v0_apply, val_main_call0_call0_cst_apply, e, ← lk_neg]
  exact logsig _

/-- The log-probability of stopping. -/
theorem v21_at (hq : ∀ b h, FinV (hd X b (oq h))) (hk : ∀ b h, FinV (hd X b (ok h))) (i : S4x8x2048x2048.Idx) :
    val_main_v21 (F := Ideal) X i = ((lb (sc X (i 0) (i 1) (i 2).val (i 3).val) : ℝ) : EReal) := by
  have e : val_main_call3_v0 (F := Ideal) X i = ((-(sc X (i 0) (i 1) (i 2).val (i 3).val) : ℝ) : EReal) := by
    rw [val_main_call3_v0_apply, v9_at X hq hk]
    exact (EReal.coe_neg _).symm
  rw [val_main_v21_apply, val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v5_apply, val_main_call3_call0_v2_apply,
    val_main_call3_call0_v0_apply, val_main_call3_call0_cst_apply, e, ← lb_neg]
  exact logsig _

/-- The masked log-probabilities of passing. -/
theorem v18_at (hq : ∀ b h, FinV (hd X b (oq h))) (hk : ∀ b h, FinV (hd X b (ok h))) (i : S4x8x2048x2048.Idx) :
    val_main_v18 (F := Ideal) X i = (((if (i 3).val < (i 2).val then lk (sc X (i 0) (i 1) (i 2).val (i 3).val) else 0 : ℝ)) : EReal) := by
  rw [val_main_v18_apply, val_main_call1_v1_apply, mask_at, v17_at X hq hk, val_main_call1_v2_apply, val_main_call1_v0_apply, val_main_cst_0_apply]
  show Scalar.select (if (i 3).val < (i 2).val then 1#1 else 0#1) _ (Ideal.ofBits .f32 0x00000000#32) = _
  rw [Ideal.ofBits_zero_f32]
  split <;> rfl

/-- The log-probability of passing every key after this one and before the query. -/
theorem v20_at (hq : ∀ b h, FinV (hd X b (oq h))) (hk : ∀ b h, FinV (hd X b (ok h))) (i : S4x8x2048x2048.Idx) (hlt : (i 3).val < (i 2).val) :
    val_main_v20 (F := Ideal) X i = ((∑ u ∈ Ico ((i 3).val + 1) (i 2).val, lk (sc X (i 0) (i 1) (i 2).val u) : ℝ) : EReal) := by
  have ht : (i 2).val < 2048 := (i 2).isLt
  let g : ℕ → ℝ := fun u => if u < (i 2).val then lk (sc X (i 0) (i 1) (i 2).val u) else 0
  have hw : val_main_v19 (F := Ideal) X i = ∑ n ∈ range 2048, ((g ((i 3).val + n) : ℝ) : EReal) := by
    unfold val_main_v19
    refine window_sum _ i (fun u => ((g u : ℝ) : EReal)) (fun j h0 h1 h2 => ?_) (fun u hu => ?_) _ (fun j => ?_) _ _
    · rw [v18_at X hq hk, h0, h1, h2]
    · show ((if u < (i 2).val then _ else 0 : ℝ) : EReal) = 0
      rw [if_neg (by omega)]; rfl
    · rw [val_main_call2_v0_apply, val_main_call2_cst_apply]; exact Ideal.ofBits_zero_f32
  rw [val_main_v20_apply, hw, v18_at X hq hk, ← coe_sum]
  refine Eq.trans (EReal.coe_sub _ _).symm (congrArg _ ?_)
  rw [show 2048 = 2047 + 1 from rfl, sum_range_succ', Nat.add_zero]
  show _ + g (i 3).val - g (i 3).val = _
  rw [add_sub_cancel_right, sum_Ico_eq_sum_range]
  have hsub : range ((i 2).val - ((i 3).val + 1)) ⊆ range 2047 := range_subset_range.mpr (by omega)
  rw [← sum_subset hsub]
  · refine sum_congr rfl fun n hn => ?_
    rw [mem_range] at hn
    show (if (i 3).val + (n + 1) < (i 2).val then _ else _) = _
    rw [if_pos (by omega), show (i 3).val + (n + 1) = (i 3).val + 1 + n by omega]
  · intro n _ hn
    rw [mem_range] at hn
    show (if (i 3).val + (n + 1) < (i 2).val then _ else _) = _
    rw [if_neg (by omega)]

/-- The weights. -/
theorem v24_at (hq : ∀ b h, FinV (hd X b (oq h))) (hk : ∀ b h, FinV (hd X b (ok h))) (i : S4x8x2048x2048.Idx) :
    val_main_v24 (F := Ideal) X i = ((wt (sc X (i 0) (i 1) (i 2).val) (i 2).val (i 3).val : ℝ) : EReal) := by
  rw [val_main_v24_apply, val_main_call4_v1_apply, mask_at, val_main_call4_v2_apply, val_main_call4_v0_apply, val_main_cst_1_apply]
  show Scalar.select (if (i 3).val < (i 2).val then 1#1 else 0#1) _ (Ideal.ofBits .f32 0x00000000#32) = _
  rw [Ideal.ofBits_zero_f32]
  unfold wt
  by_cases hlt : (i 3).val < (i 2).val
  · rw [if_pos hlt, if_pos hlt, val_main_v23_apply, val_main_v22_apply, v21_at X hq hk, v20_at X hq hk i hlt]
    show Ideal.exp (((lb (sc X (i 0) (i 1) (i 2).val (i 3).val) : ℝ) : EReal) + ((∑ u ∈ Ico ((i 3).val + 1) (i 2).val, lk (sc X (i 0) (i 1) (i 2).val u) : ℝ) : EReal)) = _
    rw [← EReal.coe_add, exp_coe]
  · rw [if_neg hlt, if_neg hlt]; rfl

/-- The reference's result is the attention. -/
theorem out_at (hq : ∀ b h, FinV (hd X b (oq h))) (hk : ∀ b h, FinV (hd X b (ok h))) : val_main_v27 (F := Ideal) X = attn X := by
  funext i
  have h0 : (i 0).val < 4 := (i 0).isLt
  have h1 : (i 1).val < 2048 := (i 1).isLt
  have h2 : (i 2).val < 1024 := (i 2).isLt
  rw [val_main_v27_apply, val_main_v26_apply, val_main_v25_apply]
  unfold attn
  dsimp only
  have e0 : (((i 0).val * 2048 + (i 1).val) * 1024 + (i 2).val) / 2097152 = (i 0).val := by omega
  have e1 : (((i 0).val * 2048 + (i 1).val) * 1024 + (i 2).val) / 1024 % 2048 = (i 1).val := by omega
  have e2 : (((i 0).val * 2048 + (i 1).val) * 1024 + (i 2).val) / 128 % 8 = (i 2).val / 128 := by omega
  have e3 : (((i 0).val * 2048 + (i 1).val) * 1024 + (i 2).val) % 128 = (i 2).val % 128 := by omega
  rw [← Fin.sum_univ_eq_sum_range (fun s => ((wt (sc X (i 0) ⟨(i 2).val / 128, by omega⟩ (i 1).val) (i 1).val s : ℝ) : EReal)
    * at' (hd X (i 0) (ov ⟨(i 2).val / 128, by omega⟩)) s ⟨(i 2).val % 128, Nat.mod_lt _ (by decide)⟩)]
  refine sum_congr rfl fun s _ => ?_
  rw [v6_at, v24_at X hq hk, mul_comm]
  have f0 : (⟨(((i 0).val * 2048 + (i 1).val) * 1024 + (i 2).val) / 2097152, by omega⟩ : Fin 4) = i 0 := Fin.ext e0
  have f2 : (⟨(((i 0).val * 2048 + (i 1).val) * 1024 + (i 2).val) / 128 % 8, by omega⟩ : Fin 8) = ⟨(i 2).val / 128, by omega⟩ := Fin.ext e2
  have f3 : (⟨(((i 0).val * 2048 + (i 1).val) * 1024 + (i 2).val) % 128, by omega⟩ : Fin 128) = ⟨(i 2).val % 128, Nat.mod_lt _ (by decide)⟩ := Fin.ext e3
  show ((wt (sc X (⟨(((i 0).val * 2048 + (i 1).val) * 1024 + (i 2).val) / 2097152, by omega⟩ : Fin 4) (⟨(((i 0).val * 2048 + (i 1).val) * 1024 + (i 2).val) / 128 % 8, by omega⟩ : Fin 8)
      ((((i 0).val * 2048 + (i 1).val) * 1024 + (i 2).val) / 1024 % 2048)) ((((i 0).val * 2048 + (i 1).val) * 1024 + (i 2).val) / 1024 % 2048) s.val : ℝ) : EReal)
    * at' (hd X (⟨(((i 0).val * 2048 + (i 1).val) * 1024 + (i 2).val) / 2097152, by omega⟩ : Fin 4) (ov (⟨(((i 0).val * 2048 + (i 1).val) * 1024 + (i 2).val) / 128 % 8, by omega⟩ : Fin 8)))
      s.val (⟨(((i 0).val * 2048 + (i 1).val) * 1024 + (i 2).val) % 128, by omega⟩ : Fin 128) = _
  rw [f0, f2, f3, e1]

end Values

end Cert.Proof.RefI

end
-- ==== Proof.AttnO.lean ====
module

public import proofs.«01_k».proof.Proof.RefI
public import Idealize.ShloMosaic.Lib.Pipeline.ValueKit

@[expose] public section

noncomputable section

/-! The kernel's result array, over the extended reals: the attention of its operand. -/

namespace Cert.Proof.AttnO

open Cert.KernelIdeal Cert.KernelIdeal.Gen Idealize.ShloMosaic Cert.Proof.AttnI Cert.Proof.AttnV Cert.Proof.RefI Finset
open Idealize.ShloMosaic.TcCoe

variable (m : (ℓ : Loc nD τ sig) → Buf (Elt Ideal) ℓ)

/-- The operand as launched. -/
abbrev arg (c : Dev nD) : Vec Ideal S4x2048x3072 .bf16 := m ((c.tc : Thread nD τ).loc main_arg0)

/-- The batch and the head of a grid point. -/
def bt (t : Fin cfg0.N) : Fin 4 := ⟨t.val / 8, Nat.div_lt_of_lt_mul (show t.val < 8 * 4 from t.isLt)⟩
def ht (t : Fin cfg0.N) : Fin 8 := ⟨t.val % 8, Nat.mod_lt _ (by decide)⟩

/-- The blocks of the four windows at a grid point. -/
theorem idx0 : ∀ t : Fin cfg0.N, win0_0.index t 0 = t.val / 8 ∧ win0_0.index t 1 = 0 ∧ win0_0.index t 2 = t.val % 8 := by decide +kernel
theorem idx1 : ∀ t : Fin cfg0.N, win0_1.index t 0 = t.val / 8 ∧ win0_1.index t 1 = 0 ∧ win0_1.index t 2 = 8 + t.val % 8 := by decide +kernel
theorem idx2 : ∀ t : Fin cfg0.N, win0_2.index t 0 = t.val / 8 ∧ win0_2.index t 1 = 0 ∧ win0_2.index t 2 = 16 + t.val % 8 := by decide +kernel
theorem idx3 : ∀ t : Fin cfg0.N, win0_3.index t 0 = t.val / 8 ∧ win0_3.index t 1 = 0 ∧ win0_3.index t 2 = t.val % 8 := by decide +kernel

/-- The operands' blocks are heads of the projections. -/
theorem blk0 (c : Dev nD) (t : Fin cfg0.N) : iblk m c 0 t = hd (arg m c) (bt t) (oq (ht t)) := by
  obtain ⟨e0, e1, e2⟩ := idx0 t
  funext y
  blk_simp [iblk]
  refine congrArg (m ((c.tc : Thread nD τ).loc main_arg0)) (funext fun a => Fin.ext ?_)
  match a with
  | ⟨0, _⟩ => blk_simp [e0]; rfl
  | ⟨1, _⟩ => blk_simp [e1]; rfl
  | ⟨2, _⟩ => blk_simp [e2]; show t.val % 8 * 128 + (y 2).val = 128 * (t.val % 8) + (y 2).val; omega

theorem blk1 (c : Dev nD) (t : Fin cfg0.N) : iblk m c 1 t = hd (arg m c) (bt t) (ok (ht t)) := by
  obtain ⟨e0, e1, e2⟩ := idx1 t
  funext y
  blk_simp [iblk]
  refine congrArg (m ((c.tc : Thread nD τ).loc main_arg0)) (funext fun a => Fin.ext ?_)
  match a with
  | ⟨0, _⟩ => blk_simp [e0]; rfl
  | ⟨1, _⟩ => blk_simp [e1]; rfl
  | ⟨2, _⟩ => blk_simp [e2]; show (8 + t.val % 8) * 128 + (y 2).val = 128 * (8 + t.val % 8) + (y 2).val; omega

theorem blk2 (c : Dev nD) (t : Fin cfg0.N) : iblk m c 2 t = hd (arg m c) (bt t) (ov (ht t)) := by
  obtain ⟨e0, e1, e2⟩ := idx2 t
  funext y
  blk_simp [iblk]
  refine congrArg (m ((c.tc : Thread nD τ).loc main_arg0)) (funext fun a => Fin.ext ?_)
  match a with
  | ⟨0, _⟩ => blk_simp [e0]; rfl
  | ⟨1, _⟩ => blk_simp [e1]; rfl
  | ⟨2, _⟩ => blk_simp [e2]; show (16 + t.val % 8) * 128 + (y 2).val = 128 * (16 + t.val % 8) + (y 2).val; omega

/-- The heads of finite columns are finite. -/
theorem fin_hd {X : Vec Ideal S4x2048x3072 .bf16} (h : ∀ y : S4x2048x3072.Idx, (y 2).val < 2048 → SB.Fin' (X y)) (b : Fin 4) (o : Fin 24) (ho : o.val < 16) : FinV (hd X b o) := fun y => by
  refine h _ ?_
  have h2 : (y 2).val < 128 := (y 2).isLt
  show 128 * o.val + (y 2).val < 2048
  omega

/-- The result array after the run is the attention of the operand. -/
theorem final (c : Dev nD) (h : ∀ y : S4x2048x3072.Idx, (y 2).val < 2048 → SB.Fin' (arg m c y)) : (dats m 0 c).arrAt 3 cfg0.N = attn (arg m c) := by
  refine (dats m 0 c).arrAt_eq_of_covers 3 _ (by decide +kernel) fun t hf y => ?_
  obtain ⟨e0, e1, e2⟩ := idx3 t
  have h0 : (y 0).val < 1 := (y 0).isLt
  have h1 : (y 1).val < 2048 := (y 1).isLt
  have h2 : (y 2).val < 128 := (y 2).isLt
  blk_simp
  rw [after_3]
  unfold outAt
  rw [blk0, blk1, blk2]
  obtain ⟨z, hz⟩ : ∃ z, z = ((cfg0.win 3).blk t).view.emb y := ⟨_, rfl⟩
  have z0 : (z 0).val = t.val / 8 := by rw [hz]; blk_simp [e0]
  have z1 : (z 1).val = (y 1).val := by rw [hz]; blk_simp [e1]
  have z2 : (z 2).val = 128 * (t.val % 8) + (y 2).val := by rw [hz]; blk_simp [e2]; rw [Nat.mul_comm]
  have hy : y = ix3 (0 : Fin 1) (y 1) (y 2) := funext fun a => by
    match a with
    | ⟨0, _⟩ => exact Fin.ext (by show (y 0).val = 0; omega)
    | ⟨1, _⟩ => rfl
    | ⟨2, _⟩ => rfl
  have ez : attn (arg m c) z = ∑ s ∈ range 2048, ((SB.wt (sc (arg m c) (bt t) (ht t) (y 1).val) (y 1).val s : ℝ) : EReal)
      * at' (hd (arg m c) (bt t) (ov (ht t))) s (y 2) := by
    have f0 : z 0 = bt t := Fin.ext z0
    have f1 : (⟨(z 2).val / 128, by have : (z 2).val < 1024 := (z 2).isLt; omega⟩ : Fin 8) = ht t := Fin.ext (by show (z 2).val / 128 = t.val % 8; omega)
    have f2 : (⟨(z 2).val % 128, Nat.mod_lt _ (by decide)⟩ : Fin 128) = y 2 := Fin.ext (by show (z 2).val % 128 = (y 2).val; omega)
    unfold attn
    dsimp only
    rw [f0, f1, f2, z1]
  have eo := out_eq (x2 := hd (arg m c) (bt t) (oq (ht t))) (x3 := hd (arg m c) (bt t) (ok (ht t)))
    (fin_hd h _ _ (by show (ht t).val < 16; omega)) (fin_hd h _ _ (by show 8 + (ht t).val < 16; omega)) (hd (arg m c) (bt t) (ov (ht t))) (y 1) (y 2)
  rw [← hz, ez]
  refine Eq.trans (congrArg _ hy) ?_
  exact eo

end Cert.Proof.AttnO

end
-- ==== Proof.AttnC.lean ====
module

public import proofs.«01_k».proof.Defs
public import proofs.«01_k».proof.Proof.AttnK
public import proofs.«01_k».proof.Proof.AttnO
public import proofs.«01_k».proof.Proof.Gen.Pre_finite_qk
public import Idealize.ShloMosaic.Adequacy
public import Idealize.ShloMosaic.Init

@[expose] public section

noncomputable section

/-! The claims about the attention. -/

namespace Cert.Proof.AttnC

open Idealize.ShloMosaic Idealize.ShloMosaic.TcCoe Idealize.SL.Sem Cert.Proof.RefI

/-- Where the precondition holds, every entry of the queries' and keys' columns is a finite number. -/
theorem finite_of_pre (X : Vec Ideal ⟨3, ![4, 2048, 3072]⟩ .bf16) (h : Cert.Pre_finite_qk.fn (F := Ideal) X = fun _ => 1#1)
    (y : (⟨3, ![4, 2048, 3072]⟩ : Shape).Idx) (hy : (y 2).val < 2048) : SB.Fin' (X y) := by
  have e := congrFun h (ix3 (y 0) (y 1) (⟨(y 2).val, hy⟩ : Fin 2048))
  unfold Cert.Pre_finite_qk.fn at e
  pointwise at e
  have top : Ideal.ofBits .f32 0x7F800000#32 = ⊤ := by simp [Ideal.ofBits, Ideal.ieee]
  rw [top] at e
  refine SB.fin_of_abs ?_
  by_contra hn
  rw [show (FloatOps.absf (F := Ideal) (φ := .f32) (X y)) = max (X y) (-(X y)) from rfl, decide_eq_false hn] at e
  exact absurd e (by decide)

/-- The printed kernel runs, keeps its operand and ends with every counter at zero. -/
theorem frame_kernel : Cert.quiescent_Kernel := fun m g _ => AttnK.frame (F := Bits) m g

/-- So does the idealized kernel, -/
theorem frame_kernelIdeal : Cert.quiescent_KernelIdeal := fun m g _ => AttnI.frame (F := Ideal) m g
theorem frame_kernelIdeal_pre : Cert.quiescent_KernelIdeal_pre_finite_qk := fun m g _ => AttnI.frame (F := Ideal) m g

/-- and the reference, which declares no counter. -/
theorem run_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)
theorem frame_ref : Cert.quiescent_ReferenceIdeal := fun m g _ => run_ref m g
theorem frame_ref_pre : Cert.quiescent_ReferenceIdeal_pre_finite_qk := fun m g _ => run_ref m g

/-- The idealization rewrote nothing. -/
theorem preserves : Cert.preserves_Kernel_KernelIdeal := trivial

/-- On finite queries and keys both programs end with the attention of their operand. -/
theorem algebraic : Cert.algebraic_KernelIdeal_ReferenceIdeal_pre_finite_qk := by
  intro m g m' g' hpre hag
  have fin : ∀ c y, (y 2).val < 2048 → SB.Fin' (AttnO.arg m c y) := fun c => finite_of_pre _ (hpre c)
  refine ⟨fun c => attn (AttnO.arg m c), ?_, ?_⟩
  · refine (θ_run Cert.KernelIdeal.defs _ _).mono (fun r h c => ⟨((h.1.1).out_eq c 3).trans (AttnO.final m c (fin c)), h.2.1 c⟩)
      (θ_run_and (AttnI.run_main (F := Ideal) m g) (AttnI.frame (F := Ideal) m g))
  · refine (θ_run Cert.ReferenceIdeal.defs _ _).mono (fun r h c => ⟨(h c).1.trans ?_, (h c).2⟩) (Cert.ReferenceIdeal.Value.run (F := Ideal) m' g')
    have hf : ∀ y : (⟨3, ![4, 2048, 3072]⟩ : Shape).Idx, (y 2).val < 2048 → SB.Fin' (AttnO.arg m c y) := fin c
    rw [Cert.ReferenceIdeal.Read.val_main_v27_eq, hag c]
    exact out_at (AttnO.arg m c) (fun b h => AttnO.fin_hd hf b _ (by show h.val < 16; omega)) (fun b h => AttnO.fin_hd hf b _ (by show 8 + h.val < 16; omega))

end Cert.Proof.AttnC

end
-- ==== Proof.FfnP.lean ====
module

public import proofs.«01_k».proof.Proof.Gen.Pre_layer_in_stack
public import Idealize.ShloMosaic.Lib.Pointwise
public import Idealize.ShloMosaic.Lib.DynamicIndex

@[expose] public section

noncomputable section

/-! The layer's number, where the precondition holds. -/

namespace Cert.Proof.FfnP

open Idealize.ShloMosaic

variable {F : FTy → Type} [FloatOps F]

/-- Where the precondition holds the layer's number is below 4. -/
theorem lt_of_pre (x0 : IVec Cert.Pre_layer_in_stack.S1 32) (x1 : FVec F Cert.Pre_layer_in_stack.S8192x2048 .f32) (x2 : FVec F Cert.Pre_layer_in_stack.S4x1x2048 .f32)
    (x3 x4 : FVec F Cert.Pre_layer_in_stack.S4x2048x5632 .bf16) (x5 : FVec F Cert.Pre_layer_in_stack.S4x5632x2048 .bf16) (x6 : FVec F Cert.Pre_layer_in_stack.S4x1x2048 .f32)
    (h : Cert.Pre_layer_in_stack.fn (F := F) x0 x1 x2 x3 x4 x5 x6 = fun _ => 1#1) : (x0 (ix1 0)).toNat < 4 := by
  have e := congrFun h (ix1 0)
  unfold Cert.Pre_layer_in_stack.fn at e
  pointwise at e
  generalize x0 (ix1 0) = b at e ⊢
  simp only [IntOp.andi, IntOp.cmpi, BitVec.sle, BitVec.slt] at e
  have t : b.toInt = if 2 * b.toNat < 2 ^ 32 then (b.toNat : ℤ) else (b.toNat : ℤ) - (2 ^ 32 : ℕ) := BitVec.toInt_eq_toNat_cond b
  have hb := b.isLt
  have z0 : (0#32).toInt = 0 := by decide
  have z4 : (4#32).toInt = 4 := by decide
  rw [z0, z4] at e
  by_cases p : 0 ≤ b.toInt
  · by_cases q : b.toInt < 4
    · split at t <;> omega
    · rw [decide_eq_true p, decide_eq_false q] at e; exact absurd e (by decide)
  · by_cases q : b.toInt < 4
    · rw [decide_eq_false p, decide_eq_true q] at e; exact absurd e (by decide)
    · rw [decide_eq_false p, decide_eq_false q] at e; exact absurd e (by decide)

end Cert.Proof.FfnP

end
-- ==== Proof.FfnI.lean ====
module

public import proofs.«01_k».proof.Proof.Gen.FfnIdeal
public import proofs.«01_k».proof.Proof.Gen.FfnIdeal.Frame
public import proofs.«01_k».proof.Proof.FfnP

@[expose] public section

noncomputable section

/-! The idealized feed-forward network runs: the blocks of its operands are inside them where the layer's number is. -/

namespace Cert.Proof.FfnI

open Cert.FfnIdeal Cert.FfnIdeal.Gen Idealize.ShloMosaic Idealize.ShloMosaic.TcCoe Idealize.SL.Sem

variable {F : FTy → Type} [FloatOps F] (m : (ℓ : Loc nD τ sig) → Buf (Elt F) ℓ)

/-- The layer's number, as the launch finds it. -/
abbrev lay : BitVec 32 := m ((0 : Dev nD).tc.loc main_arg0) (ix1 0)

/-- The index maps read the layer's number. -/
theorem at_tbl (r : Rect S1) (hr : r.shape.numel = 1) : (tbl m).at 0 r hr = lay m := by
  show (tbl m) 0 _ = _
  exact congrArg (m ((0 : Dev nD).tc.loc main_arg0)) (funext fun a => by match a with | ⟨0, _⟩ => exact Subsingleton.elim (α := Fin 1) _ _)

/-- A layer of the stack puts every block inside its operand, at whole words. -/
theorem ok (h : (lay m).toNat < 4) : Ok m := by
  unfold Ok ok0
  have c0 (i : grid0.Coords) : (i 1).val < 11 := (i 1).isLt
  have c1 (i : grid0.Coords) : (BitVec.ofNat 32 (i 1).val).toNat = (i 1).val := by
    rw [BitVec.toNat_ofNat]; exact Nat.mod_eq_of_lt (by have := c0 i; omega)
  refine ⟨fun i => ⟨fun a => ?_, .inl rfl⟩, fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩, fun i => ⟨fun a => ?_, .inl rfl⟩⟩
  all_goals
    have := c0 i
    have := c1 i
  · unfold cc0_transform_1; rw [at_tbl m]
    match a with
    | ⟨0, _⟩ => show ((lay m).toNat + 1) * 1 ≤ 4; omega
    | ⟨1, _⟩ => show (0 + 1) * 1 ≤ 1; omega
    | ⟨2, _⟩ => show (0 + 1) * 2048 ≤ 2048; omega
  · unfold cc0_transform_2; rw [at_tbl m]
    match a with
    | ⟨0, _⟩ => show ((lay m).toNat + 1) * 1 ≤ 4; omega
    | ⟨1, _⟩ => show (0 + 1) * 2048 ≤ 2048; omega
    | ⟨2, _⟩ => show ((BitVec.ofNat 32 (i 1).val).toNat + 1) * 512 ≤ 5632; omega
  · unfold cc0_transform_3; rw [at_tbl m]
    match a with
    | ⟨0, _⟩ => show ((lay m).toNat + 1) * 1 ≤ 4; omega
    | ⟨1, _⟩ => show (0 + 1) * 2048 ≤ 2048; omega
    | ⟨2, _⟩ => show ((BitVec.ofNat 32 (i 1).val).toNat + 1) * 512 ≤ 5632; omega
  · unfold cc0_transform_4; rw [at_tbl m]
    match a with
    | ⟨0, _⟩ => show ((lay m).toNat + 1) * 1 ≤ 4; omega
    | ⟨1, _⟩ => show ((BitVec.ofNat 32 (i 1).val).toNat + 1) * 512 ≤ 5632; omega
    | ⟨2, _⟩ => show (0 + 1) * 2048 ≤ 2048; omega
  · unfold cc0_transform_5; rw [at_tbl m]
    match a with
    | ⟨0, _⟩ => show ((lay m).toNat + 1) * 1 ≤ 4; omega
    | ⟨1, _⟩ => show (0 + 1) * 1 ≤ 1; omega
    | ⟨2, _⟩ => show (0 + 1) * 2048 ≤ 2048; omega

end Cert.Proof.FfnI

end
-- ==== Proof.FfnV.lean ====
module

public import proofs.«01_k».proof.Proof.FfnI
public import Idealize.ShloMosaic.Lib.Pipeline.Value
public import Idealize.ShloMosaic.Lib.Tactic

@[expose] public section

noncomputable section

/-! What each point of the feed-forward network's grid leaves, as the printed payloads of its blocks. -/

namespace Cert.Proof.FfnV

open Cert.FfnIdeal Cert.FfnIdeal.Gen Idealize.ShloMosaic Idealize.ShloMosaic.TcCoe Idealize.ShloMosaic.Tactic

variable {F : FTy → Type} [FloatOps F]

theorem z2 : (![0, 0] : Fin 2 → Nat) = fun _ => 0 := by decide
theorem z3 : (![0, 0, 0] : Fin 3 → Nat) = fun _ => 0 := by decide

variable (c : Dev nD) (i : grid0.Coords) (arg3 : Memref sig .tc .vmem S512x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x1x2048 .f32) (harg8 : arg8.IsWhole) (arg9 : Memref sig .tc .vmem S512x2048 .f32) (harg9 : arg9.IsWhole)
  (arg10 : Memref sig .tc .vmem S512x2048 .bf16) (harg10 : arg10.IsWhole) (arg11 : Memref sig .tc .vmem S512x2048 .f32) (harg11 : arg11.IsWhole)
  (x0 : Vec F S512x2048 .f32) (x1 : Vec F S1x1x2048 .f32) (x2 x3 : Vec F S1x2048x512 .bf16) (x4 : Vec F S1x512x2048 .bf16) (x5 : Vec F S1x1x2048 .f32) (xt0 : TbBuf0 (F := F) c tbM0_0)
  (xs0 : Vec F S512x2048 .bf16) (xs1 : Vec F S512x2048 .f32)

/-- The first point of a block of rows leaves the normalized rows, -/
theorem sout0_A_0_eq (hc0 : cond0_0 i) (hc1 : cond0_1 i) (hc2 : ¬cond0_2 i) (hc3 : ¬cond0_3 i) : sout0_A_0 c i arg3 harg3 arg4 harg4 arg5 harg5 arg6 harg6 arg7 harg7 arg8 harg8 arg9 harg9 arg10 harg10 arg11 harg11 hc0 hc1 hc2 hc3 x0 x1 x2 x3 x4 x5 xt0 = k0_pay2 x0 x1 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 hc2 hc3 x0 x1 x2 x3 x4 x5 xt0)]
  unfold kernelRun0_A
  dsimp only
  try sl_unfold_words
  rw [View.canon_unit_zero z2]
  simp only [View.readAt_eq_ld, View.ld_unit_zero (S := S512x2048) z2, View.ld_unit_zero (S := S1x1x2048) z3, View.ld_unit_zero (S := S1x2048x512) z3, View.ld_unit_zero (S := S1x512x2048) z3,
    View.readCov_unit_zero (S := S512x2048) _ z2, harg3.read_unread, harg4.read_unread, harg5.read_unread, harg6.read_unread, harg7.read_unread, harg8.read_unread, harg10.read_unread, harg11.read_unread]

/-- and the first part of the sum. -/
theorem sout0_A_1_eq (hc0 : cond0_0 i) (hc1 : cond0_1 i) (hc2 : ¬cond0_2 i) (hc3 : ¬cond0_3 i) : sout0_A_1 c i arg3 harg3 arg4 harg4 arg5 harg5 arg6 harg6 arg7 harg7 arg8 harg8 arg9 harg9 arg10 harg10 arg11 harg11 hc0 hc1 hc2 hc3 x0 x1 x2 x3 x4 x5 xt0 = k0_pay4 (k0_pay2 x0 x1) x2 x3 x4 := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 hc2 hc3 x0 x1 x2 x3 x4 x5 xt0)]
  unfold kernelRun0_A
  dsimp only
  try sl_unfold_words
  rw [View.canon_unit_zero z2]
  simp only [View.readAt_eq_ld, View.ld_unit_zero (S := S512x2048) z2, View.ld_unit_zero (S := S1x1x2048) z3, View.ld_unit_zero (S := S1x2048x512) z3, View.ld_unit_zero (S := S1x512x2048) z3,
    View.readCov_unit_zero (S := S512x2048) _ z2, harg3.read_unread, harg4.read_unread, harg5.read_unread, harg6.read_unread, harg7.read_unread, harg8.read_unread, harg10.read_unread, harg11.read_unread]

/-- A later point adds its part, -/
theorem sout0_B_1_eq (hc0 : ¬cond0_0 i) (hc1 : ¬cond0_1 i) (hc2 : cond0_2 i) (hc3 : ¬cond0_3 i) : sout0_B_1 c i arg3 harg3 arg4 harg4 arg5 harg5 arg6 harg6 arg7 harg7 arg8 harg8 arg9 harg9 arg10 harg10 arg11 harg11 hc0 hc1 hc2 hc3 x0 x1 x2 x3 x4 x5 xt0 xs0 xs1 = k0_pay5 xs0 x2 x3 x4 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 hc2 hc3 x0 x1 x2 x3 x4 x5 xt0 xs0 xs1)]
  unfold kernelRun0_B
  dsimp only
  try sl_unfold_words
  rw [View.canon_unit_zero z2]
  simp only [View.readAt_eq_ld, View.ld_unit_zero (S := S512x2048) z2, View.ld_unit_zero (S := S1x1x2048) z3, View.ld_unit_zero (S := S1x2048x512) z3, View.ld_unit_zero (S := S1x512x2048) z3,
    View.readCov_unit_zero (S := S512x2048) _ z2, harg3.read_unread, harg4.read_unread, harg5.read_unread, harg6.read_unread, harg7.read_unread, harg8.read_unread, harg10.read_unread, harg11.read_unread]

/-- and so does the last, -/
theorem sout0_C_1_eq (hc0 : ¬cond0_0 i) (hc1 : ¬cond0_1 i) (hc2 : cond0_2 i) (hc3 : cond0_3 i) : sout0_C_1 c i arg3 harg3 arg4 harg4 arg5 harg5 arg6 harg6 arg7 harg7 arg8 harg8 arg9 harg9 arg10 harg10 arg11 harg11 hc0 hc1 hc2 hc3 x0 x1 x2 x3 x4 x5 xt0 xs0 xs1 = k0_pay5 xs0 x2 x3 x4 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc1 hc2 hc3 x0 x1 x2 x3 x4 x5 xt0 xs0 xs1)]
  unfold kernelRun0_C
  dsimp only
  try sl_unfold_words
  rw [View.canon_unit_zero z2]
  simp only [View.readAt_eq_ld, View.ld_unit_zero (S := S512x2048) z2, View.ld_unit_zero (S := S1x1x2048) z3, View.ld_unit_zero (S := S1x2048x512) z3, View.ld_unit_zero (S := S1x512x2048) z3,
    View.readCov_unit_zero (S := S512x2048) _ z2, harg3.read_unread, harg4.read_unread, harg5.read_unread, harg6.read_unread, harg7.read_unread, harg8.read_unread, harg10.read_unread, harg11.read_unread]

/-- which leaves the block of the result. -/
theorem out0_C_6_eq (hc0 : ¬cond0_0 i) (hc1 : ¬cond0_1 i) (hc2 : cond0_2 i) (hc3 : cond0_3 i) : out0_C_6 c i arg3 harg3 arg4 harg4 arg5 harg5 arg6 harg6 arg7 harg7 arg8 harg8 arg9 harg9 arg10 harg10 arg11 harg11 hc0 hc1 hc2 hc3 x0 x1 x2 x3 x4 x5 xt0 xs0 xs1 = k0_pay1 x0 (k0_pay5 xs0 x2 x3 x4 xs1) x5 := by
  unfold out0_C_6
  rw [View.read_writes_eq_canon _ _ _ (cover0_C_6 c i arg3 harg3 arg4 harg4 arg5 harg5 arg6 harg6 arg7 harg7 arg8 harg8 arg9 harg9 arg10 harg10 arg11 harg11 hc0 hc1 hc2 hc3 x0 x1 x2 x3 x4 x5 xt0 xs0 xs1)]
  unfold kernelRun0_C
  dsimp only
  try sl_unfold_words
  rw [View.canon_unit_zero z2]
  simp only [View.readAt_eq_ld, View.ld_unit_zero (S := S512x2048) z2, View.ld_unit_zero (S := S1x1x2048) z3, View.ld_unit_zero (S := S1x2048x512) z3, View.ld_unit_zero (S := S1x512x2048) z3,
    View.readCov_unit_zero (S := S512x2048) _ z2, harg3.read_unread, harg4.read_unread, harg5.read_unread, harg6.read_unread, harg7.read_unread, harg8.read_unread, harg10.read_unread, harg11.read_unread]

end Cert.Proof.FfnV

end
-- ==== Proof.FfnS.lean ====
module

public import Idealize.ShloMosaic.Lib.Pointwise
public import Idealize.ShloMosaic.PureOps.Ideal

@[expose] public section

noncomputable section

/-! What the feed-forward network computes over the extended reals, entry by entry. -/

namespace Cert.Proof.FfnS

open Idealize.ShloMosaic

/-- The shapes of the operands: the rows, the gains, the two weights. -/
abbrev SX : Shape := ⟨2, ![8192, 2048]⟩
abbrev SG : Shape := ⟨3, ![4, 1, 2048]⟩
abbrev SU : Shape := ⟨3, ![4, 2048, 5632]⟩
abbrev SD : Shape := ⟨3, ![4, 5632, 2048]⟩

/-- A row scaled by the reciprocal root of its mean square, and by the gain. -/
def nrm (v g : Fin 2048 → EReal) (d : Fin 2048) : EReal :=
  v d * Ideal.rsqrt (Ideal.div (∑ k, v k * v k) (Ideal.ofBits .f32 0x45000000#32) + Ideal.ofBits .f32 0x358637BD#32) * g d

variable (L : Fin 4) (X : Vec Ideal SX .f32) (G : Vec Ideal SG .f32) (WG WU : Vec Ideal SU .bf16) (WD : Vec Ideal SD .bf16) (GP : Vec Ideal SG .f32)

/-- The normalized row. -/
def u (n : Fin 8192) (d : Fin 2048) : EReal := nrm (fun k => X (ix2 n k)) (fun k => G (ix3 L 0 k)) d

/-- A row of the normalized input against a column of a weight. -/
def proj (W : Vec Ideal SU .bf16) (n : Fin 8192) (f : Fin 5632) : EReal := ∑ d, u L X G n d * W (ix3 L d f)

/-- The gated hidden entry. -/
def hid (n : Fin 8192) (f : Fin 5632) : EReal :=
  proj L X G WG n f * Ideal.div 1 (1 + Ideal.exp (0 - proj L X G WG n f)) * proj L X G WU n f

/-- The network's entry before the last norm. -/
def down (n : Fin 8192) (d : Fin 2048) : EReal := ∑ f, hid L X G WG WU n f * WD (ix3 L f d)

/-- The feed-forward network's result. -/
def ffn : Vec Ideal SX .f32 := fun y =>
  X y + nrm (down L X G WG WU WD (y 0)) (fun k => GP (ix3 L 0 k)) (y 1)

end Cert.Proof.FfnS

end
-- ==== Proof.FfnO.lean ====
module

public import proofs.«01_k».proof.Proof.FfnV
public import proofs.«01_k».proof.Proof.FfnS
public import Idealize.ShloMosaic.Lib.Pipeline.ValueKit
public import Idealize.ShloMosaic.Lib.Pointwise
public import Mathlib.Algebra.BigOperators.Intervals

@[expose] public section

noncomputable section

/-! The result array of the feed-forward network's kernel, over the extended reals. -/

namespace Cert.Proof.FfnO

open Cert.FfnIdeal Cert.FfnIdeal.Gen Idealize.ShloMosaic Idealize.ShloMosaic.TcCoe Cert.Proof.FfnI Cert.Proof.FfnS Cert.Proof.FfnV Finset

variable (m : (ℓ : Loc nD τ sig) → Buf (Elt Ideal) ℓ) (hl : (lay m).toNat < 4) (c : Dev nD)

/-- The operands as launched. -/
abbrev ax : Vec Ideal SX .f32 := m ((c.tc : Thread nD τ).loc main_arg1)
abbrev ag : Vec Ideal SG .f32 := m ((c.tc : Thread nD τ).loc main_arg2)
abbrev awg : Vec Ideal SU .bf16 := m ((c.tc : Thread nD τ).loc main_arg3)
abbrev awu : Vec Ideal SU .bf16 := m ((c.tc : Thread nD τ).loc main_arg4)
abbrev awd : Vec Ideal SD .bf16 := m ((c.tc : Thread nD τ).loc main_arg5)
abbrev agp : Vec Ideal SG .f32 := m ((c.tc : Thread nD τ).loc main_arg6)

/-- The layer. -/
abbrev L : Fin 4 := ⟨(lay m).toNat, hl⟩

/-- Row `a` of block `q` of the rows, and column `f` of block `r` of the hidden columns. -/
def row (t : Fin (cfgM m (ok m hl)).N) (a : Fin 512) : Fin 8192 := ⟨512 * (t.val / 11) + a.val, by
  have : t.val < 176 := t.isLt
  omega⟩
def col (t : Fin (cfgM m (ok m hl)).N) (f : Fin 512) : Fin 5632 := ⟨512 * (t.val % 11) + f.val, by omega⟩

/-- The grid's coordinates at a point. -/
theorem crd : ∀ t : Fin grid0.N, (BitVec.ofNat 32 (grid0.coords t 0).val).toNat = t.val / 11 ∧ (BitVec.ofNat 32 (grid0.coords t 1).val).toNat = t.val % 11 := by decide +kernel

theorem idx0 (t : Fin (cfgM m (ok m hl)).N) : ((cfgM m (ok m hl)).win 0).index t = ![t.val / 11, 0] := by
  show cc0_transform_0 (grid0.coords t) = _
  unfold cc0_transform_0; dsimp only; rw [(crd t).1]; rfl
theorem idx1 (t : Fin (cfgM m (ok m hl)).N) : ((cfgM m (ok m hl)).win 1).index t = ![(lay m).toNat, 0, 0] := by
  show cc0_transform_1 inb_S1_S1_0 numel1_S1 (tbl m) (grid0.coords t) = _
  unfold cc0_transform_1; rw [at_tbl m]; rfl
theorem idx2 (t : Fin (cfgM m (ok m hl)).N) : ((cfgM m (ok m hl)).win 2).index t = ![(lay m).toNat, 0, t.val % 11] := by
  show cc0_transform_2 inb_S1_S1_0 numel1_S1 (tbl m) (grid0.coords t) = _
  unfold cc0_transform_2; rw [at_tbl m]; dsimp only; rw [(crd t).2]; rfl
theorem idx3 (t : Fin (cfgM m (ok m hl)).N) : ((cfgM m (ok m hl)).win 3).index t = ![(lay m).toNat, 0, t.val % 11] := by
  show cc0_transform_3 inb_S1_S1_0 numel1_S1 (tbl m) (grid0.coords t) = _
  unfold cc0_transform_3; rw [at_tbl m]; dsimp only; rw [(crd t).2]; rfl
theorem idx4 (t : Fin (cfgM m (ok m hl)).N) : ((cfgM m (ok m hl)).win 4).index t = ![(lay m).toNat, t.val % 11, 0] := by
  show cc0_transform_4 inb_S1_S1_0 numel1_S1 (tbl m) (grid0.coords t) = _
  unfold cc0_transform_4; rw [at_tbl m]; dsimp only; rw [(crd t).2]; rfl
theorem idx5 (t : Fin (cfgM m (ok m hl)).N) : ((cfgM m (ok m hl)).win 5).index t = ![(lay m).toNat, 0, 0] := by
  show cc0_transform_5 inb_S1_S1_0 numel1_S1 (tbl m) (grid0.coords t) = _
  unfold cc0_transform_5; rw [at_tbl m]; rfl
theorem idx6 (t : Fin (cfgM m (ok m hl)).N) : ((cfgM m (ok m hl)).win 6).index t = ![t.val / 11, 0] := by
  show cc0_transform_6 (grid0.coords t) = _
  unfold cc0_transform_6; dsimp only; rw [(crd t).1]; rfl
/-- The operands' blocks at a point. -/
theorem blk0 (t : Fin (cfgM m (ok m hl)).N) (a : Fin 512) (d : Fin 2048) : (iblk m (ok m hl) c 0 t : Vec Ideal S512x2048 .f32) (ix2 a d) = ax m c (ix2 (row m hl t a) d) := by
  have e := idx0 m hl t
  unfold iblk
  refine Eq.trans (b := ax m c ((((cfgM m (ok m hl)).win 0).blk t).view.emb (ix2 a d))) rfl (congrArg (ax m c) (funext fun x => Fin.ext ?_))
  match x with
  | ⟨0, _⟩ => blk_simp [e]; show t.val / 11 * 512 + a.val = 512 * (t.val / 11) + a.val; omega
  | ⟨1, _⟩ => blk_simp [e]

theorem blk1 (t : Fin (cfgM m (ok m hl)).N) (d : Fin 2048) : (iblk m (ok m hl) c 1 t : Vec Ideal S1x1x2048 .f32) (ix3 0 0 d) = ag m c (ix3 (L m hl) 0 d) := by
  have e := idx1 m hl t
  unfold iblk
  refine Eq.trans (b := ag m c ((((cfgM m (ok m hl)).win 1).blk t).view.emb (ix3 0 0 d))) rfl (congrArg (ag m c) (funext fun x => Fin.ext ?_))
  match x with
  | ⟨0, _⟩ => blk_simp [e]; rfl
  | ⟨1, _⟩ => blk_simp [e]
  | ⟨2, _⟩ => blk_simp [e]

theorem blk5 (t : Fin (cfgM m (ok m hl)).N) (d : Fin 2048) : (iblk m (ok m hl) c 5 t : Vec Ideal S1x1x2048 .f32) (ix3 0 0 d) = agp m c (ix3 (L m hl) 0 d) := by
  have e := idx5 m hl t
  unfold iblk
  refine Eq.trans (b := agp m c ((((cfgM m (ok m hl)).win 5).blk t).view.emb (ix3 0 0 d))) rfl (congrArg (agp m c) (funext fun x => Fin.ext ?_))
  match x with
  | ⟨0, _⟩ => blk_simp [e]; rfl
  | ⟨1, _⟩ => blk_simp [e]
  | ⟨2, _⟩ => blk_simp [e]

theorem blk2 (t : Fin (cfgM m (ok m hl)).N) (d : Fin 2048) (f : Fin 512) : (iblk m (ok m hl) c 2 t : Vec Ideal S1x2048x512 .bf16) (ix3 0 d f) = awg m c (ix3 (L m hl) d (col m hl t f)) := by
  have e := idx2 m hl t
  unfold iblk
  refine Eq.trans (b := awg m c ((((cfgM m (ok m hl)).win 2).blk t).view.emb (ix3 0 d f))) rfl (congrArg (awg m c) (funext fun x => Fin.ext ?_))
  match x with
  | ⟨0, _⟩ => blk_simp [e]; rfl
  | ⟨1, _⟩ => blk_simp [e]
  | ⟨2, _⟩ => blk_simp [e]; show t.val % 11 * 512 + f.val = 512 * (t.val % 11) + f.val; omega

theorem blk3 (t : Fin (cfgM m (ok m hl)).N) (d : Fin 2048) (f : Fin 512) : (iblk m (ok m hl) c 3 t : Vec Ideal S1x2048x512 .bf16) (ix3 0 d f) = awu m c (ix3 (L m hl) d (col m hl t f)) := by
  have e := idx3 m hl t
  unfold iblk
  refine Eq.trans (b := awu m c ((((cfgM m (ok m hl)).win 3).blk t).view.emb (ix3 0 d f))) rfl (congrArg (awu m c) (funext fun x => Fin.ext ?_))
  match x with
  | ⟨0, _⟩ => blk_simp [e]; rfl
  | ⟨1, _⟩ => blk_simp [e]
  | ⟨2, _⟩ => blk_simp [e]; show t.val % 11 * 512 + f.val = 512 * (t.val % 11) + f.val; omega

theorem blk4 (t : Fin (cfgM m (ok m hl)).N) (f : Fin 512) (d : Fin 2048) : (iblk m (ok m hl) c 4 t : Vec Ideal S1x512x2048 .bf16) (ix3 0 f d) = awd m c (ix3 (L m hl) (col m hl t f) d) := by
  have e := idx4 m hl t
  unfold iblk
  refine Eq.trans (b := awd m c ((((cfgM m (ok m hl)).win 4).blk t).view.emb (ix3 0 f d))) rfl (congrArg (awd m c) (funext fun x => Fin.ext ?_))
  match x with
  | ⟨0, _⟩ => blk_simp [e]; rfl
  | ⟨1, _⟩ => blk_simp [e]; show t.val % 11 * 512 + f.val = 512 * (t.val % 11) + f.val; omega
  | ⟨2, _⟩ => blk_simp [e]

/-- The printed payloads, entry by entry: the norm of a row, -/
theorem p2 (h : Vec Ideal S512x2048 .f32) (g : Vec Ideal S1x1x2048 .f32) (a : Fin 512) (d : Fin 2048) :
    k0_pay2 h g (ix2 a d) = nrm (fun k => h (ix2 a k)) (fun k => g (ix3 0 0 k)) d := by
  unfold nrm
  pointwise [k0_pay2]

/-- the residual step, -/
theorem p1 (h acc : Vec Ideal S512x2048 .f32) (g : Vec Ideal S1x1x2048 .f32) (a : Fin 512) (d : Fin 2048) :
    k0_pay1 h acc g (ix2 a d) = h (ix2 a d) + nrm (fun k => acc (ix2 a k)) (fun k => g (ix3 0 0 k)) d := by
  unfold nrm
  pointwise [k0_pay1]

/-- the part of the sum over a block of hidden columns, -/
theorem p3 (v : Vec Ideal S512x2048 .bf16) (wg wu : Vec Ideal S1x2048x512 .bf16) (wd : Vec Ideal S1x512x2048 .bf16) (a : Fin 512) (d : Fin 2048) :
    k0_pay3 v wg wu wd (ix2 a d) = ∑ f, ((∑ k, v (ix2 a k) * wg (ix3 0 k f)) * Ideal.div 1 (1 + Ideal.exp (0 - ∑ k, v (ix2 a k) * wg (ix3 0 k f)))
      * ∑ k, v (ix2 a k) * wu (ix3 0 k f)) * wd (ix3 0 f d) := by
  pointwise [k0_pay3]

/-- as the first point stores it, -/
theorem p4 (v : Vec Ideal S512x2048 .bf16) (wg wu : Vec Ideal S1x2048x512 .bf16) (wd : Vec Ideal S1x512x2048 .bf16) : k0_pay4 v wg wu wd = k0_pay3 v wg wu wd := by
  unfold k0_pay4
  exact shapeCast_self _ _

/-- and as the later ones add it. -/
theorem p5 (v : Vec Ideal S512x2048 .bf16) (wg wu : Vec Ideal S1x2048x512 .bf16) (wd : Vec Ideal S1x512x2048 .bf16) (acc : Vec Ideal S512x2048 .f32) (a : Fin 512) (d : Fin 2048) :
    k0_pay5 v wg wu wd acc (ix2 a d) = acc (ix2 a d) + k0_pay3 v wg wu wd (ix2 a d) := by
  pointwise [k0_pay5]

end Cert.Proof.FfnO

end
-- ==== Proof.FfnN.lean ====
module

public import proofs.«01_k».proof.Proof.FfnO

@[expose] public section

noncomputable section

/-! What the feed-forward network's kernel leaves after every point, and its result array, over the extended reals. -/

namespace Cert.Proof.FfnN

open Cert.FfnIdeal Cert.FfnIdeal.Gen Idealize.ShloMosaic Idealize.ShloMosaic.TcCoe Cert.Proof.FfnI Cert.Proof.FfnS Cert.Proof.FfnV Cert.Proof.FfnO Finset

variable (m : (ℓ : Loc nD τ sig) → Buf (Elt Ideal) ℓ) (hl : (lay m).toNat < 4) (c : Dev nD)

/-- The blocks, by name. -/
def b0 (t : Fin (cfgM m (ok m hl)).N) : Vec Ideal S512x2048 .f32 := iblk m (ok m hl) c 0 t
def b1 (t : Fin (cfgM m (ok m hl)).N) : Vec Ideal S1x1x2048 .f32 := iblk m (ok m hl) c 1 t
def b2 (t : Fin (cfgM m (ok m hl)).N) : Vec Ideal S1x2048x512 .bf16 := iblk m (ok m hl) c 2 t
def b3 (t : Fin (cfgM m (ok m hl)).N) : Vec Ideal S1x2048x512 .bf16 := iblk m (ok m hl) c 3 t
def b4 (t : Fin (cfgM m (ok m hl)).N) : Vec Ideal S1x512x2048 .bf16 := iblk m (ok m hl) c 4 t
def b5 (t : Fin (cfgM m (ok m hl)).N) : Vec Ideal S1x1x2048 .f32 := iblk m (ok m hl) c 5 t

/-- What each point leaves, over its blocks: the first of a block of rows, -/
theorem outsA0 (t : Fin (cfgM m (ok m hl)).N) (h0 : t.val % 11 = 0) : (outsAt0 m (ok m hl) c t.val t.isLt).2.1
    = k0_pay2 (b0 m hl c t) (b1 m hl c t) := by
  refine (congrArg (fun z => z.2.1) (outsAt0_A m (ok m hl) c t h0 h0 (by omega) (by omega))).trans ?_
  dsimp only
  exact sout0_A_0_eq (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) (ms0_4 m (ok m hl) t) (hs0_4 m (ok m hl) t) (ms0_5 m (ok m hl) t) (hs0_5 m (ok m hl) t) (ms0_6 m (ok m hl) t) (hs0_6 m (ok m hl) t) scM0_0 (Memref.isWhole_whole _) scM0_1 (Memref.isWhole_whole _) (b0 m hl c t) (b1 m hl c t) (b2 m hl c t) (b3 m hl c t) (b4 m hl c t) (b5 m hl c t) (tbl m 0) _ _ _ _

theorem outsA1 (t : Fin (cfgM m (ok m hl)).N) (h0 : t.val % 11 = 0) : (outsAt0 m (ok m hl) c t.val t.isLt).2.2
    = k0_pay3 (k0_pay2 (b0 m hl c t) (b1 m hl c t)) (b2 m hl c t) (b3 m hl c t) (b4 m hl c t) := by
  refine (congrArg (fun z => z.2.2) (outsAt0_A m (ok m hl) c t h0 h0 (by omega) (by omega))).trans ?_
  dsimp only
  exact (sout0_A_1_eq (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) (ms0_4 m (ok m hl) t) (hs0_4 m (ok m hl) t) (ms0_5 m (ok m hl) t) (hs0_5 m (ok m hl) t) (ms0_6 m (ok m hl) t) (hs0_6 m (ok m hl) t) scM0_0 (Memref.isWhole_whole _) scM0_1 (Memref.isWhole_whole _) (b0 m hl c t) (b1 m hl c t) (b2 m hl c t) (b3 m hl c t) (b4 m hl c t) (b5 m hl c t) (tbl m 0) _ _ _ _).trans (p4 _ _ _ _)

/-- a later one, which keeps the rows, -/
theorem outsB0 (t : Fin (cfgM m (ok m hl)).N) (h0 : ¬t.val % 11 = 0) (h3 : ¬t.val % 11 = 10) : (outsAt0 m (ok m hl) c t.val t.isLt).2.1 = (outsAt0 m (ok m hl) c (t.val - 1) (Nat.lt_of_le_of_lt (Nat.sub_le _ _) t.isLt)).2.1 := by
  refine (congrArg (fun z => z.2.1) (outsAt0_B m (ok m hl) c t h0 h0 (by omega) h3)).trans ?_
  dsimp only
  unfold sout0_B_0
  rfl

theorem outsC0 (t : Fin (cfgM m (ok m hl)).N) (h0 : ¬t.val % 11 = 0) (h3 : t.val % 11 = 10) : (outsAt0 m (ok m hl) c t.val t.isLt).2.1 = (outsAt0 m (ok m hl) c (t.val - 1) (Nat.lt_of_le_of_lt (Nat.sub_le _ _) t.isLt)).2.1 := by
  refine (congrArg (fun z => z.2.1) (outsAt0_C m (ok m hl) c t h0 h0 (by omega) h3)).trans ?_
  dsimp only
  unfold sout0_C_0
  rfl

/-- and adds its part to the sum, -/
theorem outsB1 (t : Fin (cfgM m (ok m hl)).N) (h0 : ¬t.val % 11 = 0) (h3 : ¬t.val % 11 = 10) : (outsAt0 m (ok m hl) c t.val t.isLt).2.2
    = k0_pay5 (outsAt0 m (ok m hl) c (t.val - 1) (Nat.lt_of_le_of_lt (Nat.sub_le _ _) t.isLt)).2.1 (b2 m hl c t) (b3 m hl c t) (b4 m hl c t) (outsAt0 m (ok m hl) c (t.val - 1) (Nat.lt_of_le_of_lt (Nat.sub_le _ _) t.isLt)).2.2 := by
  refine (congrArg (fun z => z.2.2) (outsAt0_B m (ok m hl) c t h0 h0 (by omega) h3)).trans ?_
  dsimp only
  exact sout0_B_1_eq (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) (ms0_4 m (ok m hl) t) (hs0_4 m (ok m hl) t) (ms0_5 m (ok m hl) t) (hs0_5 m (ok m hl) t) (ms0_6 m (ok m hl) t) (hs0_6 m (ok m hl) t) scM0_0 (Memref.isWhole_whole _) scM0_1 (Memref.isWhole_whole _) (b0 m hl c t) (b1 m hl c t) (b2 m hl c t) (b3 m hl c t) (b4 m hl c t) (b5 m hl c t) (tbl m 0) (outsAt0 m (ok m hl) c (t.val - 1) (Nat.lt_of_le_of_lt (Nat.sub_le _ _) t.isLt)).2.1 (outsAt0 m (ok m hl) c (t.val - 1) (Nat.lt_of_le_of_lt (Nat.sub_le _ _) t.isLt)).2.2 _ _ _ _

theorem outsC1 (t : Fin (cfgM m (ok m hl)).N) (h0 : ¬t.val % 11 = 0) (h3 : t.val % 11 = 10) : (outsAt0 m (ok m hl) c t.val t.isLt).2.2
    = k0_pay5 (outsAt0 m (ok m hl) c (t.val - 1) (Nat.lt_of_le_of_lt (Nat.sub_le _ _) t.isLt)).2.1 (b2 m hl c t) (b3 m hl c t) (b4 m hl c t) (outsAt0 m (ok m hl) c (t.val - 1) (Nat.lt_of_le_of_lt (Nat.sub_le _ _) t.isLt)).2.2 := by
  refine (congrArg (fun z => z.2.2) (outsAt0_C m (ok m hl) c t h0 h0 (by omega) h3)).trans ?_
  dsimp only
  exact sout0_C_1_eq (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) (ms0_4 m (ok m hl) t) (hs0_4 m (ok m hl) t) (ms0_5 m (ok m hl) t) (hs0_5 m (ok m hl) t) (ms0_6 m (ok m hl) t) (hs0_6 m (ok m hl) t) scM0_0 (Memref.isWhole_whole _) scM0_1 (Memref.isWhole_whole _) (b0 m hl c t) (b1 m hl c t) (b2 m hl c t) (b3 m hl c t) (b4 m hl c t) (b5 m hl c t) (tbl m 0) (outsAt0 m (ok m hl) c (t.val - 1) (Nat.lt_of_le_of_lt (Nat.sub_le _ _) t.isLt)).2.1 (outsAt0 m (ok m hl) c (t.val - 1) (Nat.lt_of_le_of_lt (Nat.sub_le _ _) t.isLt)).2.2 _ _ _ _

/-- the last one leaving the block of the result. -/
theorem outsCo (t : Fin (cfgM m (ok m hl)).N) (h0 : ¬t.val % 11 = 0) (h3 : t.val % 11 = 10) : (outsAt0 m (ok m hl) c t.val t.isLt).1
    = k0_pay1 (b0 m hl c t) (k0_pay5 (outsAt0 m (ok m hl) c (t.val - 1) (Nat.lt_of_le_of_lt (Nat.sub_le _ _) t.isLt)).2.1 (b2 m hl c t) (b3 m hl c t) (b4 m hl c t) (outsAt0 m (ok m hl) c (t.val - 1) (Nat.lt_of_le_of_lt (Nat.sub_le _ _) t.isLt)).2.2) (b5 m hl c t) := by
  refine (congrArg (fun z => z.1) (outsAt0_C m (ok m hl) c t h0 h0 (by omega) h3)).trans ?_
  dsimp only
  exact out0_C_6_eq (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) (ms0_4 m (ok m hl) t) (hs0_4 m (ok m hl) t) (ms0_5 m (ok m hl) t) (hs0_5 m (ok m hl) t) (ms0_6 m (ok m hl) t) (hs0_6 m (ok m hl) t) scM0_0 (Memref.isWhole_whole _) scM0_1 (Memref.isWhole_whole _) (b0 m hl c t) (b1 m hl c t) (b2 m hl c t) (b3 m hl c t) (b4 m hl c t) (b5 m hl c t) (tbl m 0) (outsAt0 m (ok m hl) c (t.val - 1) (Nat.lt_of_le_of_lt (Nat.sub_le _ _) t.isLt)).2.1 (outsAt0 m (ok m hl) c (t.val - 1) (Nat.lt_of_le_of_lt (Nat.sub_le _ _) t.isLt)).2.2 _ _ _ _

theorem outs0 (n : ℕ) (hn : n + 1 < (cfgM m (ok m hl)).N) (h0 : ¬(n + 1) % 11 = 0) :
    (outsAt0 m (ok m hl) c (n + 1) hn).2.1 = (outsAt0 m (ok m hl) c n (Nat.lt_of_succ_lt hn)).2.1 := by
  by_cases h3 : (n + 1) % 11 = 10
  · exact outsC0 m hl c ⟨n + 1, hn⟩ h0 h3
  · exact outsB0 m hl c ⟨n + 1, hn⟩ h0 h3

theorem outs1 (n : ℕ) (hn : n + 1 < (cfgM m (ok m hl)).N) (h0 : ¬(n + 1) % 11 = 0) :
    (outsAt0 m (ok m hl) c (n + 1) hn).2.2 = k0_pay5 (outsAt0 m (ok m hl) c n (Nat.lt_of_succ_lt hn)).2.1 (b2 m hl c ⟨n + 1, hn⟩) (b3 m hl c ⟨n + 1, hn⟩) (b4 m hl c ⟨n + 1, hn⟩)
      (outsAt0 m (ok m hl) c n (Nat.lt_of_succ_lt hn)).2.2 := by
  by_cases h3 : (n + 1) % 11 = 10
  · exact outsC1 m hl c ⟨n + 1, hn⟩ h0 h3
  · exact outsB1 m hl c ⟨n + 1, hn⟩ h0 h3

theorem outsC (t : Fin (cfgM m (ok m hl)).N) (h3 : t.val % 11 = 10) :
    (outsAt0 m (ok m hl) c t.val t.isLt).1 = k0_pay1 (b0 m hl c t) (outsAt0 m (ok m hl) c t.val t.isLt).2.2 (b5 m hl c t) := by
  rw [outsCo m hl c t (by omega) h3, outsC1 m hl c t (by omega) h3]

/-- The normalized rows of the operands. -/
abbrev un (n : Fin 8192) (d : Fin 2048) : EReal := u (L m hl) (ax m c) (ag m c) n d

/-- The term of hidden column `j` in the sum (past the end: the last column's). -/
def term (n : Fin 8192) (d : Fin 2048) (j : ℕ) : EReal :=
  hid (L m hl) (ax m c) (ag m c) (awg m c) (awu m c) n (⟨min j 5631, by omega⟩ : Fin 5632) * awd m c (ix3 (L m hl) (⟨min j 5631, by omega⟩ : Fin 5632) d)

/-- Over a point's blocks the part of the sum is the terms of its hidden columns. -/
theorem part (t : Fin (cfgM m (ok m hl)).N) (v : Vec Ideal S512x2048 .bf16) (hv : ∀ a k, v (ix2 a k) = un m hl c (row m hl t a) k) (a : Fin 512) (d : Fin 2048) :
    k0_pay3 v (b2 m hl c t) (b3 m hl c t) (b4 m hl c t) (ix2 a d)
      = ∑ j ∈ range 512, term m hl c (row m hl t a) d (512 * (t.val % 11) + j) := by
  rw [p3, ← Fin.sum_univ_eq_sum_range (fun j => term m hl c (row m hl t a) d (512 * (t.val % 11) + j)) 512]
  refine sum_congr rfl fun f _ => ?_
  have hc : (⟨min (512 * (t.val % 11) + f.val) 5631, by omega⟩ : Fin 5632) = col m hl t f := Fin.ext (by
    show min (512 * (t.val % 11) + f.val) 5631 = 512 * (t.val % 11) + f.val
    omega)
  have e2 : ∀ k, b2 m hl c t (ix3 0 k f) = _ := fun k => blk2 m hl c t k f
  have e3 : ∀ k, b3 m hl c t (ix3 0 k f) = _ := fun k => blk3 m hl c t k f
  have e4 : b4 m hl c t (ix3 0 f d) = _ := blk4 m hl c t f d
  unfold term
  rw [hc, e4]
  simp only [hv, e2, e3]
  rfl

/-- Two points of one block of rows. -/
theorem row_succ (n : ℕ) (hn : n + 1 < (cfgM m (ok m hl)).N) (h : ¬(n + 1) % 11 = 0) (a : Fin 512) :
    row m hl ⟨n + 1, hn⟩ a = row m hl ⟨n, Nat.lt_of_succ_lt hn⟩ a := Fin.ext (by
  show 512 * ((n + 1) / 11) + a.val = 512 * (n / 11) + a.val
  omega)

/-- The first point of a block of rows leaves its normalized rows and the first terms. -/
theorem first (t : Fin (cfgM m (ok m hl)).N) (h0 : t.val % 11 = 0) :
    (∀ a d, (outsAt0 m (ok m hl) c t.val t.isLt).2.1 (ix2 a d) = un m hl c (row m hl t a) d)
      ∧ ∀ a d, (outsAt0 m (ok m hl) c t.val t.isLt).2.2 (ix2 a d) = ∑ j ∈ range (512 * (t.val % 11 + 1)), term m hl c (row m hl t a) d j := by
  have hv : ∀ a k, k0_pay2 (F := Ideal) (b0 m hl c t) (b1 m hl c t) (ix2 a k) = un m hl c (row m hl t a) k := fun a k => by
    have e0 : ∀ d, b0 m hl c t (ix2 a d) = _ := fun d => blk0 m hl c t a d
    have e1 : ∀ d, b1 m hl c t (ix3 0 0 d) = _ := fun d => blk1 m hl c t d
    rw [p2]
    simp only [e0, e1]
    rfl
  rw [outsA0 m hl c t h0, outsA1 m hl c t h0]
  refine ⟨hv, fun a d => ?_⟩
  rw [part m hl c t _ hv, h0]
  exact sum_congr rfl fun j _ => by rw [Nat.mul_zero, Nat.zero_add]

/-- After every point the scratch holds the normalized rows of its block of rows, and the terms of the hidden columns done so far. -/
theorem state (n : ℕ) : ∀ hn : n < (cfgM m (ok m hl)).N,
    (∀ a d, (outsAt0 m (ok m hl) c n hn).2.1 (ix2 a d) = un m hl c (row m hl ⟨n, hn⟩ a) d)
      ∧ ∀ a d, (outsAt0 m (ok m hl) c n hn).2.2 (ix2 a d) = ∑ j ∈ range (512 * (n % 11 + 1)), term m hl c (row m hl ⟨n, hn⟩ a) d j := by
  induction n with
  | zero =>
    intro hn
    exact first m hl c ⟨0, hn⟩ rfl
  | succ n ih =>
    intro hn
    by_cases h0 : (n + 1) % 11 = 0
    · exact first m hl c ⟨n + 1, hn⟩ h0
    · obtain ⟨ih1, ih2⟩ := ih (Nat.lt_of_succ_lt hn)
      have er : (n + 1) % 11 = n % 11 + 1 := by omega
      have hv : ∀ a k, (outsAt0 m (ok m hl) c n (Nat.lt_of_succ_lt hn)).2.1 (ix2 a k) = un m hl c (row m hl ⟨n + 1, hn⟩ a) k := fun a k => by
        rw [row_succ m hl n hn h0, ih1]
      rw [outs0 m hl c n hn h0, outs1 m hl c n hn h0]
      refine ⟨hv, fun a d => ?_⟩
      rw [p5, ih2, part m hl c ⟨n + 1, hn⟩ _ hv, ← row_succ m hl n hn h0, show 512 * ((n + 1) % 11 + 1) = 512 * (n % 11 + 1) + 512 by omega, sum_range_add]
      exact congrArg _ (sum_congr rfl fun j _ => by rw [← er])

/-- At a block's last point the sum is complete. -/
theorem full (t : Fin (cfgM m (ok m hl)).N) (h3 : t.val % 11 = 10) (a : Fin 512) (d : Fin 2048) :
    (outsAt0 m (ok m hl) c t.val t.isLt).2.2 (ix2 a d) = down (L m hl) (ax m c) (ag m c) (awg m c) (awu m c) (awd m c) (row m hl t a) d := by
  rw [(state m hl c t.val t.isLt).2 a d, h3]
  unfold down
  rw [show 512 * (10 + 1) = 5632 from rfl, ← Fin.sum_univ_eq_sum_range (fun j => term m hl c (row m hl t a) d j) 5632]
  refine sum_congr rfl fun f _ => ?_
  have hf : (⟨min f.val 5631, by omega⟩ : Fin 5632) = f := Fin.ext (by show min f.val 5631 = f.val; omega)
  show term m hl c (row m hl t a) d f.val = _
  unfold term
  rw [hf]

/-- The block a last point leaves is the network's result on its rows. -/
theorem out (t : Fin (cfgM m (ok m hl)).N) (h3 : t.val % 11 = 10) (a : Fin 512) (d : Fin 2048) :
    (outsAt0 m (ok m hl) c t.val t.isLt).1 (ix2 a d) = ffn (L m hl) (ax m c) (ag m c) (awg m c) (awu m c) (awd m c) (agp m c) (ix2 (row m hl t a) d) := by
  have e0 : ∀ d, b0 m hl c t (ix2 a d) = _ := fun d => blk0 m hl c t a d
  have e5 : ∀ d, b5 m hl c t (ix3 0 0 d) = _ := fun d => blk5 m hl c t d
  rw [outsC m hl c t h3, p1]
  simp only [e0, e5, full m hl c t h3]
  rfl

/-- The last points' blocks cover the result. -/
theorem cov : ((cfgM m (ok m hl)).win 6).Covers := by
  refine ⟨fun a => ?_, fun β => ?_⟩
  · match a with
    | ⟨0, _⟩ => show 0 < 512; omega
    | ⟨1, _⟩ => show 0 < 2048; omega
  have b0 : (β (0 : Fin 2)).val < 16 := lt_of_lt_of_le (β (0 : Fin 2)).isLt (by show (8192 + 512 - 1) / 512 ≤ 16; omega)
  have b1 : (β (1 : Fin 2)).val < 1 := lt_of_lt_of_le (β (1 : Fin 2)).isLt (by show (2048 + 2048 - 1) / 2048 ≤ 1; omega)
  refine ⟨⟨11 * (β (0 : Fin 2)).val + 10, by show _ < 176; omega⟩, (flush0_6 (adm m (ok m hl)) _).mpr (by show (11 * _ + 10) % 11 = 10; omega),
    fun a => ⟨?_, Or.inl rfl⟩⟩
  rw [idx6 m hl]
  match a with
  | ⟨0, _⟩ => show (11 * (β (0 : Fin 2)).val + 10) / 11 = (β (0 : Fin 2)).val; omega
  | ⟨1, _⟩ => show 0 = (β (1 : Fin 2)).val; omega

/-- The result array after the run. -/
theorem final : (dats m (ok m hl) 0 c).arrAt 6 (cfgM m (ok m hl)).N = ffn (L m hl) (ax m c) (ag m c) (awg m c) (awu m c) (awd m c) (agp m c) := by
  refine (dats m (ok m hl) 0 c).arrAt_eq_of_covers 6 _ (cov m hl) fun t hf y => ?_
  have h3 : t.val % 11 = 10 := (flush0_6 (adm m (ok m hl)) t).mp hf
  have e := idx6 m hl t
  have h0 : (y (0 : Fin 2)).val < 512 := (y (0 : Fin 2)).isLt
  have h1 : (y (1 : Fin 2)).val < 2048 := (y (1 : Fin 2)).isLt
  blk_simp
  rw [after0_6]
  have hz : (((cfgM m (ok m hl)).win 6).blk t).view.emb y = ix2 (row m hl t (y (0 : Fin 2))) (y (1 : Fin 2)) := funext fun x => Fin.ext (by
    match x with
    | ⟨0, _⟩ => blk_simp [e]; show t.val / 11 * 512 + (y (0 : Fin 2)).val = 512 * (t.val / 11) + (y (0 : Fin 2)).val; omega
    | ⟨1, _⟩ => blk_simp [e]; rfl)
  have hy : y = ix2 (y (0 : Fin 2)) (y (1 : Fin 2)) := funext fun x => by
    match x with
    | ⟨0, _⟩ => rfl
    | ⟨1, _⟩ => rfl
  rw [hz]
  exact (congrArg (outsAt0 m (ok m hl) c t.val t.isLt).1 hy).trans (out m hl c t h3 (y (0 : Fin 2)) (y (1 : Fin 2)))

end Cert.Proof.FfnN

end
-- ==== Proof.FfnQ.lean ====
module

public import proofs.«01_k».proof.Proof.Gen.FfnReferenceIdeal
public import Idealize.ShloMosaic.Lib.StableHlo.RunClose
public import Idealize.ShloMosaic.Lib.StableHlo.RunRead

@[expose] public section

noncomputable section

/-! The run of the feed-forward network's reference, in five parts, for any float values: the normalized rows, the gate, the hidden
    values, the projection back, and the result. -/

namespace Cert.Proof.FfnQ

open Cert.FfnReferenceIdeal Cert.FfnReferenceIdeal.Gen Idealize.ShloMosaic Idealize.ShloMosaic.TcCoe Idealize.SL.Sem Idealize.ShloMosaic.StableHlo

variable {F : FTy → Type} [FloatOps F]

/-- The layer's word, and where its parameters start. -/
def st (x : (⟨S1, .i32⟩ : BufTy).Contents (Elt F)) : (⟨S_, .i32⟩ : BufTy).Contents (Elt F) := shapeCast _ x shapeCasts_S1_S_
def at3 (s : (⟨S_, .i32⟩ : BufTy).Contents (Elt F)) (k : Fin 3) : ℤ :=
  ((![s, constantI S_ 32 0#32, constantI S_ 32 0#32] : Fin 3 → (⟨S_, .i32⟩ : BufTy).Contents (Elt F)) k (Shape.Idx.first h_S_)).toInt

/-- The layer's parameters. -/
def gain (p : (⟨S4x1x2048, .f32⟩ : BufTy).Contents (Elt F)) (s : (⟨S_, .i32⟩ : BufTy).Contents (Elt F)) : (⟨S1x2048, .f32⟩ : BufTy).Contents (Elt F) :=
  shapeCast _ (Host.dynamicSlice S1x1x2048 p (at3 (F := F) s) sliceFits_S4x1x2048_S1x1x2048) shapeCasts_S1x1x2048_S1x2048
def upw (p : (⟨S4x2048x5632, .bf16⟩ : BufTy).Contents (Elt F)) (s : (⟨S_, .i32⟩ : BufTy).Contents (Elt F)) : (⟨S2048x5632, .f32⟩ : BufTy).Contents (Elt F) :=
  extf .f32 (shapeCast _ (Host.dynamicSlice S1x2048x5632 p (at3 (F := F) s) sliceFits_S4x2048x5632_S1x2048x5632) shapeCasts_S1x2048x5632_S2048x5632 : (⟨S2048x5632, .bf16⟩ : BufTy).Contents (Elt F)) bitsLt_bf16_f32
def dnw (p : (⟨S4x5632x2048, .bf16⟩ : BufTy).Contents (Elt F)) (s : (⟨S_, .i32⟩ : BufTy).Contents (Elt F)) : (⟨S5632x2048, .f32⟩ : BufTy).Contents (Elt F) :=
  extf .f32 (shapeCast _ (Host.dynamicSlice S1x5632x2048 p (at3 (F := F) s) sliceFits_S4x5632x2048_S1x5632x2048) shapeCasts_S1x5632x2048_S5632x2048 : (⟨S5632x2048, .bf16⟩ : BufTy).Contents (Elt F)) bitsLt_bf16_f32

/-- The normalized rows, scaled. -/
def rms (x : (⟨S8192x2048, .f32⟩ : BufTy).Contents (Elt F)) (g : (⟨S1x2048, .f32⟩ : BufTy).Contents (Elt F)) : (⟨S8192x2048, .f32⟩ : BufTy).Contents (Elt F) :=
  mulf (mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32)))))) (broadcastInDim S8192x2048 ![0, 1] bcast_S1x2048_S8192x2048_0_1 g)

/-- The projections, and the gate's nonlinearity. -/
def up (x : (⟨S8192x2048, .f32⟩ : BufTy).Contents (Elt F)) (w : (⟨S2048x5632, .f32⟩ : BufTy).Contents (Elt F)) : (⟨S8192x5632, .f32⟩ : BufTy).Contents (Elt F) :=
  Host.dotGeneral dot_S8192x2048_S2048x5632_S8192x5632_1_0_0_1_n_n none x w
def dn (x : (⟨S8192x5632, .f32⟩ : BufTy).Contents (Elt F)) (w : (⟨S5632x2048, .f32⟩ : BufTy).Contents (Elt F)) : (⟨S8192x2048, .f32⟩ : BufTy).Contents (Elt F) :=
  Host.dotGeneral dot_S8192x5632_S5632x2048_S8192x2048_1_0_0_1_n_n none x w
def silu (g : (⟨S8192x5632, .f32⟩ : BufTy).Contents (Elt F)) : (⟨S8192x5632, .f32⟩ : BufTy).Contents (Elt F) :=
  mulf g (Host.divf (broadcastInDim S8192x5632 ![] bcast_S_S8192x5632 (constant S_ .f32 0x3F800000#32)) (addf (broadcastInDim S8192x5632 ![] bcast_S_S8192x5632 (constant S_ .f32 0x3F800000#32)) (Host.exp (Host.negf g))))

/-- Part 1: its operations, what they write, that they keep the rest, and its value. -/
abbrev ops1 : List (HloOp τ sig (Elt F)) :=
  [ reshape main_arg0 main_v0 (rfl : (.i32 : EltTy) = .i32) shapeCasts_S1_S_,
    nullary main_c (constantI S_ 32 0#32),
    nullary main_c_0 (constantI S_ 32 0#32),
    unaryIndexed main_arg2 ![main_v0, main_c, main_c_0] ⟨S_, .i32⟩ main_v1 ((fun x i => Host.dynamicSlice S1x1x2048 x (fun k => (i k (Shape.Idx.first h_S_)).toInt) sliceFits_S4x1x2048_S1x1x2048) : (⟨S4x1x2048, .f32⟩ : BufTy).Contents (Elt F) → (Fin 3 → (⟨S_, .i32⟩ : BufTy).Contents (Elt F)) → (⟨S1x1x2048, .f32⟩ : BufTy).Contents (Elt F)),
    reshape main_v1 main_v2 (rfl : (.f32 : EltTy) = .f32) shapeCasts_S1x1x2048_S1x2048,
    binary main_arg1 main_arg1 main_v3 (mulf : (⟨S8192x2048, .f32⟩ : BufTy).Contents (Elt F) → (⟨S8192x2048, .f32⟩ : BufTy).Contents (Elt F) → (⟨S8192x2048, .f32⟩ : BufTy).Contents (Elt F)),
    nullary main_cst (constant S_ .f32 0x00000000#32),
    binary main_v3 main_cst main_v4 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    unary main_v4 main_v5 (broadcastInDim S8192x1 ![0] bcast_S8192_S8192x1_0 : (⟨S8192, .f32⟩ : BufTy).Contents (Elt F) → (⟨S8192x1, .f32⟩ : BufTy).Contents (Elt F)),
    nullary main_cst_1 (constant S_ .f32 0x45000000#32),
    unary main_cst_1 main_v6 (broadcastInDim S8192x1 ![] bcast_S_S8192x1 : (⟨S_, .f32⟩ : BufTy).Contents (Elt F) → (⟨S8192x1, .f32⟩ : BufTy).Contents (Elt F)),
    binary main_v5 main_v6 main_v7 (Host.divf : (⟨S8192x1, .f32⟩ : BufTy).Contents (Elt F) → (⟨S8192x1, .f32⟩ : BufTy).Contents (Elt F) → (⟨S8192x1, .f32⟩ : BufTy).Contents (Elt F)),
    nullary main_cst_2 (constant S_ .f32 0x358637BD#32),
    unary main_cst_2 main_v8 (broadcastInDim S8192x1 ![] bcast_S_S8192x1 : (⟨S_, .f32⟩ : BufTy).Contents (Elt F) → (⟨S8192x1, .f32⟩ : BufTy).Contents (Elt F)),
    binary main_v7 main_v8 main_v9 (addf : (⟨S8192x1, .f32⟩ : BufTy).Contents (Elt F) → (⟨S8192x1, .f32⟩ : BufTy).Contents (Elt F) → (⟨S8192x1, .f32⟩ : BufTy).Contents (Elt F)),
    unary main_v9 main_v10 (Host.rsqrt : (⟨S8192x1, .f32⟩ : BufTy).Contents (Elt F) → (⟨S8192x1, .f32⟩ : BufTy).Contents (Elt F)),
    unary main_v10 main_v11 (broadcastInDim S8192x2048 ![0, 1] bcast_S8192x1_S8192x2048_0_1 : (⟨S8192x1, .f32⟩ : BufTy).Contents (Elt F) → (⟨S8192x2048, .f32⟩ : BufTy).Contents (Elt F)),
    binary main_arg1 main_v11 main_v12 (mulf : (⟨S8192x2048, .f32⟩ : BufTy).Contents (Elt F) → (⟨S8192x2048, .f32⟩ : BufTy).Contents (Elt F) → (⟨S8192x2048, .f32⟩ : BufTy).Contents (Elt F)),
    unary main_v2 main_v13 (broadcastInDim S8192x2048 ![0, 1] bcast_S1x2048_S8192x2048_0_1 : (⟨S1x2048, .f32⟩ : BufTy).Contents (Elt F) → (⟨S8192x2048, .f32⟩ : BufTy).Contents (Elt F)),
    binary main_v12 main_v13 main_v14 (mulf : (⟨S8192x2048, .f32⟩ : BufTy).Contents (Elt F) → (⟨S8192x2048, .f32⟩ : BufTy).Contents (Elt F) → (⟨S8192x2048, .f32⟩ : BufTy).Contents (Elt F))]
abbrev wr1 : List (Ref sig .tc) := [main_v0, main_c, main_c_0, main_v1, main_v2, main_v3, main_cst, main_v4, main_v5, main_cst_1, main_v6, main_v7, main_cst_2, main_v8, main_v9, main_v10, main_v11, main_v12, main_v13, main_v14]
theorem keep1 {r : Ref sig .tc} (hr : r ∉ wr1) (V : Valuation τ sig (Elt F)) : after (ops1 (F := F)) V (Proc.devRef .tc r) = V (Proc.devRef .tc r) :=
  after_unwritten wr1 rfl hr V
theorem sub1 : (ops1 : List (HloOp τ sig (Elt F))).Forall fun op => op.bufs ⊆ tcRefs τ sig := by simp [List.forall_cons]
set_option maxHeartbeats 2000000 in
theorem val1 (V : Valuation τ sig (Elt F)) : after (ops1 (F := F)) V (Proc.devRef .tc main_v14) = rms (V (Proc.devRef .tc main_arg1)) (gain (V (Proc.devRef .tc main_arg2)) (st (F := F) (V (Proc.devRef .tc main_arg0)))) := by
  unfold ops1; simp only [TRef.binary, TRef.nullary, TRef.unary, TRef.toBuf, TRef.ofBuf, cast_eq]; after_results_entrywise []
theorem val0 (V : Valuation τ sig (Elt F)) : after (ops1 (F := F)) V (Proc.devRef .tc main_v0) = st (F := F) (V (Proc.devRef .tc main_arg0)) := by
  after_results_entrywise []

/-- Part 2: its operations, what they write, that they keep the rest, and its value. -/
abbrev ops2 : List (HloOp τ sig (Elt F)) :=
  [ nullary main_c_3 (constantI S_ 32 0#32),
    nullary main_c_4 (constantI S_ 32 0#32),
    unaryIndexed main_arg3 ![main_v0, main_c_3, main_c_4] ⟨S_, .i32⟩ main_v15 ((fun x i => Host.dynamicSlice S1x2048x5632 x (fun k => (i k (Shape.Idx.first h_S_)).toInt) sliceFits_S4x2048x5632_S1x2048x5632) : (⟨S4x2048x5632, .bf16⟩ : BufTy).Contents (Elt F) → (Fin 3 → (⟨S_, .i32⟩ : BufTy).Contents (Elt F)) → (⟨S1x2048x5632, .bf16⟩ : BufTy).Contents (Elt F)),
    reshape main_v15 main_v16 (rfl : (.bf16 : EltTy) = .bf16) shapeCasts_S1x2048x5632_S2048x5632,
    unary main_v16 main_v17 ((extf .f32 · bitsLt_bf16_f32) : (⟨S2048x5632, .bf16⟩ : BufTy).Contents (Elt F) → (⟨S2048x5632, .f32⟩ : BufTy).Contents (Elt F)),
    binary main_v14 main_v17 main_v18 ((fun l r => Host.dotGeneral dot_S8192x2048_S2048x5632_S8192x5632_1_0_0_1_n_n none l r) : (⟨S8192x2048, .f32⟩ : BufTy).Contents (Elt F) → (⟨S2048x5632, .f32⟩ : BufTy).Contents (Elt F) → (⟨S8192x5632, .f32⟩ : BufTy).Contents (Elt F)),
    TRef.unary (TRef.of (T := ⟨S8192x5632, .f32⟩) main_v18) (TRef.of (T := ⟨S8192x5632, .f32⟩) main_call0_v0) Host.negf,
    TRef.unary (TRef.of (T := ⟨S8192x5632, .f32⟩) main_call0_v0) (TRef.of (T := ⟨S8192x5632, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S8192x5632, .f32⟩) main_call0_v2) (broadcastInDim S8192x5632 ![] bcast_S_S8192x5632),
    TRef.binary (TRef.of (T := ⟨S8192x5632, .f32⟩) main_call0_v2) (TRef.of (T := ⟨S8192x5632, .f32⟩) main_call0_v1) (TRef.of (T := ⟨S8192x5632, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S8192x5632, .f32⟩) main_call0_v4) (broadcastInDim S8192x5632 ![] bcast_S_S8192x5632),
    TRef.binary (TRef.of (T := ⟨S8192x5632, .f32⟩) main_call0_v4) (TRef.of (T := ⟨S8192x5632, .f32⟩) main_call0_v3) (TRef.of (T := ⟨S8192x5632, .f32⟩) main_call0_v5) Host.divf,
    TRef.binary (TRef.of (T := ⟨S8192x5632, .f32⟩) main_v18) (TRef.of (T := ⟨S8192x5632, .f32⟩) main_call0_v5) (TRef.of (T := ⟨S8192x5632, .f32⟩) main_v19) mulf]
abbrev wr2 : List (Ref sig .tc) := [main_c_3, main_c_4, main_v15, main_v16, main_v17, main_v18, main_call0_v0, main_call0_v1, main_call0_cst, main_call0_v2, main_call0_v3, main_call0_cst_0, main_call0_v4, main_call0_v5, main_v19]
theorem keep2 {r : Ref sig .tc} (hr : r ∉ wr2) (V : Valuation τ sig (Elt F)) : after (ops2 (F := F)) V (Proc.devRef .tc r) = V (Proc.devRef .tc r) :=
  after_unwritten wr2 rfl hr V
theorem sub2 : (ops2 : List (HloOp τ sig (Elt F))).Forall fun op => op.bufs ⊆ tcRefs τ sig := by simp [List.forall_cons]
set_option maxHeartbeats 2000000 in
theorem val2 (V : Valuation τ sig (Elt F)) : after (ops2 (F := F)) V (Proc.devRef .tc main_v19) = silu (up (V (Proc.devRef .tc main_v14)) (upw (V (Proc.devRef .tc main_arg3)) (V (Proc.devRef .tc main_v0)))) := by
  unfold ops2; simp only [TRef.binary, TRef.nullary, TRef.unary, TRef.toBuf, TRef.ofBuf, cast_eq]; after_results_entrywise []

/-- Part 3: its operations, what they write, that they keep the rest, and its value. -/
abbrev ops3 : List (HloOp τ sig (Elt F)) :=
  [ nullary main_c_5 (constantI S_ 32 0#32),
    nullary main_c_6 (constantI S_ 32 0#32),
    unaryIndexed main_arg4 ![main_v0, main_c_5, main_c_6] ⟨S_, .i32⟩ main_v20 ((fun x i => Host.dynamicSlice S1x2048x5632 x (fun k => (i k (Shape.Idx.first h_S_)).toInt) sliceFits_S4x2048x5632_S1x2048x5632) : (⟨S4x2048x5632, .bf16⟩ : BufTy).Contents (Elt F) → (Fin 3 → (⟨S_, .i32⟩ : BufTy).Contents (Elt F)) → (⟨S1x2048x5632, .bf16⟩ : BufTy).Contents (Elt F)),
    reshape main_v20 main_v21 (rfl : (.bf16 : EltTy) = .bf16) shapeCasts_S1x2048x5632_S2048x5632,
    unary main_v21 main_v22 ((extf .f32 · bitsLt_bf16_f32) : (⟨S2048x5632, .bf16⟩ : BufTy).Contents (Elt F) → (⟨S2048x5632, .f32⟩ : BufTy).Contents (Elt F)),
    binary main_v14 main_v22 main_v23 ((fun l r => Host.dotGeneral dot_S8192x2048_S2048x5632_S8192x5632_1_0_0_1_n_n none l r) : (⟨S8192x2048, .f32⟩ : BufTy).Contents (Elt F) → (⟨S2048x5632, .f32⟩ : BufTy).Contents (Elt F) → (⟨S8192x5632, .f32⟩ : BufTy).Contents (Elt F)),
    binary main_v19 main_v23 main_v24 (mulf : (⟨S8192x5632, .f32⟩ : BufTy).Contents (Elt F) → (⟨S8192x5632, .f32⟩ : BufTy).Contents (Elt F) → (⟨S8192x5632, .f32⟩ : BufTy).Contents (Elt F))]
abbrev wr3 : List (Ref sig .tc) := [main_c_5, main_c_6, main_v20, main_v21, main_v22, main_v23, main_v24]
theorem keep3 {r : Ref sig .tc} (hr : r ∉ wr3) (V : Valuation τ sig (Elt F)) : after (ops3 (F := F)) V (Proc.devRef .tc r) = V (Proc.devRef .tc r) :=
  after_unwritten wr3 rfl hr V
theorem sub3 : (ops3 : List (HloOp τ sig (Elt F))).Forall fun op => op.bufs ⊆ tcRefs τ sig := by simp [List.forall_cons]
set_option maxHeartbeats 2000000 in
theorem val3 (V : Valuation τ sig (Elt F)) : after (ops3 (F := F)) V (Proc.devRef .tc main_v24) = mulf (V (Proc.devRef .tc main_v19) : (⟨S8192x5632, .f32⟩ : BufTy).Contents (Elt F)) (up (V (Proc.devRef .tc main_v14)) (upw (V (Proc.devRef .tc main_arg4)) (V (Proc.devRef .tc main_v0)))) := by
  unfold ops3; simp only [TRef.binary, TRef.nullary, TRef.unary, TRef.toBuf, TRef.ofBuf, cast_eq]; after_results_entrywise []

/-- Part 4: its operations, what they write, that they keep the rest, and its value. -/
abbrev ops4 : List (HloOp τ sig (Elt F)) :=
  [ nullary main_c_7 (constantI S_ 32 0#32),
    nullary main_c_8 (constantI S_ 32 0#32),
    unaryIndexed main_arg5 ![main_v0, main_c_7, main_c_8] ⟨S_, .i32⟩ main_v25 ((fun x i => Host.dynamicSlice S1x5632x2048 x (fun k => (i k (Shape.Idx.first h_S_)).toInt) sliceFits_S4x5632x2048_S1x5632x2048) : (⟨S4x5632x2048, .bf16⟩ : BufTy).Contents (Elt F) → (Fin 3 → (⟨S_, .i32⟩ : BufTy).Contents (Elt F)) → (⟨S1x5632x2048, .bf16⟩ : BufTy).Contents (Elt F)),
    reshape main_v25 main_v26 (rfl : (.bf16 : EltTy) = .bf16) shapeCasts_S1x5632x2048_S5632x2048,
    unary main_v26 main_v27 ((extf .f32 · bitsLt_bf16_f32) : (⟨S5632x2048, .bf16⟩ : BufTy).Contents (Elt F) → (⟨S5632x2048, .f32⟩ : BufTy).Contents (Elt F)),
    binary main_v24 main_v27 main_v28 ((fun l r => Host.dotGeneral dot_S8192x5632_S5632x2048_S8192x2048_1_0_0_1_n_n none l r) : (⟨S8192x5632, .f32⟩ : BufTy).Contents (Elt F) → (⟨S5632x2048, .f32⟩ : BufTy).Contents (Elt F) → (⟨S8192x2048, .f32⟩ : BufTy).Contents (Elt F))]
abbrev wr4 : List (Ref sig .tc) := [main_c_7, main_c_8, main_v25, main_v26, main_v27, main_v28]
theorem keep4 {r : Ref sig .tc} (hr : r ∉ wr4) (V : Valuation τ sig (Elt F)) : after (ops4 (F := F)) V (Proc.devRef .tc r) = V (Proc.devRef .tc r) :=
  after_unwritten wr4 rfl hr V
theorem sub4 : (ops4 : List (HloOp τ sig (Elt F))).Forall fun op => op.bufs ⊆ tcRefs τ sig := by simp [List.forall_cons]
set_option maxHeartbeats 2000000 in
theorem val4 (V : Valuation τ sig (Elt F)) : after (ops4 (F := F)) V (Proc.devRef .tc main_v28) = dn (V (Proc.devRef .tc main_v24)) (dnw (V (Proc.devRef .tc main_arg5)) (V (Proc.devRef .tc main_v0))) := by
  unfold ops4; simp only [TRef.binary, TRef.nullary, TRef.unary, TRef.toBuf, TRef.ofBuf, cast_eq]; after_results_entrywise []

/-- Part 5: its operations, what they write, that they keep the rest, and its value. -/
abbrev ops5 : List (HloOp τ sig (Elt F)) :=
  [ nullary main_c_9 (constantI S_ 32 0#32),
    nullary main_c_10 (constantI S_ 32 0#32),
    unaryIndexed main_arg6 ![main_v0, main_c_9, main_c_10] ⟨S_, .i32⟩ main_v29 ((fun x i => Host.dynamicSlice S1x1x2048 x (fun k => (i k (Shape.Idx.first h_S_)).toInt) sliceFits_S4x1x2048_S1x1x2048) : (⟨S4x1x2048, .f32⟩ : BufTy).Contents (Elt F) → (Fin 3 → (⟨S_, .i32⟩ : BufTy).Contents (Elt F)) → (⟨S1x1x2048, .f32⟩ : BufTy).Contents (Elt F)),
    reshape main_v29 main_v30 (rfl : (.f32 : EltTy) = .f32) shapeCasts_S1x1x2048_S1x2048,
    binary main_v28 main_v28 main_v31 (mulf : (⟨S8192x2048, .f32⟩ : BufTy).Contents (Elt F) → (⟨S8192x2048, .f32⟩ : BufTy).Contents (Elt F) → (⟨S8192x2048, .f32⟩ : BufTy).Contents (Elt F)),
    nullary main_cst_11 (constant S_ .f32 0x00000000#32),
    binary main_v31 main_cst_11 main_v32 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    unary main_v32 main_v33 (broadcastInDim S8192x1 ![0] bcast_S8192_S8192x1_0 : (⟨S8192, .f32⟩ : BufTy).Contents (Elt F) → (⟨S8192x1, .f32⟩ : BufTy).Contents (Elt F)),
    nullary main_cst_12 (constant S_ .f32 0x45000000#32),
    unary main_cst_12 main_v34 (broadcastInDim S8192x1 ![] bcast_S_S8192x1 : (⟨S_, .f32⟩ : BufTy).Contents (Elt F) → (⟨S8192x1, .f32⟩ : BufTy).Contents (Elt F)),
    binary main_v33 main_v34 main_v35 (Host.divf : (⟨S8192x1, .f32⟩ : BufTy).Contents (Elt F) → (⟨S8192x1, .f32⟩ : BufTy).Contents (Elt F) → (⟨S8192x1, .f32⟩ : BufTy).Contents (Elt F)),
    nullary main_cst_13 (constant S_ .f32 0x358637BD#32),
    unary main_cst_13 main_v36 (broadcastInDim S8192x1 ![] bcast_S_S8192x1 : (⟨S_, .f32⟩ : BufTy).Contents (Elt F) → (⟨S8192x1, .f32⟩ : BufTy).Contents (Elt F)),
    binary main_v35 main_v36 main_v37 (addf : (⟨S8192x1, .f32⟩ : BufTy).Contents (Elt F) → (⟨S8192x1, .f32⟩ : BufTy).Contents (Elt F) → (⟨S8192x1, .f32⟩ : BufTy).Contents (Elt F)),
    unary main_v37 main_v38 (Host.rsqrt : (⟨S8192x1, .f32⟩ : BufTy).Contents (Elt F) → (⟨S8192x1, .f32⟩ : BufTy).Contents (Elt F)),
    unary main_v38 main_v39 (broadcastInDim S8192x2048 ![0, 1] bcast_S8192x1_S8192x2048_0_1 : (⟨S8192x1, .f32⟩ : BufTy).Contents (Elt F) → (⟨S8192x2048, .f32⟩ : BufTy).Contents (Elt F)),
    binary main_v28 main_v39 main_v40 (mulf : (⟨S8192x2048, .f32⟩ : BufTy).Contents (Elt F) → (⟨S8192x2048, .f32⟩ : BufTy).Contents (Elt F) → (⟨S8192x2048, .f32⟩ : BufTy).Contents (Elt F)),
    unary main_v30 main_v41 (broadcastInDim S8192x2048 ![0, 1] bcast_S1x2048_S8192x2048_0_1 : (⟨S1x2048, .f32⟩ : BufTy).Contents (Elt F) → (⟨S8192x2048, .f32⟩ : BufTy).Contents (Elt F)),
    binary main_v40 main_v41 main_v42 (mulf : (⟨S8192x2048, .f32⟩ : BufTy).Contents (Elt F) → (⟨S8192x2048, .f32⟩ : BufTy).Contents (Elt F) → (⟨S8192x2048, .f32⟩ : BufTy).Contents (Elt F)),
    binary main_arg1 main_v42 main_v43 (addf : (⟨S8192x2048, .f32⟩ : BufTy).Contents (Elt F) → (⟨S8192x2048, .f32⟩ : BufTy).Contents (Elt F) → (⟨S8192x2048, .f32⟩ : BufTy).Contents (Elt F))]
abbrev wr5 : List (Ref sig .tc) := [main_c_9, main_c_10, main_v29, main_v30, main_v31, main_cst_11, main_v32, main_v33, main_cst_12, main_v34, main_v35, main_cst_13, main_v36, main_v37, main_v38, main_v39, main_v40, main_v41, main_v42, main_v43]
theorem keep5 {r : Ref sig .tc} (hr : r ∉ wr5) (V : Valuation τ sig (Elt F)) : after (ops5 (F := F)) V (Proc.devRef .tc r) = V (Proc.devRef .tc r) :=
  after_unwritten wr5 rfl hr V
theorem sub5 : (ops5 : List (HloOp τ sig (Elt F))).Forall fun op => op.bufs ⊆ tcRefs τ sig := by simp [List.forall_cons]
set_option maxHeartbeats 2000000 in
theorem val5 (V : Valuation τ sig (Elt F)) : after (ops5 (F := F)) V (Proc.devRef .tc main_v43) = addf (V (Proc.devRef .tc main_arg1) : (⟨S8192x2048, .f32⟩ : BufTy).Contents (Elt F)) (rms (V (Proc.devRef .tc main_v28)) (gain (V (Proc.devRef .tc main_arg6)) (V (Proc.devRef .tc main_v0)))) := by
  unfold ops5; simp only [TRef.binary, TRef.nullary, TRef.unary, TRef.toBuf, TRef.ofBuf, cast_eq]; after_results_entrywise []

/-- All of them, in order. -/
abbrev ops : List (HloOp τ sig (Elt F)) := ops1 ++ (ops2 ++ (ops3 ++ (ops4 ++ ops5)))

theorem after_parts (l k : List (HloOp τ sig (Elt F))) (V : Valuation τ sig (Elt F)) : after (l ++ k) V = after k (after l V) := by
  induction l generalizing V with
  | nil => rfl
  | cons o l ih => exact ih (o.result V)

set_option maxRecDepth 8192 in
set_option maxHeartbeats 4000000 in
theorem main_ops (c : Dev nD) : main (F := F) c = seq ops := rfl

theorem noRefs : (Finset.univ.filter fun b : Ref sig .tc => b.isScoped) = ∅ := by decide
theorem noSems : (Finset.univ.filter fun sm : SemLoc sig => sm.isScoped .tc) = ∅ := by decide

/-- The result, over the operands. -/
def res (x0 : (⟨S1, .i32⟩ : BufTy).Contents (Elt F)) (x1 : (⟨S8192x2048, .f32⟩ : BufTy).Contents (Elt F)) (x2 : (⟨S4x1x2048, .f32⟩ : BufTy).Contents (Elt F)) (x3 x4 : (⟨S4x2048x5632, .bf16⟩ : BufTy).Contents (Elt F)) (x5 : (⟨S4x5632x2048, .bf16⟩ : BufTy).Contents (Elt F)) (x6 : (⟨S4x1x2048, .f32⟩ : BufTy).Contents (Elt F)) : (⟨S8192x2048, .f32⟩ : BufTy).Contents (Elt F) :=
  addf x1 (rms (dn (mulf (silu (up (rms x1 (gain x2 (st (F := F) x0))) (upw x3 (st (F := F) x0)))) (up (rms x1 (gain x2 (st (F := F) x0))) (upw x4 (st (F := F) x0)))) (dnw x5 (st (F := F) x0)))
    (gain x6 (st (F := F) x0)))

/-- What none of the operations writes is kept. -/
theorem keep {r : Ref sig .tc} (h1 : r ∉ wr1) (h2 : r ∉ wr2) (h3 : r ∉ wr3) (h4 : r ∉ wr4) (h5 : r ∉ wr5) (V : Valuation τ sig (Elt F)) :
    after (ops (F := F)) V (Proc.devRef .tc r) = V (Proc.devRef .tc r) := by
  unfold ops
  rw [after_parts, after_parts, after_parts, after_parts, keep5 h5, keep4 h4, keep3 h3, keep2 h2, keep1 h1]

theorem val (V : Valuation τ sig (Elt F)) : after (ops (F := F)) V (Proc.devRef .tc main_v43)
    = res (V (Proc.devRef .tc main_arg0)) (V (Proc.devRef .tc main_arg1)) (V (Proc.devRef .tc main_arg2)) (V (Proc.devRef .tc main_arg3)) (V (Proc.devRef .tc main_arg4))
      (V (Proc.devRef .tc main_arg5)) (V (Proc.devRef .tc main_arg6)) := by
  unfold ops res
  rw [after_parts, after_parts, after_parts, after_parts, val5, val4, val3, val2]
  rw [keep4 (r := main_arg1) (by decide), keep3 (r := main_arg1) (by decide), keep2 (r := main_arg1) (by decide), keep1 (r := main_arg1) (by decide)]
  rw [keep4 (r := main_arg6) (by decide), keep3 (r := main_arg6) (by decide), keep2 (r := main_arg6) (by decide), keep1 (r := main_arg6) (by decide)]
  rw [keep3 (r := main_arg5) (by decide), keep2 (r := main_arg5) (by decide), keep1 (r := main_arg5) (by decide)]
  rw [keep2 (r := main_arg4) (by decide), keep1 (r := main_arg4) (by decide), keep1 (r := main_arg3) (by decide)]
  rw [keep4 (r := main_v0) (by decide), keep3 (r := main_v0) (by decide), keep2 (r := main_v0) (by decide), keep2 (r := main_v14) (by decide), val1, val0]

/-- The run: the result buffer holds the result, and the operands are as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = res (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v43).trans (val _),
      (h c main_arg0).trans (keep (by decide) (by decide) (by decide) (by decide) (by decide) _),
      (h c main_arg1).trans (keep (by decide) (by decide) (by decide) (by decide) (by decide) _),
      (h c main_arg2).trans (keep (by decide) (by decide) (by decide) (by decide) (by decide) _),
      (h c main_arg3).trans (keep (by decide) (by decide) (by decide) (by decide) (by decide) _),
      (h c main_arg4).trans (keep (by decide) (by decide) (by decide) (by decide) (by decide) _),
      (h c main_arg5).trans (keep (by decide) (by decide) (by decide) (by decide) (by decide) _),
      (h c main_arg6).trans (keep (by decide) (by decide) (by decide) (by decide) (by decide) _)⟩)
    (run_seq noRefs noSems defs main (fun _ => ops) main_ops
      (fun _ => by simp only [ops, List.forall_append]; exact ⟨sub1, sub2, sub3, sub4, sub5⟩) m ρ)

end Cert.Proof.FfnQ

end
-- ==== Proof.FfnR.lean ====
module

public import proofs.«01_k».proof.Proof.FfnQ
public import proofs.«01_k».proof.Proof.FfnS
public import Idealize.ShloMosaic.Lib.DynamicIndex
public import Idealize.ShloMosaic.Lib.Pointwise

@[expose] public section

noncomputable section

/-! The reference's result, entry by entry, over the extended reals. -/

namespace Cert.Proof.FfnR

open Cert.FfnReferenceIdeal Cert.FfnReferenceIdeal.Gen Idealize.ShloMosaic Cert.Proof.FfnS Cert.Proof.FfnQ

/-- Where a layer's parameters start. -/
theorem start (x0 : IVec S1 32) (L : Fin 4) (h : (x0 (ix1 0)).toNat = L.val) (k : Fin 3) : at3 (F := Ideal) (st (F := Ideal) x0) k = ((![L.val, 0, 0] : Fin 3 → ℕ) k : ℤ) := by
  match k with
  | ⟨0, _⟩ =>
    have e : st (F := Ideal) x0 (Shape.Idx.first h_S_) = x0 (ix1 0) := by
      unfold st shapeCast
      exact congrArg x0 (funext fun a => by match a with | ⟨0, _⟩ => exact Subsingleton.elim (α := Fin 1) _ _)
    show (st (F := Ideal) x0 (Shape.Idx.first h_S_)).toInt = (L.val : ℤ)
    rw [e, BitVec.toInt_eq_toNat_cond, if_pos (by omega), h]
  | ⟨1, _⟩ => rfl
  | ⟨2, _⟩ => rfl

variable (s : IVec S_ 32) (L : Fin 4) (h : ∀ k, at3 (F := Ideal) s k = ((![L.val, 0, 0] : Fin 3 → ℕ) k : ℤ))
include h

/-- The layer's parameters, entry by entry. -/
theorem gain_eq (p : FVec Ideal S4x1x2048 .f32) (d : Fin 2048) : gain (F := Ideal) p s (ix2 0 d) = p (ix3 L 0 d) := by
  unfold gain
  rw [Host.dynamicSlice_eq_extractStridedSlice S1x1x2048 p _ ![L.val, 0, 0] _ ⟨rfl, fun k => by
    match k with
    | ⟨0, _⟩ => show L.val + 1 ≤ 4; omega
    | ⟨1, _⟩ => show 0 + 1 ≤ 1; omega
    | ⟨2, _⟩ => show 0 + 2048 ≤ 2048; omega⟩ h]
  pointwise

theorem upw_eq (p : FVec Ideal S4x2048x5632 .bf16) (d : Fin 2048) (f : Fin 5632) : upw (F := Ideal) p s (ix2 d f) = p (ix3 L d f) := by
  unfold upw
  rw [Host.dynamicSlice_eq_extractStridedSlice S1x2048x5632 p _ ![L.val, 0, 0] _ ⟨rfl, fun k => by
    match k with
    | ⟨0, _⟩ => show L.val + 1 ≤ 4; omega
    | ⟨1, _⟩ => show 0 + 2048 ≤ 2048; omega
    | ⟨2, _⟩ => show 0 + 5632 ≤ 5632; omega⟩ h]
  pointwise

theorem dnw_eq (p : FVec Ideal S4x5632x2048 .bf16) (f : Fin 5632) (d : Fin 2048) : dnw (F := Ideal) p s (ix2 f d) = p (ix3 L f d) := by
  unfold dnw
  rw [Host.dynamicSlice_eq_extractStridedSlice S1x5632x2048 p _ ![L.val, 0, 0] _ ⟨rfl, fun k => by
    match k with
    | ⟨0, _⟩ => show L.val + 1 ≤ 4; omega
    | ⟨1, _⟩ => show 0 + 5632 ≤ 5632; omega
    | ⟨2, _⟩ => show 0 + 2048 ≤ 2048; omega⟩ h]
  pointwise

omit h

/-- The reference's steps, entry by entry. -/
theorem rms_eq (x : FVec Ideal S8192x2048 .f32) (g : FVec Ideal S1x2048 .f32) (n : Fin 8192) (d : Fin 2048) :
    rms (F := Ideal) x g (ix2 n d) = nrm (fun k => x (ix2 n k)) (fun k => g (ix2 0 k)) d := by
  pointwise [rms]
  rfl
theorem up_eq (x : FVec Ideal S8192x2048 .f32) (w : FVec Ideal S2048x5632 .f32) (n : Fin 8192) (f : Fin 5632) :
    up (F := Ideal) x w (ix2 n f) = ∑ d, x (ix2 n d) * w (ix2 d f) := by
  pointwise [up]
theorem dn_eq (x : FVec Ideal S8192x5632 .f32) (w : FVec Ideal S5632x2048 .f32) (n : Fin 8192) (d : Fin 2048) :
    dn (F := Ideal) x w (ix2 n d) = ∑ f, x (ix2 n f) * w (ix2 f d) := by
  pointwise [dn]
theorem silu_eq (g : FVec Ideal S8192x5632 .f32) (n : Fin 8192) (f : Fin 5632) :
    silu (F := Ideal) g (ix2 n f) = g (ix2 n f) * Ideal.div 1 (1 + Ideal.exp (0 - g (ix2 n f))) := by
  pointwise [silu]
  rw [zero_sub]

variable (x0 : IVec S1 32) (x1 : FVec Ideal S8192x2048 .f32) (x2 : FVec Ideal S4x1x2048 .f32)
  (x3 x4 : FVec Ideal S4x2048x5632 .bf16) (x5 : FVec Ideal S4x5632x2048 .bf16) (x6 : FVec Ideal S4x1x2048 .f32)

/-- The reference's result is the network's. -/
theorem ref_eq (hL : (x0 (ix1 0)).toNat = L.val) : res (F := Ideal) x0 x1 x2 x3 x4 x5 x6 = ffn L x1 x2 x3 x4 x5 x6 := by
  have h := start x0 L hL
  have hu : ∀ n d, rms (F := Ideal) x1 (gain (F := Ideal) x2 (st (F := Ideal) x0)) (ix2 n d) = u L x1 x2 n d := fun n d => by
    rw [rms_eq]
    simp only [gain_eq _ L h]
    rfl
  have hp : ∀ (W : FVec Ideal S4x2048x5632 .bf16) n f, up (F := Ideal) (rms (F := Ideal) x1 (gain (F := Ideal) x2 (st (F := Ideal) x0))) (upw (F := Ideal) W (st (F := Ideal) x0)) (ix2 n f)
      = proj L x1 x2 W n f := fun W n f => by
    rw [up_eq]
    simp only [hu, upw_eq _ L h]
    rfl
  have hd : ∀ n d, dn (F := Ideal) (mulf (silu (up (rms x1 (gain x2 (st (F := Ideal) x0))) (upw x3 (st (F := Ideal) x0)))) (up (rms x1 (gain x2 (st (F := Ideal) x0))) (upw x4 (st (F := Ideal) x0))))
      (dnw x5 (st (F := Ideal) x0)) (ix2 n d) = down L x1 x2 x3 x4 x5 n d := fun n d => by
    rw [dn_eq]
    refine Finset.sum_congr rfl fun f _ => ?_
    rw [dnw_eq _ L h]
    refine congrArg (· * _) ?_
    refine (congrArg₂ (· * ·) (silu_eq _ n f) (hp x4 n f)).trans ?_
    rw [hp]
    rfl
  funext y
  obtain ⟨n, d, rfl⟩ : ∃ n d, y = ix2 n d := ⟨y 0, y 1, funext fun a => by
    match a with
    | ⟨0, _⟩ => rfl
    | ⟨1, _⟩ => rfl⟩
  unfold res
  refine (congrArg (x1 (ix2 n d) + ·) (rms_eq _ _ n d)).trans ?_
  simp only [hd, gain_eq _ L h]
  rfl

end Cert.Proof.FfnR

end
-- ==== Proof.FfnC.lean ====
module

public import proofs.«01_k».proof.Defs
public import proofs.«01_k».proof.Proof.FfnK
public import proofs.«01_k».proof.Proof.FfnN
public import proofs.«01_k».proof.Proof.FfnP
public import proofs.«01_k».proof.Proof.FfnR
public import Idealize.ShloMosaic.Adequacy
public import Idealize.ShloMosaic.Init

@[expose] public section

noncomputable section

/-! The claims about the feed-forward network. -/

namespace Cert.Proof.FfnC

open Idealize.ShloMosaic Idealize.ShloMosaic.TcCoe Idealize.SL.Sem Cert.Proof.FfnS

/-- The printed kernel runs, keeps its operands and ends with every counter at zero. -/
theorem frame_ffn : Cert.quiescent_Ffn := fun m g hpre => Cert.Ffn.Gen.frame (F := Bits) m g (FfnK.ok m (FfnP.lt_of_pre _ _ _ _ _ _ _ (hpre 0)))

/-- So does the idealized kernel, -/
theorem lt (m : (ℓ : Loc Cert.FfnIdeal.nD Cert.FfnIdeal.τ Cert.FfnIdeal.sig) → Buf (Elt Ideal) ℓ) (hpre : Cert.Pre_FfnIdeal m) : (FfnI.lay m).toNat < 4 :=
  FfnP.lt_of_pre _ _ _ _ _ _ _ (hpre 0)
theorem frame_ffnIdeal : Cert.quiescent_FfnIdeal := fun m g hpre => Cert.FfnIdeal.Gen.frame (F := Ideal) m g (FfnI.ok m (lt m hpre))

/-- and the reference, which declares no counter. -/
theorem frame_ref : Cert.quiescent_FfnReferenceIdeal := fun m g _ =>
  (θ_run Cert.FfnReferenceIdeal.defs _ _).mono (fun r h => ⟨fun c => (h c).2, Idealize.ShloMosaic.sem_eq_zero_of_no_sems (by decide) r.2⟩) (FfnQ.run (F := Ideal) m g)
theorem frame_ref_pre : Cert.quiescent_FfnReferenceIdeal_pre_layer_in_stack := fun m g _ => frame_ref m g trivial

/-- The idealization rewrote nothing. -/
theorem preserves : Cert.preserves_Ffn_FfnIdeal := trivial

/-- At a layer of the stack both programs end with the network's result on their operands. -/
theorem algebraic : Cert.algebraic_FfnIdeal_FfnReferenceIdeal := by
  intro m g m' g' hpre hag
  have hl := lt m hpre
  refine ⟨fun c => ffn (FfnO.L m hl) (FfnO.ax m c) (FfnO.ag m c) (FfnO.awg m c) (FfnO.awu m c) (FfnO.awd m c) (FfnO.agp m c), ?_, ?_⟩
  · refine (θ_run Cert.FfnIdeal.defs _ _).mono (fun r h c => ⟨((h.1 c).1 6).trans (FfnN.final m hl c), h.2.1 c⟩)
      (θ_run_and (Cert.FfnIdeal.Gen.run_main (F := Ideal) m g (FfnI.ok m hl)) (Cert.FfnIdeal.Gen.frame (F := Ideal) m g (FfnI.ok m hl)))
  · refine (θ_run Cert.FfnReferenceIdeal.defs _ _).mono (fun r h c => ⟨(h c).1.trans ?_, (h c).2⟩) (FfnQ.run (F := Ideal) m' g')
    obtain ⟨h0, h1, h2, h3, h4, h5, h6⟩ := hag c
    rw [h0, h1, h2, h3, h4, h5, h6]
    have c0 : c = 0 := Subsingleton.elim _ _
    subst c0
    exact FfnR.ref_eq (FfnO.L m hl) _ _ _ _ _ _ _ rfl

end Cert.Proof.FfnC

end
-- ==== Proof.ProjP.lean ====
module

public import proofs.«01_k».proof.Proof.Gen.Pre_layer_in_proj
public import Idealize.ShloMosaic.Lib.Pointwise
public import Idealize.ShloMosaic.Lib.DynamicIndex

@[expose] public section

noncomputable section

/-! The layer's number, where the projections' precondition holds. -/

namespace Cert.Proof.ProjP

open Idealize.ShloMosaic

variable {F : FTy → Type} [FloatOps F]

/-- Where the precondition holds the layer's number is below 4. -/
theorem lt_of_pre (x0 : IVec Cert.Pre_layer_in_proj.S1 32) (x1 : FVec F Cert.Pre_layer_in_proj.S8192x2048 .f32) (x2 : FVec F Cert.Pre_layer_in_proj.S4x1x2048 .f32)
    (x3 : FVec F Cert.Pre_layer_in_proj.S4x2048x5120 .bf16)
    (h : Cert.Pre_layer_in_proj.fn (F := F) x0 x1 x2 x3 = fun _ => 1#1) : (x0 (ix1 0)).toNat < 4 := by
  have e := congrFun h (ix1 0)
  unfold Cert.Pre_layer_in_proj.fn at e
  pointwise at e
  generalize x0 (ix1 0) = b at e ⊢
  simp only [IntOp.andi, IntOp.cmpi, BitVec.sle, BitVec.slt] at e
  have t : b.toInt = if 2 * b.toNat < 2 ^ 32 then (b.toNat : ℤ) else (b.toNat : ℤ) - (2 ^ 32 : ℕ) := BitVec.toInt_eq_toNat_cond b
  have hb := b.isLt
  have z0 : (0#32).toInt = 0 := by decide
  have z4 : (4#32).toInt = 4 := by decide
  rw [z0, z4] at e
  by_cases p : 0 ≤ b.toInt
  · by_cases q : b.toInt < 4
    · split at t <;> omega
    · rw [decide_eq_true p, decide_eq_false q] at e; exact absurd e (by decide)
  · by_cases q : b.toInt < 4
    · rw [decide_eq_false p, decide_eq_true q] at e; exact absurd e (by decide)
    · rw [decide_eq_false p, decide_eq_false q] at e; exact absurd e (by decide)

end Cert.Proof.ProjP

end
-- ==== Proof.QkvI.lean ====
module

public import proofs.«01_k».proof.Proof.Gen.QkvIdeal
public import proofs.«01_k».proof.Proof.Gen.QkvIdeal.Frame
public import proofs.«01_k».proof.Proof.ProjP

@[expose] public section

noncomputable section

/-! The idealized projection to the queries, keys and values runs: the blocks of its operands are inside them where the layer's number is. -/

namespace Cert.Proof.QkvI

open Cert.QkvIdeal Cert.QkvIdeal.Gen Idealize.ShloMosaic Idealize.ShloMosaic.TcCoe Idealize.SL.Sem

variable {F : FTy → Type} [FloatOps F] (m : (ℓ : Loc nD τ sig) → Buf (Elt F) ℓ)

/-- The layer's number, as the launch finds it. -/
abbrev lay : BitVec 32 := m ((0 : Dev nD).tc.loc main_arg0) (ix1 0)

/-- The index maps read the layer's number. -/
theorem at_tbl (r : Rect S1) (hr : r.shape.numel = 1) : (tbl m).at 0 r hr = lay m := by
  show (tbl m) 0 _ = _
  exact congrArg (m ((0 : Dev nD).tc.loc main_arg0)) (funext fun a => by match a with | ⟨0, _⟩ => exact Subsingleton.elim (α := Fin 1) _ _)

/-- The block of columns a coordinate takes. -/
theorem blk : ∀ j : Fin 3, (Scalar.addi 0#32 (BitVec.ofNat 32 j.val)).toNat = 0 + j.val := by decide

/-- A layer of the stack puts every block inside its operand, at whole words. -/
theorem ok (h : (lay m).toNat < 4) : Ok m := by
  unfold Ok ok0
  have c0 (i : grid0.Coords) : (i 1).val < 3 := (i 1).isLt
  have c1 (i : grid0.Coords) : (Scalar.addi 0#32 (BitVec.ofNat 32 (i 1).val)).toNat = 0 + (i 1).val := blk (i 1)
  refine ⟨fun i => ⟨fun a => ?_, .inl rfl⟩, fun i => ⟨fun a => ?_, .inr (Affine.block_words_dvd (of_decide_eq_true rfl) (by decide))⟩⟩
  all_goals
    have := c0 i
    have := c1 i
  · unfold cc0_transform_1; rw [at_tbl m]
    match a with
    | ⟨0, _⟩ => show ((lay m).toNat + 1) * 1 ≤ 4; omega
    | ⟨1, _⟩ => show (0 + 1) * 1 ≤ 1; omega
    | ⟨2, _⟩ => show (0 + 1) * 2048 ≤ 2048; omega
  · unfold cc0_transform_2; rw [at_tbl m]
    match a with
    | ⟨0, _⟩ => show ((lay m).toNat + 1) * 1 ≤ 4; omega
    | ⟨1, _⟩ => show (0 + 1) * 2048 ≤ 2048; omega
    | ⟨2, _⟩ => show ((Scalar.addi 0#32 (BitVec.ofNat 32 (i 1).val)).toNat + 1) * 1024 ≤ 5120; omega

end Cert.Proof.QkvI

end
-- ==== Proof.QkvV.lean ====
module

public import proofs.«01_k».proof.Proof.QkvI
public import Idealize.ShloMosaic.Lib.Pipeline.Value
public import Idealize.ShloMosaic.Lib.Tactic

@[expose] public section

noncomputable section

/-! What each point of the projection to the queries, keys and values leaves, as the printed payloads of its blocks. -/

namespace Cert.Proof.QkvV

open Cert.QkvIdeal Cert.QkvIdeal.Gen Idealize.ShloMosaic Idealize.ShloMosaic.TcCoe Idealize.ShloMosaic.Tactic

variable {F : FTy → Type} [FloatOps F]

theorem z2 : (![0, 0] : Fin 2 → Nat) = fun _ => 0 := by decide
theorem z3 : (![0, 0, 0] : Fin 3 → Nat) = fun _ => 0 := by decide

variable (c : Dev nD) (i : grid0.Coords) (arg3 : Memref sig .tc .vmem S1024x2048 .f32) (harg3 : arg3.IsWhole) (arg4 : Memref sig .tc .vmem S1x1x2048 .f32) (harg4 : arg4.IsWhole)
  (arg5 : Memref sig .tc .vmem S1x2048x1024 .bf16) (harg5 : arg5.IsWhole) (arg6 : Memref sig .tc .vmem S1024x1024 .bf16) (harg6 : arg6.IsWhole) (arg7 : Memref sig .tc .vmem S1024x2048 .bf16) (harg7 : arg7.IsWhole)
  (x0 : Vec F S1024x2048 .f32) (x1 : Vec F S1x1x2048 .f32) (x2 : Vec F S1x2048x1024 .bf16) (xt0 : TbBuf0 (F := F) c tbM0_0) (xs0 : Vec F S1024x2048 .bf16)

/-- The first point of a block of rows leaves the normalized rows, -/
theorem sout0_A_0_eq (hc0 : cond0_0 i) : sout0_A_0 c i arg3 harg3 arg4 harg4 arg5 harg5 arg6 harg6 arg7 harg7 hc0 x0 x1 x2 xt0 = k0_pay1 x0 x1 := by
  unfold sout0_A_0
  rw [View.read_writes_eq_canon _ _ _ (scover0_A_0 c i arg3 harg3 arg4 harg4 arg5 harg5 arg6 harg6 arg7 harg7 hc0 x0 x1 x2 xt0)]
  unfold kernelRun0_A
  dsimp only
  try sl_unfold_words
  rw [View.canon_unit_zero z2]
  simp only [View.readAt_eq_ld, View.ld_unit_zero (S := S1024x2048) z2, View.ld_unit_zero (S := S1x1x2048) z3, View.ld_unit_zero (S := S1x2048x1024) z3,
    View.readCov_unit_zero (S := S1024x2048) _ z2, harg3.read_unread, harg4.read_unread, harg5.read_unread, harg7.read_unread]

/-- and its block of the result; -/
theorem out0_A_3_eq (hc0 : cond0_0 i) : out0_A_3 c i arg3 harg3 arg4 harg4 arg5 harg5 arg6 harg6 arg7 harg7 hc0 x0 x1 x2 xt0 = k0_pay2 (k0_pay1 x0 x1) x2 := by
  unfold out0_A_3
  rw [View.read_writes_eq_canon _ _ _ (cover0_A_3 c i arg3 harg3 arg4 harg4 arg5 harg5 arg6 harg6 arg7 harg7 hc0 x0 x1 x2 xt0)]
  unfold kernelRun0_A
  dsimp only
  try sl_unfold_words
  rw [View.canon_unit_zero z2]
  simp only [View.readAt_eq_ld, View.ld_unit_zero (S := S1024x2048) z2, View.ld_unit_zero (S := S1x1x2048) z3, View.ld_unit_zero (S := S1x2048x1024) z3,
    View.readCov_unit_zero (S := S1024x2048) _ z2, harg3.read_unread, harg4.read_unread, harg5.read_unread, harg7.read_unread]

/-- a later point takes the rows as they are. -/
theorem out0_B_3_eq (hc0 : ¬cond0_0 i) : out0_B_3 c i arg3 harg3 arg4 harg4 arg5 harg5 arg6 harg6 arg7 harg7 hc0 x0 x1 x2 xt0 xs0 = k0_pay2 xs0 x2 := by
  unfold out0_B_3
  rw [View.read_writes_eq_canon _ _ _ (cover0_B_3 c i arg3 harg3 arg4 harg4 arg5 harg5 arg6 harg6 arg7 harg7 hc0 x0 x1 x2 xt0 xs0)]
  unfold kernelRun0_B
  dsimp only
  try sl_unfold_words
  rw [View.canon_unit_zero z2]
  simp only [View.readAt_eq_ld, View.ld_unit_zero (S := S1024x2048) z2, View.ld_unit_zero (S := S1x1x2048) z3, View.ld_unit_zero (S := S1x2048x1024) z3,
    View.readCov_unit_zero (S := S1024x2048) _ z2, harg3.read_unread, harg4.read_unread, harg5.read_unread, harg7.read_unread]

end Cert.Proof.QkvV

end
-- ==== Proof.ProjS.lean ====
module

public import proofs.«01_k».proof.Proof.FfnS

@[expose] public section

noncomputable section

/-! What the input projection computes over the extended reals, entry by entry. -/

namespace Cert.Proof.ProjS

open Idealize.ShloMosaic Cert.Proof.FfnS

/-- The shape of the projection's weight. -/
abbrev SW : Shape := ⟨3, ![4, 2048, 5120]⟩

variable (L : Fin 4) (X : Vec Ideal SX .f32) (G : Vec Ideal SG .f32) (W : Vec Ideal SW .bf16)

/-- A normalized row against a column of the weight. -/
def prj (n : Fin 8192) (f : Fin 5120) : EReal := ∑ d, u L X G n d * W (ix3 L d f)

end Cert.Proof.ProjS

end
-- ==== Proof.QkvN.lean ====
module

public import proofs.«01_k».proof.Proof.QkvV
public import proofs.«01_k».proof.Proof.ProjS
public import Idealize.ShloMosaic.Lib.Pipeline.ValueKit
public import Idealize.ShloMosaic.Lib.Pointwise

@[expose] public section

noncomputable section

/-! The result array of the projection to the queries, keys and values, over the extended reals. -/

namespace Cert.Proof.QkvN

open Cert.QkvIdeal Cert.QkvIdeal.Gen Idealize.ShloMosaic Idealize.ShloMosaic.TcCoe Cert.Proof.QkvI Cert.Proof.FfnS Cert.Proof.ProjS Cert.Proof.QkvV Finset

/-- The result: the projection's columns from 0 on. -/
def res (L : Fin 4) (X : Vec Ideal SX .f32) (G : Vec Ideal SG .f32) (W : Vec Ideal SW .bf16) : Vec Ideal S8192x3072 .bf16 := fun y =>
  prj L X G W (y (0 : Fin 2)) (⟨0 + (y (1 : Fin 2)).val, by have : (y (1 : Fin 2)).val < 3072 := (y (1 : Fin 2)).isLt; omega⟩ : Fin 5120)

variable (m : (ℓ : Loc nD τ sig) → Buf (Elt Ideal) ℓ) (hl : (lay m).toNat < 4) (c : Dev nD)

/-- The operands as launched. -/
abbrev ax : Vec Ideal SX .f32 := m ((c.tc : Thread nD τ).loc main_arg1)
abbrev ag : Vec Ideal SG .f32 := m ((c.tc : Thread nD τ).loc main_arg2)
abbrev aw : Vec Ideal SW .bf16 := m ((c.tc : Thread nD τ).loc main_arg3)

/-- The layer. -/
abbrev L : Fin 4 := ⟨(lay m).toNat, hl⟩

/-- Row `a` of a point's block of rows, column `f` of its block of the result, and that column of the weight. -/
def row (t : Fin (cfgM m (ok m hl)).N) (a : Fin 1024) : Fin 8192 := ⟨1024 * (t.val / 3) + a.val, by
  have : t.val < 24 := t.isLt
  omega⟩
def col (t : Fin (cfgM m (ok m hl)).N) (f : Fin 1024) : Fin 3072 := ⟨1024 * (t.val % 3) + f.val, by omega⟩
def wcol (t : Fin (cfgM m (ok m hl)).N) (f : Fin 1024) : Fin 5120 := ⟨1024 * (0 + t.val % 3) + f.val, by omega⟩

/-- The grid's coordinates at a point. -/
theorem crd : ∀ t : Fin grid0.N, (BitVec.ofNat 32 (grid0.coords t 0).val).toNat = t.val / 3 ∧ (BitVec.ofNat 32 (grid0.coords t 1).val).toNat = t.val % 3
    ∧ (Scalar.addi 0#32 (BitVec.ofNat 32 (grid0.coords t 1).val)).toNat = 0 + t.val % 3 := by decide +kernel

theorem idx0 (t : Fin (cfgM m (ok m hl)).N) : ((cfgM m (ok m hl)).win 0).index t = ![t.val / 3, 0] := by
  show cc0_transform_0 (grid0.coords t) = _
  unfold cc0_transform_0; dsimp only; rw [(crd t).1]; rfl
theorem idx1 (t : Fin (cfgM m (ok m hl)).N) : ((cfgM m (ok m hl)).win 1).index t = ![(lay m).toNat, 0, 0] := by
  show cc0_transform_1 inb_S1_S1_0 numel1_S1 (tbl m) (grid0.coords t) = _
  unfold cc0_transform_1; rw [at_tbl m]; rfl
theorem idx2 (t : Fin (cfgM m (ok m hl)).N) : ((cfgM m (ok m hl)).win 2).index t = ![(lay m).toNat, 0, 0 + t.val % 3] := by
  show cc0_transform_2 inb_S1_S1_0 numel1_S1 (tbl m) (grid0.coords t) = _
  unfold cc0_transform_2; rw [at_tbl m]; dsimp only; rw [(crd t).2.2]; rfl
theorem idx3 (t : Fin (cfgM m (ok m hl)).N) : ((cfgM m (ok m hl)).win 3).index t = ![t.val / 3, t.val % 3] := by
  show cc0_transform_3 (grid0.coords t) = _
  unfold cc0_transform_3; dsimp only; rw [(crd t).1, (crd t).2.1]

/-- The operands' blocks at a point, by name, -/
def b0 (t : Fin (cfgM m (ok m hl)).N) : Vec Ideal S1024x2048 .f32 := iblk m (ok m hl) c 0 t
def b1 (t : Fin (cfgM m (ok m hl)).N) : Vec Ideal S1x1x2048 .f32 := iblk m (ok m hl) c 1 t
def b2 (t : Fin (cfgM m (ok m hl)).N) : Vec Ideal S1x2048x1024 .bf16 := iblk m (ok m hl) c 2 t

/-- and entry by entry. -/
theorem blk0 (t : Fin (cfgM m (ok m hl)).N) (a : Fin 1024) (d : Fin 2048) : b0 m hl c t (ix2 a d) = ax m c (ix2 (row m hl t a) d) := by
  have e := idx0 m hl t
  unfold b0 iblk
  refine Eq.trans (b := ax m c ((((cfgM m (ok m hl)).win 0).blk t).view.emb (ix2 a d))) rfl (congrArg (ax m c) (funext fun x => Fin.ext ?_))
  match x with
  | ⟨0, _⟩ => blk_simp [e]; show t.val / 3 * 1024 + a.val = 1024 * (t.val / 3) + a.val; omega
  | ⟨1, _⟩ => blk_simp [e]

theorem blk1 (t : Fin (cfgM m (ok m hl)).N) (d : Fin 2048) : b1 m hl c t (ix3 0 0 d) = ag m c (ix3 (L m hl) 0 d) := by
  have e := idx1 m hl t
  unfold b1 iblk
  refine Eq.trans (b := ag m c ((((cfgM m (ok m hl)).win 1).blk t).view.emb (ix3 0 0 d))) rfl (congrArg (ag m c) (funext fun x => Fin.ext ?_))
  match x with
  | ⟨0, _⟩ => blk_simp [e]; rfl
  | ⟨1, _⟩ => blk_simp [e]
  | ⟨2, _⟩ => blk_simp [e]

theorem blk2 (t : Fin (cfgM m (ok m hl)).N) (d : Fin 2048) (f : Fin 1024) : b2 m hl c t (ix3 0 d f) = aw m c (ix3 (L m hl) d (wcol m hl t f)) := by
  have e := idx2 m hl t
  unfold b2 iblk
  refine Eq.trans (b := aw m c ((((cfgM m (ok m hl)).win 2).blk t).view.emb (ix3 0 d f))) rfl (congrArg (aw m c) (funext fun x => Fin.ext ?_))
  match x with
  | ⟨0, _⟩ => blk_simp [e]; rfl
  | ⟨1, _⟩ => blk_simp [e]
  | ⟨2, _⟩ => blk_simp [e]; show (t.val % 3) * 1024 + f.val = 1024 * (0 + t.val % 3) + f.val; omega

/-- The printed payloads, entry by entry: the norm of a row, -/
theorem p1 (h : Vec Ideal S1024x2048 .f32) (g : Vec Ideal S1x1x2048 .f32) (a : Fin 1024) (d : Fin 2048) :
    k0_pay1 h g (ix2 a d) = nrm (fun k => h (ix2 a k)) (fun k => g (ix3 0 0 k)) d := by
  unfold nrm
  pointwise [k0_pay1]

/-- and the product with the block of the weight. -/
theorem p2 (v : Vec Ideal S1024x2048 .bf16) (w : Vec Ideal S1x2048x1024 .bf16) (a : Fin 1024) (f : Fin 1024) :
    k0_pay2 v w (ix2 a f) = ∑ k, v (ix2 a k) * w (ix3 0 k f) := by
  pointwise [k0_pay2]

/-- What each point leaves, over its blocks: the first of a block of rows, -/
theorem outsA0 (t : Fin (cfgM m (ok m hl)).N) (h0 : t.val % 3 = 0) : (outsAt0 m (ok m hl) c t.val t.isLt).2 = k0_pay1 (b0 m hl c t) (b1 m hl c t) := by
  refine (congrArg (fun z => z.2) (outsAt0_A m (ok m hl) c t h0)).trans ?_
  dsimp only
  exact sout0_A_0_eq (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) scM0_0 (Memref.isWhole_whole _) (b0 m hl c t) (b1 m hl c t) (b2 m hl c t) (tbl m 0) _
theorem outsA3 (t : Fin (cfgM m (ok m hl)).N) (h0 : t.val % 3 = 0) : (outsAt0 m (ok m hl) c t.val t.isLt).1 = k0_pay2 (k0_pay1 (b0 m hl c t) (b1 m hl c t)) (b2 m hl c t) := by
  refine (congrArg (fun z => z.1) (outsAt0_A m (ok m hl) c t h0)).trans ?_
  dsimp only
  exact out0_A_3_eq (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) scM0_0 (Memref.isWhole_whole _) (b0 m hl c t) (b1 m hl c t) (b2 m hl c t) (tbl m 0) _

/-- and a later one, which keeps the rows. -/
theorem outsB0 (t : Fin (cfgM m (ok m hl)).N) (h0 : ¬t.val % 3 = 0) : (outsAt0 m (ok m hl) c t.val t.isLt).2 = (outsAt0 m (ok m hl) c (t.val - 1) (Nat.lt_of_le_of_lt (Nat.sub_le _ _) t.isLt)).2 := by
  refine (congrArg (fun z => z.2) (outsAt0_B m (ok m hl) c t h0)).trans ?_
  dsimp only
  unfold sout0_B_0
  rfl
theorem outsB3 (t : Fin (cfgM m (ok m hl)).N) (h0 : ¬t.val % 3 = 0) : (outsAt0 m (ok m hl) c t.val t.isLt).1 = k0_pay2 (outsAt0 m (ok m hl) c (t.val - 1) (Nat.lt_of_le_of_lt (Nat.sub_le _ _) t.isLt)).2 (b2 m hl c t) := by
  refine (congrArg (fun z => z.1) (outsAt0_B m (ok m hl) c t h0)).trans ?_
  dsimp only
  exact out0_B_3_eq (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) scM0_0 (Memref.isWhole_whole _) (b0 m hl c t) (b1 m hl c t) (b2 m hl c t) (tbl m 0) (outsAt0 m (ok m hl) c (t.val - 1) (Nat.lt_of_le_of_lt (Nat.sub_le _ _) t.isLt)).2 _

/-- So at every point the result's block is the product of what the scratch then holds. -/
theorem outs3 (t : Fin (cfgM m (ok m hl)).N) : (outsAt0 m (ok m hl) c t.val t.isLt).1 = k0_pay2 (outsAt0 m (ok m hl) c t.val t.isLt).2 (b2 m hl c t) := by
  by_cases h0 : t.val % 3 = 0
  · rw [outsA3 m hl c t h0, outsA0 m hl c t h0]
  · rw [outsB3 m hl c t h0, outsB0 m hl c t h0]

/-- The first point of a block of rows leaves its normalized rows. -/
theorem first (t : Fin (cfgM m (ok m hl)).N) (h0 : t.val % 3 = 0) (a : Fin 1024) (d : Fin 2048) :
    (outsAt0 m (ok m hl) c t.val t.isLt).2 (ix2 a d) = u (L m hl) (ax m c) (ag m c) (row m hl t a) d := by
  rw [outsA0 m hl c t h0, p1]
  simp only [blk0, blk1]
  rfl

/-- After every point the scratch holds the normalized rows of its block of rows. -/
theorem state (n : ℕ) : ∀ hn : n < (cfgM m (ok m hl)).N, ∀ a d,
    (outsAt0 m (ok m hl) c n hn).2 (ix2 a d) = u (L m hl) (ax m c) (ag m c) (row m hl ⟨n, hn⟩ a) d := by
  induction n with
  | zero =>
    intro hn
    exact first m hl c ⟨0, hn⟩ rfl
  | succ n ih =>
    intro hn a d
    by_cases h0 : (n + 1) % 3 = 0
    · exact first m hl c ⟨n + 1, hn⟩ h0 a d
    · have e : row m hl ⟨n + 1, hn⟩ a = row m hl ⟨n, Nat.lt_of_succ_lt hn⟩ a := Fin.ext (by
        show 1024 * ((n + 1) / 3) + a.val = 1024 * (n / 3) + a.val
        omega)
      rw [e]
      exact (congrFun (outsB0 m hl c ⟨n + 1, hn⟩ h0) _).trans (ih (Nat.lt_of_succ_lt hn) a d)

/-- The block a point leaves is the projection on its rows and columns. -/
theorem out (t : Fin (cfgM m (ok m hl)).N) (a f : Fin 1024) :
    (outsAt0 m (ok m hl) c t.val t.isLt).1 (ix2 a f) = res (L m hl) (ax m c) (ag m c) (aw m c) (ix2 (row m hl t a) (col m hl t f)) := by
  have hc : (⟨0 + (col m hl t f).val, by have := (col m hl t f).isLt; omega⟩ : Fin 5120) = wcol m hl t f := Fin.ext (by
    show 0 + (1024 * (t.val % 3) + f.val) = 1024 * (0 + t.val % 3) + f.val
    omega)
  rw [outs3 m hl c t, p2]
  refine Eq.trans (b := prj (L m hl) (ax m c) (ag m c) (aw m c) (row m hl t a) (wcol m hl t f)) ?_ (congrArg (prj (L m hl) (ax m c) (ag m c) (aw m c) (row m hl t a)) hc.symm)
  unfold prj
  refine sum_congr rfl fun k _ => ?_
  rw [blk2 m hl c t k f, state m hl c t.val t.isLt a k]

/-- The points' blocks cover the result. -/
theorem cov : ((cfgM m (ok m hl)).win 3).Covers := by
  refine ⟨fun a => ?_, fun β => ?_⟩
  · match a with
    | ⟨0, _⟩ => show 0 < 1024; omega
    | ⟨1, _⟩ => show 0 < 1024; omega
  have b0 : (β (0 : Fin 2)).val < 8 := lt_of_lt_of_le (β (0 : Fin 2)).isLt (by show (8192 + 1024 - 1) / 1024 ≤ 8; omega)
  have b1 : (β (1 : Fin 2)).val < 3 := lt_of_lt_of_le (β (1 : Fin 2)).isLt (by show (3072 + 1024 - 1) / 1024 ≤ 3; omega)
  refine ⟨⟨3 * (β (0 : Fin 2)).val + (β (1 : Fin 2)).val, by show _ < 24; omega⟩, flush0_3 (adm m (ok m hl)) _,
    fun a => ⟨?_, Or.inl rfl⟩⟩
  rw [idx3 m hl]
  match a with
  | ⟨0, _⟩ => show (3 * (β (0 : Fin 2)).val + (β (1 : Fin 2)).val) / 3 = (β (0 : Fin 2)).val; omega
  | ⟨1, _⟩ => show (3 * (β (0 : Fin 2)).val + (β (1 : Fin 2)).val) % 3 = (β (1 : Fin 2)).val; omega

/-- The result array after the run. -/
theorem final : (dats m (ok m hl) 0 c).arrAt 3 (cfgM m (ok m hl)).N = res (L m hl) (ax m c) (ag m c) (aw m c) := by
  refine (dats m (ok m hl) 0 c).arrAt_eq_of_covers 3 _ (cov m hl) fun t hf y => ?_
  have e := idx3 m hl t
  have h0 : (y (0 : Fin 2)).val < 1024 := (y (0 : Fin 2)).isLt
  have h1 : (y (1 : Fin 2)).val < 1024 := (y (1 : Fin 2)).isLt
  blk_simp
  rw [after0_3]
  have hz : (((cfgM m (ok m hl)).win 3).blk t).view.emb y = ix2 (row m hl t (y (0 : Fin 2))) (col m hl t (y (1 : Fin 2))) := funext fun x => Fin.ext (by
    match x with
    | ⟨0, _⟩ => blk_simp [e]; show t.val / 3 * 1024 + (y (0 : Fin 2)).val = 1024 * (t.val / 3) + (y (0 : Fin 2)).val; omega
    | ⟨1, _⟩ => blk_simp [e]; show t.val % 3 * 1024 + (y (1 : Fin 2)).val = 1024 * (t.val % 3) + (y (1 : Fin 2)).val; omega)
  have hy : y = ix2 (y (0 : Fin 2)) (y (1 : Fin 2)) := funext fun x => by
    match x with
    | ⟨0, _⟩ => rfl
    | ⟨1, _⟩ => rfl
  rw [hz]
  exact (congrArg (outsAt0 m (ok m hl) c t.val t.isLt).1 hy).trans (out m hl c t (y (0 : Fin 2)) (y (1 : Fin 2)))

end Cert.Proof.QkvN

end
-- ==== Proof.QkvQ.lean ====
module

public import proofs.«01_k».proof.Proof.Gen.QkvReferenceIdeal
public import Idealize.ShloMosaic.Lib.StableHlo.RunClose
public import Idealize.ShloMosaic.Lib.StableHlo.RunRead

@[expose] public section

noncomputable section

/-! The run of the reference of the projection to the queries, keys and values, in two parts, for any float values: the normalized rows, and the result. -/

namespace Cert.Proof.QkvQ

open Cert.QkvReferenceIdeal Cert.QkvReferenceIdeal.Gen Idealize.ShloMosaic Idealize.ShloMosaic.TcCoe Idealize.SL.Sem Idealize.ShloMosaic.StableHlo

variable {F : FTy → Type} [FloatOps F]

/-- The layer's word, and where its parameters start. -/
def st (x : (⟨S1, .i32⟩ : BufTy).Contents (Elt F)) : (⟨S_, .i32⟩ : BufTy).Contents (Elt F) := shapeCast _ x shapeCasts_S1_S_
def at3 (s : (⟨S_, .i32⟩ : BufTy).Contents (Elt F)) (k : Fin 3) : ℤ :=
  ((![s, constantI S_ 32 0#32, constantI S_ 32 0#32] : Fin 3 → (⟨S_, .i32⟩ : BufTy).Contents (Elt F)) k (Shape.Idx.first h_S_)).toInt

/-- The layer's parameters. -/
def gain (p : (⟨S4x1x2048, .f32⟩ : BufTy).Contents (Elt F)) (s : (⟨S_, .i32⟩ : BufTy).Contents (Elt F)) : (⟨S1x2048, .f32⟩ : BufTy).Contents (Elt F) :=
  shapeCast _ (Host.dynamicSlice S1x1x2048 p (at3 (F := F) s) sliceFits_S4x1x2048_S1x1x2048) shapeCasts_S1x1x2048_S1x2048
def wgt (p : (⟨S4x2048x5120, .bf16⟩ : BufTy).Contents (Elt F)) (s : (⟨S_, .i32⟩ : BufTy).Contents (Elt F)) : (⟨S2048x5120, .f32⟩ : BufTy).Contents (Elt F) :=
  extf .f32 (shapeCast _ (Host.dynamicSlice S1x2048x5120 p (at3 (F := F) s) sliceFits_S4x2048x5120_S1x2048x5120) shapeCasts_S1x2048x5120_S2048x5120 : (⟨S2048x5120, .bf16⟩ : BufTy).Contents (Elt F)) bitsLt_bf16_f32

/-- The normalized rows, scaled. -/
def rms (x : (⟨S8192x2048, .f32⟩ : BufTy).Contents (Elt F)) (g : (⟨S1x2048, .f32⟩ : BufTy).Contents (Elt F)) : (⟨S8192x2048, .f32⟩ : BufTy).Contents (Elt F) :=
  mulf (mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32)))))) (broadcastInDim S8192x2048 ![0, 1] bcast_S1x2048_S8192x2048_0_1 g)

/-- The projection. -/
def pr (x : (⟨S8192x2048, .f32⟩ : BufTy).Contents (Elt F)) (w : (⟨S2048x5120, .f32⟩ : BufTy).Contents (Elt F)) : (⟨S8192x5120, .f32⟩ : BufTy).Contents (Elt F) :=
  Host.dotGeneral dot_S8192x2048_S2048x5120_S8192x5120_1_0_0_1_n_n none x w

/-- Part 1: its operations, what they write, that they keep the rest, and its value. -/
abbrev ops1 : List (HloOp τ sig (Elt F)) :=
  [ reshape main_arg0 main_v0 (rfl : (.i32 : EltTy) = .i32) shapeCasts_S1_S_,
    nullary main_c (constantI S_ 32 0#32),
    nullary main_c_0 (constantI S_ 32 0#32),
    unaryIndexed main_arg2 ![main_v0, main_c, main_c_0] ⟨S_, .i32⟩ main_v1 ((fun x i => Host.dynamicSlice S1x1x2048 x (fun k => (i k (Shape.Idx.first h_S_)).toInt) sliceFits_S4x1x2048_S1x1x2048) : (⟨S4x1x2048, .f32⟩ : BufTy).Contents (Elt F) → (Fin 3 → (⟨S_, .i32⟩ : BufTy).Contents (Elt F)) → (⟨S1x1x2048, .f32⟩ : BufTy).Contents (Elt F)),
    reshape main_v1 main_v2 (rfl : (.f32 : EltTy) = .f32) shapeCasts_S1x1x2048_S1x2048,
    binary main_arg1 main_arg1 main_v3 (mulf : (⟨S8192x2048, .f32⟩ : BufTy).Contents (Elt F) → (⟨S8192x2048, .f32⟩ : BufTy).Contents (Elt F) → (⟨S8192x2048, .f32⟩ : BufTy).Contents (Elt F)),
    nullary main_cst (constant S_ .f32 0x00000000#32),
    binary main_v3 main_cst main_v4 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    unary main_v4 main_v5 (broadcastInDim S8192x1 ![0] bcast_S8192_S8192x1_0 : (⟨S8192, .f32⟩ : BufTy).Contents (Elt F) → (⟨S8192x1, .f32⟩ : BufTy).Contents (Elt F)),
    nullary main_cst_1 (constant S_ .f32 0x45000000#32),
    unary main_cst_1 main_v6 (broadcastInDim S8192x1 ![] bcast_S_S8192x1 : (⟨S_, .f32⟩ : BufTy).Contents (Elt F) → (⟨S8192x1, .f32⟩ : BufTy).Contents (Elt F)),
    binary main_v5 main_v6 main_v7 (Host.divf : (⟨S8192x1, .f32⟩ : BufTy).Contents (Elt F) → (⟨S8192x1, .f32⟩ : BufTy).Contents (Elt F) → (⟨S8192x1, .f32⟩ : BufTy).Contents (Elt F)),
    nullary main_cst_2 (constant S_ .f32 0x358637BD#32),
    unary main_cst_2 main_v8 (broadcastInDim S8192x1 ![] bcast_S_S8192x1 : (⟨S_, .f32⟩ : BufTy).Contents (Elt F) → (⟨S8192x1, .f32⟩ : BufTy).Contents (Elt F)),
    binary main_v7 main_v8 main_v9 (addf : (⟨S8192x1, .f32⟩ : BufTy).Contents (Elt F) → (⟨S8192x1, .f32⟩ : BufTy).Contents (Elt F) → (⟨S8192x1, .f32⟩ : BufTy).Contents (Elt F)),
    unary main_v9 main_v10 (Host.rsqrt : (⟨S8192x1, .f32⟩ : BufTy).Contents (Elt F) → (⟨S8192x1, .f32⟩ : BufTy).Contents (Elt F)),
    unary main_v10 main_v11 (broadcastInDim S8192x2048 ![0, 1] bcast_S8192x1_S8192x2048_0_1 : (⟨S8192x1, .f32⟩ : BufTy).Contents (Elt F) → (⟨S8192x2048, .f32⟩ : BufTy).Contents (Elt F)),
    binary main_arg1 main_v11 main_v12 (mulf : (⟨S8192x2048, .f32⟩ : BufTy).Contents (Elt F) → (⟨S8192x2048, .f32⟩ : BufTy).Contents (Elt F) → (⟨S8192x2048, .f32⟩ : BufTy).Contents (Elt F)),
    unary main_v2 main_v13 (broadcastInDim S8192x2048 ![0, 1] bcast_S1x2048_S8192x2048_0_1 : (⟨S1x2048, .f32⟩ : BufTy).Contents (Elt F) → (⟨S8192x2048, .f32⟩ : BufTy).Contents (Elt F)),
    binary main_v12 main_v13 main_v14 (mulf : (⟨S8192x2048, .f32⟩ : BufTy).Contents (Elt F) → (⟨S8192x2048, .f32⟩ : BufTy).Contents (Elt F) → (⟨S8192x2048, .f32⟩ : BufTy).Contents (Elt F))]
abbrev wr1 : List (Ref sig .tc) := [main_v0, main_c, main_c_0, main_v1, main_v2, main_v3, main_cst, main_v4, main_v5, main_cst_1, main_v6, main_v7, main_cst_2, main_v8, main_v9, main_v10, main_v11, main_v12, main_v13, main_v14]
theorem keep1 {r : Ref sig .tc} (hr : r ∉ wr1) (V : Valuation τ sig (Elt F)) : after (ops1 (F := F)) V (Proc.devRef .tc r) = V (Proc.devRef .tc r) :=
  after_unwritten wr1 rfl hr V
theorem sub1 : (ops1 : List (HloOp τ sig (Elt F))).Forall fun op => op.bufs ⊆ tcRefs τ sig := by simp [List.forall_cons]
set_option maxHeartbeats 2000000 in
theorem val1 (V : Valuation τ sig (Elt F)) : after (ops1 (F := F)) V (Proc.devRef .tc main_v14) = rms (V (Proc.devRef .tc main_arg1)) (gain (V (Proc.devRef .tc main_arg2)) (st (F := F) (V (Proc.devRef .tc main_arg0)))) := by
  unfold ops1; simp only [TRef.binary, TRef.nullary, TRef.unary, TRef.toBuf, TRef.ofBuf, cast_eq]; after_results_entrywise []
theorem val0 (V : Valuation τ sig (Elt F)) : after (ops1 (F := F)) V (Proc.devRef .tc main_v0) = st (F := F) (V (Proc.devRef .tc main_arg0)) := by
  after_results_entrywise []

/-- Part 2: its operations, what they write, that they keep the rest, and its value. -/
abbrev ops2 : List (HloOp τ sig (Elt F)) :=
  [ nullary main_c_3 (constantI S_ 32 0#32),
    nullary main_c_4 (constantI S_ 32 0#32),
    unaryIndexed main_arg3 ![main_v0, main_c_3, main_c_4] ⟨S_, .i32⟩ main_v15 ((fun x i => Host.dynamicSlice S1x2048x5120 x (fun k => (i k (Shape.Idx.first h_S_)).toInt) sliceFits_S4x2048x5120_S1x2048x5120) : (⟨S4x2048x5120, .bf16⟩ : BufTy).Contents (Elt F) → (Fin 3 → (⟨S_, .i32⟩ : BufTy).Contents (Elt F)) → (⟨S1x2048x5120, .bf16⟩ : BufTy).Contents (Elt F)),
    reshape main_v15 main_v16 (rfl : (.bf16 : EltTy) = .bf16) shapeCasts_S1x2048x5120_S2048x5120,
    unary main_v16 main_v17 ((extf .f32 · bitsLt_bf16_f32) : (⟨S2048x5120, .bf16⟩ : BufTy).Contents (Elt F) → (⟨S2048x5120, .f32⟩ : BufTy).Contents (Elt F)),
    binary main_v14 main_v17 main_v18 ((fun l r => Host.dotGeneral dot_S8192x2048_S2048x5120_S8192x5120_1_0_0_1_n_n none l r) : (⟨S8192x2048, .f32⟩ : BufTy).Contents (Elt F) → (⟨S2048x5120, .f32⟩ : BufTy).Contents (Elt F) → (⟨S8192x5120, .f32⟩ : BufTy).Contents (Elt F)),
    unary main_v18 main_v19 ((extractStridedSlice S8192x3072 ![0, 0] · slices_S8192x5120_S8192x3072_0_0) : (⟨S8192x5120, .f32⟩ : BufTy).Contents (Elt F) → (⟨S8192x3072, .f32⟩ : BufTy).Contents (Elt F)),
    unary main_v19 main_v20 ((truncf .bf16 · bitsLt_bf16_f32) : (⟨S8192x3072, .f32⟩ : BufTy).Contents (Elt F) → (⟨S8192x3072, .bf16⟩ : BufTy).Contents (Elt F))]
abbrev wr2 : List (Ref sig .tc) := [main_c_3, main_c_4, main_v15, main_v16, main_v17, main_v18, main_v19, main_v20]
theorem keep2 {r : Ref sig .tc} (hr : r ∉ wr2) (V : Valuation τ sig (Elt F)) : after (ops2 (F := F)) V (Proc.devRef .tc r) = V (Proc.devRef .tc r) :=
  after_unwritten wr2 rfl hr V
theorem sub2 : (ops2 : List (HloOp τ sig (Elt F))).Forall fun op => op.bufs ⊆ tcRefs τ sig := by simp [List.forall_cons]
set_option maxHeartbeats 2000000 in
theorem val2 (V : Valuation τ sig (Elt F)) : after (ops2 (F := F)) V (Proc.devRef .tc main_v20) = truncf .bf16 (extractStridedSlice S8192x3072 ![0, 0] (pr (V (Proc.devRef .tc main_v14)) (wgt (V (Proc.devRef .tc main_arg3)) (V (Proc.devRef .tc main_v0)))) slices_S8192x5120_S8192x3072_0_0) bitsLt_bf16_f32 := by
  unfold ops2; simp only [TRef.binary, TRef.nullary, TRef.unary, TRef.toBuf, TRef.ofBuf, cast_eq]; after_results_entrywise []

/-- All of them, in order. -/
abbrev ops : List (HloOp τ sig (Elt F)) := ops1 ++ ops2

theorem after_parts (l k : List (HloOp τ sig (Elt F))) (V : Valuation τ sig (Elt F)) : after (l ++ k) V = after k (after l V) := by
  induction l generalizing V with
  | nil => rfl
  | cons o l ih => exact ih (o.result V)

set_option maxRecDepth 8192 in
set_option maxHeartbeats 4000000 in
theorem main_ops (c : Dev nD) : main (F := F) c = seq ops := rfl

theorem noRefs : (Finset.univ.filter fun b : Ref sig .tc => b.isScoped) = ∅ := by decide
theorem noSems : (Finset.univ.filter fun sm : SemLoc sig => sm.isScoped .tc) = ∅ := by decide

/-- The result, over the operands. -/
def res (x0 : (⟨S1, .i32⟩ : BufTy).Contents (Elt F)) (x1 : (⟨S8192x2048, .f32⟩ : BufTy).Contents (Elt F)) (x2 : (⟨S4x1x2048, .f32⟩ : BufTy).Contents (Elt F)) (x3 : (⟨S4x2048x5120, .bf16⟩ : BufTy).Contents (Elt F)) : (⟨S8192x3072, .bf16⟩ : BufTy).Contents (Elt F) :=
  truncf .bf16 (extractStridedSlice S8192x3072 ![0, 0] (pr (rms x1 (gain x2 (st (F := F) x0))) (wgt (x3) (st (F := F) x0))) slices_S8192x5120_S8192x3072_0_0) bitsLt_bf16_f32

/-- What none of the operations writes is kept. -/
theorem keep {r : Ref sig .tc} (h1 : r ∉ wr1) (h2 : r ∉ wr2) (V : Valuation τ sig (Elt F)) :
    after (ops (F := F)) V (Proc.devRef .tc r) = V (Proc.devRef .tc r) := by
  unfold ops
  rw [after_parts, keep2 h2, keep1 h1]

theorem val (V : Valuation τ sig (Elt F)) : after (ops (F := F)) V (Proc.devRef .tc main_v20)
    = res (V (Proc.devRef .tc main_arg0)) (V (Proc.devRef .tc main_arg1)) (V (Proc.devRef .tc main_arg2)) (V (Proc.devRef .tc main_arg3)) := by
  unfold ops res
  rw [after_parts, val2, keep1 (r := main_arg3) (by decide), val1, val0]

/-- The run: the result buffer holds the result, and the operands are as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = res (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v20).trans (val _),
      (h c main_arg0).trans (keep (by decide) (by decide) _),
      (h c main_arg1).trans (keep (by decide) (by decide) _),
      (h c main_arg2).trans (keep (by decide) (by decide) _),
      (h c main_arg3).trans (keep (by decide) (by decide) _)⟩)
    (run_seq noRefs noSems defs main (fun _ => ops) main_ops
      (fun _ => by simp only [ops, List.forall_append]; exact ⟨sub1, sub2⟩) m ρ)

end Cert.Proof.QkvQ

end
-- ==== Proof.QkvR.lean ====
module

public import proofs.«01_k».proof.Proof.QkvQ
public import proofs.«01_k».proof.Proof.QkvN
public import Idealize.ShloMosaic.Lib.DynamicIndex
public import Idealize.ShloMosaic.Lib.Pointwise

@[expose] public section

noncomputable section

/-! The result of the reference of the projection to the queries, keys and values, entry by entry, over the extended reals. -/

namespace Cert.Proof.QkvR

open Cert.QkvReferenceIdeal Cert.QkvReferenceIdeal.Gen Idealize.ShloMosaic Cert.Proof.FfnS Cert.Proof.ProjS Cert.Proof.QkvQ

/-- Where a layer's parameters start. -/
theorem start (x0 : IVec S1 32) (L : Fin 4) (h : (x0 (ix1 0)).toNat = L.val) (k : Fin 3) : at3 (F := Ideal) (st (F := Ideal) x0) k = ((![L.val, 0, 0] : Fin 3 → ℕ) k : ℤ) := by
  match k with
  | ⟨0, _⟩ =>
    have e : st (F := Ideal) x0 (Shape.Idx.first h_S_) = x0 (ix1 0) := by
      unfold st shapeCast
      exact congrArg x0 (funext fun a => by match a with | ⟨0, _⟩ => exact Subsingleton.elim (α := Fin 1) _ _)
    show (st (F := Ideal) x0 (Shape.Idx.first h_S_)).toInt = (L.val : ℤ)
    rw [e, BitVec.toInt_eq_toNat_cond, if_pos (by omega), h]
  | ⟨1, _⟩ => rfl
  | ⟨2, _⟩ => rfl

variable (s : IVec S_ 32) (L : Fin 4) (h : ∀ k, at3 (F := Ideal) s k = ((![L.val, 0, 0] : Fin 3 → ℕ) k : ℤ))
include h

/-- The layer's parameters, entry by entry. -/
theorem gain_eq (p : FVec Ideal S4x1x2048 .f32) (d : Fin 2048) : gain (F := Ideal) p s (ix2 0 d) = p (ix3 L 0 d) := by
  unfold gain
  rw [Host.dynamicSlice_eq_extractStridedSlice S1x1x2048 p _ ![L.val, 0, 0] _ ⟨rfl, fun k => by
    match k with
    | ⟨0, _⟩ => show L.val + 1 ≤ 4; omega
    | ⟨1, _⟩ => show 0 + 1 ≤ 1; omega
    | ⟨2, _⟩ => show 0 + 2048 ≤ 2048; omega⟩ h]
  pointwise

theorem wgt_eq (p : FVec Ideal S4x2048x5120 .bf16) (d : Fin 2048) (f : Fin 5120) : wgt (F := Ideal) p s (ix2 d f) = p (ix3 L d f) := by
  unfold wgt
  rw [Host.dynamicSlice_eq_extractStridedSlice S1x2048x5120 p _ ![L.val, 0, 0] _ ⟨rfl, fun k => by
    match k with
    | ⟨0, _⟩ => show L.val + 1 ≤ 4; omega
    | ⟨1, _⟩ => show 0 + 2048 ≤ 2048; omega
    | ⟨2, _⟩ => show 0 + 5120 ≤ 5120; omega⟩ h]
  pointwise

omit h

/-- The reference's steps, entry by entry. -/
theorem rms_eq (x : FVec Ideal S8192x2048 .f32) (g : FVec Ideal S1x2048 .f32) (n : Fin 8192) (d : Fin 2048) :
    rms (F := Ideal) x g (ix2 n d) = nrm (fun k => x (ix2 n k)) (fun k => g (ix2 0 k)) d := by
  pointwise [rms]
  rfl
theorem pr_eq (x : FVec Ideal S8192x2048 .f32) (w : FVec Ideal S2048x5120 .f32) (n : Fin 8192) (f : Fin 5120) :
    pr (F := Ideal) x w (ix2 n f) = ∑ d, x (ix2 n d) * w (ix2 d f) := by
  pointwise [pr]

variable (x0 : IVec S1 32) (x1 : FVec Ideal S8192x2048 .f32) (x2 : FVec Ideal S4x1x2048 .f32) (x3 : FVec Ideal S4x2048x5120 .bf16)

/-- The reference's result is the projection's columns. -/
theorem ref_eq (hL : (x0 (ix1 0)).toNat = L.val) : res (F := Ideal) x0 x1 x2 x3 = QkvN.res L x1 x2 x3 := by
  have h := start x0 L hL
  funext y
  obtain ⟨n, f, rfl⟩ : ∃ n f, y = ix2 n f := ⟨y 0, y 1, funext fun a => by
    match a with
    | ⟨0, _⟩ => rfl
    | ⟨1, _⟩ => rfl⟩
  refine Eq.trans (b := pr (F := Ideal) (rms (F := Ideal) x1 (gain (F := Ideal) x2 (st (F := Ideal) x0))) (wgt (F := Ideal) x3 (st (F := Ideal) x0))
    (ix2 n (⟨0 + f.val, by have : f.val < 3072 := f.isLt; omega⟩ : Fin 5120))) ?_ ?_
  · unfold res
    pointwise
  · rw [pr_eq]
    simp only [rms_eq, gain_eq _ L h, wgt_eq _ L h]
    rfl

end Cert.Proof.QkvR

end
-- ==== Proof.QkvC.lean ====
module

public import proofs.«01_k».proof.Defs
public import proofs.«01_k».proof.Proof.QkvK
public import proofs.«01_k».proof.Proof.QkvN
public import proofs.«01_k».proof.Proof.QkvR
public import Idealize.ShloMosaic.Adequacy
public import Idealize.ShloMosaic.Init

@[expose] public section

noncomputable section

/-! The claims about the projection to the queries, keys and values. -/

namespace Cert.Proof.QkvC

open Idealize.ShloMosaic Idealize.ShloMosaic.TcCoe Idealize.SL.Sem

/-- The printed kernel runs, keeps its operands and ends with every counter at zero. -/
theorem frame_printed : Cert.quiescent_Qkv := fun m g hpre => Cert.Qkv.Gen.frame (F := Bits) m g (QkvK.ok m (ProjP.lt_of_pre _ _ _ _ (hpre 0)))

/-- So does the idealized kernel, -/
theorem lt (m : (ℓ : Loc Cert.QkvIdeal.nD Cert.QkvIdeal.τ Cert.QkvIdeal.sig) → Buf (Elt Ideal) ℓ) (hpre : Cert.Pre_QkvIdeal m) : (QkvI.lay m).toNat < 4 :=
  ProjP.lt_of_pre _ _ _ _ (hpre 0)
theorem frame_ideal : Cert.quiescent_QkvIdeal := fun m g hpre => Cert.QkvIdeal.Gen.frame (F := Ideal) m g (QkvI.ok m (lt m hpre))

/-- and the reference, which declares no counter. -/
theorem frame_ref : Cert.quiescent_QkvReferenceIdeal := fun m g _ =>
  (θ_run Cert.QkvReferenceIdeal.defs _ _).mono (fun r h => ⟨fun c => (h c).2, Idealize.ShloMosaic.sem_eq_zero_of_no_sems (by decide) r.2⟩) (QkvQ.run (F := Ideal) m g)
theorem frame_ref_pre : Cert.quiescent_QkvReferenceIdeal_pre_layer_in_proj := fun m g _ => frame_ref m g trivial

/-- The idealization rewrote nothing. -/
theorem preserves : Cert.preserves_Qkv_QkvIdeal := trivial

/-- At a layer of the stack both programs end with the projection's columns on their operands. -/
theorem algebraic : Cert.algebraic_QkvIdeal_QkvReferenceIdeal := by
  intro m g m' g' hpre hag
  have hl := lt m hpre
  refine ⟨fun c => QkvN.res (QkvN.L m hl) (QkvN.ax m c) (QkvN.ag m c) (QkvN.aw m c), ?_, ?_⟩
  · refine (θ_run Cert.QkvIdeal.defs _ _).mono (fun r h c => ⟨((h.1 c).1 3).trans (QkvN.final m hl c), h.2.1 c⟩)
      (θ_run_and (Cert.QkvIdeal.Gen.run_main (F := Ideal) m g (QkvI.ok m hl)) (Cert.QkvIdeal.Gen.frame (F := Ideal) m g (QkvI.ok m hl)))
  · refine (θ_run Cert.QkvReferenceIdeal.defs _ _).mono (fun r h c => ⟨(h c).1.trans ?_, (h c).2⟩) (QkvQ.run (F := Ideal) m' g')
    obtain ⟨h0, h1, h2, h3⟩ := hag c
    rw [h0, h1, h2, h3]
    have c0 : c = 0 := Subsingleton.elim _ _
    subst c0
    exact QkvR.ref_eq (QkvN.L m hl) _ _ _ _ rfl

end Cert.Proof.QkvC

end
-- ==== Proof.RestI.lean ====
module

public import proofs.«01_k».proof.Proof.Gen.RestIdeal
public import proofs.«01_k».proof.Proof.Gen.RestIdeal.Frame
public import proofs.«01_k».proof.Proof.ProjP

@[expose] public section

noncomputable section

/-! The idealized projection to the convolution and the recurrence runs: the blocks of its operands are inside them where the layer's number is. -/

namespace Cert.Proof.RestI

open Cert.RestIdeal Cert.RestIdeal.Gen Idealize.ShloMosaic Idealize.ShloMosaic.TcCoe Idealize.SL.Sem

variable {F : FTy → Type} [FloatOps F] (m : (ℓ : Loc nD τ sig) → Buf (Elt F) ℓ)

/-- The layer's number, as the launch finds it. -/
abbrev lay : BitVec 32 := m ((0 : Dev nD).tc.loc main_arg0) (ix1 0)

/-- The index maps read the layer's number. -/
theorem at_tbl (r : Rect S1) (hr : r.shape.numel = 1) : (tbl m).at 0 r hr = lay m := by
  show (tbl m) 0 _ = _
  exact congrArg (m ((0 : Dev nD).tc.loc main_arg0)) (funext fun a => by match a with | ⟨0, _⟩ => exact Subsingleton.elim (α := Fin 1) _ _)

/-- The block of columns a coordinate takes. -/
theorem blk : ∀ j : Fin 2, (Scalar.addi 3#32 (BitVec.ofNat 32 j.val)).toNat = 3 + j.val := by decide

/-- A layer of the stack puts every block inside its operand, at whole words. -/
theorem ok (h : (lay m).toNat < 4) : Ok m := by
  unfold Ok ok0
  have c0 (i : grid0.Coords) : (i 1).val < 2 := (i 1).isLt
  have c1 (i : grid0.Coords) : (Scalar.addi 3#32 (BitVec.ofNat 32 (i 1).val)).toNat = 3 + (i 1).val := blk (i 1)
  refine ⟨fun i => ⟨fun a => ?_, .inl rfl⟩, fun i => ⟨fun a => ?_, .inr (Affine.block_words_dvd (of_decide_eq_true rfl) (by decide))⟩⟩
  all_goals
    have := c0 i
    have := c1 i
  · unfold cc0_transform_1; rw [at_tbl m]
    match a with
    | ⟨0, _⟩ => show ((lay m).toNat + 1) * 1 ≤ 4; omega
    | ⟨1, _⟩ => show (0 + 1) * 1 ≤ 1; omega
    | ⟨2, _⟩ => show (0 + 1) * 2048 ≤ 2048; omega
  · unfold cc0_transform_2; rw [at_tbl m]
    match a with
    | ⟨0, _⟩ => show ((lay m).toNat + 1) * 1 ≤ 4; omega
    | ⟨1, _⟩ => show (0 + 1) * 2048 ≤ 2048; omega
    | ⟨2, _⟩ => show ((Scalar.addi 3#32 (BitVec.ofNat 32 (i 1).val)).toNat + 1) * 1024 ≤ 5120; omega

end Cert.Proof.RestI

end
-- ==== Proof.RestV.lean ====
module

public import proofs.«01_k».proof.Proof.RestI
public import Idealize.ShloMosaic.Lib.Pipeline.Value
public import Idealize.ShloMosaic.Lib.Tactic

@[expose] public section

noncomputable section

/-! What each point of the projection to the convolution and the recurrence leaves, as the printed payloads of its blocks. -/

namespace Cert.Proof.RestV

open Cert.RestIdeal Cert.RestIdeal.Gen Idealize.ShloMosaic Idealize.ShloMosaic.TcCoe Idealize.ShloMosaic.Tactic

variable {F : FTy → Type} [FloatOps F]

theorem z2 : (![0, 0] : Fin 2 → Nat) = fun _ => 0 := by decide
theorem z3 : (![0, 0, 0] : Fin 3 → Nat) = fun _ => 0 := by decide

variable (c : Dev nD) (i : grid0.Coords) (arg3 : Memref sig .tc .vmem S1024x2048 .f32) (harg3 : arg3.IsWhole) (arg4 : Memref sig .tc .vmem S1x1x2048 .f32) (harg4 : arg4.IsWhole)
  (arg5 : Memref sig .tc .vmem S1x2048x1024 .bf16) (harg5 : arg5.IsWhole) (arg6 : Memref sig .tc .vmem S1024x1024 .f32) (harg6 : arg6.IsWhole) (arg7 : Memref sig .tc .vmem S1024x2048 .bf16) (harg7 : arg7.IsWhole)
  (x0 : Vec F S1024x2048 .f32) (x1 : Vec F S1x1x2048 .f32) (x2 : Vec F S1x2048x1024 .bf16) (xt0 : TbBuf0 (F := F) c tbM0_0) (xs0 : Vec F S1024x2048 .bf16)

/-- The first point of a block of rows leaves the normalized rows, -/
theorem sout0_A_0_eq (hc0 : cond0_0 i) : sout0_A_0 c i arg3 harg3 arg4 harg4 arg5 harg5 arg6 harg6 arg7 harg7 hc0 x0 x1 x2 xt0 = k0_pay1 x0 x1 := by
  unfold sout0_A_0
  rw [View.read_writes_eq_canon _ _ _ (scover0_A_0 c i arg3 harg3 arg4 harg4 arg5 harg5 arg6 harg6 arg7 harg7 hc0 x0 x1 x2 xt0)]
  unfold kernelRun0_A
  dsimp only
  try sl_unfold_words
  rw [View.canon_unit_zero z2]
  simp only [View.readAt_eq_ld, View.ld_unit_zero (S := S1024x2048) z2, View.ld_unit_zero (S := S1x1x2048) z3, View.ld_unit_zero (S := S1x2048x1024) z3,
    View.readCov_unit_zero (S := S1024x2048) _ z2, harg3.read_unread, harg4.read_unread, harg5.read_unread, harg7.read_unread]

/-- and its block of the result; -/
theorem out0_A_3_eq (hc0 : cond0_0 i) : out0_A_3 c i arg3 harg3 arg4 harg4 arg5 harg5 arg6 harg6 arg7 harg7 hc0 x0 x1 x2 xt0 = k0_pay2 (k0_pay1 x0 x1) x2 := by
  unfold out0_A_3
  rw [View.read_writes_eq_canon _ _ _ (cover0_A_3 c i arg3 harg3 arg4 harg4 arg5 harg5 arg6 harg6 arg7 harg7 hc0 x0 x1 x2 xt0)]
  unfold kernelRun0_A
  dsimp only
  try sl_unfold_words
  rw [View.canon_unit_zero z2]
  simp only [View.readAt_eq_ld, View.ld_unit_zero (S := S1024x2048) z2, View.ld_unit_zero (S := S1x1x2048) z3, View.ld_unit_zero (S := S1x2048x1024) z3,
    View.readCov_unit_zero (S := S1024x2048) _ z2, harg3.read_unread, harg4.read_unread, harg5.read_unread, harg7.read_unread]

/-- a later point takes the rows as they are. -/
theorem out0_B_3_eq (hc0 : ¬cond0_0 i) : out0_B_3 c i arg3 harg3 arg4 harg4 arg5 harg5 arg6 harg6 arg7 harg7 hc0 x0 x1 x2 xt0 xs0 = k0_pay2 xs0 x2 := by
  unfold out0_B_3
  rw [View.read_writes_eq_canon _ _ _ (cover0_B_3 c i arg3 harg3 arg4 harg4 arg5 harg5 arg6 harg6 arg7 harg7 hc0 x0 x1 x2 xt0 xs0)]
  unfold kernelRun0_B
  dsimp only
  try sl_unfold_words
  rw [View.canon_unit_zero z2]
  simp only [View.readAt_eq_ld, View.ld_unit_zero (S := S1024x2048) z2, View.ld_unit_zero (S := S1x1x2048) z3, View.ld_unit_zero (S := S1x2048x1024) z3,
    View.readCov_unit_zero (S := S1024x2048) _ z2, harg3.read_unread, harg4.read_unread, harg5.read_unread, harg7.read_unread]

end Cert.Proof.RestV

end
-- ==== Proof.RestN.lean ====
module

public import proofs.«01_k».proof.Proof.RestV
public import proofs.«01_k».proof.Proof.ProjS
public import Idealize.ShloMosaic.Lib.Pipeline.ValueKit
public import Idealize.ShloMosaic.Lib.Pointwise

@[expose] public section

noncomputable section

/-! The result array of the projection to the convolution and the recurrence, over the extended reals. -/

namespace Cert.Proof.RestN

open Cert.RestIdeal Cert.RestIdeal.Gen Idealize.ShloMosaic Idealize.ShloMosaic.TcCoe Cert.Proof.RestI Cert.Proof.FfnS Cert.Proof.ProjS Cert.Proof.RestV Finset

/-- The result: the projection's columns from 3072 on. -/
def res (L : Fin 4) (X : Vec Ideal SX .f32) (G : Vec Ideal SG .f32) (W : Vec Ideal SW .bf16) : Vec Ideal S8192x2048 .f32 := fun y =>
  prj L X G W (y (0 : Fin 2)) (⟨3072 + (y (1 : Fin 2)).val, by have : (y (1 : Fin 2)).val < 2048 := (y (1 : Fin 2)).isLt; omega⟩ : Fin 5120)

variable (m : (ℓ : Loc nD τ sig) → Buf (Elt Ideal) ℓ) (hl : (lay m).toNat < 4) (c : Dev nD)

/-- The operands as launched. -/
abbrev ax : Vec Ideal SX .f32 := m ((c.tc : Thread nD τ).loc main_arg1)
abbrev ag : Vec Ideal SG .f32 := m ((c.tc : Thread nD τ).loc main_arg2)
abbrev aw : Vec Ideal SW .bf16 := m ((c.tc : Thread nD τ).loc main_arg3)

/-- The layer. -/
abbrev L : Fin 4 := ⟨(lay m).toNat, hl⟩

/-- Row `a` of a point's block of rows, column `f` of its block of the result, and that column of the weight. -/
def row (t : Fin (cfgM m (ok m hl)).N) (a : Fin 1024) : Fin 8192 := ⟨1024 * (t.val / 2) + a.val, by
  have : t.val < 16 := t.isLt
  omega⟩
def col (t : Fin (cfgM m (ok m hl)).N) (f : Fin 1024) : Fin 2048 := ⟨1024 * (t.val % 2) + f.val, by omega⟩
def wcol (t : Fin (cfgM m (ok m hl)).N) (f : Fin 1024) : Fin 5120 := ⟨1024 * (3 + t.val % 2) + f.val, by omega⟩

/-- The grid's coordinates at a point. -/
theorem crd : ∀ t : Fin grid0.N, (BitVec.ofNat 32 (grid0.coords t 0).val).toNat = t.val / 2 ∧ (BitVec.ofNat 32 (grid0.coords t 1).val).toNat = t.val % 2
    ∧ (Scalar.addi 3#32 (BitVec.ofNat 32 (grid0.coords t 1).val)).toNat = 3 + t.val % 2 := by decide +kernel

theorem idx0 (t : Fin (cfgM m (ok m hl)).N) : ((cfgM m (ok m hl)).win 0).index t = ![t.val / 2, 0] := by
  show cc0_transform_0 (grid0.coords t) = _
  unfold cc0_transform_0; dsimp only; rw [(crd t).1]; rfl
theorem idx1 (t : Fin (cfgM m (ok m hl)).N) : ((cfgM m (ok m hl)).win 1).index t = ![(lay m).toNat, 0, 0] := by
  show cc0_transform_1 inb_S1_S1_0 numel1_S1 (tbl m) (grid0.coords t) = _
  unfold cc0_transform_1; rw [at_tbl m]; rfl
theorem idx2 (t : Fin (cfgM m (ok m hl)).N) : ((cfgM m (ok m hl)).win 2).index t = ![(lay m).toNat, 0, 3 + t.val % 2] := by
  show cc0_transform_2 inb_S1_S1_0 numel1_S1 (tbl m) (grid0.coords t) = _
  unfold cc0_transform_2; rw [at_tbl m]; dsimp only; rw [(crd t).2.2]; rfl
theorem idx3 (t : Fin (cfgM m (ok m hl)).N) : ((cfgM m (ok m hl)).win 3).index t = ![t.val / 2, t.val % 2] := by
  show cc0_transform_3 (grid0.coords t) = _
  unfold cc0_transform_3; dsimp only; rw [(crd t).1, (crd t).2.1]

/-- The operands' blocks at a point, by name, -/
def b0 (t : Fin (cfgM m (ok m hl)).N) : Vec Ideal S1024x2048 .f32 := iblk m (ok m hl) c 0 t
def b1 (t : Fin (cfgM m (ok m hl)).N) : Vec Ideal S1x1x2048 .f32 := iblk m (ok m hl) c 1 t
def b2 (t : Fin (cfgM m (ok m hl)).N) : Vec Ideal S1x2048x1024 .bf16 := iblk m (ok m hl) c 2 t

/-- and entry by entry. -/
theorem blk0 (t : Fin (cfgM m (ok m hl)).N) (a : Fin 1024) (d : Fin 2048) : b0 m hl c t (ix2 a d) = ax m c (ix2 (row m hl t a) d) := by
  have e := idx0 m hl t
  unfold b0 iblk
  refine Eq.trans (b := ax m c ((((cfgM m (ok m hl)).win 0).blk t).view.emb (ix2 a d))) rfl (congrArg (ax m c) (funext fun x => Fin.ext ?_))
  match x with
  | ⟨0, _⟩ => blk_simp [e]; show t.val / 2 * 1024 + a.val = 1024 * (t.val / 2) + a.val; omega
  | ⟨1, _⟩ => blk_simp [e]

theorem blk1 (t : Fin (cfgM m (ok m hl)).N) (d : Fin 2048) : b1 m hl c t (ix3 0 0 d) = ag m c (ix3 (L m hl) 0 d) := by
  have e := idx1 m hl t
  unfold b1 iblk
  refine Eq.trans (b := ag m c ((((cfgM m (ok m hl)).win 1).blk t).view.emb (ix3 0 0 d))) rfl (congrArg (ag m c) (funext fun x => Fin.ext ?_))
  match x with
  | ⟨0, _⟩ => blk_simp [e]; rfl
  | ⟨1, _⟩ => blk_simp [e]
  | ⟨2, _⟩ => blk_simp [e]

theorem blk2 (t : Fin (cfgM m (ok m hl)).N) (d : Fin 2048) (f : Fin 1024) : b2 m hl c t (ix3 0 d f) = aw m c (ix3 (L m hl) d (wcol m hl t f)) := by
  have e := idx2 m hl t
  unfold b2 iblk
  refine Eq.trans (b := aw m c ((((cfgM m (ok m hl)).win 2).blk t).view.emb (ix3 0 d f))) rfl (congrArg (aw m c) (funext fun x => Fin.ext ?_))
  match x with
  | ⟨0, _⟩ => blk_simp [e]; rfl
  | ⟨1, _⟩ => blk_simp [e]
  | ⟨2, _⟩ => blk_simp [e]; show (3 + t.val % 2) * 1024 + f.val = 1024 * (3 + t.val % 2) + f.val; omega

/-- The printed payloads, entry by entry: the norm of a row, -/
theorem p1 (h : Vec Ideal S1024x2048 .f32) (g : Vec Ideal S1x1x2048 .f32) (a : Fin 1024) (d : Fin 2048) :
    k0_pay1 h g (ix2 a d) = nrm (fun k => h (ix2 a k)) (fun k => g (ix3 0 0 k)) d := by
  unfold nrm
  pointwise [k0_pay1]

/-- and the product with the block of the weight. -/
theorem p2 (v : Vec Ideal S1024x2048 .bf16) (w : Vec Ideal S1x2048x1024 .bf16) (a : Fin 1024) (f : Fin 1024) :
    k0_pay2 v w (ix2 a f) = ∑ k, v (ix2 a k) * w (ix3 0 k f) := by
  pointwise [k0_pay2]

/-- What each point leaves, over its blocks: the first of a block of rows, -/
theorem outsA0 (t : Fin (cfgM m (ok m hl)).N) (h0 : t.val % 2 = 0) : (outsAt0 m (ok m hl) c t.val t.isLt).2 = k0_pay1 (b0 m hl c t) (b1 m hl c t) := by
  refine (congrArg (fun z => z.2) (outsAt0_A m (ok m hl) c t h0)).trans ?_
  dsimp only
  exact sout0_A_0_eq (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) scM0_0 (Memref.isWhole_whole _) (b0 m hl c t) (b1 m hl c t) (b2 m hl c t) (tbl m 0) _
theorem outsA3 (t : Fin (cfgM m (ok m hl)).N) (h0 : t.val % 2 = 0) : (outsAt0 m (ok m hl) c t.val t.isLt).1 = k0_pay2 (k0_pay1 (b0 m hl c t) (b1 m hl c t)) (b2 m hl c t) := by
  refine (congrArg (fun z => z.1) (outsAt0_A m (ok m hl) c t h0)).trans ?_
  dsimp only
  exact out0_A_3_eq (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) scM0_0 (Memref.isWhole_whole _) (b0 m hl c t) (b1 m hl c t) (b2 m hl c t) (tbl m 0) _

/-- and a later one, which keeps the rows. -/
theorem outsB0 (t : Fin (cfgM m (ok m hl)).N) (h0 : ¬t.val % 2 = 0) : (outsAt0 m (ok m hl) c t.val t.isLt).2 = (outsAt0 m (ok m hl) c (t.val - 1) (Nat.lt_of_le_of_lt (Nat.sub_le _ _) t.isLt)).2 := by
  refine (congrArg (fun z => z.2) (outsAt0_B m (ok m hl) c t h0)).trans ?_
  dsimp only
  unfold sout0_B_0
  rfl
theorem outsB3 (t : Fin (cfgM m (ok m hl)).N) (h0 : ¬t.val % 2 = 0) : (outsAt0 m (ok m hl) c t.val t.isLt).1 = k0_pay2 (outsAt0 m (ok m hl) c (t.val - 1) (Nat.lt_of_le_of_lt (Nat.sub_le _ _) t.isLt)).2 (b2 m hl c t) := by
  refine (congrArg (fun z => z.1) (outsAt0_B m (ok m hl) c t h0)).trans ?_
  dsimp only
  exact out0_B_3_eq (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) scM0_0 (Memref.isWhole_whole _) (b0 m hl c t) (b1 m hl c t) (b2 m hl c t) (tbl m 0) (outsAt0 m (ok m hl) c (t.val - 1) (Nat.lt_of_le_of_lt (Nat.sub_le _ _) t.isLt)).2 _

/-- So at every point the result's block is the product of what the scratch then holds. -/
theorem outs3 (t : Fin (cfgM m (ok m hl)).N) : (outsAt0 m (ok m hl) c t.val t.isLt).1 = k0_pay2 (outsAt0 m (ok m hl) c t.val t.isLt).2 (b2 m hl c t) := by
  by_cases h0 : t.val % 2 = 0
  · rw [outsA3 m hl c t h0, outsA0 m hl c t h0]
  · rw [outsB3 m hl c t h0, outsB0 m hl c t h0]

/-- The first point of a block of rows leaves its normalized rows. -/
theorem first (t : Fin (cfgM m (ok m hl)).N) (h0 : t.val % 2 = 0) (a : Fin 1024) (d : Fin 2048) :
    (outsAt0 m (ok m hl) c t.val t.isLt).2 (ix2 a d) = u (L m hl) (ax m c) (ag m c) (row m hl t a) d := by
  rw [outsA0 m hl c t h0, p1]
  simp only [blk0, blk1]
  rfl

/-- After every point the scratch holds the normalized rows of its block of rows. -/
theorem state (n : ℕ) : ∀ hn : n < (cfgM m (ok m hl)).N, ∀ a d,
    (outsAt0 m (ok m hl) c n hn).2 (ix2 a d) = u (L m hl) (ax m c) (ag m c) (row m hl ⟨n, hn⟩ a) d := by
  induction n with
  | zero =>
    intro hn
    exact first m hl c ⟨0, hn⟩ rfl
  | succ n ih =>
    intro hn a d
    by_cases h0 : (n + 1) % 2 = 0
    · exact first m hl c ⟨n + 1, hn⟩ h0 a d
    · have e : row m hl ⟨n + 1, hn⟩ a = row m hl ⟨n, Nat.lt_of_succ_lt hn⟩ a := Fin.ext (by
        show 1024 * ((n + 1) / 2) + a.val = 1024 * (n / 2) + a.val
        omega)
      rw [e]
      exact (congrFun (outsB0 m hl c ⟨n + 1, hn⟩ h0) _).trans (ih (Nat.lt_of_succ_lt hn) a d)

/-- The block a point leaves is the projection on its rows and columns. -/
theorem out (t : Fin (cfgM m (ok m hl)).N) (a f : Fin 1024) :
    (outsAt0 m (ok m hl) c t.val t.isLt).1 (ix2 a f) = res (L m hl) (ax m c) (ag m c) (aw m c) (ix2 (row m hl t a) (col m hl t f)) := by
  have hc : (⟨3072 + (col m hl t f).val, by have := (col m hl t f).isLt; omega⟩ : Fin 5120) = wcol m hl t f := Fin.ext (by
    show 3072 + (1024 * (t.val % 2) + f.val) = 1024 * (3 + t.val % 2) + f.val
    omega)
  rw [outs3 m hl c t, p2]
  refine Eq.trans (b := prj (L m hl) (ax m c) (ag m c) (aw m c) (row m hl t a) (wcol m hl t f)) ?_ (congrArg (prj (L m hl) (ax m c) (ag m c) (aw m c) (row m hl t a)) hc.symm)
  unfold prj
  refine sum_congr rfl fun k _ => ?_
  rw [blk2 m hl c t k f, state m hl c t.val t.isLt a k]

/-- The points' blocks cover the result. -/
theorem cov : ((cfgM m (ok m hl)).win 3).Covers := by
  refine ⟨fun a => ?_, fun β => ?_⟩
  · match a with
    | ⟨0, _⟩ => show 0 < 1024; omega
    | ⟨1, _⟩ => show 0 < 1024; omega
  have b0 : (β (0 : Fin 2)).val < 8 := lt_of_lt_of_le (β (0 : Fin 2)).isLt (by show (8192 + 1024 - 1) / 1024 ≤ 8; omega)
  have b1 : (β (1 : Fin 2)).val < 2 := lt_of_lt_of_le (β (1 : Fin 2)).isLt (by show (2048 + 1024 - 1) / 1024 ≤ 2; omega)
  refine ⟨⟨2 * (β (0 : Fin 2)).val + (β (1 : Fin 2)).val, by show _ < 16; omega⟩, flush0_3 (adm m (ok m hl)) _,
    fun a => ⟨?_, Or.inl rfl⟩⟩
  rw [idx3 m hl]
  match a with
  | ⟨0, _⟩ => show (2 * (β (0 : Fin 2)).val + (β (1 : Fin 2)).val) / 2 = (β (0 : Fin 2)).val; omega
  | ⟨1, _⟩ => show (2 * (β (0 : Fin 2)).val + (β (1 : Fin 2)).val) % 2 = (β (1 : Fin 2)).val; omega

/-- The result array after the run. -/
theorem final : (dats m (ok m hl) 0 c).arrAt 3 (cfgM m (ok m hl)).N = res (L m hl) (ax m c) (ag m c) (aw m c) := by
  refine (dats m (ok m hl) 0 c).arrAt_eq_of_covers 3 _ (cov m hl) fun t hf y => ?_
  have e := idx3 m hl t
  have h0 : (y (0 : Fin 2)).val < 1024 := (y (0 : Fin 2)).isLt
  have h1 : (y (1 : Fin 2)).val < 1024 := (y (1 : Fin 2)).isLt
  blk_simp
  rw [after0_3]
  have hz : (((cfgM m (ok m hl)).win 3).blk t).view.emb y = ix2 (row m hl t (y (0 : Fin 2))) (col m hl t (y (1 : Fin 2))) := funext fun x => Fin.ext (by
    match x with
    | ⟨0, _⟩ => blk_simp [e]; show t.val / 2 * 1024 + (y (0 : Fin 2)).val = 1024 * (t.val / 2) + (y (0 : Fin 2)).val; omega
    | ⟨1, _⟩ => blk_simp [e]; show t.val % 2 * 1024 + (y (1 : Fin 2)).val = 1024 * (t.val % 2) + (y (1 : Fin 2)).val; omega)
  have hy : y = ix2 (y (0 : Fin 2)) (y (1 : Fin 2)) := funext fun x => by
    match x with
    | ⟨0, _⟩ => rfl
    | ⟨1, _⟩ => rfl
  rw [hz]
  exact (congrArg (outsAt0 m (ok m hl) c t.val t.isLt).1 hy).trans (out m hl c t (y (0 : Fin 2)) (y (1 : Fin 2)))

end Cert.Proof.RestN

end
-- ==== Proof.RestQ.lean ====
module

public import proofs.«01_k».proof.Proof.Gen.RestReferenceIdeal
public import Idealize.ShloMosaic.Lib.StableHlo.RunClose
public import Idealize.ShloMosaic.Lib.StableHlo.RunRead

@[expose] public section

noncomputable section

/-! The run of the reference of the projection to the convolution and the recurrence, in two parts, for any float values: the normalized rows, and the result. -/

namespace Cert.Proof.RestQ

open Cert.RestReferenceIdeal Cert.RestReferenceIdeal.Gen Idealize.ShloMosaic Idealize.ShloMosaic.TcCoe Idealize.SL.Sem Idealize.ShloMosaic.StableHlo

variable {F : FTy → Type} [FloatOps F]

/-- The layer's word, and where its parameters start. -/
def st (x : (⟨S1, .i32⟩ : BufTy).Contents (Elt F)) : (⟨S_, .i32⟩ : BufTy).Contents (Elt F) := shapeCast _ x shapeCasts_S1_S_
def at3 (s : (⟨S_, .i32⟩ : BufTy).Contents (Elt F)) (k : Fin 3) : ℤ :=
  ((![s, constantI S_ 32 0#32, constantI S_ 32 0#32] : Fin 3 → (⟨S_, .i32⟩ : BufTy).Contents (Elt F)) k (Shape.Idx.first h_S_)).toInt

/-- The layer's parameters. -/
def gain (p : (⟨S4x1x2048, .f32⟩ : BufTy).Contents (Elt F)) (s : (⟨S_, .i32⟩ : BufTy).Contents (Elt F)) : (⟨S1x2048, .f32⟩ : BufTy).Contents (Elt F) :=
  shapeCast _ (Host.dynamicSlice S1x1x2048 p (at3 (F := F) s) sliceFits_S4x1x2048_S1x1x2048) shapeCasts_S1x1x2048_S1x2048
def wgt (p : (⟨S4x2048x5120, .bf16⟩ : BufTy).Contents (Elt F)) (s : (⟨S_, .i32⟩ : BufTy).Contents (Elt F)) : (⟨S2048x5120, .f32⟩ : BufTy).Contents (Elt F) :=
  extf .f32 (shapeCast _ (Host.dynamicSlice S1x2048x5120 p (at3 (F := F) s) sliceFits_S4x2048x5120_S1x2048x5120) shapeCasts_S1x2048x5120_S2048x5120 : (⟨S2048x5120, .bf16⟩ : BufTy).Contents (Elt F)) bitsLt_bf16_f32

/-- The normalized rows, scaled. -/
def rms (x : (⟨S8192x2048, .f32⟩ : BufTy).Contents (Elt F)) (g : (⟨S1x2048, .f32⟩ : BufTy).Contents (Elt F)) : (⟨S8192x2048, .f32⟩ : BufTy).Contents (Elt F) :=
  mulf (mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32)))))) (broadcastInDim S8192x2048 ![0, 1] bcast_S1x2048_S8192x2048_0_1 g)

/-- The projection. -/
def pr (x : (⟨S8192x2048, .f32⟩ : BufTy).Contents (Elt F)) (w : (⟨S2048x5120, .f32⟩ : BufTy).Contents (Elt F)) : (⟨S8192x5120, .f32⟩ : BufTy).Contents (Elt F) :=
  Host.dotGeneral dot_S8192x2048_S2048x5120_S8192x5120_1_0_0_1_n_n none x w

/-- Part 1: its operations, what they write, that they keep the rest, and its value. -/
abbrev ops1 : List (HloOp τ sig (Elt F)) :=
  [ reshape main_arg0 main_v0 (rfl : (.i32 : EltTy) = .i32) shapeCasts_S1_S_,
    nullary main_c (constantI S_ 32 0#32),
    nullary main_c_0 (constantI S_ 32 0#32),
    unaryIndexed main_arg2 ![main_v0, main_c, main_c_0] ⟨S_, .i32⟩ main_v1 ((fun x i => Host.dynamicSlice S1x1x2048 x (fun k => (i k (Shape.Idx.first h_S_)).toInt) sliceFits_S4x1x2048_S1x1x2048) : (⟨S4x1x2048, .f32⟩ : BufTy).Contents (Elt F) → (Fin 3 → (⟨S_, .i32⟩ : BufTy).Contents (Elt F)) → (⟨S1x1x2048, .f32⟩ : BufTy).Contents (Elt F)),
    reshape main_v1 main_v2 (rfl : (.f32 : EltTy) = .f32) shapeCasts_S1x1x2048_S1x2048,
    binary main_arg1 main_arg1 main_v3 (mulf : (⟨S8192x2048, .f32⟩ : BufTy).Contents (Elt F) → (⟨S8192x2048, .f32⟩ : BufTy).Contents (Elt F) → (⟨S8192x2048, .f32⟩ : BufTy).Contents (Elt F)),
    nullary main_cst (constant S_ .f32 0x00000000#32),
    binary main_v3 main_cst main_v4 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    unary main_v4 main_v5 (broadcastInDim S8192x1 ![0] bcast_S8192_S8192x1_0 : (⟨S8192, .f32⟩ : BufTy).Contents (Elt F) → (⟨S8192x1, .f32⟩ : BufTy).Contents (Elt F)),
    nullary main_cst_1 (constant S_ .f32 0x45000000#32),
    unary main_cst_1 main_v6 (broadcastInDim S8192x1 ![] bcast_S_S8192x1 : (⟨S_, .f32⟩ : BufTy).Contents (Elt F) → (⟨S8192x1, .f32⟩ : BufTy).Contents (Elt F)),
    binary main_v5 main_v6 main_v7 (Host.divf : (⟨S8192x1, .f32⟩ : BufTy).Contents (Elt F) → (⟨S8192x1, .f32⟩ : BufTy).Contents (Elt F) → (⟨S8192x1, .f32⟩ : BufTy).Contents (Elt F)),
    nullary main_cst_2 (constant S_ .f32 0x358637BD#32),
    unary main_cst_2 main_v8 (broadcastInDim S8192x1 ![] bcast_S_S8192x1 : (⟨S_, .f32⟩ : BufTy).Contents (Elt F) → (⟨S8192x1, .f32⟩ : BufTy).Contents (Elt F)),
    binary main_v7 main_v8 main_v9 (addf : (⟨S8192x1, .f32⟩ : BufTy).Contents (Elt F) → (⟨S8192x1, .f32⟩ : BufTy).Contents (Elt F) → (⟨S8192x1, .f32⟩ : BufTy).Contents (Elt F)),
    unary main_v9 main_v10 (Host.rsqrt : (⟨S8192x1, .f32⟩ : BufTy).Contents (Elt F) → (⟨S8192x1, .f32⟩ : BufTy).Contents (Elt F)),
    unary main_v10 main_v11 (broadcastInDim S8192x2048 ![0, 1] bcast_S8192x1_S8192x2048_0_1 : (⟨S8192x1, .f32⟩ : BufTy).Contents (Elt F) → (⟨S8192x2048, .f32⟩ : BufTy).Contents (Elt F)),
    binary main_arg1 main_v11 main_v12 (mulf : (⟨S8192x2048, .f32⟩ : BufTy).Contents (Elt F) → (⟨S8192x2048, .f32⟩ : BufTy).Contents (Elt F) → (⟨S8192x2048, .f32⟩ : BufTy).Contents (Elt F)),
    unary main_v2 main_v13 (broadcastInDim S8192x2048 ![0, 1] bcast_S1x2048_S8192x2048_0_1 : (⟨S1x2048, .f32⟩ : BufTy).Contents (Elt F) → (⟨S8192x2048, .f32⟩ : BufTy).Contents (Elt F)),
    binary main_v12 main_v13 main_v14 (mulf : (⟨S8192x2048, .f32⟩ : BufTy).Contents (Elt F) → (⟨S8192x2048, .f32⟩ : BufTy).Contents (Elt F) → (⟨S8192x2048, .f32⟩ : BufTy).Contents (Elt F))]
abbrev wr1 : List (Ref sig .tc) := [main_v0, main_c, main_c_0, main_v1, main_v2, main_v3, main_cst, main_v4, main_v5, main_cst_1, main_v6, main_v7, main_cst_2, main_v8, main_v9, main_v10, main_v11, main_v12, main_v13, main_v14]
theorem keep1 {r : Ref sig .tc} (hr : r ∉ wr1) (V : Valuation τ sig (Elt F)) : after (ops1 (F := F)) V (Proc.devRef .tc r) = V (Proc.devRef .tc r) :=
  after_unwritten wr1 rfl hr V
theorem sub1 : (ops1 : List (HloOp τ sig (Elt F))).Forall fun op => op.bufs ⊆ tcRefs τ sig := by simp [List.forall_cons]
set_option maxHeartbeats 2000000 in
theorem val1 (V : Valuation τ sig (Elt F)) : after (ops1 (F := F)) V (Proc.devRef .tc main_v14) = rms (V (Proc.devRef .tc main_arg1)) (gain (V (Proc.devRef .tc main_arg2)) (st (F := F) (V (Proc.devRef .tc main_arg0)))) := by
  unfold ops1; simp only [TRef.binary, TRef.nullary, TRef.unary, TRef.toBuf, TRef.ofBuf, cast_eq]; after_results_entrywise []
theorem val0 (V : Valuation τ sig (Elt F)) : after (ops1 (F := F)) V (Proc.devRef .tc main_v0) = st (F := F) (V (Proc.devRef .tc main_arg0)) := by
  after_results_entrywise []

/-- Part 2: its operations, what they write, that they keep the rest, and its value. -/
abbrev ops2 : List (HloOp τ sig (Elt F)) :=
  [ nullary main_c_3 (constantI S_ 32 0#32),
    nullary main_c_4 (constantI S_ 32 0#32),
    unaryIndexed main_arg3 ![main_v0, main_c_3, main_c_4] ⟨S_, .i32⟩ main_v15 ((fun x i => Host.dynamicSlice S1x2048x5120 x (fun k => (i k (Shape.Idx.first h_S_)).toInt) sliceFits_S4x2048x5120_S1x2048x5120) : (⟨S4x2048x5120, .bf16⟩ : BufTy).Contents (Elt F) → (Fin 3 → (⟨S_, .i32⟩ : BufTy).Contents (Elt F)) → (⟨S1x2048x5120, .bf16⟩ : BufTy).Contents (Elt F)),
    reshape main_v15 main_v16 (rfl : (.bf16 : EltTy) = .bf16) shapeCasts_S1x2048x5120_S2048x5120,
    unary main_v16 main_v17 ((extf .f32 · bitsLt_bf16_f32) : (⟨S2048x5120, .bf16⟩ : BufTy).Contents (Elt F) → (⟨S2048x5120, .f32⟩ : BufTy).Contents (Elt F)),
    binary main_v14 main_v17 main_v18 ((fun l r => Host.dotGeneral dot_S8192x2048_S2048x5120_S8192x5120_1_0_0_1_n_n none l r) : (⟨S8192x2048, .f32⟩ : BufTy).Contents (Elt F) → (⟨S2048x5120, .f32⟩ : BufTy).Contents (Elt F) → (⟨S8192x5120, .f32⟩ : BufTy).Contents (Elt F)),
    unary main_v18 main_v19 ((extractStridedSlice S8192x2048 ![0, 3072] · slices_S8192x5120_S8192x2048_0_3072) : (⟨S8192x5120, .f32⟩ : BufTy).Contents (Elt F) → (⟨S8192x2048, .f32⟩ : BufTy).Contents (Elt F))]
abbrev wr2 : List (Ref sig .tc) := [main_c_3, main_c_4, main_v15, main_v16, main_v17, main_v18, main_v19]
theorem keep2 {r : Ref sig .tc} (hr : r ∉ wr2) (V : Valuation τ sig (Elt F)) : after (ops2 (F := F)) V (Proc.devRef .tc r) = V (Proc.devRef .tc r) :=
  after_unwritten wr2 rfl hr V
theorem sub2 : (ops2 : List (HloOp τ sig (Elt F))).Forall fun op => op.bufs ⊆ tcRefs τ sig := by simp [List.forall_cons]
set_option maxHeartbeats 2000000 in
theorem val2 (V : Valuation τ sig (Elt F)) : after (ops2 (F := F)) V (Proc.devRef .tc main_v19) = extractStridedSlice S8192x2048 ![0, 3072] (pr (V (Proc.devRef .tc main_v14)) (wgt (V (Proc.devRef .tc main_arg3)) (V (Proc.devRef .tc main_v0)))) slices_S8192x5120_S8192x2048_0_3072 := by
  unfold ops2; simp only [TRef.binary, TRef.nullary, TRef.unary, TRef.toBuf, TRef.ofBuf, cast_eq]; after_results_entrywise []

/-- All of them, in order. -/
abbrev ops : List (HloOp τ sig (Elt F)) := ops1 ++ ops2

theorem after_parts (l k : List (HloOp τ sig (Elt F))) (V : Valuation τ sig (Elt F)) : after (l ++ k) V = after k (after l V) := by
  induction l generalizing V with
  | nil => rfl
  | cons o l ih => exact ih (o.result V)

set_option maxRecDepth 8192 in
set_option maxHeartbeats 4000000 in
theorem main_ops (c : Dev nD) : main (F := F) c = seq ops := rfl

theorem noRefs : (Finset.univ.filter fun b : Ref sig .tc => b.isScoped) = ∅ := by decide
theorem noSems : (Finset.univ.filter fun sm : SemLoc sig => sm.isScoped .tc) = ∅ := by decide

/-- The result, over the operands. -/
def res (x0 : (⟨S1, .i32⟩ : BufTy).Contents (Elt F)) (x1 : (⟨S8192x2048, .f32⟩ : BufTy).Contents (Elt F)) (x2 : (⟨S4x1x2048, .f32⟩ : BufTy).Contents (Elt F)) (x3 : (⟨S4x2048x5120, .bf16⟩ : BufTy).Contents (Elt F)) : (⟨S8192x2048, .f32⟩ : BufTy).Contents (Elt F) :=
  extractStridedSlice S8192x2048 ![0, 3072] (pr (rms x1 (gain x2 (st (F := F) x0))) (wgt (x3) (st (F := F) x0))) slices_S8192x5120_S8192x2048_0_3072

/-- What none of the operations writes is kept. -/
theorem keep {r : Ref sig .tc} (h1 : r ∉ wr1) (h2 : r ∉ wr2) (V : Valuation τ sig (Elt F)) :
    after (ops (F := F)) V (Proc.devRef .tc r) = V (Proc.devRef .tc r) := by
  unfold ops
  rw [after_parts, keep2 h2, keep1 h1]

theorem val (V : Valuation τ sig (Elt F)) : after (ops (F := F)) V (Proc.devRef .tc main_v19)
    = res (V (Proc.devRef .tc main_arg0)) (V (Proc.devRef .tc main_arg1)) (V (Proc.devRef .tc main_arg2)) (V (Proc.devRef .tc main_arg3)) := by
  unfold ops res
  rw [after_parts, val2, keep1 (r := main_arg3) (by decide), val1, val0]

/-- The run: the result buffer holds the result, and the operands are as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = res (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v19).trans (val _),
      (h c main_arg0).trans (keep (by decide) (by decide) _),
      (h c main_arg1).trans (keep (by decide) (by decide) _),
      (h c main_arg2).trans (keep (by decide) (by decide) _),
      (h c main_arg3).trans (keep (by decide) (by decide) _)⟩)
    (run_seq noRefs noSems defs main (fun _ => ops) main_ops
      (fun _ => by simp only [ops, List.forall_append]; exact ⟨sub1, sub2⟩) m ρ)

end Cert.Proof.RestQ

end
-- ==== Proof.RestR.lean ====
module

public import proofs.«01_k».proof.Proof.RestQ
public import proofs.«01_k».proof.Proof.RestN
public import Idealize.ShloMosaic.Lib.DynamicIndex
public import Idealize.ShloMosaic.Lib.Pointwise

@[expose] public section

noncomputable section

/-! The result of the reference of the projection to the convolution and the recurrence, entry by entry, over the extended reals. -/

namespace Cert.Proof.RestR

open Cert.RestReferenceIdeal Cert.RestReferenceIdeal.Gen Idealize.ShloMosaic Cert.Proof.FfnS Cert.Proof.ProjS Cert.Proof.RestQ

/-- Where a layer's parameters start. -/
theorem start (x0 : IVec S1 32) (L : Fin 4) (h : (x0 (ix1 0)).toNat = L.val) (k : Fin 3) : at3 (F := Ideal) (st (F := Ideal) x0) k = ((![L.val, 0, 0] : Fin 3 → ℕ) k : ℤ) := by
  match k with
  | ⟨0, _⟩ =>
    have e : st (F := Ideal) x0 (Shape.Idx.first h_S_) = x0 (ix1 0) := by
      unfold st shapeCast
      exact congrArg x0 (funext fun a => by match a with | ⟨0, _⟩ => exact Subsingleton.elim (α := Fin 1) _ _)
    show (st (F := Ideal) x0 (Shape.Idx.first h_S_)).toInt = (L.val : ℤ)
    rw [e, BitVec.toInt_eq_toNat_cond, if_pos (by omega), h]
  | ⟨1, _⟩ => rfl
  | ⟨2, _⟩ => rfl

variable (s : IVec S_ 32) (L : Fin 4) (h : ∀ k, at3 (F := Ideal) s k = ((![L.val, 0, 0] : Fin 3 → ℕ) k : ℤ))
include h

/-- The layer's parameters, entry by entry. -/
theorem gain_eq (p : FVec Ideal S4x1x2048 .f32) (d : Fin 2048) : gain (F := Ideal) p s (ix2 0 d) = p (ix3 L 0 d) := by
  unfold gain
  rw [Host.dynamicSlice_eq_extractStridedSlice S1x1x2048 p _ ![L.val, 0, 0] _ ⟨rfl, fun k => by
    match k with
    | ⟨0, _⟩ => show L.val + 1 ≤ 4; omega
    | ⟨1, _⟩ => show 0 + 1 ≤ 1; omega
    | ⟨2, _⟩ => show 0 + 2048 ≤ 2048; omega⟩ h]
  pointwise

theorem wgt_eq (p : FVec Ideal S4x2048x5120 .bf16) (d : Fin 2048) (f : Fin 5120) : wgt (F := Ideal) p s (ix2 d f) = p (ix3 L d f) := by
  unfold wgt
  rw [Host.dynamicSlice_eq_extractStridedSlice S1x2048x5120 p _ ![L.val, 0, 0] _ ⟨rfl, fun k => by
    match k with
    | ⟨0, _⟩ => show L.val + 1 ≤ 4; omega
    | ⟨1, _⟩ => show 0 + 2048 ≤ 2048; omega
    | ⟨2, _⟩ => show 0 + 5120 ≤ 5120; omega⟩ h]
  pointwise

omit h

/-- The reference's steps, entry by entry. -/
theorem rms_eq (x : FVec Ideal S8192x2048 .f32) (g : FVec Ideal S1x2048 .f32) (n : Fin 8192) (d : Fin 2048) :
    rms (F := Ideal) x g (ix2 n d) = nrm (fun k => x (ix2 n k)) (fun k => g (ix2 0 k)) d := by
  pointwise [rms]
  rfl
theorem pr_eq (x : FVec Ideal S8192x2048 .f32) (w : FVec Ideal S2048x5120 .f32) (n : Fin 8192) (f : Fin 5120) :
    pr (F := Ideal) x w (ix2 n f) = ∑ d, x (ix2 n d) * w (ix2 d f) := by
  pointwise [pr]

variable (x0 : IVec S1 32) (x1 : FVec Ideal S8192x2048 .f32) (x2 : FVec Ideal S4x1x2048 .f32) (x3 : FVec Ideal S4x2048x5120 .bf16)

/-- The reference's result is the projection's columns. -/
theorem ref_eq (hL : (x0 (ix1 0)).toNat = L.val) : res (F := Ideal) x0 x1 x2 x3 = RestN.res L x1 x2 x3 := by
  have h := start x0 L hL
  funext y
  obtain ⟨n, f, rfl⟩ : ∃ n f, y = ix2 n f := ⟨y 0, y 1, funext fun a => by
    match a with
    | ⟨0, _⟩ => rfl
    | ⟨1, _⟩ => rfl⟩
  refine Eq.trans (b := pr (F := Ideal) (rms (F := Ideal) x1 (gain (F := Ideal) x2 (st (F := Ideal) x0))) (wgt (F := Ideal) x3 (st (F := Ideal) x0))
    (ix2 n (⟨3072 + f.val, by have : f.val < 2048 := f.isLt; omega⟩ : Fin 5120))) ?_ ?_
  · unfold res
    pointwise
  · rw [pr_eq]
    simp only [rms_eq, gain_eq _ L h, wgt_eq _ L h]
    rfl

end Cert.Proof.RestR

end
-- ==== Proof.RestC.lean ====
module

public import proofs.«01_k».proof.Defs
public import proofs.«01_k».proof.Proof.RestK
public import proofs.«01_k».proof.Proof.RestN
public import proofs.«01_k».proof.Proof.RestR
public import Idealize.ShloMosaic.Adequacy
public import Idealize.ShloMosaic.Init

@[expose] public section

noncomputable section

/-! The claims about the projection to the convolution and the recurrence. -/

namespace Cert.Proof.RestC

open Idealize.ShloMosaic Idealize.ShloMosaic.TcCoe Idealize.SL.Sem

/-- The printed kernel runs, keeps its operands and ends with every counter at zero. -/
theorem frame_printed : Cert.quiescent_Rest := fun m g hpre => Cert.Rest.Gen.frame (F := Bits) m g (RestK.ok m (ProjP.lt_of_pre _ _ _ _ (hpre 0)))

/-- So does the idealized kernel, -/
theorem lt (m : (ℓ : Loc Cert.RestIdeal.nD Cert.RestIdeal.τ Cert.RestIdeal.sig) → Buf (Elt Ideal) ℓ) (hpre : Cert.Pre_RestIdeal m) : (RestI.lay m).toNat < 4 :=
  ProjP.lt_of_pre _ _ _ _ (hpre 0)
theorem frame_ideal : Cert.quiescent_RestIdeal := fun m g hpre => Cert.RestIdeal.Gen.frame (F := Ideal) m g (RestI.ok m (lt m hpre))

/-- and the reference, which declares no counter. -/
theorem frame_ref : Cert.quiescent_RestReferenceIdeal := fun m g _ =>
  (θ_run Cert.RestReferenceIdeal.defs _ _).mono (fun r h => ⟨fun c => (h c).2, Idealize.ShloMosaic.sem_eq_zero_of_no_sems (by decide) r.2⟩) (RestQ.run (F := Ideal) m g)
theorem frame_ref_pre : Cert.quiescent_RestReferenceIdeal_pre_layer_in_proj := fun m g _ => frame_ref m g trivial

/-- The idealization rewrote nothing. -/
theorem preserves : Cert.preserves_Rest_RestIdeal := trivial

/-- At a layer of the stack both programs end with the projection's columns on their operands. -/
theorem algebraic : Cert.algebraic_RestIdeal_RestReferenceIdeal := by
  intro m g m' g' hpre hag
  have hl := lt m hpre
  refine ⟨fun c => RestN.res (RestN.L m hl) (RestN.ax m c) (RestN.ag m c) (RestN.aw m c), ?_, ?_⟩
  · refine (θ_run Cert.RestIdeal.defs _ _).mono (fun r h c => ⟨((h.1 c).1 3).trans (RestN.final m hl c), h.2.1 c⟩)
      (θ_run_and (Cert.RestIdeal.Gen.run_main (F := Ideal) m g (RestI.ok m hl)) (Cert.RestIdeal.Gen.frame (F := Ideal) m g (RestI.ok m hl)))
  · refine (θ_run Cert.RestReferenceIdeal.defs _ _).mono (fun r h c => ⟨(h c).1.trans ?_, (h c).2⟩) (RestQ.run (F := Ideal) m' g')
    obtain ⟨h0, h1, h2, h3⟩ := hag c
    rw [h0, h1, h2, h3]
    have c0 : c = 0 := Subsingleton.elim _ _
    subst c0
    exact RestR.ref_eq (RestN.L m hl) _ _ _ _ rfl

end Cert.Proof.RestC

end
-- ==== Proof.OutP.lean ====
module

public import proofs.«01_k».proof.Proof.Gen.Pre_layer_in_outproj
public import Idealize.ShloMosaic.Lib.Pointwise
public import Idealize.ShloMosaic.Lib.DynamicIndex

@[expose] public section

noncomputable section

/-! The layer's number, where the output projection's precondition holds. -/

namespace Cert.Proof.OutP

open Idealize.ShloMosaic

variable {F : FTy → Type} [FloatOps F]

/-- Where the precondition holds the layer's number is below 4. -/
theorem lt_of_pre (x0 : IVec Cert.Pre_layer_in_outproj.S1 32) (x1 : FVec F Cert.Pre_layer_in_outproj.S8192x1024 .f32) (x2 x3 : FVec F Cert.Pre_layer_in_outproj.S8192x512 .bf16) (x4 : FVec F Cert.Pre_layer_in_outproj.S4x1x1024 .f32)
    (x5 : FVec F Cert.Pre_layer_in_outproj.S4x2048x2048 .bf16) (x6 : FVec F Cert.Pre_layer_in_outproj.S8192x2048 .f32) (x7 : FVec F Cert.Pre_layer_in_outproj.S4x1x2048 .f32)
    (h : Cert.Pre_layer_in_outproj.fn (F := F) x0 x1 x2 x3 x4 x5 x6 x7 = fun _ => 1#1) : (x0 (ix1 0)).toNat < 4 := by
  have e := congrFun h (ix1 0)
  unfold Cert.Pre_layer_in_outproj.fn at e
  pointwise at e
  generalize x0 (ix1 0) = b at e ⊢
  simp only [IntOp.andi, IntOp.cmpi, BitVec.sle, BitVec.slt] at e
  have t : b.toInt = if 2 * b.toNat < 2 ^ 32 then (b.toNat : ℤ) else (b.toNat : ℤ) - (2 ^ 32 : ℕ) := BitVec.toInt_eq_toNat_cond b
  have hb := b.isLt
  have z0 : (0#32).toInt = 0 := by decide
  have z4 : (4#32).toInt = 4 := by decide
  rw [z0, z4] at e
  by_cases p : 0 ≤ b.toInt
  · by_cases q : b.toInt < 4
    · split at t <;> omega
    · rw [decide_eq_true p, decide_eq_false q] at e; exact absurd e (by decide)
  · by_cases q : b.toInt < 4
    · rw [decide_eq_false p, decide_eq_true q] at e; exact absurd e (by decide)
    · rw [decide_eq_false p, decide_eq_false q] at e; exact absurd e (by decide)

end Cert.Proof.OutP

end
-- ==== Proof.OutI.lean ====
module

public import proofs.«01_k».proof.Proof.Gen.OutprojIdeal
public import proofs.«01_k».proof.Proof.Gen.OutprojIdeal.Frame
public import proofs.«01_k».proof.Proof.OutP

@[expose] public section

noncomputable section

/-! The idealized output projection runs: the blocks of its operands are inside them where the layer's number is. -/

namespace Cert.Proof.OutI

open Cert.OutprojIdeal Cert.OutprojIdeal.Gen Idealize.ShloMosaic Idealize.ShloMosaic.TcCoe Idealize.SL.Sem

variable {F : FTy → Type} [FloatOps F] (m : (ℓ : Loc nD τ sig) → Buf (Elt F) ℓ)

/-- The layer's number, as the launch finds it. -/
abbrev lay : BitVec 32 := m ((0 : Dev nD).tc.loc main_arg0) (ix1 0)

/-- The index maps read the layer's number. -/
theorem at_tbl (r : Rect S1) (hr : r.shape.numel = 1) : (tbl m).at 0 r hr = lay m := by
  show (tbl m) 0 _ = _
  exact congrArg (m ((0 : Dev nD).tc.loc main_arg0)) (funext fun a => by match a with | ⟨0, _⟩ => exact Subsingleton.elim (α := Fin 1) _ _)

/-- A layer of the stack puts every block inside its operand, at whole words. -/
theorem ok (h : (lay m).toNat < 4) : Ok m := by
  unfold Ok ok0
  refine ⟨fun i => ⟨fun a => ?_, .inl rfl⟩, fun i => ⟨fun a => ?_, .inr (Affine.block_words_dvd (of_decide_eq_true rfl) (by decide))⟩,
    fun i => ⟨fun a => ?_, .inl rfl⟩⟩
  · unfold cc0_transform_3; rw [at_tbl m]
    match a with
    | ⟨0, _⟩ => show ((lay m).toNat + 1) * 1 ≤ 4; omega
    | ⟨1, _⟩ => show (0 + 1) * 1 ≤ 1; omega
    | ⟨2, _⟩ => show (0 + 1) * 1024 ≤ 1024; omega
  · unfold cc0_transform_4; rw [at_tbl m]
    match a with
    | ⟨0, _⟩ => show ((lay m).toNat + 1) * 1 ≤ 4; omega
    | ⟨1, _⟩ => show (0 + 1) * 2048 ≤ 2048; omega
    | ⟨2, _⟩ => show (0 + 1) * 2048 ≤ 2048; omega
  · unfold cc0_transform_6; rw [at_tbl m]
    match a with
    | ⟨0, _⟩ => show ((lay m).toNat + 1) * 1 ≤ 4; omega
    | ⟨1, _⟩ => show (0 + 1) * 1 ≤ 1; omega
    | ⟨2, _⟩ => show (0 + 1) * 2048 ≤ 2048; omega

end Cert.Proof.OutI

end
-- ==== Proof.OutV.lean ====
module

public import proofs.«01_k».proof.Proof.OutI
public import Idealize.ShloMosaic.Lib.Pipeline.Value
public import Idealize.ShloMosaic.Lib.Pointwise
public import Idealize.ShloMosaic.Lib.Tactic

@[expose] public section

noncomputable section

/-! What each point of the output projection leaves, as the printed payloads of its blocks. -/

namespace Cert.Proof.OutV

open Cert.OutprojIdeal Cert.OutprojIdeal.Gen Idealize.ShloMosaic Idealize.ShloMosaic.TcCoe Idealize.ShloMosaic.Tactic

variable {F : FTy → Type} [FloatOps F]

theorem z2 : (![0, 0] : Fin 2 → Nat) = fun _ => 0 := by decide
theorem z3 : (![0, 0, 0] : Fin 3 → Nat) = fun _ => 0 := by decide

/-- The three blocks side by side. -/
def mix (v : Vec F S512x1024 .bf16) (x1 x2 : Vec F S512x512 .bf16) : Vec F S512x2048 .bf16 := fun y =>
  if h : (y (1 : Fin 2)).val < 1024 then v (ix2 (y (0 : Fin 2)) (⟨(y (1 : Fin 2)).val, h⟩ : Fin 1024))
  else if h' : (y (1 : Fin 2)).val - 1024 < 512 then x1 (ix2 (y (0 : Fin 2)) (⟨(y (1 : Fin 2)).val - 1024, h'⟩ : Fin 512))
  else x2 (ix2 (y (0 : Fin 2)) (⟨(y (1 : Fin 2)).val - 1024 - 512, by have : (y (1 : Fin 2)).val < 2048 := (y (1 : Fin 2)).isLt; omega⟩ : Fin 512))

variable (c : Dev nD) (i : grid0.Coords)
  (arg2 : Memref sig .tc .vmem S512x1024 .f32) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S1x1x1024 .f32) (harg5 : arg5.IsWhole)
  (arg6 : Memref sig .tc .vmem S1x2048x2048 .bf16) (harg6 : arg6.IsWhole)
  (arg7 : Memref sig .tc .vmem S512x2048 .f32) (harg7 : arg7.IsWhole)
  (arg8 : Memref sig .tc .vmem S1x1x2048 .f32) (harg8 : arg8.IsWhole)
  (arg9 : Memref sig .tc .vmem S512x2048 .f32) (harg9 : arg9.IsWhole)
  (arg10 : Memref sig .tc .vmem S512x2048 .bf16) (harg10 : arg10.IsWhole)
  (x0 : Vec F S512x1024 .f32) (x1 : Vec F S512x512 .bf16) (x2 : Vec F S512x512 .bf16) (x3 : Vec F S1x1x1024 .f32) (x4 : Vec F S1x2048x2048 .bf16) (x5 : Vec F S512x2048 .f32) (x6 : Vec F S1x1x2048 .f32) (xt0 : TbBuf0 (F := F) c tbM0_0)

/-- The scratch, read back after the three blocks are written, is the three side by side. -/
theorem mix_eq : arg10.view.readCov
    [⟨Rect.unit ![0, 1536] ![512, 512] inb_S512x2048_S512x512_0_1536, k0_pay4 x2⟩,
      ⟨Rect.unit ![0, 1024] ![512, 512] inb_S512x2048_S512x512_0_1024, k0_pay3 x1⟩,
      ⟨Rect.unit ![0, 0] ![512, 1024] inb_S512x2048_S512x1024_0_0, k0_pay2 x0 x3⟩]
    (Rect.unit ![0, 0] ![512, 2048] inb_S512x2048_S512x2048_0_0).toLoadRect = mix (k0_pay2 x0 x3) x1 x2 := by
  have hc : ∀ y : S512x2048.Idx, View.canon (Val := Elt F) (s := S512x2048) (e := .bf16)
      [⟨Rect.unit ![0, 1536] ![512, 512] inb_S512x2048_S512x512_0_1536, k0_pay4 x2⟩,
        ⟨Rect.unit ![0, 1024] ![512, 512] inb_S512x2048_S512x512_0_1024, k0_pay3 x1⟩,
        ⟨Rect.unit ![0, 0] ![512, 1024] inb_S512x2048_S512x1024_0_0, k0_pay2 x0 x3⟩] y = mix (k0_pay2 x0 x3) x1 x2 y := by
    intro y
    refine View.canon_apply_of_pieces (mix (k0_pay2 x0 x3) x1 x2) _ (fun p hp => ?_) y ?_
    · simp only [List.mem_cons, List.not_mem_nil, or_false] at hp
      rcases hp with rfl | rfl | rfl <;> intro x
      · have h0 : (x (0 : Fin 2)).val < 512 := (x (0 : Fin 2)).isLt
        have h1 : (x (1 : Fin 2)).val < 512 := (x (1 : Fin 2)).isLt
        refine Eq.trans (b := x2 x) (by unfold k0_pay4; exact congrFun (shapeCast_self _ _) x) ?_
        unfold mix
        rw [dif_neg (by show ¬(1536 + 1 * (x (1 : Fin 2)).val < 1024); omega), dif_neg (by show ¬(1536 + 1 * (x (1 : Fin 2)).val - 1024 < 512); omega)]
        refine congrArg x2 (funext fun a => Fin.ext ?_)
        match a with
        | ⟨0, _⟩ => show (x (0 : Fin 2)).val = 0 + 1 * (x (0 : Fin 2)).val; omega
        | ⟨1, _⟩ => show (x (1 : Fin 2)).val = 1536 + 1 * (x (1 : Fin 2)).val - 1024 - 512; omega
      · have h0 : (x (0 : Fin 2)).val < 512 := (x (0 : Fin 2)).isLt
        have h1 : (x (1 : Fin 2)).val < 512 := (x (1 : Fin 2)).isLt
        refine Eq.trans (b := x1 x) (by unfold k0_pay3; exact congrFun (shapeCast_self _ _) x) ?_
        unfold mix
        rw [dif_neg (by show ¬(1024 + 1 * (x (1 : Fin 2)).val < 1024); omega), dif_pos (by show 1024 + 1 * (x (1 : Fin 2)).val - 1024 < 512; omega)]
        refine congrArg x1 (funext fun a => Fin.ext ?_)
        match a with
        | ⟨0, _⟩ => show (x (0 : Fin 2)).val = 0 + 1 * (x (0 : Fin 2)).val; omega
        | ⟨1, _⟩ => show (x (1 : Fin 2)).val = 1024 + 1 * (x (1 : Fin 2)).val - 1024; omega
      · have h0 : (x (0 : Fin 2)).val < 512 := (x (0 : Fin 2)).isLt
        have h1 : (x (1 : Fin 2)).val < 1024 := (x (1 : Fin 2)).isLt
        unfold mix
        rw [dif_pos (by show 0 + 1 * (x (1 : Fin 2)).val < 1024; omega)]
        refine congrArg (k0_pay2 x0 x3) (funext fun a => Fin.ext ?_)
        match a with
        | ⟨0, _⟩ => show (x (0 : Fin 2)).val = 0 + 1 * (x (0 : Fin 2)).val; omega
        | ⟨1, _⟩ => show (x (1 : Fin 2)).val = 0 + 1 * (x (1 : Fin 2)).val; omega
    · have h0 : (y (0 : Fin 2)).val < 512 := (y (0 : Fin 2)).isLt
      have h1 : (y (1 : Fin 2)).val < 2048 := (y (1 : Fin 2)).isLt
      by_cases k1 : (y (1 : Fin 2)).val < 1024
      · refine ⟨_, List.mem_cons_of_mem _ (List.mem_cons_of_mem _ List.mem_cons_self), (Rect.mem_set_unit (inb := inb_S512x2048_S512x1024_0_0)).mpr fun a => ?_⟩
        match a with
        | ⟨0, _⟩ => exact ⟨Nat.zero_le _, by show (y (0 : Fin 2)).val < 0 + 512; omega⟩
        | ⟨1, _⟩ => exact ⟨Nat.zero_le _, by show (y (1 : Fin 2)).val < 0 + 1024; omega⟩
      · by_cases k2 : (y (1 : Fin 2)).val < 1536
        · refine ⟨_, List.mem_cons_of_mem _ List.mem_cons_self, (Rect.mem_set_unit (inb := inb_S512x2048_S512x512_0_1024)).mpr fun a => ?_⟩
          match a with
          | ⟨0, _⟩ => exact ⟨Nat.zero_le _, by show (y (0 : Fin 2)).val < 0 + 512; omega⟩
          | ⟨1, _⟩ => exact ⟨by show 1024 ≤ (y (1 : Fin 2)).val; omega, by show (y (1 : Fin 2)).val < 1024 + 512; omega⟩
        · refine ⟨_, List.mem_cons_self, (Rect.mem_set_unit (inb := inb_S512x2048_S512x512_0_1536)).mpr fun a => ?_⟩
          match a with
          | ⟨0, _⟩ => exact ⟨Nat.zero_le _, by show (y (0 : Fin 2)).val < 0 + 512; omega⟩
          | ⟨1, _⟩ => exact ⟨by show 1536 ≤ (y (1 : Fin 2)).val; omega, by show (y (1 : Fin 2)).val < 1536 + 512; omega⟩
  rw [View.readCov_eq_canon']
  funext j
  refine (hc _).trans (congrArg (mix (k0_pay2 x0 x3) x1 x2) (funext fun a => Fin.ext ?_))
  match a with
  | ⟨0, _⟩ => show 0 + 1 * (j (0 : Fin 2)).val = (j (0 : Fin 2)).val; omega
  | ⟨1, _⟩ => show 0 + 1 * (j (1 : Fin 2)).val = (j (1 : Fin 2)).val; omega

/-- A point leaves its block of the result. -/
theorem out_eq : out0_A_7 c i arg2 harg2 arg3 harg3 arg4 harg4 arg5 harg5 arg6 harg6 arg7 harg7 arg8 harg8 arg9 harg9 arg10 harg10 x0 x1 x2 x3 x4 x5 x6 xt0 = k0_pay1 (k0_pay5 (mix (k0_pay2 x0 x3) x1 x2) x4) x5 x6 := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5 x6 xt0)]
  unfold kernelRun0_A
  dsimp only
  try sl_unfold_words
  rw [View.canon_unit_zero z2]
  simp only [View.readAt_eq_ld, View.ld_unit_zero (S := S512x1024) z2, View.ld_unit_zero (S := S512x512) z2, View.ld_unit_zero (S := S512x2048) z2, View.ld_unit_zero (S := S1x1x2048) z3, View.ld_unit_zero (S := S1x1x1024) z3, View.ld_unit_zero (S := S1x2048x2048) z3,
    harg2.read_unread, harg3.read_unread, harg4.read_unread, harg5.read_unread, harg6.read_unread, harg7.read_unread, harg8.read_unread]
  exact congrArg (fun v => k0_pay1 (k0_pay5 v x4) x5 x6) (mix_eq arg10 x0 x1 x2 x3)

end Cert.Proof.OutV

end
-- ==== Proof.OutS.lean ====
module

public import proofs.«01_k».proof.Proof.FfnS

@[expose] public section

noncomputable section

/-! What the output projection computes over the extended reals, entry by entry. -/

namespace Cert.Proof.OutS

open Idealize.ShloMosaic Cert.Proof.FfnS

/-- The shapes of the operands: the attention's rows, the other two's rows, the attention's gain, the weight. -/
abbrev SA : Shape := ⟨2, ![8192, 1024]⟩
abbrev SB : Shape := ⟨2, ![8192, 512]⟩
abbrev SGA : Shape := ⟨3, ![4, 1, 1024]⟩
abbrev SW : Shape := ⟨3, ![4, 2048, 2048]⟩

/-- A row of the attention scaled by the reciprocal root of its mean square, and by the gain. -/
def nrma (v g : Fin 1024 → EReal) (d : Fin 1024) : EReal :=
  v d * Ideal.rsqrt (Ideal.div (∑ k, v k * v k) (Ideal.ofBits .f32 0x44800000#32) + Ideal.ofBits .f32 0x358637BD#32) * g d

/-- Three rows side by side. -/
def side (a : Fin 1024 → EReal) (b c : Fin 512 → EReal) (k : Fin 2048) : EReal :=
  if h : k.val < 1024 then a ⟨k.val, h⟩ else if h' : k.val - 1024 < 512 then b ⟨k.val - 1024, h'⟩ else c ⟨k.val - 1024 - 512, by omega⟩

variable (L : Fin 4) (A : Vec Ideal SA .f32) (B C : Vec Ideal SB .bf16) (G : Vec Ideal SGA .f32) (W : Vec Ideal SW .bf16) (H : Vec Ideal SX .f32) (GP : Vec Ideal SG .f32)

/-- A row of the mixed input. -/
def mixed (n : Fin 8192) : Fin 2048 → EReal :=
  side (nrma (fun k => A (ix2 n k)) (fun k => G (ix3 L 0 k))) (fun k => B (ix2 n k)) (fun k => C (ix2 n k))

/-- The mixed row against a column of the weight. -/
def prod (n : Fin 8192) (d : Fin 2048) : EReal := ∑ k, mixed L A B C G n k * W (ix3 L k d)

/-- The result. -/
def outp : Vec Ideal SX .f32 := fun y => H y + nrm (prod L A B C G W (y 0)) (fun k => GP (ix3 L 0 k)) (y 1)

end Cert.Proof.OutS

end
-- ==== Proof.OutN.lean ====
module

public import proofs.«01_k».proof.Proof.OutV
public import proofs.«01_k».proof.Proof.OutS
public import Idealize.ShloMosaic.Lib.Pipeline.ValueKit
public import Idealize.ShloMosaic.Lib.Pointwise

@[expose] public section

noncomputable section

/-! The result array of the output projection, over the extended reals. -/

namespace Cert.Proof.OutN

open Cert.OutprojIdeal Cert.OutprojIdeal.Gen Idealize.ShloMosaic Idealize.ShloMosaic.TcCoe Cert.Proof.OutI Cert.Proof.FfnS Cert.Proof.OutS Cert.Proof.OutV Finset

variable (m : (ℓ : Loc nD τ sig) → Buf (Elt Ideal) ℓ) (hl : (lay m).toNat < 4) (c : Dev nD)

/-- The operands as launched. -/
abbrev aa : Vec Ideal SA .f32 := m ((c.tc : Thread nD τ).loc main_arg1)
abbrev ab : Vec Ideal SB .bf16 := m ((c.tc : Thread nD τ).loc main_arg2)
abbrev ac : Vec Ideal SB .bf16 := m ((c.tc : Thread nD τ).loc main_arg3)
abbrev aga : Vec Ideal SGA .f32 := m ((c.tc : Thread nD τ).loc main_arg4)
abbrev aw : Vec Ideal SW .bf16 := m ((c.tc : Thread nD τ).loc main_arg5)
abbrev ah : Vec Ideal SX .f32 := m ((c.tc : Thread nD τ).loc main_arg6)
abbrev agp : Vec Ideal SG .f32 := m ((c.tc : Thread nD τ).loc main_arg7)

/-- The layer. -/
abbrev L : Fin 4 := ⟨(lay m).toNat, hl⟩

/-- Row `a` of a point's block of rows. -/
def row (t : Fin (cfgM m (ok m hl)).N) (a : Fin 512) : Fin 8192 := ⟨512 * t.val + a.val, by
  have : t.val < 16 := t.isLt
  omega⟩

/-- The grid's coordinate at a point. -/
theorem crd : ∀ t : Fin grid0.N, (BitVec.ofNat 32 (grid0.coords t 0).val).toNat = t.val := by decide +kernel

theorem idx0 (t : Fin (cfgM m (ok m hl)).N) : ((cfgM m (ok m hl)).win 0).index t = ![t.val, 0] := by
  show cc0_transform_0 (grid0.coords t) = _
  unfold cc0_transform_0; dsimp only; rw [crd t]; rfl
theorem idx1 (t : Fin (cfgM m (ok m hl)).N) : ((cfgM m (ok m hl)).win 1).index t = ![t.val, 0] := by
  show cc0_transform_1 (grid0.coords t) = _
  unfold cc0_transform_1; dsimp only; rw [crd t]; rfl
theorem idx2 (t : Fin (cfgM m (ok m hl)).N) : ((cfgM m (ok m hl)).win 2).index t = ![t.val, 0] := by
  show cc0_transform_2 (grid0.coords t) = _
  unfold cc0_transform_2; dsimp only; rw [crd t]; rfl
theorem idx5 (t : Fin (cfgM m (ok m hl)).N) : ((cfgM m (ok m hl)).win 5).index t = ![t.val, 0] := by
  show cc0_transform_5 (grid0.coords t) = _
  unfold cc0_transform_5; dsimp only; rw [crd t]; rfl
theorem idx7 (t : Fin (cfgM m (ok m hl)).N) : ((cfgM m (ok m hl)).win 7).index t = ![t.val, 0] := by
  show cc0_transform_7 (grid0.coords t) = _
  unfold cc0_transform_7; dsimp only; rw [crd t]; rfl
theorem idx3 (t : Fin (cfgM m (ok m hl)).N) : ((cfgM m (ok m hl)).win 3).index t = ![(lay m).toNat, 0, 0] := by
  show cc0_transform_3 inb_S1_S1_0 numel1_S1 (tbl m) (grid0.coords t) = _
  unfold cc0_transform_3; rw [at_tbl m]; rfl
theorem idx4 (t : Fin (cfgM m (ok m hl)).N) : ((cfgM m (ok m hl)).win 4).index t = ![(lay m).toNat, 0, 0] := by
  show cc0_transform_4 inb_S1_S1_0 numel1_S1 (tbl m) (grid0.coords t) = _
  unfold cc0_transform_4; rw [at_tbl m]; rfl
theorem idx6 (t : Fin (cfgM m (ok m hl)).N) : ((cfgM m (ok m hl)).win 6).index t = ![(lay m).toNat, 0, 0] := by
  show cc0_transform_6 inb_S1_S1_0 numel1_S1 (tbl m) (grid0.coords t) = _
  unfold cc0_transform_6; rw [at_tbl m]; rfl

/-- The operands' blocks at a point, by name, -/
def b0 (t : Fin (cfgM m (ok m hl)).N) : Vec Ideal S512x1024 .f32 := iblk m (ok m hl) c 0 t
def b1 (t : Fin (cfgM m (ok m hl)).N) : Vec Ideal S512x512 .bf16 := iblk m (ok m hl) c 1 t
def b2 (t : Fin (cfgM m (ok m hl)).N) : Vec Ideal S512x512 .bf16 := iblk m (ok m hl) c 2 t
def b3 (t : Fin (cfgM m (ok m hl)).N) : Vec Ideal S1x1x1024 .f32 := iblk m (ok m hl) c 3 t
def b4 (t : Fin (cfgM m (ok m hl)).N) : Vec Ideal S1x2048x2048 .bf16 := iblk m (ok m hl) c 4 t
def b5 (t : Fin (cfgM m (ok m hl)).N) : Vec Ideal S512x2048 .f32 := iblk m (ok m hl) c 5 t
def b6 (t : Fin (cfgM m (ok m hl)).N) : Vec Ideal S1x1x2048 .f32 := iblk m (ok m hl) c 6 t

/-- and entry by entry. -/
theorem blk0 (t : Fin (cfgM m (ok m hl)).N) (a : Fin 512) (d : Fin 1024) : b0 m hl c t (ix2 a d) = aa m c (ix2 (row m hl t a) d) := by
  have e := idx0 m hl t
  unfold b0 iblk
  refine Eq.trans (b := aa m c ((((cfgM m (ok m hl)).win 0).blk t).view.emb (ix2 a d))) rfl (congrArg (aa m c) (funext fun x => Fin.ext ?_))
  match x with
  | ⟨0, _⟩ => blk_simp [e]; show t.val * 512 + a.val = 512 * t.val + a.val; omega
  | ⟨1, _⟩ => blk_simp [e]

theorem blk1 (t : Fin (cfgM m (ok m hl)).N) (a : Fin 512) (d : Fin 512) : b1 m hl c t (ix2 a d) = ab m c (ix2 (row m hl t a) d) := by
  have e := idx1 m hl t
  unfold b1 iblk
  refine Eq.trans (b := ab m c ((((cfgM m (ok m hl)).win 1).blk t).view.emb (ix2 a d))) rfl (congrArg (ab m c) (funext fun x => Fin.ext ?_))
  match x with
  | ⟨0, _⟩ => blk_simp [e]; show t.val * 512 + a.val = 512 * t.val + a.val; omega
  | ⟨1, _⟩ => blk_simp [e]

theorem blk2 (t : Fin (cfgM m (ok m hl)).N) (a : Fin 512) (d : Fin 512) : b2 m hl c t (ix2 a d) = ac m c (ix2 (row m hl t a) d) := by
  have e := idx2 m hl t
  unfold b2 iblk
  refine Eq.trans (b := ac m c ((((cfgM m (ok m hl)).win 2).blk t).view.emb (ix2 a d))) rfl (congrArg (ac m c) (funext fun x => Fin.ext ?_))
  match x with
  | ⟨0, _⟩ => blk_simp [e]; show t.val * 512 + a.val = 512 * t.val + a.val; omega
  | ⟨1, _⟩ => blk_simp [e]

theorem blk5 (t : Fin (cfgM m (ok m hl)).N) (a : Fin 512) (d : Fin 2048) : b5 m hl c t (ix2 a d) = ah m c (ix2 (row m hl t a) d) := by
  have e := idx5 m hl t
  unfold b5 iblk
  refine Eq.trans (b := ah m c ((((cfgM m (ok m hl)).win 5).blk t).view.emb (ix2 a d))) rfl (congrArg (ah m c) (funext fun x => Fin.ext ?_))
  match x with
  | ⟨0, _⟩ => blk_simp [e]; show t.val * 512 + a.val = 512 * t.val + a.val; omega
  | ⟨1, _⟩ => blk_simp [e]

theorem blk3 (t : Fin (cfgM m (ok m hl)).N) (d : Fin 1024) : b3 m hl c t (ix3 0 0 d) = aga m c (ix3 (L m hl) 0 d) := by
  have e := idx3 m hl t
  unfold b3 iblk
  refine Eq.trans (b := aga m c ((((cfgM m (ok m hl)).win 3).blk t).view.emb (ix3 0 0 d))) rfl (congrArg (aga m c) (funext fun x => Fin.ext ?_))
  match x with
  | ⟨0, _⟩ => blk_simp [e]; rfl
  | ⟨1, _⟩ => blk_simp [e]
  | ⟨2, _⟩ => blk_simp [e]

theorem blk6 (t : Fin (cfgM m (ok m hl)).N) (d : Fin 2048) : b6 m hl c t (ix3 0 0 d) = agp m c (ix3 (L m hl) 0 d) := by
  have e := idx6 m hl t
  unfold b6 iblk
  refine Eq.trans (b := agp m c ((((cfgM m (ok m hl)).win 6).blk t).view.emb (ix3 0 0 d))) rfl (congrArg (agp m c) (funext fun x => Fin.ext ?_))
  match x with
  | ⟨0, _⟩ => blk_simp [e]; rfl
  | ⟨1, _⟩ => blk_simp [e]
  | ⟨2, _⟩ => blk_simp [e]

theorem blk4 (t : Fin (cfgM m (ok m hl)).N) (k d : Fin 2048) : b4 m hl c t (ix3 0 k d) = aw m c (ix3 (L m hl) k d) := by
  have e := idx4 m hl t
  unfold b4 iblk
  refine Eq.trans (b := aw m c ((((cfgM m (ok m hl)).win 4).blk t).view.emb (ix3 0 k d))) rfl (congrArg (aw m c) (funext fun x => Fin.ext ?_))
  match x with
  | ⟨0, _⟩ => blk_simp [e]; rfl
  | ⟨1, _⟩ => blk_simp [e]
  | ⟨2, _⟩ => blk_simp [e]

/-- The printed payloads, entry by entry: the residual and the last norm, -/
theorem p1 (p h : Vec Ideal S512x2048 .f32) (g : Vec Ideal S1x1x2048 .f32) (a : Fin 512) (d : Fin 2048) :
    k0_pay1 p h g (ix2 a d) = h (ix2 a d) + nrm (fun k => p (ix2 a k)) (fun k => g (ix3 0 0 k)) d := by
  unfold nrm
  pointwise [k0_pay1]

/-- the norm of the attention's rows, -/
theorem p2 (v : Vec Ideal S512x1024 .f32) (g : Vec Ideal S1x1x1024 .f32) (a : Fin 512) (d : Fin 1024) :
    k0_pay2 v g (ix2 a d) = nrma (fun k => v (ix2 a k)) (fun k => g (ix3 0 0 k)) d := by
  unfold nrma
  pointwise [k0_pay2]

/-- and the product with the weight. -/
theorem p5 (v : Vec Ideal S512x2048 .bf16) (w : Vec Ideal S1x2048x2048 .bf16) (a : Fin 512) (d : Fin 2048) :
    k0_pay5 v w (ix2 a d) = ∑ k, v (ix2 a k) * w (ix3 0 k d) := by
  pointwise [k0_pay5]

/-- What a point leaves, over its blocks. -/
theorem outs (t : Fin (cfgM m (ok m hl)).N) : outsAt0 m (ok m hl) c t
    = k0_pay1 (k0_pay5 (mix (k0_pay2 (b0 m hl c t) (b3 m hl c t)) (b1 m hl c t) (b2 m hl c t)) (b4 m hl c t)) (b5 m hl c t) (b6 m hl c t) := by
  unfold outsAt0
  exact out_eq (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) (ms0_4 m (ok m hl) t) (hs0_4 m (ok m hl) t) (ms0_5 m (ok m hl) t) (hs0_5 m (ok m hl) t) (ms0_6 m (ok m hl) t) (hs0_6 m (ok m hl) t) (ms0_7 m (ok m hl) t) (hs0_7 m (ok m hl) t) scM0_0 (Memref.isWhole_whole _)
    (b0 m hl c t) (b1 m hl c t) (b2 m hl c t) (b3 m hl c t) (b4 m hl c t) (b5 m hl c t) (b6 m hl c t) (tbl m 0)

/-- The scratch holds the mixed rows. -/
theorem mix_row (t : Fin (cfgM m (ok m hl)).N) (a : Fin 512) (k : Fin 2048) :
    mix (F := Ideal) (k0_pay2 (b0 m hl c t) (b3 m hl c t)) (b1 m hl c t) (b2 m hl c t) (ix2 a k)
      = mixed (L m hl) (aa m c) (ab m c) (ac m c) (aga m c) (row m hl t a) k := by
  have e : ∀ (v : Vec Ideal S512x1024 .bf16) (x1 x2 : Vec Ideal S512x512 .bf16), mix (F := Ideal) v x1 x2 (ix2 a k)
      = side (fun d => v (ix2 a d)) (fun d => x1 (ix2 a d)) (fun d => x2 (ix2 a d)) k := fun _ _ _ => rfl
  rw [e]
  unfold mixed
  simp only [p2, blk0, blk1, blk2, blk3]

/-- The block a point leaves is the result on its rows. -/
theorem out (t : Fin (cfgM m (ok m hl)).N) (a : Fin 512) (d : Fin 2048) : outsAt0 m (ok m hl) c t (ix2 a d)
    = outp (L m hl) (aa m c) (ab m c) (ac m c) (aga m c) (aw m c) (ah m c) (agp m c) (ix2 (row m hl t a) d) := by
  rw [outs m hl c t, p1]
  simp only [p5, mix_row, blk4, blk5, blk6]
  rfl

/-- The points' blocks cover the result. -/
theorem cov : ((cfgM m (ok m hl)).win 7).Covers := by
  refine ⟨fun a => ?_, fun β => ?_⟩
  · match a with
    | ⟨0, _⟩ => show 0 < 512; omega
    | ⟨1, _⟩ => show 0 < 2048; omega
  have b0 : (β (0 : Fin 2)).val < 16 := lt_of_lt_of_le (β (0 : Fin 2)).isLt (by show (8192 + 512 - 1) / 512 ≤ 16; omega)
  have b1 : (β (1 : Fin 2)).val < 1 := lt_of_lt_of_le (β (1 : Fin 2)).isLt (by show (2048 + 2048 - 1) / 2048 ≤ 1; omega)
  refine ⟨⟨(β (0 : Fin 2)).val, by show _ < 16; omega⟩, flush0_7 (adm m (ok m hl)) _, fun a => ⟨?_, Or.inl rfl⟩⟩
  rw [idx7 m hl]
  match a with
  | ⟨0, _⟩ => rfl
  | ⟨1, _⟩ => show 0 = (β (1 : Fin 2)).val; omega

/-- The result array after the run. -/
theorem final : (dats m (ok m hl) 0 c).arrAt 7 (cfgM m (ok m hl)).N
    = outp (L m hl) (aa m c) (ab m c) (ac m c) (aga m c) (aw m c) (ah m c) (agp m c) := by
  refine (dats m (ok m hl) 0 c).arrAt_eq_of_covers 7 _ (cov m hl) fun t hf y => ?_
  have e := idx7 m hl t
  have h0 : (y (0 : Fin 2)).val < 512 := (y (0 : Fin 2)).isLt
  have h1 : (y (1 : Fin 2)).val < 2048 := (y (1 : Fin 2)).isLt
  blk_simp
  rw [after0_7]
  have hz : (((cfgM m (ok m hl)).win 7).blk t).view.emb y = ix2 (row m hl t (y (0 : Fin 2))) (y (1 : Fin 2)) := funext fun x => Fin.ext (by
    match x with
    | ⟨0, _⟩ => blk_simp [e]; show t.val * 512 + (y (0 : Fin 2)).val = 512 * t.val + (y (0 : Fin 2)).val; omega
    | ⟨1, _⟩ => blk_simp [e]; rfl)
  have hy : y = ix2 (y (0 : Fin 2)) (y (1 : Fin 2)) := funext fun x => by
    match x with
    | ⟨0, _⟩ => rfl
    | ⟨1, _⟩ => rfl
  rw [hz]
  exact (congrArg (outsAt0 m (ok m hl) c t) hy).trans (out m hl c t (y (0 : Fin 2)) (y (1 : Fin 2)))

end Cert.Proof.OutN

end
-- ==== Proof.OutQ.lean ====
module

public import proofs.«01_k».proof.Proof.Gen.OutprojReferenceIdeal
public import Idealize.ShloMosaic.Lib.StableHlo.RunClose
public import Idealize.ShloMosaic.Lib.StableHlo.RunRead

@[expose] public section

noncomputable section

/-! The run of the output projection's reference, in four parts, for any float values: the attention's normalized rows, the three inputs side by side, their product with the weight, and the result. -/

namespace Cert.Proof.OutQ

open Cert.OutprojReferenceIdeal Cert.OutprojReferenceIdeal.Gen Idealize.ShloMosaic Idealize.ShloMosaic.TcCoe Idealize.SL.Sem Idealize.ShloMosaic.StableHlo

variable {F : FTy → Type} [FloatOps F]

/-- The layer's word, and where its parameters start. -/
def st (x : (⟨S1, .i32⟩ : BufTy).Contents (Elt F)) : (⟨S_, .i32⟩ : BufTy).Contents (Elt F) := shapeCast _ x shapeCasts_S1_S_
def at3 (s : (⟨S_, .i32⟩ : BufTy).Contents (Elt F)) (k : Fin 3) : ℤ :=
  ((![s, constantI S_ 32 0#32, constantI S_ 32 0#32] : Fin 3 → (⟨S_, .i32⟩ : BufTy).Contents (Elt F)) k (Shape.Idx.first h_S_)).toInt

/-- The layer's parameters. -/
def gaina (p : (⟨S4x1x1024, .f32⟩ : BufTy).Contents (Elt F)) (s : (⟨S_, .i32⟩ : BufTy).Contents (Elt F)) : (⟨S1x1024, .f32⟩ : BufTy).Contents (Elt F) :=
  shapeCast _ (Host.dynamicSlice S1x1x1024 p (at3 (F := F) s) sliceFits_S4x1x1024_S1x1x1024) shapeCasts_S1x1x1024_S1x1024
def gain (p : (⟨S4x1x2048, .f32⟩ : BufTy).Contents (Elt F)) (s : (⟨S_, .i32⟩ : BufTy).Contents (Elt F)) : (⟨S1x2048, .f32⟩ : BufTy).Contents (Elt F) :=
  shapeCast _ (Host.dynamicSlice S1x1x2048 p (at3 (F := F) s) sliceFits_S4x1x2048_S1x1x2048) shapeCasts_S1x1x2048_S1x2048
def wgt (p : (⟨S4x2048x2048, .bf16⟩ : BufTy).Contents (Elt F)) (s : (⟨S_, .i32⟩ : BufTy).Contents (Elt F)) : (⟨S2048x2048, .f32⟩ : BufTy).Contents (Elt F) :=
  extf .f32 (shapeCast _ (Host.dynamicSlice S1x2048x2048 p (at3 (F := F) s) sliceFits_S4x2048x2048_S1x2048x2048) shapeCasts_S1x2048x2048_S2048x2048 : (⟨S2048x2048, .bf16⟩ : BufTy).Contents (Elt F)) bitsLt_bf16_f32

/-- The normalized rows, scaled, of either width. -/
def rmsa (x : (⟨S8192x1024, .f32⟩ : BufTy).Contents (Elt F)) (g : (⟨S1x1024, .f32⟩ : BufTy).Contents (Elt F)) : (⟨S8192x1024, .f32⟩ : BufTy).Contents (Elt F) :=
  mulf (mulf x (broadcastInDim S8192x1024 ![0, 1] bcast_S8192x1_S8192x1024_0_1 (Host.rsqrt (addf (Host.divf (broadcastInDim S8192x1 ![0] bcast_S8192_S8192x1_0
    (Host.reduceAdd (mulf x x) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))))) (broadcastInDim S8192x1024 ![0, 1] bcast_S1x1024_S8192x1024_0_1 g)
def rms (x : (⟨S8192x2048, .f32⟩ : BufTy).Contents (Elt F)) (g : (⟨S1x2048, .f32⟩ : BufTy).Contents (Elt F)) : (⟨S8192x2048, .f32⟩ : BufTy).Contents (Elt F) :=
  mulf (mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32)))))) (broadcastInDim S8192x2048 ![0, 1] bcast_S1x2048_S8192x2048_0_1 g)

/-- The three inputs side by side. -/
def join (a : (⟨S8192x1024, .f32⟩ : BufTy).Contents (Elt F)) (b c : (⟨S8192x512, .f32⟩ : BufTy).Contents (Elt F)) : (⟨S8192x2048, .f32⟩ : BufTy).Contents (Elt F) :=
  concatenate S8192x2048 1 [⟨S8192x1024, a⟩, ⟨S8192x512, b⟩, ⟨S8192x512, c⟩] concatenates_S8192x1024_S8192x512_S8192x512_S8192x2048_d1

/-- The product with the weight. -/
def pr (x : (⟨S8192x2048, .f32⟩ : BufTy).Contents (Elt F)) (w : (⟨S2048x2048, .f32⟩ : BufTy).Contents (Elt F)) : (⟨S8192x2048, .f32⟩ : BufTy).Contents (Elt F) :=
  Host.dotGeneral dot_S8192x2048_S2048x2048_S8192x2048_1_0_0_1_n_n none x w

/-- Part 1: its operations, what they write, that they keep the rest, and its value. -/
abbrev ops1 : List (HloOp τ sig (Elt F)) :=
  [ reshape main_arg0 main_v0 (rfl : (.i32 : EltTy) = .i32) shapeCasts_S1_S_,
    nullary main_c (constantI S_ 32 0#32),
    nullary main_c_0 (constantI S_ 32 0#32),
    unaryIndexed main_arg4 ![main_v0, main_c, main_c_0] ⟨S_, .i32⟩ main_v1 ((fun x i => Host.dynamicSlice S1x1x1024 x (fun k => (i k (Shape.Idx.first h_S_)).toInt) sliceFits_S4x1x1024_S1x1x1024) : (⟨S4x1x1024, .f32⟩ : BufTy).Contents (Elt F) → (Fin 3 → (⟨S_, .i32⟩ : BufTy).Contents (Elt F)) → (⟨S1x1x1024, .f32⟩ : BufTy).Contents (Elt F)),
    reshape main_v1 main_v2 (rfl : (.f32 : EltTy) = .f32) shapeCasts_S1x1x1024_S1x1024,
    binary main_arg1 main_arg1 main_v3 (mulf : (⟨S8192x1024, .f32⟩ : BufTy).Contents (Elt F) → (⟨S8192x1024, .f32⟩ : BufTy).Contents (Elt F) → (⟨S8192x1024, .f32⟩ : BufTy).Contents (Elt F)),
    nullary main_cst (constant S_ .f32 0x00000000#32),
    binary main_v3 main_cst main_v4 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v4 main_v5 (broadcastInDim S8192x1 ![0] bcast_S8192_S8192x1_0 : (⟨S8192, .f32⟩ : BufTy).Contents (Elt F) → (⟨S8192x1, .f32⟩ : BufTy).Contents (Elt F)),
    nullary main_cst_1 (constant S_ .f32 0x44800000#32),
    unary main_cst_1 main_v6 (broadcastInDim S8192x1 ![] bcast_S_S8192x1 : (⟨S_, .f32⟩ : BufTy).Contents (Elt F) → (⟨S8192x1, .f32⟩ : BufTy).Contents (Elt F)),
    binary main_v5 main_v6 main_v7 (Host.divf : (⟨S8192x1, .f32⟩ : BufTy).Contents (Elt F) → (⟨S8192x1, .f32⟩ : BufTy).Contents (Elt F) → (⟨S8192x1, .f32⟩ : BufTy).Contents (Elt F)),
    nullary main_cst_2 (constant S_ .f32 0x358637BD#32),
    unary main_cst_2 main_v8 (broadcastInDim S8192x1 ![] bcast_S_S8192x1 : (⟨S_, .f32⟩ : BufTy).Contents (Elt F) → (⟨S8192x1, .f32⟩ : BufTy).Contents (Elt F)),
    binary main_v7 main_v8 main_v9 (addf : (⟨S8192x1, .f32⟩ : BufTy).Contents (Elt F) → (⟨S8192x1, .f32⟩ : BufTy).Contents (Elt F) → (⟨S8192x1, .f32⟩ : BufTy).Contents (Elt F)),
    unary main_v9 main_v10 (Host.rsqrt : (⟨S8192x1, .f32⟩ : BufTy).Contents (Elt F) → (⟨S8192x1, .f32⟩ : BufTy).Contents (Elt F)),
    unary main_v10 main_v11 (broadcastInDim S8192x1024 ![0, 1] bcast_S8192x1_S8192x1024_0_1 : (⟨S8192x1, .f32⟩ : BufTy).Contents (Elt F) → (⟨S8192x1024, .f32⟩ : BufTy).Contents (Elt F)),
    binary main_arg1 main_v11 main_v12 (mulf : (⟨S8192x1024, .f32⟩ : BufTy).Contents (Elt F) → (⟨S8192x1024, .f32⟩ : BufTy).Contents (Elt F) → (⟨S8192x1024, .f32⟩ : BufTy).Contents (Elt F)),
    unary main_v2 main_v13 (broadcastInDim S8192x1024 ![0, 1] bcast_S1x1024_S8192x1024_0_1 : (⟨S1x1024, .f32⟩ : BufTy).Contents (Elt F) → (⟨S8192x1024, .f32⟩ : BufTy).Contents (Elt F)),
    binary main_v12 main_v13 main_v14 (mulf : (⟨S8192x1024, .f32⟩ : BufTy).Contents (Elt F) → (⟨S8192x1024, .f32⟩ : BufTy).Contents (Elt F) → (⟨S8192x1024, .f32⟩ : BufTy).Contents (Elt F))]
abbrev wr1 : List (Ref sig .tc) := [main_v0, main_c, main_c_0, main_v1, main_v2, main_v3, main_cst, main_v4, main_v5, main_cst_1, main_v6, main_v7, main_cst_2, main_v8, main_v9, main_v10, main_v11, main_v12, main_v13, main_v14]
theorem keep1 {r : Ref sig .tc} (hr : r ∉ wr1) (V : Valuation τ sig (Elt F)) : after (ops1 (F := F)) V (Proc.devRef .tc r) = V (Proc.devRef .tc r) :=
  after_unwritten wr1 rfl hr V
theorem sub1 : (ops1 : List (HloOp τ sig (Elt F))).Forall fun op => op.bufs ⊆ tcRefs τ sig := by simp [List.forall_cons]
set_option maxHeartbeats 2000000 in
theorem val1 (V : Valuation τ sig (Elt F)) : after (ops1 (F := F)) V (Proc.devRef .tc main_v14) = rmsa (V (Proc.devRef .tc main_arg1)) (gaina (V (Proc.devRef .tc main_arg4)) (st (F := F) (V (Proc.devRef .tc main_arg0)))) := by
  after_results_entrywise []
theorem val0 (V : Valuation τ sig (Elt F)) : after (ops1 (F := F)) V (Proc.devRef .tc main_v0) = st (F := F) (V (Proc.devRef .tc main_arg0)) := by
  after_results_entrywise []

/-- Part 2: its operations, what they write, that they keep the rest, and its value. -/
abbrev ops2 : List (HloOp τ sig (Elt F)) :=
  [ unary main_arg2 main_v15 ((extf .f32 · bitsLt_bf16_f32) : (⟨S8192x512, .bf16⟩ : BufTy).Contents (Elt F) → (⟨S8192x512, .f32⟩ : BufTy).Contents (Elt F)),
    unary main_arg3 main_v16 ((extf .f32 · bitsLt_bf16_f32) : (⟨S8192x512, .bf16⟩ : BufTy).Contents (Elt F) → (⟨S8192x512, .f32⟩ : BufTy).Contents (Elt F)),
    nary ![main_v14, main_v15, main_v16] main_v17 (fun u => join (F := F) (u 0) (u 1) (u 2))]
abbrev wr2 : List (Ref sig .tc) := [main_v15, main_v16, main_v17]
theorem keep2 {r : Ref sig .tc} (hr : r ∉ wr2) (V : Valuation τ sig (Elt F)) : after (ops2 (F := F)) V (Proc.devRef .tc r) = V (Proc.devRef .tc r) :=
  after_unwritten wr2 rfl hr V
theorem sub2 : (ops2 : List (HloOp τ sig (Elt F))).Forall fun op => op.bufs ⊆ tcRefs τ sig := by simp [List.forall_cons]
set_option maxHeartbeats 2000000 in
theorem val2 (V : Valuation τ sig (Elt F)) : after (ops2 (F := F)) V (Proc.devRef .tc main_v17) = join (V (Proc.devRef .tc main_v14)) (extf .f32 (V (Proc.devRef .tc main_arg2) : (⟨S8192x512, .bf16⟩ : BufTy).Contents (Elt F)) bitsLt_bf16_f32 : (⟨S8192x512, .f32⟩ : BufTy).Contents (Elt F)) (extf .f32 (V (Proc.devRef .tc main_arg3) : (⟨S8192x512, .bf16⟩ : BufTy).Contents (Elt F)) bitsLt_bf16_f32 : (⟨S8192x512, .f32⟩ : BufTy).Contents (Elt F)) := by
  after_results_entrywise []

/-- Part 3: its operations, what they write, that they keep the rest, and its value. -/
abbrev ops3 : List (HloOp τ sig (Elt F)) :=
  [ nullary main_c_3 (constantI S_ 32 0#32),
    nullary main_c_4 (constantI S_ 32 0#32),
    unaryIndexed main_arg5 ![main_v0, main_c_3, main_c_4] ⟨S_, .i32⟩ main_v18 ((fun x i => Host.dynamicSlice S1x2048x2048 x (fun k => (i k (Shape.Idx.first h_S_)).toInt) sliceFits_S4x2048x2048_S1x2048x2048) : (⟨S4x2048x2048, .bf16⟩ : BufTy).Contents (Elt F) → (Fin 3 → (⟨S_, .i32⟩ : BufTy).Contents (Elt F)) → (⟨S1x2048x2048, .bf16⟩ : BufTy).Contents (Elt F)),
    reshape main_v18 main_v19 (rfl : (.bf16 : EltTy) = .bf16) shapeCasts_S1x2048x2048_S2048x2048,
    unary main_v19 main_v20 ((extf .f32 · bitsLt_bf16_f32) : (⟨S2048x2048, .bf16⟩ : BufTy).Contents (Elt F) → (⟨S2048x2048, .f32⟩ : BufTy).Contents (Elt F)),
    binary main_v17 main_v20 main_v21 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F))]
abbrev wr3 : List (Ref sig .tc) := [main_c_3, main_c_4, main_v18, main_v19, main_v20, main_v21]
theorem keep3 {r : Ref sig .tc} (hr : r ∉ wr3) (V : Valuation τ sig (Elt F)) : after (ops3 (F := F)) V (Proc.devRef .tc r) = V (Proc.devRef .tc r) :=
  after_unwritten wr3 rfl hr V
theorem sub3 : (ops3 : List (HloOp τ sig (Elt F))).Forall fun op => op.bufs ⊆ tcRefs τ sig := by simp [List.forall_cons]
set_option maxHeartbeats 2000000 in
theorem val3 (V : Valuation τ sig (Elt F)) : after (ops3 (F := F)) V (Proc.devRef .tc main_v21) = pr (V (Proc.devRef .tc main_v17)) (wgt (V (Proc.devRef .tc main_arg5)) (V (Proc.devRef .tc main_v0))) := by
  after_results_entrywise []

/-- Part 4: its operations, what they write, that they keep the rest, and its value. -/
abbrev ops4 : List (HloOp τ sig (Elt F)) :=
  [ nullary main_c_5 (constantI S_ 32 0#32),
    nullary main_c_6 (constantI S_ 32 0#32),
    unaryIndexed main_arg7 ![main_v0, main_c_5, main_c_6] ⟨S_, .i32⟩ main_v22 ((fun x i => Host.dynamicSlice S1x1x2048 x (fun k => (i k (Shape.Idx.first h_S_)).toInt) sliceFits_S4x1x2048_S1x1x2048) : (⟨S4x1x2048, .f32⟩ : BufTy).Contents (Elt F) → (Fin 3 → (⟨S_, .i32⟩ : BufTy).Contents (Elt F)) → (⟨S1x1x2048, .f32⟩ : BufTy).Contents (Elt F)),
    reshape main_v22 main_v23 (rfl : (.f32 : EltTy) = .f32) shapeCasts_S1x1x2048_S1x2048,
    binary main_v21 main_v21 main_v24 (mulf : (⟨S8192x2048, .f32⟩ : BufTy).Contents (Elt F) → (⟨S8192x2048, .f32⟩ : BufTy).Contents (Elt F) → (⟨S8192x2048, .f32⟩ : BufTy).Contents (Elt F)),
    nullary main_cst_7 (constant S_ .f32 0x00000000#32),
    binary main_v24 main_cst_7 main_v25 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    unary main_v25 main_v26 (broadcastInDim S8192x1 ![0] bcast_S8192_S8192x1_0 : (⟨S8192, .f32⟩ : BufTy).Contents (Elt F) → (⟨S8192x1, .f32⟩ : BufTy).Contents (Elt F)),
    nullary main_cst_8 (constant S_ .f32 0x45000000#32),
    unary main_cst_8 main_v27 (broadcastInDim S8192x1 ![] bcast_S_S8192x1 : (⟨S_, .f32⟩ : BufTy).Contents (Elt F) → (⟨S8192x1, .f32⟩ : BufTy).Contents (Elt F)),
    binary main_v26 main_v27 main_v28 (Host.divf : (⟨S8192x1, .f32⟩ : BufTy).Contents (Elt F) → (⟨S8192x1, .f32⟩ : BufTy).Contents (Elt F) → (⟨S8192x1, .f32⟩ : BufTy).Contents (Elt F)),
    nullary main_cst_9 (constant S_ .f32 0x358637BD#32),
    unary main_cst_9 main_v29 (broadcastInDim S8192x1 ![] bcast_S_S8192x1 : (⟨S_, .f32⟩ : BufTy).Contents (Elt F) → (⟨S8192x1, .f32⟩ : BufTy).Contents (Elt F)),
    binary main_v28 main_v29 main_v30 (addf : (⟨S8192x1, .f32⟩ : BufTy).Contents (Elt F) → (⟨S8192x1, .f32⟩ : BufTy).Contents (Elt F) → (⟨S8192x1, .f32⟩ : BufTy).Contents (Elt F)),
    unary main_v30 main_v31 (Host.rsqrt : (⟨S8192x1, .f32⟩ : BufTy).Contents (Elt F) → (⟨S8192x1, .f32⟩ : BufTy).Contents (Elt F)),
    unary main_v31 main_v32 (broadcastInDim S8192x2048 ![0, 1] bcast_S8192x1_S8192x2048_0_1 : (⟨S8192x1, .f32⟩ : BufTy).Contents (Elt F) → (⟨S8192x2048, .f32⟩ : BufTy).Contents (Elt F)),
    binary main_v21 main_v32 main_v33 (mulf : (⟨S8192x2048, .f32⟩ : BufTy).Contents (Elt F) → (⟨S8192x2048, .f32⟩ : BufTy).Contents (Elt F) → (⟨S8192x2048, .f32⟩ : BufTy).Contents (Elt F)),
    unary main_v23 main_v34 (broadcastInDim S8192x2048 ![0, 1] bcast_S1x2048_S8192x2048_0_1 : (⟨S1x2048, .f32⟩ : BufTy).Contents (Elt F) → (⟨S8192x2048, .f32⟩ : BufTy).Contents (Elt F)),
    binary main_v33 main_v34 main_v35 (mulf : (⟨S8192x2048, .f32⟩ : BufTy).Contents (Elt F) → (⟨S8192x2048, .f32⟩ : BufTy).Contents (Elt F) → (⟨S8192x2048, .f32⟩ : BufTy).Contents (Elt F)),
    binary main_arg6 main_v35 main_v36 (addf : (⟨S8192x2048, .f32⟩ : BufTy).Contents (Elt F) → (⟨S8192x2048, .f32⟩ : BufTy).Contents (Elt F) → (⟨S8192x2048, .f32⟩ : BufTy).Contents (Elt F))]
abbrev wr4 : List (Ref sig .tc) := [main_c_5, main_c_6, main_v22, main_v23, main_v24, main_cst_7, main_v25, main_v26, main_cst_8, main_v27, main_v28, main_cst_9, main_v29, main_v30, main_v31, main_v32, main_v33, main_v34, main_v35, main_v36]
theorem keep4 {r : Ref sig .tc} (hr : r ∉ wr4) (V : Valuation τ sig (Elt F)) : after (ops4 (F := F)) V (Proc.devRef .tc r) = V (Proc.devRef .tc r) :=
  after_unwritten wr4 rfl hr V
theorem sub4 : (ops4 : List (HloOp τ sig (Elt F))).Forall fun op => op.bufs ⊆ tcRefs τ sig := by simp [List.forall_cons]
set_option maxHeartbeats 2000000 in
theorem val4 (V : Valuation τ sig (Elt F)) : after (ops4 (F := F)) V (Proc.devRef .tc main_v36) = addf (V (Proc.devRef .tc main_arg6)) (rms (V (Proc.devRef .tc main_v21)) (gain (V (Proc.devRef .tc main_arg7)) (V (Proc.devRef .tc main_v0)))) := by
  after_results_entrywise []

/-- All of them, in order. -/
abbrev ops : List (HloOp τ sig (Elt F)) := ops1 ++ (ops2 ++ (ops3 ++ ops4))

theorem after_parts (l k : List (HloOp τ sig (Elt F))) (V : Valuation τ sig (Elt F)) : after (l ++ k) V = after k (after l V) := by
  induction l generalizing V with
  | nil => rfl
  | cons o l ih => exact ih (o.result V)

set_option maxRecDepth 8192 in
set_option maxHeartbeats 4000000 in
theorem main_ops (c : Dev nD) : main (F := F) c = seq ops := rfl

theorem noRefs : (Finset.univ.filter fun b : Ref sig .tc => b.isScoped) = ∅ := by decide
theorem noSems : (Finset.univ.filter fun sm : SemLoc sig => sm.isScoped .tc) = ∅ := by decide

/-- The result, over the operands. -/
def res (x0 : (⟨S1, .i32⟩ : BufTy).Contents (Elt F)) (x1 : (⟨S8192x1024, .f32⟩ : BufTy).Contents (Elt F)) (x2 : (⟨S8192x512, .bf16⟩ : BufTy).Contents (Elt F)) (x3 : (⟨S8192x512, .bf16⟩ : BufTy).Contents (Elt F)) (x4 : (⟨S4x1x1024, .f32⟩ : BufTy).Contents (Elt F)) (x5 : (⟨S4x2048x2048, .bf16⟩ : BufTy).Contents (Elt F)) (x6 : (⟨S8192x2048, .f32⟩ : BufTy).Contents (Elt F)) (x7 : (⟨S4x1x2048, .f32⟩ : BufTy).Contents (Elt F)) : (⟨S8192x2048, .f32⟩ : BufTy).Contents (Elt F) :=
  addf x6 (rms (pr (join (rmsa x1 (gaina x4 (st (F := F) x0))) (extf .f32 (x2 : (⟨S8192x512, .bf16⟩ : BufTy).Contents (Elt F)) bitsLt_bf16_f32 : (⟨S8192x512, .f32⟩ : BufTy).Contents (Elt F)) (extf .f32 (x3 : (⟨S8192x512, .bf16⟩ : BufTy).Contents (Elt F)) bitsLt_bf16_f32 : (⟨S8192x512, .f32⟩ : BufTy).Contents (Elt F))) (wgt x5 (st (F := F) x0))) (gain x7 (st (F := F) x0)))

/-- What none of the operations writes is kept. -/
theorem keep {r : Ref sig .tc} (h1 : r ∉ wr1) (h2 : r ∉ wr2) (h3 : r ∉ wr3) (h4 : r ∉ wr4) (V : Valuation τ sig (Elt F)) :
    after (ops (F := F)) V (Proc.devRef .tc r) = V (Proc.devRef .tc r) := by
  unfold ops
  rw [after_parts, after_parts, after_parts, keep4 h4, keep3 h3, keep2 h2, keep1 h1]

theorem val (V : Valuation τ sig (Elt F)) : after (ops (F := F)) V (Proc.devRef .tc main_v36)
    = res (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold ops res
  rw [after_parts, after_parts, after_parts, val4, val3, val2,
    keep3 (r := main_arg6) (by decide), keep2 (r := main_arg6) (by decide), keep1 (r := main_arg6) (by decide),
    keep3 (r := main_arg7) (by decide), keep2 (r := main_arg7) (by decide), keep1 (r := main_arg7) (by decide),
    keep3 (r := main_v0) (by decide), keep2 (r := main_v0) (by decide), val0,
    keep2 (r := main_arg5) (by decide), keep1 (r := main_arg5) (by decide),
    keep1 (r := main_arg2) (by decide), keep1 (r := main_arg3) (by decide), val1]

/-- The run: the result buffer holds the result, and the operands are as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v36).trans (val _),
      (h c main_arg0).trans (keep (by decide) (by decide) (by decide) (by decide) _),
      (h c main_arg1).trans (keep (by decide) (by decide) (by decide) (by decide) _),
      (h c main_arg2).trans (keep (by decide) (by decide) (by decide) (by decide) _),
      (h c main_arg3).trans (keep (by decide) (by decide) (by decide) (by decide) _),
      (h c main_arg4).trans (keep (by decide) (by decide) (by decide) (by decide) _),
      (h c main_arg5).trans (keep (by decide) (by decide) (by decide) (by decide) _),
      (h c main_arg6).trans (keep (by decide) (by decide) (by decide) (by decide) _),
      (h c main_arg7).trans (keep (by decide) (by decide) (by decide) (by decide) _)⟩)
    (run_seq noRefs noSems defs main (fun _ => ops) main_ops
      (fun _ => by simp only [ops, List.forall_append]; exact ⟨sub1, sub2, sub3, sub4⟩) m ρ)

end Cert.Proof.OutQ

end
-- ==== Proof.OutR.lean ====
module

public import proofs.«01_k».proof.Proof.OutQ
public import proofs.«01_k».proof.Proof.OutS
public import Idealize.ShloMosaic.Lib.DynamicIndex
public import Idealize.ShloMosaic.Lib.Pointwise

@[expose] public section

noncomputable section

/-! The result of the output projection's reference, entry by entry, over the extended reals. -/

namespace Cert.Proof.OutR

open Cert.OutprojReferenceIdeal Cert.OutprojReferenceIdeal.Gen Idealize.ShloMosaic Cert.Proof.FfnS Cert.Proof.OutS Cert.Proof.OutQ

/-- Where a layer's parameters start. -/
theorem start (x0 : IVec S1 32) (L : Fin 4) (h : (x0 (ix1 0)).toNat = L.val) (k : Fin 3) : at3 (F := Ideal) (st (F := Ideal) x0) k = ((![L.val, 0, 0] : Fin 3 → ℕ) k : ℤ) := by
  match k with
  | ⟨0, _⟩ =>
    have e : st (F := Ideal) x0 (Shape.Idx.first h_S_) = x0 (ix1 0) := by
      unfold st shapeCast
      exact congrArg x0 (funext fun a => by match a with | ⟨0, _⟩ => exact Subsingleton.elim (α := Fin 1) _ _)
    show (st (F := Ideal) x0 (Shape.Idx.first h_S_)).toInt = (L.val : ℤ)
    rw [e, BitVec.toInt_eq_toNat_cond, if_pos (by omega), h]
  | ⟨1, _⟩ => rfl
  | ⟨2, _⟩ => rfl

variable (s : IVec S_ 32) (L : Fin 4) (h : ∀ k, at3 (F := Ideal) s k = ((![L.val, 0, 0] : Fin 3 → ℕ) k : ℤ))
include h

/-- The layer's parameters, entry by entry. -/
theorem gaina_eq (p : FVec Ideal S4x1x1024 .f32) (d : Fin 1024) : gaina (F := Ideal) p s (ix2 0 d) = p (ix3 L 0 d) := by
  unfold gaina
  rw [Host.dynamicSlice_eq_extractStridedSlice S1x1x1024 p _ ![L.val, 0, 0] _ ⟨rfl, fun k => by
    match k with
    | ⟨0, _⟩ => show L.val + 1 ≤ 4; omega
    | ⟨1, _⟩ => show 0 + 1 ≤ 1; omega
    | ⟨2, _⟩ => show 0 + 1024 ≤ 1024; omega⟩ h]
  pointwise
theorem gain_eq (p : FVec Ideal S4x1x2048 .f32) (d : Fin 2048) : gain (F := Ideal) p s (ix2 0 d) = p (ix3 L 0 d) := by
  unfold gain
  rw [Host.dynamicSlice_eq_extractStridedSlice S1x1x2048 p _ ![L.val, 0, 0] _ ⟨rfl, fun k => by
    match k with
    | ⟨0, _⟩ => show L.val + 1 ≤ 4; omega
    | ⟨1, _⟩ => show 0 + 1 ≤ 1; omega
    | ⟨2, _⟩ => show 0 + 2048 ≤ 2048; omega⟩ h]
  pointwise
theorem wgt_eq (p : FVec Ideal S4x2048x2048 .bf16) (k d : Fin 2048) : wgt (F := Ideal) p s (ix2 k d) = p (ix3 L k d) := by
  unfold wgt
  rw [Host.dynamicSlice_eq_extractStridedSlice S1x2048x2048 p _ ![L.val, 0, 0] _ ⟨rfl, fun k => by
    match k with
    | ⟨0, _⟩ => show L.val + 1 ≤ 4; omega
    | ⟨1, _⟩ => show 0 + 2048 ≤ 2048; omega
    | ⟨2, _⟩ => show 0 + 2048 ≤ 2048; omega⟩ h]
  pointwise

omit h

/-- The reference's steps, entry by entry. -/
theorem rmsa_eq (x : FVec Ideal S8192x1024 .f32) (g : FVec Ideal S1x1024 .f32) (n : Fin 8192) (d : Fin 1024) :
    rmsa (F := Ideal) x g (ix2 n d) = nrma (fun k => x (ix2 n k)) (fun k => g (ix2 0 k)) d := by
  pointwise [rmsa]
  rfl
theorem rms_eq (x : FVec Ideal S8192x2048 .f32) (g : FVec Ideal S1x2048 .f32) (n : Fin 8192) (d : Fin 2048) :
    rms (F := Ideal) x g (ix2 n d) = nrm (fun k => x (ix2 n k)) (fun k => g (ix2 0 k)) d := by
  pointwise [rms]
  rfl
theorem pr_eq (x : FVec Ideal S8192x2048 .f32) (w : FVec Ideal S2048x2048 .f32) (n : Fin 8192) (d : Fin 2048) :
    pr (F := Ideal) x w (ix2 n d) = ∑ k, x (ix2 n k) * w (ix2 k d) := by
  pointwise [pr]
theorem join_eq (a : FVec Ideal S8192x1024 .f32) (b c : FVec Ideal S8192x512 .f32) (n : Fin 8192) (k : Fin 2048) :
    join (F := Ideal) a b c (ix2 n k) = side (fun d => a (ix2 n d)) (fun d => b (ix2 n d)) (fun d => c (ix2 n d)) k := by
  unfold side
  pointwise [join]

variable (x0 : IVec S1 32) (x1 : FVec Ideal S8192x1024 .f32) (x2 x3 : FVec Ideal S8192x512 .bf16) (x4 : FVec Ideal S4x1x1024 .f32)
  (x5 : FVec Ideal S4x2048x2048 .bf16) (x6 : FVec Ideal S8192x2048 .f32) (x7 : FVec Ideal S4x1x2048 .f32)

/-- The reference's result is the output projection. -/
theorem ref_eq (hL : (x0 (ix1 0)).toNat = L.val) : res (F := Ideal) x0 x1 x2 x3 x4 x5 x6 x7 = outp L x1 x2 x3 x4 x5 x6 x7 := by
  have h := start x0 L hL
  funext y
  obtain ⟨n, d, rfl⟩ : ∃ n d, y = ix2 n d := ⟨y 0, y 1, funext fun a => by
    match a with
    | ⟨0, _⟩ => rfl
    | ⟨1, _⟩ => rfl⟩
  unfold res
  show x6 (ix2 n d) + rms (F := Ideal) _ _ (ix2 n d) = _
  rw [rms_eq]
  simp only [pr_eq, join_eq, rmsa_eq, gaina_eq _ L h, gain_eq _ L h, wgt_eq _ L h]
  rfl

end Cert.Proof.OutR

end
-- ==== Proof.OutC.lean ====
module

public import proofs.«01_k».proof.Defs
public import proofs.«01_k».proof.Proof.OutK
public import proofs.«01_k».proof.Proof.OutN
public import proofs.«01_k».proof.Proof.OutR
public import Idealize.ShloMosaic.Adequacy
public import Idealize.ShloMosaic.Init

@[expose] public section

noncomputable section

/-! The claims about the output projection. -/

namespace Cert.Proof.OutC

open Idealize.ShloMosaic Idealize.ShloMosaic.TcCoe Idealize.SL.Sem

/-- The printed kernel runs, keeps its operands and ends with every counter at zero. -/
theorem frame_printed : Cert.quiescent_Outproj := fun m g hpre => Cert.Outproj.Gen.frame (F := Bits) m g (OutK.ok m (OutP.lt_of_pre _ _ _ _ _ _ _ _ (hpre 0)))

/-- So does the idealized kernel, -/
theorem lt (m : (ℓ : Loc Cert.OutprojIdeal.nD Cert.OutprojIdeal.τ Cert.OutprojIdeal.sig) → Buf (Elt Ideal) ℓ) (hpre : Cert.Pre_OutprojIdeal m) : (OutI.lay m).toNat < 4 :=
  OutP.lt_of_pre _ _ _ _ _ _ _ _ (hpre 0)
theorem frame_ideal : Cert.quiescent_OutprojIdeal := fun m g hpre => Cert.OutprojIdeal.Gen.frame (F := Ideal) m g (OutI.ok m (lt m hpre))

/-- and the reference, which declares no counter. -/
theorem frame_ref : Cert.quiescent_OutprojReferenceIdeal := fun m g _ =>
  (θ_run Cert.OutprojReferenceIdeal.defs _ _).mono (fun r h => ⟨fun c => (h c).2, Idealize.ShloMosaic.sem_eq_zero_of_no_sems (by decide) r.2⟩) (OutQ.run (F := Ideal) m g)
theorem frame_ref_pre : Cert.quiescent_OutprojReferenceIdeal_pre_layer_in_outproj := fun m g _ => frame_ref m g trivial

/-- The idealization rewrote nothing. -/
theorem preserves : Cert.preserves_Outproj_OutprojIdeal := trivial

/-- At a layer of the stack both programs end with the output projection on their operands. -/
theorem algebraic : Cert.algebraic_OutprojIdeal_OutprojReferenceIdeal := by
  intro m g m' g' hpre hag
  have hl := lt m hpre
  refine ⟨fun c => OutS.outp (OutN.L m hl) (OutN.aa m c) (OutN.ab m c) (OutN.ac m c) (OutN.aga m c) (OutN.aw m c) (OutN.ah m c) (OutN.agp m c), ?_, ?_⟩
  · refine (θ_run Cert.OutprojIdeal.defs _ _).mono (fun r h c => ⟨((h.1 c).1 7).trans (OutN.final m hl c), h.2.1 c⟩)
      (θ_run_and (Cert.OutprojIdeal.Gen.run_main (F := Ideal) m g (OutI.ok m hl)) (Cert.OutprojIdeal.Gen.frame (F := Ideal) m g (OutI.ok m hl)))
  · refine (θ_run Cert.OutprojReferenceIdeal.defs _ _).mono (fun r h c => ⟨(h c).1.trans ?_, (h c).2⟩) (OutQ.run (F := Ideal) m' g')
    obtain ⟨h0, h1, h2, h3, h4, h5, h6, h7⟩ := hag c
    rw [h0, h1, h2, h3, h4, h5, h6, h7]
    have c0 : c = 0 := Subsingleton.elim _ _
    subst c0
    exact OutR.ref_eq (OutN.L m hl) _ _ _ _ _ _ _ _ rfl

end Cert.Proof.OutC

end
-- ==== Proof.ConvP.lean ====
module

public import proofs.«01_k».proof.Proof.Gen.Pre_layer_in_conv
public import Idealize.ShloMosaic.Lib.Pointwise
public import Idealize.ShloMosaic.Lib.DynamicIndex

@[expose] public section

noncomputable section

/-! The layer's number, where the convolution's precondition holds. -/

namespace Cert.Proof.ConvP

open Idealize.ShloMosaic

variable {F : FTy → Type} [FloatOps F]

/-- Where the precondition holds the layer's number is below 4. -/
theorem lt_of_pre (x0 : IVec Cert.Pre_layer_in_conv.S1 32) (x1 : FVec F Cert.Pre_layer_in_conv.S4x2048x2048 .f32) (x2 : FVec F Cert.Pre_layer_in_conv.S4x31x512 .f32)
    (x3 x4 x5 x6 : FVec F Cert.Pre_layer_in_conv.S4x1x512 .f32)
    (h : Cert.Pre_layer_in_conv.fn (F := F) x0 x1 x2 x3 x4 x5 x6 = fun _ => 1#1) : (x0 (ix1 0)).toNat < 4 := by
  have e := congrFun h (ix1 0)
  unfold Cert.Pre_layer_in_conv.fn at e
  pointwise at e
  generalize x0 (ix1 0) = b at e ⊢
  simp only [IntOp.andi, IntOp.cmpi, BitVec.sle, BitVec.slt] at e
  have t : b.toInt = if 2 * b.toNat < 2 ^ 32 then (b.toNat : ℤ) else (b.toNat : ℤ) - (2 ^ 32 : ℕ) := BitVec.toInt_eq_toNat_cond b
  have hb := b.isLt
  have z0 : (0#32).toInt = 0 := by decide
  have z4 : (4#32).toInt = 4 := by decide
  rw [z0, z4] at e
  by_cases p : 0 ≤ b.toInt
  · by_cases q : b.toInt < 4
    · split at t <;> omega
    · rw [decide_eq_true p, decide_eq_false q] at e; exact absurd e (by decide)
  · by_cases q : b.toInt < 4
    · rw [decide_eq_false p, decide_eq_true q] at e; exact absurd e (by decide)
    · rw [decide_eq_false p, decide_eq_false q] at e; exact absurd e (by decide)

end Cert.Proof.ConvP

end
-- ==== Proof.ConvI.lean ====
module

public import proofs.«01_k».proof.Proof.Gen.ConvIdeal
public import proofs.«01_k».proof.Proof.Gen.ConvIdeal.Frame
public import proofs.«01_k».proof.Proof.ConvP

@[expose] public section

noncomputable section

/-! The idealized convolution runs: the blocks of its operands are inside them where the layer's number is. -/

namespace Cert.Proof.ConvI

open Cert.ConvIdeal Cert.ConvIdeal.Gen Idealize.ShloMosaic Idealize.ShloMosaic.TcCoe Idealize.SL.Sem

variable {F : FTy → Type} [FloatOps F] (m : (ℓ : Loc nD τ sig) → Buf (Elt F) ℓ)

/-- The layer's number, as the launch finds it. -/
abbrev lay : BitVec 32 := m ((0 : Dev nD).tc.loc main_arg0) (ix1 0)

/-- The index maps read the layer's number. -/
theorem at_tbl (r : Rect S1) (hr : r.shape.numel = 1) : (tbl m).at 0 r hr = lay m := by
  show (tbl m) 0 _ = _
  exact congrArg (m ((0 : Dev nD).tc.loc main_arg0)) (funext fun a => by match a with | ⟨0, _⟩ => exact Subsingleton.elim (α := Fin 1) _ _)

/-- A layer of the stack puts every block inside its operand, at whole words. -/
theorem ok (h : (lay m).toNat < 4) : Ok m := by
  unfold Ok ok0
  refine ⟨fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩⟩
  · unfold cc0_transform_2; rw [at_tbl m]
    match a with
    | ⟨0, _⟩ => show ((lay m).toNat + 1) * 1 ≤ 4; omega
    | ⟨1, _⟩ => show (0 + 1) * 31 ≤ 31; omega
    | ⟨2, _⟩ => show (0 + 1) * 512 ≤ 512; omega
  · unfold cc0_transform_3; rw [at_tbl m]
    match a with
    | ⟨0, _⟩ => show ((lay m).toNat + 1) * 1 ≤ 4; omega
    | ⟨1, _⟩ => show (0 + 1) * 1 ≤ 1; omega
    | ⟨2, _⟩ => show (0 + 1) * 512 ≤ 512; omega
  · unfold cc0_transform_4; rw [at_tbl m]
    match a with
    | ⟨0, _⟩ => show ((lay m).toNat + 1) * 1 ≤ 4; omega
    | ⟨1, _⟩ => show (0 + 1) * 1 ≤ 1; omega
    | ⟨2, _⟩ => show (0 + 1) * 512 ≤ 512; omega
  · unfold cc0_transform_5; rw [at_tbl m]
    match a with
    | ⟨0, _⟩ => show ((lay m).toNat + 1) * 1 ≤ 4; omega
    | ⟨1, _⟩ => show (0 + 1) * 1 ≤ 1; omega
    | ⟨2, _⟩ => show (0 + 1) * 512 ≤ 512; omega
  · unfold cc0_transform_6; rw [at_tbl m]
    match a with
    | ⟨0, _⟩ => show ((lay m).toNat + 1) * 1 ≤ 4; omega
    | ⟨1, _⟩ => show (0 + 1) * 1 ≤ 1; omega
    | ⟨2, _⟩ => show (0 + 1) * 512 ≤ 512; omega

end Cert.Proof.ConvI

end
-- ==== Proof.ConvV.lean ====
module

public import proofs.«01_k».proof.Proof.ConvI
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.WritesUnit

@[expose] public section

noncomputable section

/-! What each point of the convolution leaves, over its blocks and what the point before carried. -/

namespace Cert.Proof.ConvV

open Cert.ConvIdeal Cert.ConvIdeal.Gen Idealize.ShloMosaic Idealize.ShloMosaic.TcCoe Idealize.ShloMosaic.Tactic

variable {F : FTy → Type} [FloatOps F]

theorem z3 : (![0, 0, 0] : Fin 3 → Nat) = fun _ => 0 := by decide

/-- The rows carried, and under them the rows of this point. -/
def win (xs : Vec F S288x512 .f32) (W : Vec F S256x512 .f32) : Vec F S288x512 .f32 := fun y =>
  if h : 32 ≤ (y (0 : Fin 2)).val then W (ix2 (⟨(y (0 : Fin 2)).val - 32, by have : (y (0 : Fin 2)).val < 288 := (y (0 : Fin 2)).isLt; omega⟩ : Fin 256) (y (1 : Fin 2)))
  else xs y

/-- Nothing carried. -/
def zer : Vec F S288x512 .f32 := fun _ => Scalar.ofBits .f32 0x00000000#32

/-- Thirty-two rows from a row on. -/
def ldr (U : Vec F S288x512 .f32) (off : ℕ) : Vec F S32x512 .f32 := fun x =>
  if h : off + (x (0 : Fin 2)).val < 288 then U (ix2 (⟨off + (x (0 : Fin 2)).val, h⟩ : Fin 288) (x (1 : Fin 2))) else U (ix2 (0 : Fin 288) (x (1 : Fin 2)))

/-- One tap. -/
def tp (T : Vec F S1x31x512 .f32) (k : ℕ) : Vec F S1x1x512 .f32 := fun x =>
  if h : k < 31 then T (ix3 (0 : Fin 1) (⟨k, h⟩ : Fin 31) (x (2 : Fin 3))) else T (ix3 (0 : Fin 1) (0 : Fin 31) (x (2 : Fin 3)))

/-- A vector on every row. -/
def vrow (w : Vec F S1x1x512 .f32) : FVec F S32x512 .f32 :=
  broadcastTo S32x512 (shapeCast S1x512 w shapeCasts_S1x1x512_S1x512) broadcasts_S1x512_S32x512

/-- The bias on every row. -/
def brow (w : Vec F S1x1x512 .f32) : FVec F S32x512 .f32 :=
  broadcastTo S32x512 (shapeCast S1x512 (shapeCast S1x512 w shapeCasts_S1x1x512_S1x512) shapeCasts_S1x512_S1x512) broadcasts_S1x512_S32x512

/-- One tap's term added. -/
def more (a : FVec F S32x512 .f32) (u : Vec F S32x512 .f32) (w : Vec F S1x1x512 .f32) : FVec F S32x512 .f32 := addf a (mulf u (vrow w))

/-- The bias and the taps' terms. -/
def accu (x3 : Vec F S1x1x512 .f32) (V : ℕ → Vec F S32x512 .f32) (w : ℕ → Vec F S1x1x512 .f32) : FVec F S32x512 .f32 :=
  (more (more (more (more (more (more (more (more (more (more (more (more (more (more (more (more (more (more (more (more (more (more (more (more (more (more (more (more (more (more (more (brow x3) (V 0) (w 0)) (V 1) (w 1)) (V 2) (w 2)) (V 3) (w 3)) (V 4) (w 4)) (V 5) (w 5)) (V 6) (w 6)) (V 7) (w 7)) (V 8) (w 8)) (V 9) (w 9)) (V 10) (w 10)) (V 11) (w 11)) (V 12) (w 12)) (V 13) (w 13)) (V 14) (w 14)) (V 15) (w 15)) (V 16) (w 16)) (V 17) (w 17)) (V 18) (w 18)) (V 19) (w 19)) (V 20) (w 20)) (V 21) (w 21)) (V 22) (w 22)) (V 23) (w 23)) (V 24) (w 24)) (V 25) (w 25)) (V 26) (w 26)) (V 27) (w 27)) (V 28) (w 28)) (V 29) (w 29)) (V 30) (w 30))

/-- The rows' means, the rows less them, the rows over the roots of their mean squares, and the gate. -/
def mid (v : FVec F S32x512 .f32) : FVec F S32x1 .f32 :=
  divf (shapeCast S32x1 (multiReduction .add [1] S32 v 0x00000000#32 reduces_S32x512_S32 (.inl rfl) rfl) shapeCasts_S32_S32x1) (broadcast S32x1 (Scalar.ofBits .f32 0x44000000#32))
def cent (v : FVec F S32x512 .f32) : FVec F S32x512 .f32 := subf v (broadcastTo S32x512 (mid v) broadcasts_S32x1_S32x512)
def over (v : FVec F S32x512 .f32) : FVec F S32x512 .f32 :=
  mulf v (broadcastTo S32x512 (rsqrt (addf (mid (mulf v v)) (broadcast S32x1 (Scalar.ofBits .f32 0x358637BD#32)))) broadcasts_S32x1_S32x512)
def swish (v : FVec F S32x512 .f32) : FVec F S32x512 .f32 :=
  mulf v (divf (broadcast S32x512 (Scalar.ofBits .f32 0x3F800000#32)) (addf (broadcast S32x512 (Scalar.ofBits .f32 0x3F800000#32)) (exp (subf (broadcast S32x512 (Scalar.ofBits .f32 0x00000000#32)) v))))

/-- What follows the sum. -/
def tail (v : FVec F S32x512 .f32) (g s q : Vec F S1x1x512 .f32) : FVec F S1x32x512 .bf16 :=
  shapeCast S1x32x512 (truncf .bf16 (mulf (over (swish (addf (mulf (over (cent v)) (vrow g)) (vrow s)))) (vrow q)) bitsLt_bf16_f32) shapeCasts_S32x512_S1x32x512

/-- A group of thirty-two rows of the result. -/
def chunk (T : Vec F S1x31x512 .f32) (b g s q : Vec F S1x1x512 .f32) (U : Vec F S288x512 .f32) (r : ℕ) : FVec F S1x32x512 .bf16 :=
  tail (accu b (fun k => ldr U (r + (2 + k))) (tp T)) g s q

/-- The block of the result a point leaves. -/
def outv (T : Vec F S1x31x512 .f32) (b g s q : Vec F S1x1x512 .f32) (U : Vec F S288x512 .f32) : Vec F S1x256x512 .bf16 := fun y =>
  chunk T b g s q U (32 * ((y (1 : Fin 3)).val / 32)) (ix3 (0 : Fin 1) (⟨(y (1 : Fin 3)).val % 32, Nat.mod_lt _ (by decide)⟩ : Fin 32) (y (2 : Fin 3)))

/-- Read at a row of a group. -/
theorem outv_at (T : Vec F S1x31x512 .f32) (b g s q : Vec F S1x1x512 .f32) (U : Vec F S288x512 .f32) (j : ℕ) (y : S1x256x512.Idx) (x : S1x32x512.Idx)
    (h1 : (y (1 : Fin 3)).val = 32 * j + (x (1 : Fin 3)).val) (h2 : (y (2 : Fin 3)).val = (x (2 : Fin 3)).val) :
    outv T b g s q U y = chunk T b g s q U (32 * j) x := by
  have hx0 : (x (0 : Fin 3)).val < 1 := (x (0 : Fin 3)).isLt
  have hx1 : (x (1 : Fin 3)).val < 32 := (x (1 : Fin 3)).isLt
  unfold outv
  rw [show 32 * ((y (1 : Fin 3)).val / 32) = 32 * j by omega]
  refine congrArg (chunk T b g s q U (32 * j)) (funext fun a => Fin.ext ?_)
  match a with
  | ⟨0, _⟩ => show 0 = (x (0 : Fin 3)).val; omega
  | ⟨1, _⟩ => show (y (1 : Fin 3)).val % 32 = (x (1 : Fin 3)).val; omega
  | ⟨2, _⟩ => exact h2

/-- The scratch a point leaves: its first rows are the point's last. -/
def carry (U : Vec F S288x512 .f32) : Vec F S288x512 .f32 := fun y =>
  if h : (y (0 : Fin 2)).val < 32 then U (ix2 (⟨256 + (y (0 : Fin 2)).val, by omega⟩ : Fin 288) (y (1 : Fin 2))) else U y

section Loads

variable (m : Memref sig .tc .vmem S288x512 .f32) (hm : m.IsWhole) (xs : Vec F S288x512 .f32) (W : Vec F S256x512 .f32)

/-- The scratch after the point's rows are written over what was carried. -/
theorem rd (y : S288x512.Idx) : View.read (Elt F) m.view (m.view.writes (Elt F) (hm.unread xs)
    [⟨Rect.unit ![32, 0] ![256, 512] inb_S288x512_S256x512_32_0, W⟩]) y = win xs W y := by
  have h0 : (y (0 : Fin 2)).val < 288 := (y (0 : Fin 2)).isLt
  unfold win
  split
  · rename_i h
    exact View.read_writes_cons_rows_of_mem (o := 32) m.view (hm.unread xs) inb_S288x512_S256x512_32_0 W [] y (ix2 (⟨(y (0 : Fin 2)).val - 32, by omega⟩ : Fin 256) (y (1 : Fin 2))) rfl (by show (y (0 : Fin 2)).val = 32 + ((y (0 : Fin 2)).val - 32); omega) rfl
  · rename_i h
    refine (View.read_writes_cons_rows_of_not_mem (o := 32) (W := 256) m.view (hm.unread xs) inb_S288x512_S256x512_32_0 W [] y rfl rfl (by omega)).trans ?_
    rw [View.writes_nil, hm.read_unread]

/-- Rows of it. -/
theorem ld_rd (off : ℕ) (inb : ∀ a : Fin 2, (![off, 0] : Fin 2 → ℕ) a + (![32, 512] : Fin 2 → ℕ) a ≤ S288x512.size a) :
    View.ld (View.read (Elt F) m.view (m.view.writes (Elt F) (hm.unread xs)
      [⟨Rect.unit ![32, 0] ![256, 512] inb_S288x512_S256x512_32_0, W⟩])) (Rect.unit (s := S288x512) ![off, 0] ![32, 512] inb) = ldr (win xs W) off := by
  funext x
  have h0 : (x (0 : Fin 2)).val < 32 := (x (0 : Fin 2)).isLt
  have hi : off + 32 ≤ 288 := inb 0
  refine (rd m hm xs W _).trans ?_
  unfold ldr
  rw [dif_pos (by omega)]
  refine congrArg (win xs W) (funext fun a => Fin.ext ?_)
  match a with
  | ⟨0, _⟩ => show off + 1 * (x (0 : Fin 2)).val = off + (x (0 : Fin 2)).val; omega
  | ⟨1, _⟩ => show 0 + 1 * (x (1 : Fin 2)).val = (x (1 : Fin 2)).val; omega

/-- Rows of this point alone. -/
theorem cov_rd (off : ℕ) (h32 : 32 ≤ off) (inb : ∀ a : Fin 2, (![off, 0] : Fin 2 → ℕ) a + (![32, 512] : Fin 2 → ℕ) a ≤ S288x512.size a) :
    m.view.readCov (Val := Elt F) [⟨Rect.unit ![32, 0] ![256, 512] inb_S288x512_S256x512_32_0, W⟩] (Rect.unit (s := S288x512) ![off, 0] ![32, 512] inb).toLoadRect = ldr (win xs W) off := by
  funext x
  have h0 : (x (0 : Fin 2)).val < 32 := (x (0 : Fin 2)).isLt
  have hi : off + 32 ≤ 288 := inb 0
  have hx1 : (x (1 : Fin 2)).val < 512 := (x (1 : Fin 2)).isLt
  refine (View.read_writes_cons_rows_of_mem (o := 32) m.view m.view.junk inb_S288x512_S256x512_32_0 W [] _ (ix2 (⟨off + (x (0 : Fin 2)).val - 32, by omega⟩ : Fin 256) (⟨(x (1 : Fin 2)).val, hx1⟩ : Fin 512)) rfl
    (by show off + 1 * (x (0 : Fin 2)).val = 32 + (off + (x (0 : Fin 2)).val - 32); omega) (by show 0 + 1 * (x (1 : Fin 2)).val = (x (1 : Fin 2)).val; omega)).trans ?_
  unfold ldr
  rw [dif_pos (by omega)]
  unfold win
  rw [dif_pos (by show 32 ≤ off + (x (0 : Fin 2)).val; omega)]
  rfl

/-- The scratch after the point's rows are written where nothing was carried. -/
theorem rdz (f : m.view.ty.Contents (Elt F)) (y : S288x512.Idx) : View.read (Elt F) m.view (m.view.writes (Elt F) f
    [⟨Rect.unit ![32, 0] ![256, 512] inb_S288x512_S256x512_32_0, W⟩, ⟨Rect.unit ![0, 0] S32x512.size inb_S288x512_S32x512_0_0, k0_pay3⟩]) y = win zer W y := by
  have h0 : (y (0 : Fin 2)).val < 288 := (y (0 : Fin 2)).isLt
  unfold win
  split
  · rename_i h
    exact View.read_writes_cons_rows_of_mem (o := 32) m.view f inb_S288x512_S256x512_32_0 W _ y (ix2 (⟨(y (0 : Fin 2)).val - 32, by omega⟩ : Fin 256) (y (1 : Fin 2))) rfl (by show (y (0 : Fin 2)).val = 32 + ((y (0 : Fin 2)).val - 32); omega) rfl
  · rename_i h
    refine (View.read_writes_cons_rows_of_not_mem (o := 32) (W := 256) m.view f inb_S288x512_S256x512_32_0 W _ y rfl rfl (by omega)).trans ?_
    refine (View.read_writes_cons_rows_of_mem (o := 0) m.view f inb_S288x512_S32x512_0_0 (k0_pay3 (F := F)) [] y (ix2 (⟨(y (0 : Fin 2)).val, by omega⟩ : Fin 32) (y (1 : Fin 2))) rfl (by show (y (0 : Fin 2)).val = 0 + (y (0 : Fin 2)).val; omega) rfl).trans ?_
    unfold k0_pay3
    exact congrFun (shapeCast_self _ _) _

/-- Rows where nothing was carried. -/
theorem cov_zer (off : ℕ) (inb : ∀ a : Fin 2, (![off, 0] : Fin 2 → ℕ) a + (![32, 512] : Fin 2 → ℕ) a ≤ S288x512.size a) :
    m.view.readCov (Val := Elt F) [⟨Rect.unit ![32, 0] ![256, 512] inb_S288x512_S256x512_32_0, W⟩, ⟨Rect.unit ![0, 0] S32x512.size inb_S288x512_S32x512_0_0, k0_pay3⟩] (Rect.unit (s := S288x512) ![off, 0] ![32, 512] inb).toLoadRect = ldr (win zer W) off := by
  funext x
  have h0 : (x (0 : Fin 2)).val < 32 := (x (0 : Fin 2)).isLt
  have hi : off + 32 ≤ 288 := inb 0
  refine (rdz m W m.view.junk _).trans ?_
  unfold ldr
  rw [dif_pos (by omega)]
  refine congrArg (win zer W) (funext fun a => Fin.ext ?_)
  match a with
  | ⟨0, _⟩ => show off + 1 * (x (0 : Fin 2)).val = off + (x (0 : Fin 2)).val; omega
  | ⟨1, _⟩ => show 0 + 1 * (x (1 : Fin 2)).val = (x (1 : Fin 2)).val; omega

/-- A tap's row. -/
theorem ld_tp (T : Vec F S1x31x512 .f32) (k : ℕ) (inb : ∀ a : Fin 3, (![0, k, 0] : Fin 3 → ℕ) a + (![1, 1, 512] : Fin 3 → ℕ) a ≤ S1x31x512.size a) :
    View.ld T (Rect.unit (s := S1x31x512) ![0, k, 0] ![1, 1, 512] inb) = tp T k := by
  funext x
  have hk : k + 1 ≤ 31 := inb 1
  have h0 : (x (0 : Fin 3)).val < 1 := (x (0 : Fin 3)).isLt
  have h1 : (x (1 : Fin 3)).val < 1 := (x (1 : Fin 3)).isLt
  unfold tp
  rw [dif_pos (by omega)]
  refine congrArg T (funext fun a => Fin.ext ?_)
  match a with
  | ⟨0, _⟩ => show 0 + 1 * (x (0 : Fin 3)).val = 0; omega
  | ⟨1, _⟩ => show k + 1 * (x (1 : Fin 3)).val = k; omega
  | ⟨2, _⟩ => show 0 + 1 * (x (2 : Fin 3)).val = (x (2 : Fin 3)).val; omega

end Loads

end Cert.Proof.ConvV

end
-- ==== Proof.ConvU.lean ====
module

public import proofs.«01_k».proof.Proof.ConvV

@[expose] public section

noncomputable section

/-! What each point of the convolution carries to the next. -/

namespace Cert.Proof.ConvU

open Cert.ConvIdeal Cert.ConvIdeal.Gen Idealize.ShloMosaic Idealize.ShloMosaic.TcCoe Idealize.ShloMosaic.Tactic Cert.Proof.ConvV

variable {F : FTy → Type} [FloatOps F]

variable (c : Dev nD) (i : grid0.Coords)
  (arg3 : Memref sig .tc .vmem S1x256x512 .f32) (harg3 : arg3.IsWhole)
  (arg4 : Memref sig .tc .vmem S1x256x512 .f32) (harg4 : arg4.IsWhole)
  (arg5 : Memref sig .tc .vmem S1x31x512 .f32) (harg5 : arg5.IsWhole)
  (arg6 : Memref sig .tc .vmem S1x1x512 .f32) (harg6 : arg6.IsWhole)
  (arg7 : Memref sig .tc .vmem S1x1x512 .f32) (harg7 : arg7.IsWhole)
  (arg8 : Memref sig .tc .vmem S1x1x512 .f32) (harg8 : arg8.IsWhole)
  (arg9 : Memref sig .tc .vmem S1x1x512 .f32) (harg9 : arg9.IsWhole)
  (arg10 : Memref sig .tc .vmem S1x256x512 .bf16) (harg10 : arg10.IsWhole)
  (arg11 : Memref sig .tc .vmem S288x512 .f32) (harg11 : arg11.IsWhole)
  (x0 x1 : Vec F S1x256x512 .f32) (x2 : Vec F S1x31x512 .f32) (x3 x4 x5 x6 : Vec F S1x1x512 .f32) (xt0 : TbBuf0 (F := F) c tbM0_0) (xs0 : Vec F S288x512 .f32)
/-- A row carried is one of the point's last. -/
theorem carried (U : Vec F S288x512 .f32) (f : VS0_0.ty.Contents (Elt F)) (L : List (View.Piece (Elt F) S288x512 .f32)) (v : Vec F S32x512 .f32) (hv : v = ldr U 256)
    (a : Fin 32) (d : Fin 512) :
    View.read (Elt F) VS0_0 (VS0_0.writes (Elt F) f (⟨Rect.unit ![0, 0] ![32, 512] inb_S288x512_S32x512_0_0, k0_pay2 v⟩ :: L)) (ix2 (⟨a.val, by omega⟩ : Fin 288) d)
      = U (ix2 (⟨256 + a.val, by omega⟩ : Fin 288) d) := by
  refine (View.read_writes_cons_rows_of_mem (o := 0) VS0_0 f inb_S288x512_S32x512_0_0 (k0_pay2 v) L _ (ix2 a d) rfl (by show a.val = 0 + a.val; omega) rfl).trans ?_
  unfold k0_pay2
  refine (congrFun (shapeCast_self _ _) _).trans ?_
  rw [hv]
  unfold ldr
  rw [dif_pos (by show 256 + a.val < 288; omega)]
  rfl

/-- A point of the first kind carries its last rows. -/
theorem soutA (hc0 : cond0_0 i) (a : Fin 32) (d : Fin 512) : sout0_A_0 c i arg3 harg3 arg4 harg4 arg5 harg5 arg6 harg6 arg7 harg7 arg8 harg8 arg9 harg9 arg10 harg10 arg11 harg11 hc0 x0 x1 x2 x3 x4 x5 x6 xt0 (ix2 (⟨a.val, by omega⟩ : Fin 288) d) = (win zer (k0_pay4 x0 x1)) (ix2 (⟨256 + a.val, by omega⟩ : Fin 288) d) := by
  unfold sout0_A_0 kernelRun0_A
  dsimp only
  try sl_unfold_words
  simp only [View.readAt_eq_ld, View.ld_unit_zero (S := S1x256x512) z3, harg3.read_unread, harg4.read_unread]
  exact carried (win zer (k0_pay4 x0 x1)) _ _ _ (cov_zer arg11 (k0_pay4 x0 x1) 256 inb_S288x512_S32x512_256_0) a d

/-- A point of the later kind carries its last rows. -/
theorem soutB (hc0 : ¬cond0_0 i) (a : Fin 32) (d : Fin 512) : sout0_B_0 c i arg3 harg3 arg4 harg4 arg5 harg5 arg6 harg6 arg7 harg7 arg8 harg8 arg9 harg9 arg10 harg10 arg11 harg11 hc0 x0 x1 x2 x3 x4 x5 x6 xt0 xs0 (ix2 (⟨a.val, by omega⟩ : Fin 288) d) = (win xs0 (k0_pay4 x0 x1)) (ix2 (⟨256 + a.val, by omega⟩ : Fin 288) d) := by
  unfold sout0_B_0 kernelRun0_B
  dsimp only
  try sl_unfold_words
  simp only [View.readAt_eq_ld, View.ld_unit_zero (S := S1x256x512) z3, harg3.read_unread, harg4.read_unread]
  exact carried (win xs0 (k0_pay4 x0 x1)) _ _ _ (cov_rd arg11 xs0 (k0_pay4 x0 x1) 256 (by decide) inb_S288x512_S32x512_256_0) a d

end Cert.Proof.ConvU

end
-- ==== Proof.ConvS.lean ====
module

public import Idealize.ShloMosaic.Lib.Pointwise
public import Idealize.ShloMosaic.PureOps.Ideal

@[expose] public section

noncomputable section

/-! What the convolution computes over the extended reals, entry by entry. -/

namespace Cert.Proof.ConvS

open Idealize.ShloMosaic

/-- The shapes of the operands: the projected input, the taps, the vectors; and of the result. -/
abbrev SI : Shape := ⟨3, ![4, 2048, 2048]⟩
abbrev ST : Shape := ⟨3, ![4, 31, 512]⟩
abbrev SV : Shape := ⟨3, ![4, 1, 512]⟩
abbrev SO : Shape := ⟨3, ![4, 2048, 512]⟩

/-- The first terms of a sequence added to a start, one by one. -/
def plus (a : EReal) (f : ℕ → EReal) : ℕ → EReal
  | 0 => a
  | n + 1 => plus a f n + f n

/-- The start may be added last. -/
theorem plus_start (a : EReal) (f : ℕ → EReal) (n : ℕ) : plus a f n = plus 0 f n + a := by
  induction n with
  | zero => exact (zero_add a).symm
  | succ n ih => show plus a f n + f n = plus 0 f n + f n + a; rw [ih, add_right_comm]

/-- Sequences that agree on the terms added have the same sum. -/
theorem plus_congr (a : EReal) (f g : ℕ → EReal) (n : ℕ) (h : ∀ k, k < n → f k = g k) : plus a f n = plus a g n := by
  induction n with
  | zero => rfl
  | succ n ih => show plus a f n + f n = plus a g n + g n; rw [ih fun k hk => h k (by omega), h n (by omega)]

/-- The mean of a row, the row less it, the row over the root of its mean square, and the last gate. -/
def mean (v : Fin 512 → EReal) : EReal := Ideal.div (∑ k, v k) (Ideal.ofBits .f32 0x44000000#32)
def cen (v : Fin 512 → EReal) (d : Fin 512) : EReal := v d - mean v
def unit (v : Fin 512 → EReal) (d : Fin 512) : EReal := v d * Ideal.rsqrt (mean (fun k => v k * v k) + Ideal.ofBits .f32 0x358637BD#32)
def gate (x : EReal) : EReal := x * Ideal.div 1 (1 + Ideal.exp (0 - x))

/-- What the convolution does to a row of sums: the bias, the norm of the row with its gain and shift, the gate, and the last norm. -/
def fin (v b g s q : Fin 512 → EReal) (d : Fin 512) : EReal :=
  unit (fun e => gate (unit (cen fun k => v k + b k) e * g e + s e)) d * q d

variable (L : Fin 4) (X : Vec Ideal SI .f32) (T : Vec Ideal ST .f32) (B G S Q : Vec Ideal SV .f32)

/-- The gated input at a place of a sequence. -/
def glu (b : Fin 4) (t : Fin 2048) (d : Fin 512) : EReal :=
  X (ix3 b t (⟨d.val, by omega⟩ : Fin 2048)) * Ideal.div 1 (1 + Ideal.exp (0 - X (ix3 b t (⟨512 + d.val, by omega⟩ : Fin 2048))))

/-- The same at a place counted from thirty before the first, zero before the first. -/
def lagged (b : Fin 4) (n : ℕ) (d : Fin 512) : EReal :=
  if h : 30 ≤ n ∧ n - 30 < 2048 then glu X b ⟨n - 30, h.2⟩ d else 0

/-- The taps, by number. -/
def tap (k : ℕ) (d : Fin 512) : EReal := if h : k < 31 then T (ix3 L (⟨k, h⟩ : Fin 31) d) else 0

/-- The sum of the taps over the thirty-one places that end at a place. -/
def sums (b : Fin 4) (t : Fin 2048) (d : Fin 512) : EReal := plus 0 (fun k => lagged X b (t.val + k) d * tap L T k d) 31

/-- The result. -/
def out : Vec Ideal SO .bf16 := fun y =>
  fin (sums L X T (y 0) (y 1)) (fun k => B (ix3 L 0 k)) (fun k => G (ix3 L 0 k)) (fun k => S (ix3 L 0 k)) (fun k => Q (ix3 L 0 k)) (y 2)

end Cert.Proof.ConvS

end
-- ==== Proof.ConvM.lean ====
module

public import proofs.«01_k».proof.Proof.ConvU
public import proofs.«01_k».proof.Proof.ConvS
public import Idealize.ShloMosaic.Lib.Pipeline.ValueKit
public import Idealize.ShloMosaic.Lib.Pointwise

@[expose] public section

noncomputable section

/-! The blocks of the convolution's points, what they carry and what they compute, over the extended reals. -/

namespace Cert.Proof.ConvM

open Cert.ConvIdeal Cert.ConvIdeal.Gen Idealize.ShloMosaic Idealize.ShloMosaic.TcCoe Cert.Proof.ConvI Cert.Proof.ConvS Cert.Proof.ConvV Cert.Proof.ConvU Finset

/-- The steps of a point, entry by entry: the gated rows, -/
theorem p4 (u v : Vec Ideal S1x256x512 .f32) (a : Fin 256) (d : Fin 512) :
    k0_pay4 u v (ix2 a d) = u (ix3 0 a d) * Ideal.div 1 (1 + Ideal.exp (0 - v (ix3 0 a d))) := by
  pointwise [k0_pay4]

/-- a vector on every row, one term more, and all of them, -/
theorem vrow_at (w : Vec Ideal S1x1x512 .f32) (i : Fin 32) (d : Fin 512) : vrow (F := Ideal) w (ix2 i d) = w (ix3 0 0 d) := by
  pointwise [vrow]
theorem brow_at (w : Vec Ideal S1x1x512 .f32) (i : Fin 32) (d : Fin 512) : brow (F := Ideal) w (ix2 i d) = w (ix3 0 0 d) := by
  pointwise [brow]
theorem more_at (a u : Vec Ideal S32x512 .f32) (w : Vec Ideal S1x1x512 .f32) (i : Fin 32) (d : Fin 512) :
    more (F := Ideal) a u w (ix2 i d) = a (ix2 i d) + u (ix2 i d) * w (ix3 0 0 d) := by
  unfold more
  show a (ix2 i d) + u (ix2 i d) * vrow (F := Ideal) w (ix2 i d) = _
  rw [vrow_at]
theorem accu_at (b : Vec Ideal S1x1x512 .f32) (V : ℕ → Vec Ideal S32x512 .f32) (w : ℕ → Vec Ideal S1x1x512 .f32) (i : Fin 32) (d : Fin 512) :
    accu (F := Ideal) b V w (ix2 i d) = plus (b (ix3 0 0 d)) (fun k => V k (ix2 i d) * w k (ix3 0 0 d)) 31 := by
  unfold accu
  simp only [more_at, brow_at]
  rfl

/-- the rows less their means, the rows over the roots of their mean squares, the gate, -/
theorem cent_at (v : Vec Ideal S32x512 .f32) (i : Fin 32) (d : Fin 512) : cent (F := Ideal) v (ix2 i d) = cen (fun k => v (ix2 i k)) d := by
  unfold cen mean
  pointwise [cent, mid]
theorem over_at (v : Vec Ideal S32x512 .f32) (i : Fin 32) (d : Fin 512) : over (F := Ideal) v (ix2 i d) = unit (fun k => v (ix2 i k)) d := by
  unfold unit mean
  pointwise [over, mid]
theorem swish_at (v : Vec Ideal S32x512 .f32) (i : Fin 32) (d : Fin 512) : swish (F := Ideal) v (ix2 i d) = gate (v (ix2 i d)) := by
  unfold gate
  pointwise [swish]

/-- and what follows the sum. -/
theorem tail_at (v : Vec Ideal S32x512 .f32) (g s q : Vec Ideal S1x1x512 .f32) (i : Fin 32) (d : Fin 512) :
    tail (F := Ideal) v g s q (ix3 0 i d) = unit (fun e => gate (unit (cen fun k => v (ix2 i k)) e * g (ix3 0 0 e) + s (ix3 0 0 e))) d * q (ix3 0 0 d) := by
  have e0 : ∀ u : Vec Ideal S32x512 .f32, shapeCast S1x32x512 (truncf (F := Ideal) .bf16 u bitsLt_bf16_f32) shapeCasts_S32x512_S1x32x512 (ix3 0 i d) = u (ix2 i d) := by
    intro u
    pointwise
  unfold tail
  rw [e0]
  show over (F := Ideal) _ (ix2 i d) * vrow (F := Ideal) q (ix2 i d) = _
  have e1 : ∀ (x y z : Vec Ideal S32x512 .f32) (k : Fin 512), addf (F := Ideal) (φ := .f32) (mulf (F := Ideal) (φ := .f32) x y) z (ix2 i k) = x (ix2 i k) * y (ix2 i k) + z (ix2 i k) := fun _ _ _ _ => rfl
  simp only [over_at, swish_at, e1, cent_at, vrow_at]

/-- A row loaded. -/
theorem ldr_at (U : Vec Ideal S288x512 .f32) (off : ℕ) (i : Fin 32) (k : Fin 512) (h : off + i.val < 288) :
    ldr U off (ix2 i k) = U (ix2 (⟨off + i.val, h⟩ : Fin 288) k) := by
  unfold ldr
  exact dif_pos h

/-- A group's row is the spec's, the bias added first. -/
theorem chunk_at (T : Vec Ideal S1x31x512 .f32) (b g s q : Vec Ideal S1x1x512 .f32) (U : Vec Ideal S288x512 .f32) (r : ℕ) (i : Fin 32) (d : Fin 512) :
    chunk (F := Ideal) T b g s q U r (ix3 0 i d) = fin (fun k => plus 0 (fun n => ldr U (r + (2 + n)) (ix2 i k) * tp T n (ix3 0 0 k)) 31)
      (fun k => b (ix3 0 0 k)) (fun k => g (ix3 0 0 k)) (fun k => s (ix3 0 0 k)) (fun k => q (ix3 0 0 k)) d := by
  unfold chunk fin
  rw [tail_at]
  simp only [accu_at, plus_start (b _)]

variable (m : (ℓ : Loc nD τ sig) → Buf (Elt Ideal) ℓ) (hl : (lay m).toNat < 4) (c : Dev nD)

/-- The operands as launched. -/
abbrev ax : Vec Ideal SI .f32 := m ((c.tc : Thread nD τ).loc main_arg1)
abbrev at_ : Vec Ideal ST .f32 := m ((c.tc : Thread nD τ).loc main_arg2)
abbrev ab : Vec Ideal SV .f32 := m ((c.tc : Thread nD τ).loc main_arg3)
abbrev ag : Vec Ideal SV .f32 := m ((c.tc : Thread nD τ).loc main_arg4)
abbrev as_ : Vec Ideal SV .f32 := m ((c.tc : Thread nD τ).loc main_arg5)
abbrev aq : Vec Ideal SV .f32 := m ((c.tc : Thread nD τ).loc main_arg6)

/-- The layer. -/
abbrev L : Fin 4 := ⟨(lay m).toNat, hl⟩

/-- The sequence of a point, and row `a` of its block of rows. -/
def sq (t : Fin (cfgM m (ok m hl)).N) : Fin 4 := ⟨t.val / 8, by
  have : t.val < 32 := t.isLt
  omega⟩
def row (t : Fin (cfgM m (ok m hl)).N) (a : Fin 256) : Fin 2048 := ⟨256 * (t.val % 8) + a.val, by
  omega⟩

/-- The grid's coordinates at a point. -/
theorem crd0 : ∀ t : Fin grid0.N, (BitVec.ofNat 32 (grid0.coords t 0).val).toNat = t.val / 8 := by decide +kernel
theorem crd1 : ∀ t : Fin grid0.N, (BitVec.ofNat 32 (grid0.coords t 1).val).toNat = t.val % 8 := by decide +kernel

theorem idx0 (t : Fin (cfgM m (ok m hl)).N) : ((cfgM m (ok m hl)).win 0).index t = ![t.val / 8, t.val % 8, 0] := by
  show cc0_transform_0 (grid0.coords t) = _
  unfold cc0_transform_0; dsimp only; rw [crd0 t, crd1 t]; rfl
theorem idx1 (t : Fin (cfgM m (ok m hl)).N) : ((cfgM m (ok m hl)).win 1).index t = ![t.val / 8, t.val % 8, 1] := by
  show cc0_transform_1 (grid0.coords t) = _
  unfold cc0_transform_1; dsimp only; rw [crd0 t, crd1 t]; rfl
theorem idx7 (t : Fin (cfgM m (ok m hl)).N) : ((cfgM m (ok m hl)).win 7).index t = ![t.val / 8, t.val % 8, 0] := by
  show cc0_transform_7 (grid0.coords t) = _
  unfold cc0_transform_7; dsimp only; rw [crd0 t, crd1 t]; rfl
theorem idx2 (t : Fin (cfgM m (ok m hl)).N) : ((cfgM m (ok m hl)).win 2).index t = ![(lay m).toNat, 0, 0] := by
  show cc0_transform_2 inb_S1_S1_0 numel1_S1 (tbl m) (grid0.coords t) = _
  unfold cc0_transform_2; rw [at_tbl m]; rfl
theorem idx3 (t : Fin (cfgM m (ok m hl)).N) : ((cfgM m (ok m hl)).win 3).index t = ![(lay m).toNat, 0, 0] := by
  show cc0_transform_3 inb_S1_S1_0 numel1_S1 (tbl m) (grid0.coords t) = _
  unfold cc0_transform_3; rw [at_tbl m]; rfl
theorem idx4 (t : Fin (cfgM m (ok m hl)).N) : ((cfgM m (ok m hl)).win 4).index t = ![(lay m).toNat, 0, 0] := by
  show cc0_transform_4 inb_S1_S1_0 numel1_S1 (tbl m) (grid0.coords t) = _
  unfold cc0_transform_4; rw [at_tbl m]; rfl
theorem idx5 (t : Fin (cfgM m (ok m hl)).N) : ((cfgM m (ok m hl)).win 5).index t = ![(lay m).toNat, 0, 0] := by
  show cc0_transform_5 inb_S1_S1_0 numel1_S1 (tbl m) (grid0.coords t) = _
  unfold cc0_transform_5; rw [at_tbl m]; rfl
theorem idx6 (t : Fin (cfgM m (ok m hl)).N) : ((cfgM m (ok m hl)).win 6).index t = ![(lay m).toNat, 0, 0] := by
  show cc0_transform_6 inb_S1_S1_0 numel1_S1 (tbl m) (grid0.coords t) = _
  unfold cc0_transform_6; rw [at_tbl m]; rfl

/-- The operands' blocks at a point, by name, -/
def b0 (t : Fin (cfgM m (ok m hl)).N) : Vec Ideal S1x256x512 .f32 := iblk m (ok m hl) c 0 t
def b1 (t : Fin (cfgM m (ok m hl)).N) : Vec Ideal S1x256x512 .f32 := iblk m (ok m hl) c 1 t
def b2 (t : Fin (cfgM m (ok m hl)).N) : Vec Ideal S1x31x512 .f32 := iblk m (ok m hl) c 2 t
def b3 (t : Fin (cfgM m (ok m hl)).N) : Vec Ideal S1x1x512 .f32 := iblk m (ok m hl) c 3 t
def b4 (t : Fin (cfgM m (ok m hl)).N) : Vec Ideal S1x1x512 .f32 := iblk m (ok m hl) c 4 t
def b5 (t : Fin (cfgM m (ok m hl)).N) : Vec Ideal S1x1x512 .f32 := iblk m (ok m hl) c 5 t
def b6 (t : Fin (cfgM m (ok m hl)).N) : Vec Ideal S1x1x512 .f32 := iblk m (ok m hl) c 6 t

/-- and entry by entry. -/
theorem blk0 (t : Fin (cfgM m (ok m hl)).N) (a : Fin 256) (d : Fin 512) : b0 m hl c t (ix3 0 a d) = ax m c (ix3 (sq m hl t) (row m hl t a) (⟨d.val, by omega⟩ : Fin 2048)) := by
  have e := idx0 m hl t
  unfold b0 iblk
  refine Eq.trans (b := ax m c ((((cfgM m (ok m hl)).win 0).blk t).view.emb (ix3 0 a d))) rfl (congrArg (ax m c) (funext fun x => Fin.ext ?_))
  match x with
  | ⟨0, _⟩ => blk_simp [e]; rfl
  | ⟨1, _⟩ => blk_simp [e]; show t.val % 8 * 256 + a.val = 256 * (t.val % 8) + a.val; omega
  | ⟨2, _⟩ => blk_simp [e]; try rfl

theorem blk1 (t : Fin (cfgM m (ok m hl)).N) (a : Fin 256) (d : Fin 512) : b1 m hl c t (ix3 0 a d) = ax m c (ix3 (sq m hl t) (row m hl t a) (⟨512 + d.val, by omega⟩ : Fin 2048)) := by
  have e := idx1 m hl t
  unfold b1 iblk
  refine Eq.trans (b := ax m c ((((cfgM m (ok m hl)).win 1).blk t).view.emb (ix3 0 a d))) rfl (congrArg (ax m c) (funext fun x => Fin.ext ?_))
  match x with
  | ⟨0, _⟩ => blk_simp [e]; rfl
  | ⟨1, _⟩ => blk_simp [e]; show t.val % 8 * 256 + a.val = 256 * (t.val % 8) + a.val; omega
  | ⟨2, _⟩ => blk_simp [e]; try rfl

theorem blk2 (t : Fin (cfgM m (ok m hl)).N) (k : Fin 31) (d : Fin 512) : b2 m hl c t (ix3 0 k d) = at_ m c (ix3 (L m hl) k d) := by
  have e := idx2 m hl t
  unfold b2 iblk
  refine Eq.trans (b := at_ m c ((((cfgM m (ok m hl)).win 2).blk t).view.emb (ix3 0 k d))) rfl (congrArg (at_ m c) (funext fun x => Fin.ext ?_))
  match x with
  | ⟨0, _⟩ => blk_simp [e]; rfl
  | ⟨1, _⟩ => blk_simp [e]
  | ⟨2, _⟩ => blk_simp [e]

theorem blk3 (t : Fin (cfgM m (ok m hl)).N) (d : Fin 512) : b3 m hl c t (ix3 0 0 d) = ab m c (ix3 (L m hl) 0 d) := by
  have e := idx3 m hl t
  unfold b3 iblk
  refine Eq.trans (b := ab m c ((((cfgM m (ok m hl)).win 3).blk t).view.emb (ix3 0 0 d))) rfl (congrArg (ab m c) (funext fun x => Fin.ext ?_))
  match x with
  | ⟨0, _⟩ => blk_simp [e]; rfl
  | ⟨1, _⟩ => blk_simp [e]
  | ⟨2, _⟩ => blk_simp [e]

theorem blk4 (t : Fin (cfgM m (ok m hl)).N) (d : Fin 512) : b4 m hl c t (ix3 0 0 d) = ag m c (ix3 (L m hl) 0 d) := by
  have e := idx4 m hl t
  unfold b4 iblk
  refine Eq.trans (b := ag m c ((((cfgM m (ok m hl)).win 4).blk t).view.emb (ix3 0 0 d))) rfl (congrArg (ag m c) (funext fun x => Fin.ext ?_))
  match x with
  | ⟨0, _⟩ => blk_simp [e]; rfl
  | ⟨1, _⟩ => blk_simp [e]
  | ⟨2, _⟩ => blk_simp [e]

theorem blk5 (t : Fin (cfgM m (ok m hl)).N) (d : Fin 512) : b5 m hl c t (ix3 0 0 d) = as_ m c (ix3 (L m hl) 0 d) := by
  have e := idx5 m hl t
  unfold b5 iblk
  refine Eq.trans (b := as_ m c ((((cfgM m (ok m hl)).win 5).blk t).view.emb (ix3 0 0 d))) rfl (congrArg (as_ m c) (funext fun x => Fin.ext ?_))
  match x with
  | ⟨0, _⟩ => blk_simp [e]; rfl
  | ⟨1, _⟩ => blk_simp [e]
  | ⟨2, _⟩ => blk_simp [e]

theorem blk6 (t : Fin (cfgM m (ok m hl)).N) (d : Fin 512) : b6 m hl c t (ix3 0 0 d) = aq m c (ix3 (L m hl) 0 d) := by
  have e := idx6 m hl t
  unfold b6 iblk
  refine Eq.trans (b := aq m c ((((cfgM m (ok m hl)).win 6).blk t).view.emb (ix3 0 0 d))) rfl (congrArg (aq m c) (funext fun x => Fin.ext ?_))
  match x with
  | ⟨0, _⟩ => blk_simp [e]; rfl
  | ⟨1, _⟩ => blk_simp [e]
  | ⟨2, _⟩ => blk_simp [e]

/-- The rows under a point and the rows carried to it are the gated input at consecutive places. -/
theorem win_at (t : Fin (cfgM m (ok m hl)).N) (xs : Vec Ideal S288x512 .f32)
    (hx : ∀ (a : Fin 32) (d : Fin 512), xs (ix2 (⟨a.val, by omega⟩ : Fin 288) d) = lagged (ax m c) (sq m hl t) (256 * (t.val % 8) + a.val - 2) d) (r : Fin 288) (d : Fin 512) :
    win xs (k0_pay4 (b0 m hl c t) (b1 m hl c t)) (ix2 r d) = lagged (ax m c) (sq m hl t) (256 * (t.val % 8) + r.val - 2) d := by
  have hr : r.val < 288 := r.isLt
  unfold win
  by_cases h : 32 ≤ r.val
  · rw [dif_pos (show 32 ≤ ((ix2 r d : S288x512.Idx) (0 : Fin 2)).val from h)]
    refine (p4 (b0 m hl c t) (b1 m hl c t) (⟨r.val - 32, by omega⟩ : Fin 256) d).trans ?_
    rw [blk0, blk1]
    unfold lagged
    rw [dif_pos ⟨by omega, by omega⟩]
    unfold glu
    have e : row m hl t (⟨r.val - 32, by omega⟩ : Fin 256) = (⟨256 * (t.val % 8) + r.val - 2 - 30, by omega⟩ : Fin 2048) :=
      Fin.ext (by show 256 * (t.val % 8) + (r.val - 32) = 256 * (t.val % 8) + r.val - 2 - 30; omega)
    rw [e]
  · rw [dif_neg (show ¬32 ≤ ((ix2 r d : S288x512.Idx) (0 : Fin 2)).val from h)]
    exact hx (⟨r.val, by omega⟩ : Fin 32) d

/-- Nothing is carried to the first point of a sequence. -/
theorem zer_at (t : Fin (cfgM m (ok m hl)).N) (h : t.val % 8 = 0) (a : Fin 32) (d : Fin 512) :
    zer (F := Ideal) (ix2 (⟨a.val, by omega⟩ : Fin 288) d) = lagged (ax m c) (sq m hl t) (256 * (t.val % 8) + a.val - 2) d := by
  unfold lagged
  rw [dif_neg (by omega)]
  pointwise [zer]

/-- The block a point leaves, over what was carried to it, is the result on its rows. -/
theorem outv_eq (t : Fin (cfgM m (ok m hl)).N) (xs : Vec Ideal S288x512 .f32)
    (hx : ∀ (a : Fin 32) (d : Fin 512), xs (ix2 (⟨a.val, by omega⟩ : Fin 288) d) = lagged (ax m c) (sq m hl t) (256 * (t.val % 8) + a.val - 2) d) (a : Fin 256) (d : Fin 512) :
    outv (F := Ideal) (b2 m hl c t) (b3 m hl c t) (b4 m hl c t) (b5 m hl c t) (b6 m hl c t) (win xs (k0_pay4 (b0 m hl c t) (b1 m hl c t))) (ix3 0 a d)
      = ConvS.out (L m hl) (ax m c) (at_ m c) (ab m c) (ag m c) (as_ m c) (aq m c) (ix3 (sq m hl t) (row m hl t a) d) := by
  have ha : a.val < 256 := a.isLt
  refine (chunk_at (b2 m hl c t) (b3 m hl c t) (b4 m hl c t) (b5 m hl c t) (b6 m hl c t) (win xs (k0_pay4 (b0 m hl c t) (b1 m hl c t))) (32 * (a.val / 32)) (⟨a.val % 32, Nat.mod_lt _ (by decide)⟩ : Fin 32) d).trans ?_
  have hs : ∀ k : Fin 512, plus 0 (fun n => ldr (win xs (k0_pay4 (b0 m hl c t) (b1 m hl c t))) (32 * (a.val / 32) + (2 + n)) (ix2 (⟨a.val % 32, Nat.mod_lt _ (by decide)⟩ : Fin 32) k) * tp (b2 m hl c t) n (ix3 0 0 k)) 31
      = sums (L m hl) (ax m c) (at_ m c) (sq m hl t) (row m hl t a) k := by
    intro k
    unfold sums
    refine plus_congr _ _ _ _ fun n hn => ?_
    have e1 : ldr (win xs (k0_pay4 (b0 m hl c t) (b1 m hl c t))) (32 * (a.val / 32) + (2 + n)) (ix2 (⟨a.val % 32, Nat.mod_lt _ (by decide)⟩ : Fin 32) k)
        = lagged (ax m c) (sq m hl t) ((row m hl t a).val + n) k := by
      rw [ldr_at _ _ _ _ (show 32 * (a.val / 32) + (2 + n) + a.val % 32 < 288 by omega)]
      refine (win_at m hl c t xs hx (⟨32 * (a.val / 32) + (2 + n) + a.val % 32, by omega⟩ : Fin 288) k).trans ?_
      refine congrArg (fun z => lagged (ax m c) (sq m hl t) z k) ?_
      show 256 * (t.val % 8) + (32 * (a.val / 32) + (2 + n) + a.val % 32) - 2 = 256 * (t.val % 8) + a.val + n
      omega
    have e2 : tp (b2 m hl c t) n (ix3 0 0 k) = tap (L m hl) (at_ m c) n k := by
      unfold tp tap
      rw [dif_pos hn, dif_pos hn]
      exact blk2 m hl c t _ k
    exact congrArg₂ (· * ·) e1 e2
  simp only [hs, blk3, blk4, blk5, blk6]
  rfl

/-- What a point carries to the next, over its blocks and what was carried to it: a first point, -/
theorem carA (t : Fin (cfgM m (ok m hl)).N) (h : t.val % 8 = 0) (a : Fin 32) (d : Fin 512) : (outsAt0 m (ok m hl) c t.val t.isLt).2 (ix2 (⟨a.val, by omega⟩ : Fin 288) d)
    = win zer (k0_pay4 (b0 m hl c t) (b1 m hl c t)) (ix2 (⟨256 + a.val, by omega⟩ : Fin 288) d) := by
  rw [outsAt0_A m (ok m hl) c t h]
  dsimp only
  exact soutA (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) (ms0_4 m (ok m hl) t) (hs0_4 m (ok m hl) t) (ms0_5 m (ok m hl) t) (hs0_5 m (ok m hl) t) (ms0_6 m (ok m hl) t) (hs0_6 m (ok m hl) t) (ms0_7 m (ok m hl) t) (hs0_7 m (ok m hl) t) scM0_0 (Memref.isWhole_whole _) (b0 m hl c t) (b1 m hl c t) (b2 m hl c t) (b3 m hl c t) (b4 m hl c t) (b5 m hl c t) (b6 m hl c t) (tbl m 0) ((hcond0_0 t).mpr h) a d

/-- and a later one. -/
theorem carB (t : Fin (cfgM m (ok m hl)).N) (h : ¬t.val % 8 = 0) (a : Fin 32) (d : Fin 512) : (outsAt0 m (ok m hl) c t.val t.isLt).2 (ix2 (⟨a.val, by omega⟩ : Fin 288) d)
    = win (outsAt0 m (ok m hl) c (t.val - 1) (Nat.lt_of_le_of_lt (Nat.sub_le _ _) t.isLt)).2 (k0_pay4 (b0 m hl c t) (b1 m hl c t)) (ix2 (⟨256 + a.val, by omega⟩ : Fin 288) d) := by
  rw [outsAt0_B m (ok m hl) c t h]
  dsimp only
  exact soutB (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) (ms0_4 m (ok m hl) t) (hs0_4 m (ok m hl) t) (ms0_5 m (ok m hl) t) (hs0_5 m (ok m hl) t) (ms0_6 m (ok m hl) t) (hs0_6 m (ok m hl) t) (ms0_7 m (ok m hl) t) (hs0_7 m (ok m hl) t) scM0_0 (Memref.isWhole_whole _) (b0 m hl c t) (b1 m hl c t) (b2 m hl c t) (b3 m hl c t) (b4 m hl c t) (b5 m hl c t) (b6 m hl c t) (tbl m 0) (outsAt0 m (ok m hl) c (t.val - 1) (Nat.lt_of_le_of_lt (Nat.sub_le _ _) t.isLt)).2 (fun h1 => h ((hcond0_0 t).mp h1)) a d

/-- What a point carries to the next is the gated input at the point's last places. -/
theorem car (n : ℕ) : ∀ (t : Fin (cfgM m (ok m hl)).N) (_ : t.val = n) (a : Fin 32) (d : Fin 512), (outsAt0 m (ok m hl) c t.val t.isLt).2 (ix2 (⟨a.val, by omega⟩ : Fin 288) d)
    = lagged (ax m c) (sq m hl t) (256 * (t.val % 8) + (256 + a.val) - 2) d := by
  induction n with
  | zero =>
    intro t ht a d
    have h : t.val % 8 = 0 := by omega
    rw [carA m hl c t h]
    exact win_at m hl c t zer (zer_at m hl c t h) (⟨256 + a.val, by omega⟩ : Fin 288) d
  | succ n ih =>
    intro t ht a d
    by_cases h : t.val % 8 = 0
    · rw [carA m hl c t h]
      exact win_at m hl c t zer (zer_at m hl c t h) (⟨256 + a.val, by omega⟩ : Fin 288) d
    · rw [carB m hl c t h]
      refine win_at m hl c t _ (fun a d => ?_) (⟨256 + a.val, by omega⟩ : Fin 288) d
      refine (ih ⟨t.val - 1, Nat.lt_of_le_of_lt (Nat.sub_le _ _) t.isLt⟩ (by show t.val - 1 = n; omega) a d).trans ?_
      have e : sq m hl ⟨t.val - 1, Nat.lt_of_le_of_lt (Nat.sub_le _ _) t.isLt⟩ = sq m hl t := Fin.ext (by show (t.val - 1) / 8 = t.val / 8; omega)
      rw [e]
      refine congrArg (fun z => lagged (ax m c) (sq m hl t) z d) ?_
      show 256 * ((t.val - 1) % 8) + (256 + a.val) - 2 = 256 * (t.val % 8) + a.val - 2
      omega

/-- What is carried to a later point. -/
theorem car_at (t : Fin (cfgM m (ok m hl)).N) (h : ¬t.val % 8 = 0) (a : Fin 32) (d : Fin 512) :
    (outsAt0 m (ok m hl) c (t.val - 1) (Nat.lt_of_le_of_lt (Nat.sub_le _ _) t.isLt)).2 (ix2 (⟨a.val, by omega⟩ : Fin 288) d) = lagged (ax m c) (sq m hl t) (256 * (t.val % 8) + a.val - 2) d := by
  refine (car m hl c (t.val - 1) ⟨t.val - 1, Nat.lt_of_le_of_lt (Nat.sub_le _ _) t.isLt⟩ rfl a d).trans ?_
  have e : sq m hl ⟨t.val - 1, Nat.lt_of_le_of_lt (Nat.sub_le _ _) t.isLt⟩ = sq m hl t := Fin.ext (by show (t.val - 1) / 8 = t.val / 8; omega)
  rw [e]
  refine congrArg (fun z => lagged (ax m c) (sq m hl t) z d) ?_
  show 256 * ((t.val - 1) % 8) + (256 + a.val) - 2 = 256 * (t.val % 8) + a.val - 2
  omega

end Cert.Proof.ConvM

end
-- ==== Proof.ConvOA.lean ====
module

public import proofs.«01_k».proof.Proof.ConvV

@[expose] public section

set_option maxHeartbeats 1000000

noncomputable section

/-! The block a point of the first kind leaves. -/

namespace Cert.Proof.ConvOA

open Cert.ConvIdeal Cert.ConvIdeal.Gen Idealize.ShloMosaic Idealize.ShloMosaic.TcCoe Idealize.ShloMosaic.Tactic Cert.Proof.ConvV

variable {F : FTy → Type} [FloatOps F]

/-- Rows where nothing was carried, at extents written out. -/
theorem cov_lit (m : Memref sig .tc .vmem S288x512 .f32) (W : Vec F S256x512 .f32) (off : ℕ) (inb : ∀ a : Fin 2, (![off, 0] : Fin 2 → ℕ) a + (![32, 512] : Fin 2 → ℕ) a ≤ S288x512.size a) :
    m.view.readCov (Val := Elt F) [⟨Rect.unit ![32, 0] ![256, 512] inb_S288x512_S256x512_32_0, W⟩, ⟨Rect.unit ![0, 0] ![32, 512] inb_S288x512_S32x512_0_0, k0_pay3⟩] (Rect.unit (s := S288x512) ![off, 0] ![32, 512] inb).toLoadRect = ldr (win zer W) off :=
  cov_zer m W off inb

variable (c : Dev nD) (i : grid0.Coords)
  (arg3 : Memref sig .tc .vmem S1x256x512 .f32) (harg3 : arg3.IsWhole)
  (arg4 : Memref sig .tc .vmem S1x256x512 .f32) (harg4 : arg4.IsWhole)
  (arg5 : Memref sig .tc .vmem S1x31x512 .f32) (harg5 : arg5.IsWhole)
  (arg6 : Memref sig .tc .vmem S1x1x512 .f32) (harg6 : arg6.IsWhole)
  (arg7 : Memref sig .tc .vmem S1x1x512 .f32) (harg7 : arg7.IsWhole)
  (arg8 : Memref sig .tc .vmem S1x1x512 .f32) (harg8 : arg8.IsWhole)
  (arg9 : Memref sig .tc .vmem S1x1x512 .f32) (harg9 : arg9.IsWhole)
  (arg10 : Memref sig .tc .vmem S1x256x512 .bf16) (harg10 : arg10.IsWhole)
  (arg11 : Memref sig .tc .vmem S288x512 .f32) (harg11 : arg11.IsWhole)
  (x0 x1 : Vec F S1x256x512 .f32) (x2 : Vec F S1x31x512 .f32) (x3 x4 x5 x6 : Vec F S1x1x512 .f32) (xt0 : TbBuf0 (F := F) c tbM0_0) (xs0 : Vec F S288x512 .f32)

/-- A point of the first kind leaves the result's rows. -/
theorem outA (hc0 : cond0_0 i) : out0_A_7 c i arg3 harg3 arg4 harg4 arg5 harg5 arg6 harg6 arg7 harg7 arg8 harg8 arg9 harg9 arg10 harg10 arg11 harg11 hc0 x0 x1 x2 x3 x4 x5 x6 xt0 = outv x2 x3 x4 x5 x6 (win zer (k0_pay4 x0 x1)) := by
  unfold out0_A_7
  rw [View.read_writes_eq_canon _ _ _ (cover0_A_7 c i arg3 harg3 arg4 harg4 arg5 harg5 arg6 harg6 arg7 harg7 arg8 harg8 arg9 harg9 arg10 harg10 arg11 harg11 hc0 x0 x1 x2 x3 x4 x5 x6 xt0)]
  funext y
  have hcv := cover0_A_7 c i arg3 harg3 arg4 harg4 arg5 harg5 arg6 harg6 arg7 harg7 arg8 harg8 arg9 harg9 arg10 harg10 arg11 harg11 hc0 x0 x1 x2 x3 x4 x5 x6 xt0 y
  revert hcv
  unfold kernelRun0_A
  dsimp only
  try sl_unfold_words
  intro hcv
  refine View.canon_apply_of_pieces (outv x2 x3 x4 x5 x6 (win zer (k0_pay4 x0 x1))) _ (fun p hp => ?_) y hcv
  clear hcv
  simp only [List.mem_cons, List.not_mem_nil, or_false] at hp
  rcases hp with rfl | rfl | rfl | rfl | rfl | rfl | rfl | rfl
  · intro x
    refine Eq.trans ?_ (outv_at x2 x3 x4 x5 x6 (win zer (k0_pay4 x0 x1)) 7 _ x (by show 224 + 1 * (x (1 : Fin 3)).val = 32 * 7 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, cov_zer, cov_lit, cov_rd arg11 zer (k0_pay4 x0 x1), ld_tp, Nat.reduceLeDiff]
    rfl
  · intro x
    refine Eq.trans ?_ (outv_at x2 x3 x4 x5 x6 (win zer (k0_pay4 x0 x1)) 6 _ x (by show 192 + 1 * (x (1 : Fin 3)).val = 32 * 6 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, cov_zer, cov_lit, cov_rd arg11 zer (k0_pay4 x0 x1), ld_tp, Nat.reduceLeDiff]
    rfl
  · intro x
    refine Eq.trans ?_ (outv_at x2 x3 x4 x5 x6 (win zer (k0_pay4 x0 x1)) 5 _ x (by show 160 + 1 * (x (1 : Fin 3)).val = 32 * 5 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, cov_zer, cov_lit, cov_rd arg11 zer (k0_pay4 x0 x1), ld_tp, Nat.reduceLeDiff]
    rfl
  · intro x
    refine Eq.trans ?_ (outv_at x2 x3 x4 x5 x6 (win zer (k0_pay4 x0 x1)) 4 _ x (by show 128 + 1 * (x (1 : Fin 3)).val = 32 * 4 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, cov_zer, cov_lit, cov_rd arg11 zer (k0_pay4 x0 x1), ld_tp, Nat.reduceLeDiff]
    rfl
  · intro x
    refine Eq.trans ?_ (outv_at x2 x3 x4 x5 x6 (win zer (k0_pay4 x0 x1)) 3 _ x (by show 96 + 1 * (x (1 : Fin 3)).val = 32 * 3 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, cov_zer, cov_lit, cov_rd arg11 zer (k0_pay4 x0 x1), ld_tp, Nat.reduceLeDiff]
    rfl
  · intro x
    refine Eq.trans ?_ (outv_at x2 x3 x4 x5 x6 (win zer (k0_pay4 x0 x1)) 2 _ x (by show 64 + 1 * (x (1 : Fin 3)).val = 32 * 2 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, cov_zer, cov_lit, cov_rd arg11 zer (k0_pay4 x0 x1), ld_tp, Nat.reduceLeDiff]
    rfl
  · intro x
    refine Eq.trans ?_ (outv_at x2 x3 x4 x5 x6 (win zer (k0_pay4 x0 x1)) 1 _ x (by show 32 + 1 * (x (1 : Fin 3)).val = 32 * 1 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, cov_zer, cov_lit, cov_rd arg11 zer (k0_pay4 x0 x1), ld_tp, Nat.reduceLeDiff]
    rfl
  · intro x
    refine Eq.trans ?_ (outv_at x2 x3 x4 x5 x6 (win zer (k0_pay4 x0 x1)) 0 _ x (by show 0 + 1 * (x (1 : Fin 3)).val = 32 * 0 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, cov_zer, cov_lit, cov_rd arg11 zer (k0_pay4 x0 x1), ld_tp, Nat.reduceLeDiff]
    rfl

end Cert.Proof.ConvOA

end
-- ==== Proof.ConvOB.lean ====
module

public import proofs.«01_k».proof.Proof.ConvV

@[expose] public section

set_option maxHeartbeats 1000000

noncomputable section

/-! The block a point of the later kind leaves. -/

namespace Cert.Proof.ConvOB

open Cert.ConvIdeal Cert.ConvIdeal.Gen Idealize.ShloMosaic Idealize.ShloMosaic.TcCoe Idealize.ShloMosaic.Tactic Cert.Proof.ConvV

variable {F : FTy → Type} [FloatOps F]

variable (c : Dev nD) (i : grid0.Coords)
  (arg3 : Memref sig .tc .vmem S1x256x512 .f32) (harg3 : arg3.IsWhole)
  (arg4 : Memref sig .tc .vmem S1x256x512 .f32) (harg4 : arg4.IsWhole)
  (arg5 : Memref sig .tc .vmem S1x31x512 .f32) (harg5 : arg5.IsWhole)
  (arg6 : Memref sig .tc .vmem S1x1x512 .f32) (harg6 : arg6.IsWhole)
  (arg7 : Memref sig .tc .vmem S1x1x512 .f32) (harg7 : arg7.IsWhole)
  (arg8 : Memref sig .tc .vmem S1x1x512 .f32) (harg8 : arg8.IsWhole)
  (arg9 : Memref sig .tc .vmem S1x1x512 .f32) (harg9 : arg9.IsWhole)
  (arg10 : Memref sig .tc .vmem S1x256x512 .bf16) (harg10 : arg10.IsWhole)
  (arg11 : Memref sig .tc .vmem S288x512 .f32) (harg11 : arg11.IsWhole)
  (x0 x1 : Vec F S1x256x512 .f32) (x2 : Vec F S1x31x512 .f32) (x3 x4 x5 x6 : Vec F S1x1x512 .f32) (xt0 : TbBuf0 (F := F) c tbM0_0) (xs0 : Vec F S288x512 .f32)

/-- A point of the later kind leaves the result's rows. -/
theorem outB (hc0 : ¬cond0_0 i) : out0_B_7 c i arg3 harg3 arg4 harg4 arg5 harg5 arg6 harg6 arg7 harg7 arg8 harg8 arg9 harg9 arg10 harg10 arg11 harg11 hc0 x0 x1 x2 x3 x4 x5 x6 xt0 xs0 = outv x2 x3 x4 x5 x6 (win xs0 (k0_pay4 x0 x1)) := by
  unfold out0_B_7
  rw [View.read_writes_eq_canon _ _ _ (cover0_B_7 c i arg3 harg3 arg4 harg4 arg5 harg5 arg6 harg6 arg7 harg7 arg8 harg8 arg9 harg9 arg10 harg10 arg11 harg11 hc0 x0 x1 x2 x3 x4 x5 x6 xt0 xs0)]
  funext y
  have hcv := cover0_B_7 c i arg3 harg3 arg4 harg4 arg5 harg5 arg6 harg6 arg7 harg7 arg8 harg8 arg9 harg9 arg10 harg10 arg11 harg11 hc0 x0 x1 x2 x3 x4 x5 x6 xt0 xs0 y
  revert hcv
  unfold kernelRun0_B
  dsimp only
  try sl_unfold_words
  intro hcv
  refine View.canon_apply_of_pieces (outv x2 x3 x4 x5 x6 (win xs0 (k0_pay4 x0 x1))) _ (fun p hp => ?_) y hcv
  clear hcv
  simp only [List.mem_cons, List.not_mem_nil, or_false] at hp
  rcases hp with rfl | rfl | rfl | rfl | rfl | rfl | rfl | rfl
  · intro x
    refine Eq.trans ?_ (outv_at x2 x3 x4 x5 x6 (win xs0 (k0_pay4 x0 x1)) 7 _ x (by show 224 + 1 * (x (1 : Fin 3)).val = 32 * 7 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, ld_rd, cov_rd arg11 xs0 (k0_pay4 x0 x1), ld_tp, Nat.reduceLeDiff]
    rfl
  · intro x
    refine Eq.trans ?_ (outv_at x2 x3 x4 x5 x6 (win xs0 (k0_pay4 x0 x1)) 6 _ x (by show 192 + 1 * (x (1 : Fin 3)).val = 32 * 6 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, ld_rd, cov_rd arg11 xs0 (k0_pay4 x0 x1), ld_tp, Nat.reduceLeDiff]
    rfl
  · intro x
    refine Eq.trans ?_ (outv_at x2 x3 x4 x5 x6 (win xs0 (k0_pay4 x0 x1)) 5 _ x (by show 160 + 1 * (x (1 : Fin 3)).val = 32 * 5 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, ld_rd, cov_rd arg11 xs0 (k0_pay4 x0 x1), ld_tp, Nat.reduceLeDiff]
    rfl
  · intro x
    refine Eq.trans ?_ (outv_at x2 x3 x4 x5 x6 (win xs0 (k0_pay4 x0 x1)) 4 _ x (by show 128 + 1 * (x (1 : Fin 3)).val = 32 * 4 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, ld_rd, cov_rd arg11 xs0 (k0_pay4 x0 x1), ld_tp, Nat.reduceLeDiff]
    rfl
  · intro x
    refine Eq.trans ?_ (outv_at x2 x3 x4 x5 x6 (win xs0 (k0_pay4 x0 x1)) 3 _ x (by show 96 + 1 * (x (1 : Fin 3)).val = 32 * 3 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, ld_rd, cov_rd arg11 xs0 (k0_pay4 x0 x1), ld_tp, Nat.reduceLeDiff]
    rfl
  · intro x
    refine Eq.trans ?_ (outv_at x2 x3 x4 x5 x6 (win xs0 (k0_pay4 x0 x1)) 2 _ x (by show 64 + 1 * (x (1 : Fin 3)).val = 32 * 2 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, ld_rd, cov_rd arg11 xs0 (k0_pay4 x0 x1), ld_tp, Nat.reduceLeDiff]
    rfl
  · intro x
    refine Eq.trans ?_ (outv_at x2 x3 x4 x5 x6 (win xs0 (k0_pay4 x0 x1)) 1 _ x (by show 32 + 1 * (x (1 : Fin 3)).val = 32 * 1 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, ld_rd, cov_rd arg11 xs0 (k0_pay4 x0 x1), ld_tp, Nat.reduceLeDiff]
    rfl
  · intro x
    refine Eq.trans ?_ (outv_at x2 x3 x4 x5 x6 (win xs0 (k0_pay4 x0 x1)) 0 _ x (by show 0 + 1 * (x (1 : Fin 3)).val = 32 * 0 + (x (1 : Fin 3)).val; omega) (by show 0 + 1 * (x (2 : Fin 3)).val = (x (2 : Fin 3)).val; omega)).symm
    simp only [View.readAt_eq_ld, View.ld_unit_zero (S := S1x256x512) z3, View.ld_unit_zero (S := S1x1x512) z3, harg3.read_unread, harg4.read_unread, harg5.read_unread, harg6.read_unread, harg7.read_unread, harg8.read_unread, harg9.read_unread, ld_rd, cov_rd arg11 xs0 (k0_pay4 x0 x1), ld_tp, Nat.reduceLeDiff]
    rfl

end Cert.Proof.ConvOB

end
-- ==== Proof.ConvN.lean ====
module

public import proofs.«01_k».proof.Proof.ConvM
public import proofs.«01_k».proof.Proof.ConvOA
public import proofs.«01_k».proof.Proof.ConvOB

@[expose] public section

noncomputable section

/-! The result array of the convolution, over the extended reals. -/

namespace Cert.Proof.ConvN

open Cert.ConvIdeal Cert.ConvIdeal.Gen Idealize.ShloMosaic Idealize.ShloMosaic.TcCoe Cert.Proof.ConvI Cert.Proof.ConvV Cert.Proof.ConvM

variable (m : (ℓ : Loc nD τ sig) → Buf (Elt Ideal) ℓ) (hl : (lay m).toNat < 4) (c : Dev nD)

set_option maxHeartbeats 1000000 in
/-- The block a point leaves is the result on its rows. -/
theorem out (t : Fin (cfgM m (ok m hl)).N) (a : Fin 256) (d : Fin 512) : (outsAt0 m (ok m hl) c t.val t.isLt).1 (ix3 0 a d)
    = ConvS.out (L m hl) (ax m c) (at_ m c) (ab m c) (ag m c) (as_ m c) (aq m c) (ix3 (sq m hl t) (row m hl t a) d) := by
  by_cases h : t.val % 8 = 0
  · rw [outsAt0_A m (ok m hl) c t h]
    dsimp only
    refine (congrFun (ConvOA.outA (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) (ms0_4 m (ok m hl) t) (hs0_4 m (ok m hl) t) (ms0_5 m (ok m hl) t) (hs0_5 m (ok m hl) t) (ms0_6 m (ok m hl) t) (hs0_6 m (ok m hl) t) (ms0_7 m (ok m hl) t) (hs0_7 m (ok m hl) t) scM0_0 (Memref.isWhole_whole _) (b0 m hl c t) (b1 m hl c t) (b2 m hl c t) (b3 m hl c t) (b4 m hl c t) (b5 m hl c t) (b6 m hl c t) (tbl m 0) ((hcond0_0 t).mpr h)) (ix3 0 a d)).trans ?_
    exact outv_eq m hl c t zer (zer_at m hl c t h) a d
  · rw [outsAt0_B m (ok m hl) c t h]
    dsimp only
    refine (congrFun (ConvOB.outB (F := Ideal) c (grid0.coords t) (ms0_0 m (ok m hl) t) (hs0_0 m (ok m hl) t) (ms0_1 m (ok m hl) t) (hs0_1 m (ok m hl) t) (ms0_2 m (ok m hl) t) (hs0_2 m (ok m hl) t) (ms0_3 m (ok m hl) t) (hs0_3 m (ok m hl) t) (ms0_4 m (ok m hl) t) (hs0_4 m (ok m hl) t) (ms0_5 m (ok m hl) t) (hs0_5 m (ok m hl) t) (ms0_6 m (ok m hl) t) (hs0_6 m (ok m hl) t) (ms0_7 m (ok m hl) t) (hs0_7 m (ok m hl) t) scM0_0 (Memref.isWhole_whole _) (b0 m hl c t) (b1 m hl c t) (b2 m hl c t) (b3 m hl c t) (b4 m hl c t) (b5 m hl c t) (b6 m hl c t) (tbl m 0) (outsAt0 m (ok m hl) c (t.val - 1) (Nat.lt_of_le_of_lt (Nat.sub_le _ _) t.isLt)).2 (fun h1 => h ((hcond0_0 t).mp h1))) (ix3 0 a d)).trans ?_
    exact outv_eq m hl c t _ (car_at m hl c t h) a d

/-- The points' blocks cover the result. -/
theorem cov : ((cfgM m (ok m hl)).win 7).Covers := by
  refine ⟨fun a => ?_, fun β => ?_⟩
  · match a with
    | ⟨0, _⟩ => show 0 < 1; omega
    | ⟨1, _⟩ => show 0 < 256; omega
    | ⟨2, _⟩ => show 0 < 512; omega
  have h0 : (β (0 : Fin 3)).val < 4 := lt_of_lt_of_le (β (0 : Fin 3)).isLt (by show (4 + 1 - 1) / 1 ≤ 4; omega)
  have h1 : (β (1 : Fin 3)).val < 8 := lt_of_lt_of_le (β (1 : Fin 3)).isLt (by show (2048 + 256 - 1) / 256 ≤ 8; omega)
  have h2 : (β (2 : Fin 3)).val < 1 := lt_of_lt_of_le (β (2 : Fin 3)).isLt (by show (512 + 512 - 1) / 512 ≤ 1; omega)
  refine ⟨⟨8 * (β (0 : Fin 3)).val + (β (1 : Fin 3)).val, by show _ < 32; omega⟩, flush0_7 (adm m (ok m hl)) _, fun a => ⟨?_, Or.inl rfl⟩⟩
  rw [idx7 m hl]
  match a with
  | ⟨0, _⟩ => show (8 * (β (0 : Fin 3)).val + (β (1 : Fin 3)).val) / 8 = (β (0 : Fin 3)).val; omega
  | ⟨1, _⟩ => show (8 * (β (0 : Fin 3)).val + (β (1 : Fin 3)).val) % 8 = (β (1 : Fin 3)).val; omega
  | ⟨2, _⟩ => show 0 = (β (2 : Fin 3)).val; omega

/-- The result array after the run. -/
theorem final : (dats m (ok m hl) 0 c).arrAt 7 (cfgM m (ok m hl)).N
    = ConvS.out (L m hl) (ax m c) (at_ m c) (ab m c) (ag m c) (as_ m c) (aq m c) := by
  refine (dats m (ok m hl) 0 c).arrAt_eq_of_covers 7 _ (cov m hl) fun t hf y => ?_
  have e := idx7 m hl t
  have h0 : (y (0 : Fin 3)).val < 1 := (y (0 : Fin 3)).isLt
  have h1 : (y (1 : Fin 3)).val < 256 := (y (1 : Fin 3)).isLt
  have h2 : (y (2 : Fin 3)).val < 512 := (y (2 : Fin 3)).isLt
  blk_simp
  rw [after0_7]
  have hz : (((cfgM m (ok m hl)).win 7).blk t).view.emb y = ix3 (sq m hl t) (row m hl t (y (1 : Fin 3))) (y (2 : Fin 3)) := funext fun x => Fin.ext (by
    match x with
    | ⟨0, _⟩ => blk_simp [e]; rfl
    | ⟨1, _⟩ => blk_simp [e]; show t.val % 8 * 256 + (y (1 : Fin 3)).val = 256 * (t.val % 8) + (y (1 : Fin 3)).val; omega
    | ⟨2, _⟩ => blk_simp [e]; rfl)
  have hy : y = ix3 (0 : Fin 1) (y (1 : Fin 3)) (y (2 : Fin 3)) := funext fun x => by
    match x with
    | ⟨0, _⟩ => exact Subsingleton.elim (α := Fin 1) _ _
    | ⟨1, _⟩ => rfl
    | ⟨2, _⟩ => rfl
  rw [hz]
  exact (congrArg (outsAt0 m (ok m hl) c t.val t.isLt).1 hy).trans (out m hl c t (y (1 : Fin 3)) (y (2 : Fin 3)))

end Cert.Proof.ConvN

end
-- ==== Proof.ConvQ.lean ====
module

public import proofs.«01_k».proof.Proof.Gen.ConvReferenceIdeal
public import Idealize.ShloMosaic.Lib.StableHlo.RunClose
public import Idealize.ShloMosaic.Lib.StableHlo.RunRead

@[expose] public section

noncomputable section

/-! The run of the convolution's reference, in twelve parts, for any float values: the gated input after thirty zero rows, the sum of the taps in six parts, the bias, the norm of its rows, the gate and the last norm. -/

namespace Cert.Proof.ConvQ

open Cert.ConvReferenceIdeal Cert.ConvReferenceIdeal.Gen Idealize.ShloMosaic Idealize.ShloMosaic.TcCoe Idealize.SL.Sem Idealize.ShloMosaic.StableHlo

variable {F : FTy → Type} [FloatOps F]

/-- The layer's word, and where its parameters start. -/
def st (x : (⟨S1, .i32⟩ : BufTy).Contents (Elt F)) : (⟨S_, .i32⟩ : BufTy).Contents (Elt F) := shapeCast _ x shapeCasts_S1_S_
def at3 (s : (⟨S_, .i32⟩ : BufTy).Contents (Elt F)) (k : Fin 3) : ℤ :=
  ((![s, constantI S_ 32 0#32, constantI S_ 32 0#32] : Fin 3 → (⟨S_, .i32⟩ : BufTy).Contents (Elt F)) k (Shape.Idx.first h_S_)).toInt

/-- The layer's vectors and its taps. -/
def vecp (p : (⟨S4x1x512, .f32⟩ : BufTy).Contents (Elt F)) (s : (⟨S_, .i32⟩ : BufTy).Contents (Elt F)) : (⟨S1x512, .f32⟩ : BufTy).Contents (Elt F) :=
  shapeCast _ (Host.dynamicSlice S1x1x512 p (at3 (F := F) s) sliceFits_S4x1x512_S1x1x512) shapeCasts_S1x1x512_S1x512
def taps (p : (⟨S4x31x512, .f32⟩ : BufTy).Contents (Elt F)) (s : (⟨S_, .i32⟩ : BufTy).Contents (Elt F)) : (⟨S31x512, .f32⟩ : BufTy).Contents (Elt F) :=
  shapeCast _ (Host.dynamicSlice S1x31x512 p (at3 (F := F) s) sliceFits_S4x31x512_S1x31x512) shapeCasts_S1x31x512_S31x512

/-- The gated input, and it after thirty zero rows. -/
def gated (x : (⟨S4x2048x2048, .f32⟩ : BufTy).Contents (Elt F)) : (⟨S4x2048x512, .f32⟩ : BufTy).Contents (Elt F) :=
  mulf (extractStridedSlice S4x2048x512 ![0, 0, 0] x slices_S4x2048x2048_S4x2048x512_0_0_0) (Host.divf (broadcastInDim S4x2048x512 ![] bcast_S_S4x2048x512 (constant S_ .f32 0x3F800000#32))
    (addf (broadcastInDim S4x2048x512 ![] bcast_S_S4x2048x512 (constant S_ .f32 0x3F800000#32)) (Host.exp (Host.negf (extractStridedSlice S4x2048x512 ![0, 0, 512] x slices_S4x2048x2048_S4x2048x512_0_0_512)))))
def padded (u : (⟨S4x2048x512, .f32⟩ : BufTy).Contents (Elt F)) : (⟨S4x2078x512, .f32⟩ : BufTy).Contents (Elt F) :=
  pad S4x2078x512 ![0, 30, 0] ![0, 0, 0] ![0, 0, 0] u (sitofp .f32 (constantI S_ 32 0#32)) pads_S4x2048x512_S4x2078x512_000_3000_000 h_S_

/-- One tap more. -/
def more (a u : (⟨S4x2048x512, .f32⟩ : BufTy).Contents (Elt F)) (r : (⟨S1x512, .f32⟩ : BufTy).Contents (Elt F)) : (⟨S4x2048x512, .f32⟩ : BufTy).Contents (Elt F) :=
  addf a (mulf u (broadcastInDim S4x2048x512 ![0, 1, 2] bcast_S1x1x512_S4x2048x512_0_1_2 (broadcastInDim S1x1x512 ![2] bcast_S512_S1x1x512_2 (shapeCast _ r shapeCasts_S1x512_S512))))

/-- A vector on every row; a row less its mean; a row over the root of its mean square; the last gate. -/
def rows (g : (⟨S1x512, .f32⟩ : BufTy).Contents (Elt F)) : (⟨S4x2048x512, .f32⟩ : BufTy).Contents (Elt F) :=
  broadcastInDim S4x2048x512 ![0, 1, 2] bcast_S1x1x512_S4x2048x512_0_1_2 (broadcastInDim S1x1x512 ![1, 2] bcast_S1x512_S1x1x512_1_2 g)
def less (y : (⟨S4x2048x512, .f32⟩ : BufTy).Contents (Elt F)) : (⟨S4x2048x512, .f32⟩ : BufTy).Contents (Elt F) :=
  subf y (broadcastInDim S4x2048x512 ![0, 1, 2] bcast_S4x2048x1_S4x2048x512_0_1_2 (Host.divf (broadcastInDim S4x2048x1 ![0, 1] bcast_S4x2048_S4x2048x1_0_1
    (Host.reduceAdd y (constant S_ .f32 0x00000000#32) reducesTo_S4x2048x512_S4x2048_d2 h_S_)) (broadcastInDim S4x2048x1 ![] bcast_S_S4x2048x1 (constant S_ .f32 0x44000000#32))))
def over (x : (⟨S4x2048x512, .f32⟩ : BufTy).Contents (Elt F)) : (⟨S4x2048x512, .f32⟩ : BufTy).Contents (Elt F) :=
  mulf x (broadcastInDim S4x2048x512 ![0, 1, 2] bcast_S4x2048x1_S4x2048x512_0_1_2 (Host.rsqrt (addf (Host.divf (broadcastInDim S4x2048x1 ![0, 1] bcast_S4x2048_S4x2048x1_0_1
    (Host.reduceAdd (mulf x x) (constant S_ .f32 0x00000000#32) reducesTo_S4x2048x512_S4x2048_d2 h_S_)) (broadcastInDim S4x2048x1 ![] bcast_S_S4x2048x1 (constant S_ .f32 0x44000000#32)))
    (broadcastInDim S4x2048x1 ![] bcast_S_S4x2048x1 (constant S_ .f32 0x358637BD#32)))))
def swish (x : (⟨S4x2048x512, .f32⟩ : BufTy).Contents (Elt F)) : (⟨S4x2048x512, .f32⟩ : BufTy).Contents (Elt F) :=
  mulf x (Host.divf (broadcastInDim S4x2048x512 ![] bcast_S_S4x2048x512 (constant S_ .f32 0x3F800000#32))
    (addf (broadcastInDim S4x2048x512 ![] bcast_S_S4x2048x512 (constant S_ .f32 0x3F800000#32)) (Host.exp (Host.negf x))))

/-- Part 1: its operations, what they write, that they keep the rest, and its value. -/
abbrev ops1 : List (HloOp τ sig (Elt F)) :=
  [ reshape main_arg0 main_v0 (rfl : (.i32 : EltTy) = .i32) shapeCasts_S1_S_,
    unary main_arg1 main_v1 ((extractStridedSlice S4x2048x512 ![0, 0, 0] · slices_S4x2048x2048_S4x2048x512_0_0_0) : (⟨S4x2048x2048, .f32⟩ : BufTy).Contents (Elt F) → (⟨S4x2048x512, .f32⟩ : BufTy).Contents (Elt F)),
    unary main_arg1 main_v2 ((extractStridedSlice S4x2048x512 ![0, 0, 512] · slices_S4x2048x2048_S4x2048x512_0_0_512) : (⟨S4x2048x2048, .f32⟩ : BufTy).Contents (Elt F) → (⟨S4x2048x512, .f32⟩ : BufTy).Contents (Elt F)),
    unary main_v2 main_v3 (Host.negf : (⟨S4x2048x512, .f32⟩ : BufTy).Contents (Elt F) → (⟨S4x2048x512, .f32⟩ : BufTy).Contents (Elt F)),
    unary main_v3 main_v4 (Host.exp : (⟨S4x2048x512, .f32⟩ : BufTy).Contents (Elt F) → (⟨S4x2048x512, .f32⟩ : BufTy).Contents (Elt F)),
    nullary main_cst (constant S_ .f32 0x3F800000#32),
    unary main_cst main_v5 (broadcastInDim S4x2048x512 ![] bcast_S_S4x2048x512 : (⟨S_, .f32⟩ : BufTy).Contents (Elt F) → (⟨S4x2048x512, .f32⟩ : BufTy).Contents (Elt F)),
    binary main_v5 main_v4 main_v6 (addf : (⟨S4x2048x512, .f32⟩ : BufTy).Contents (Elt F) → (⟨S4x2048x512, .f32⟩ : BufTy).Contents (Elt F) → (⟨S4x2048x512, .f32⟩ : BufTy).Contents (Elt F)),
    nullary main_cst_0 (constant S_ .f32 0x3F800000#32),
    unary main_cst_0 main_v7 (broadcastInDim S4x2048x512 ![] bcast_S_S4x2048x512 : (⟨S_, .f32⟩ : BufTy).Contents (Elt F) → (⟨S4x2048x512, .f32⟩ : BufTy).Contents (Elt F)),
    binary main_v7 main_v6 main_v8 (Host.divf : (⟨S4x2048x512, .f32⟩ : BufTy).Contents (Elt F) → (⟨S4x2048x512, .f32⟩ : BufTy).Contents (Elt F) → (⟨S4x2048x512, .f32⟩ : BufTy).Contents (Elt F)),
    binary main_v1 main_v8 main_v9 (mulf : (⟨S4x2048x512, .f32⟩ : BufTy).Contents (Elt F) → (⟨S4x2048x512, .f32⟩ : BufTy).Contents (Elt F) → (⟨S4x2048x512, .f32⟩ : BufTy).Contents (Elt F)),
    nullary main_c (constantI S_ 32 0#32),
    nullary main_c_1 (constantI S_ 32 0#32),
    unaryIndexed main_arg2 ![main_v0, main_c, main_c_1] ⟨S_, .i32⟩ main_v10 ((fun x i => Host.dynamicSlice S1x31x512 x (fun k => (i k (Shape.Idx.first h_S_)).toInt) sliceFits_S4x31x512_S1x31x512) : (⟨S4x31x512, .f32⟩ : BufTy).Contents (Elt F) → (Fin 3 → (⟨S_, .i32⟩ : BufTy).Contents (Elt F)) → (⟨S1x31x512, .f32⟩ : BufTy).Contents (Elt F)),
    reshape main_v10 main_v11 (rfl : (.f32 : EltTy) = .f32) shapeCasts_S1x31x512_S31x512,
    nullary main_c_2 (constantI S_ 32 0#32),
    TRef.unary (TRef.of (T := ⟨S_, .i32⟩) main_c_2) (TRef.of (T := ⟨S_, .f32⟩) main_call0_v0) (sitofp .f32),
    TRef.binary (TRef.of (T := ⟨S4x2048x512, .f32⟩) main_v9) (TRef.of (T := ⟨S_, .f32⟩) main_call0_v0) (TRef.of (T := ⟨S4x2078x512, .f32⟩) main_v12) (fun x v => pad S4x2078x512 ![0, 30, 0] ![0, 0, 0] ![0, 0, 0] x v pads_S4x2048x512_S4x2078x512_000_3000_000 h_S_)]
abbrev wr1 : List (Ref sig .tc) := [main_v0, main_v1, main_v2, main_v3, main_v4, main_cst, main_v5, main_v6, main_cst_0, main_v7, main_v8, main_v9, main_c, main_c_1, main_v10, main_v11, main_c_2, main_call0_v0, main_v12]
theorem keep1 {r : Ref sig .tc} (hr : r ∉ wr1) (V : Valuation τ sig (Elt F)) : after (ops1 (F := F)) V (Proc.devRef .tc r) = V (Proc.devRef .tc r) :=
  after_unwritten wr1 rfl hr V
theorem sub1 : (ops1 : List (HloOp τ sig (Elt F))).Forall fun op => op.bufs ⊆ tcRefs τ sig := by simp [List.forall_cons]
set_option maxHeartbeats 4000000 in
theorem val1_v0 (V : Valuation τ sig (Elt F)) : after (ops1 (F := F)) V (Proc.devRef .tc main_v0) = (st (F := F) (V (Proc.devRef .tc main_arg0))) := by
  after_results_entrywise []
set_option maxHeartbeats 4000000 in
theorem val1_v11 (V : Valuation τ sig (Elt F)) : after (ops1 (F := F)) V (Proc.devRef .tc main_v11) = taps (V (Proc.devRef .tc main_arg2)) (st (F := F) (V (Proc.devRef .tc main_arg0))) := by
  after_results_entrywise []
set_option maxHeartbeats 4000000 in
theorem val1_v12 (V : Valuation τ sig (Elt F)) : after (ops1 (F := F)) V (Proc.devRef .tc main_v12) = padded (gated (V (Proc.devRef .tc main_arg1))) := by
  after_results_entrywise []

/-- Part 2: its operations, what they write, that they keep the rest, and its value. -/
abbrev ops2 : List (HloOp τ sig (Elt F)) :=
  [ unary main_v12 main_v13 ((extractStridedSlice S4x2048x512 ![0, 0, 0] · slices_S4x2078x512_S4x2048x512_0_0_0) : (⟨S4x2078x512, .f32⟩ : BufTy).Contents (Elt F) → (⟨S4x2048x512, .f32⟩ : BufTy).Contents (Elt F)),
    unary main_v11 main_v14 ((extractStridedSlice S1x512 ![0, 0] · slices_S31x512_S1x512_0_0) : (⟨S31x512, .f32⟩ : BufTy).Contents (Elt F) → (⟨S1x512, .f32⟩ : BufTy).Contents (Elt F)),
    reshape main_v14 main_v15 (rfl : (.f32 : EltTy) = .f32) shapeCasts_S1x512_S512,
    unary main_v15 main_v16 (broadcastInDim S1x1x512 ![2] bcast_S512_S1x1x512_2 : (⟨S512, .f32⟩ : BufTy).Contents (Elt F) → (⟨S1x1x512, .f32⟩ : BufTy).Contents (Elt F)),
    unary main_v16 main_v17 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v13 main_v17 main_v18 (mulf : (⟨S4x2048x512, .f32⟩ : BufTy).Contents (Elt F) → (⟨S4x2048x512, .f32⟩ : BufTy).Contents (Elt F) → (⟨S4x2048x512, .f32⟩ : BufTy).Contents (Elt F)),
    nullary main_cst_3 (constant S_ .f32 0x00000000#32),
    unary main_cst_3 main_v19 (broadcastInDim S4x2048x512 ![] bcast_S_S4x2048x512 : (⟨S_, .f32⟩ : BufTy).Contents (Elt F) → (⟨S4x2048x512, .f32⟩ : BufTy).Contents (Elt F)),
    binary main_v19 main_v18 main_v20 (addf : (⟨S4x2048x512, .f32⟩ : BufTy).Contents (Elt F) → (⟨S4x2048x512, .f32⟩ : BufTy).Contents (Elt F) → (⟨S4x2048x512, .f32⟩ : BufTy).Contents (Elt F)),
    unary main_v12 main_v21 ((extractStridedSlice S4x2048x512 ![0, 1, 0] · slices_S4x2078x512_S4x2048x512_0_1_0) : (⟨S4x2078x512, .f32⟩ : BufTy).Contents (Elt F) → (⟨S4x2048x512, .f32⟩ : BufTy).Contents (Elt F)),
    unary main_v11 main_v22 ((extractStridedSlice S1x512 ![1, 0] · slices_S31x512_S1x512_1_0) : (⟨S31x512, .f32⟩ : BufTy).Contents (Elt F) → (⟨S1x512, .f32⟩ : BufTy).Contents (Elt F)),
    reshape main_v22 main_v23 (rfl : (.f32 : EltTy) = .f32) shapeCasts_S1x512_S512,
    unary main_v23 main_v24 (broadcastInDim S1x1x512 ![2] bcast_S512_S1x1x512_2 : (⟨S512, .f32⟩ : BufTy).Contents (Elt F) → (⟨S1x1x512, .f32⟩ : BufTy).Contents (Elt F)),
    unary main_v24 main_v25 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v21 main_v25 main_v26 (mulf : (⟨S4x2048x512, .f32⟩ : BufTy).Contents (Elt F) → (⟨S4x2048x512, .f32⟩ : BufTy).Contents (Elt F) → (⟨S4x2048x512, .f32⟩ : BufTy).Contents (Elt F)),
    binary main_v20 main_v26 main_v27 (addf : (⟨S4x2048x512, .f32⟩ : BufTy).Contents (Elt F) → (⟨S4x2048x512, .f32⟩ : BufTy).Contents (Elt F) → (⟨S4x2048x512, .f32⟩ : BufTy).Contents (Elt F)),
    unary main_v12 main_v28 ((extractStridedSlice S4x2048x512 ![0, 2, 0] · slices_S4x2078x512_S4x2048x512_0_2_0) : (⟨S4x2078x512, .f32⟩ : BufTy).Contents (Elt F) → (⟨S4x2048x512, .f32⟩ : BufTy).Contents (Elt F)),
    unary main_v11 main_v29 ((extractStridedSlice S1x512 ![2, 0] · slices_S31x512_S1x512_2_0) : (⟨S31x512, .f32⟩ : BufTy).Contents (Elt F) → (⟨S1x512, .f32⟩ : BufTy).Contents (Elt F)),
    reshape main_v29 main_v30 (rfl : (.f32 : EltTy) = .f32) shapeCasts_S1x512_S512,
    unary main_v30 main_v31 (broadcastInDim S1x1x512 ![2] bcast_S512_S1x1x512_2 : (⟨S512, .f32⟩ : BufTy).Contents (Elt F) → (⟨S1x1x512, .f32⟩ : BufTy).Contents (Elt F)),
    unary main_v31 main_v32 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v28 main_v32 main_v33 (mulf : (⟨S4x2048x512, .f32⟩ : BufTy).Contents (Elt F) → (⟨S4x2048x512, .f32⟩ : BufTy).Contents (Elt F) → (⟨S4x2048x512, .f32⟩ : BufTy).Contents (Elt F)),
    binary main_v27 main_v33 main_v34 (addf : (⟨S4x2048x512, .f32⟩ : BufTy).Contents (Elt F) → (⟨S4x2048x512, .f32⟩ : BufTy).Contents (Elt F) → (⟨S4x2048x512, .f32⟩ : BufTy).Contents (Elt F)),
    unary main_v12 main_v35 ((extractStridedSlice S4x2048x512 ![0, 3, 0] · slices_S4x2078x512_S4x2048x512_0_3_0) : (⟨S4x2078x512, .f32⟩ : BufTy).Contents (Elt F) → (⟨S4x2048x512, .f32⟩ : BufTy).Contents (Elt F)),
    unary main_v11 main_v36 ((extractStridedSlice S1x512 ![3, 0] · slices_S31x512_S1x512_3_0) : (⟨S31x512, .f32⟩ : BufTy).Contents (Elt F) → (⟨S1x512, .f32⟩ : BufTy).Contents (Elt F)),
    reshape main_v36 main_v37 (rfl : (.f32 : EltTy) = .f32) shapeCasts_S1x512_S512,
    unary main_v37 main_v38 (broadcastInDim S1x1x512 ![2] bcast_S512_S1x1x512_2 : (⟨S512, .f32⟩ : BufTy).Contents (Elt F) → (⟨S1x1x512, .f32⟩ : BufTy).Contents (Elt F)),
    unary main_v38 main_v39 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v35 main_v39 main_v40 (mulf : (⟨S4x2048x512, .f32⟩ : BufTy).Contents (Elt F) → (⟨S4x2048x512, .f32⟩ : BufTy).Contents (Elt F) → (⟨S4x2048x512, .f32⟩ : BufTy).Contents (Elt F)),
    binary main_v34 main_v40 main_v41 (addf : (⟨S4x2048x512, .f32⟩ : BufTy).Contents (Elt F) → (⟨S4x2048x512, .f32⟩ : BufTy).Contents (Elt F) → (⟨S4x2048x512, .f32⟩ : BufTy).Contents (Elt F)),
    unary main_v12 main_v42 ((extractStridedSlice S4x2048x512 ![0, 4, 0] · slices_S4x2078x512_S4x2048x512_0_4_0) : (⟨S4x2078x512, .f32⟩ : BufTy).Contents (Elt F) → (⟨S4x2048x512, .f32⟩ : BufTy).Contents (Elt F)),
    unary main_v11 main_v43 ((extractStridedSlice S1x512 ![4, 0] · slices_S31x512_S1x512_4_0) : (⟨S31x512, .f32⟩ : BufTy).Contents (Elt F) → (⟨S1x512, .f32⟩ : BufTy).Contents (Elt F)),
    reshape main_v43 main_v44 (rfl : (.f32 : EltTy) = .f32) shapeCasts_S1x512_S512,
    unary main_v44 main_v45 (broadcastInDim S1x1x512 ![2] bcast_S512_S1x1x512_2 : (⟨S512, .f32⟩ : BufTy).Contents (Elt F) → (⟨S1x1x512, .f32⟩ : BufTy).Contents (Elt F)),
    unary main_v45 main_v46 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v42 main_v46 main_v47 (mulf : (⟨S4x2048x512, .f32⟩ : BufTy).Contents (Elt F) → (⟨S4x2048x512, .f32⟩ : BufTy).Contents (Elt F) → (⟨S4x2048x512, .f32⟩ : BufTy).Contents (Elt F)),
    binary main_v41 main_v47 main_v48 (addf : (⟨S4x2048x512, .f32⟩ : BufTy).Contents (Elt F) → (⟨S4x2048x512, .f32⟩ : BufTy).Contents (Elt F) → (⟨S4x2048x512, .f32⟩ : BufTy).Contents (Elt F))]
abbrev wr2 : List (Ref sig .tc) := [main_v13, main_v14, main_v15, main_v16, main_v17, main_v18, main_cst_3, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48]
theorem keep2 {r : Ref sig .tc} (hr : r ∉ wr2) (V : Valuation τ sig (Elt F)) : after (ops2 (F := F)) V (Proc.devRef .tc r) = V (Proc.devRef .tc r) :=
  after_unwritten wr2 rfl hr V
theorem sub2 : (ops2 : List (HloOp τ sig (Elt F))).Forall fun op => op.bufs ⊆ tcRefs τ sig := by simp [List.forall_cons]
set_option maxHeartbeats 4000000 in
theorem val2_v48 (V : Valuation τ sig (Elt F)) : after (ops2 (F := F)) V (Proc.devRef .tc main_v48) = (more (more (more (more (more (broadcastInDim S4x2048x512 ![] bcast_S_S4x2048x512 (constant S_ .f32 0x00000000#32)) (extractStridedSlice S4x2048x512 ![0, 0, 0] (V (Proc.devRef .tc main_v12)) slices_S4x2078x512_S4x2048x512_0_0_0) (extractStridedSlice S1x512 ![0, 0] (V (Proc.devRef .tc main_v11)) slices_S31x512_S1x512_0_0)) (extractStridedSlice S4x2048x512 ![0, 1, 0] (V (Proc.devRef .tc main_v12)) slices_S4x2078x512_S4x2048x512_0_1_0) (extractStridedSlice S1x512 ![1, 0] (V (Proc.devRef .tc main_v11)) slices_S31x512_S1x512_1_0)) (extractStridedSlice S4x2048x512 ![0, 2, 0] (V (Proc.devRef .tc main_v12)) slices_S4x2078x512_S4x2048x512_0_2_0) (extractStridedSlice S1x512 ![2, 0] (V (Proc.devRef .tc main_v11)) slices_S31x512_S1x512_2_0)) (extractStridedSlice S4x2048x512 ![0, 3, 0] (V (Proc.devRef .tc main_v12)) slices_S4x2078x512_S4x2048x512_0_3_0) (extractStridedSlice S1x512 ![3, 0] (V (Proc.devRef .tc main_v11)) slices_S31x512_S1x512_3_0)) (extractStridedSlice S4x2048x512 ![0, 4, 0] (V (Proc.devRef .tc main_v12)) slices_S4x2078x512_S4x2048x512_0_4_0) (extractStridedSlice S1x512 ![4, 0] (V (Proc.devRef .tc main_v11)) slices_S31x512_S1x512_4_0)) := by
  after_results_entrywise []

/-- Part 3: its operations, what they write, that they keep the rest, and its value. -/
abbrev ops3 : List (HloOp τ sig (Elt F)) :=
  [ unary main_v12 main_v49 ((extractStridedSlice S4x2048x512 ![0, 5, 0] · slices_S4x2078x512_S4x2048x512_0_5_0) : (⟨S4x2078x512, .f32⟩ : BufTy).Contents (Elt F) → (⟨S4x2048x512, .f32⟩ : BufTy).Contents (Elt F)),
    unary main_v11 main_v50 ((extractStridedSlice S1x512 ![5, 0] · slices_S31x512_S1x512_5_0) : (⟨S31x512, .f32⟩ : BufTy).Contents (Elt F) → (⟨S1x512, .f32⟩ : BufTy).Contents (Elt F)),
    reshape main_v50 main_v51 (rfl : (.f32 : EltTy) = .f32) shapeCasts_S1x512_S512,
    unary main_v51 main_v52 (broadcastInDim S1x1x512 ![2] bcast_S512_S1x1x512_2 : (⟨S512, .f32⟩ : BufTy).Contents (Elt F) → (⟨S1x1x512, .f32⟩ : BufTy).Contents (Elt F)),
    unary main_v52 main_v53 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v49 main_v53 main_v54 (mulf : (⟨S4x2048x512, .f32⟩ : BufTy).Contents (Elt F) → (⟨S4x2048x512, .f32⟩ : BufTy).Contents (Elt F) → (⟨S4x2048x512, .f32⟩ : BufTy).Contents (Elt F)),
    binary main_v48 main_v54 main_v55 (addf : (⟨S4x2048x512, .f32⟩ : BufTy).Contents (Elt F) → (⟨S4x2048x512, .f32⟩ : BufTy).Contents (Elt F) → (⟨S4x2048x512, .f32⟩ : BufTy).Contents (Elt F)),
    unary main_v12 main_v56 ((extractStridedSlice S4x2048x512 ![0, 6, 0] · slices_S4x2078x512_S4x2048x512_0_6_0) : (⟨S4x2078x512, .f32⟩ : BufTy).Contents (Elt F) → (⟨S4x2048x512, .f32⟩ : BufTy).Contents (Elt F)),
    unary main_v11 main_v57 ((extractStridedSlice S1x512 ![6, 0] · slices_S31x512_S1x512_6_0) : (⟨S31x512, .f32⟩ : BufTy).Contents (Elt F) → (⟨S1x512, .f32⟩ : BufTy).Contents (Elt F)),
    reshape main_v57 main_v58 (rfl : (.f32 : EltTy) = .f32) shapeCasts_S1x512_S512,
    unary main_v58 main_v59 (broadcastInDim S1x1x512 ![2] bcast_S512_S1x1x512_2 : (⟨S512, .f32⟩ : BufTy).Contents (Elt F) → (⟨S1x1x512, .f32⟩ : BufTy).Contents (Elt F)),
    unary main_v59 main_v60 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v56 main_v60 main_v61 (mulf : (⟨S4x2048x512, .f32⟩ : BufTy).Contents (Elt F) → (⟨S4x2048x512, .f32⟩ : BufTy).Contents (Elt F) → (⟨S4x2048x512, .f32⟩ : BufTy).Contents (Elt F)),
    binary main_v55 main_v61 main_v62 (addf : (⟨S4x2048x512, .f32⟩ : BufTy).Contents (Elt F) → (⟨S4x2048x512, .f32⟩ : BufTy).Contents (Elt F) → (⟨S4x2048x512, .f32⟩ : BufTy).Contents (Elt F)),
    unary main_v12 main_v63 ((extractStridedSlice S4x2048x512 ![0, 7, 0] · slices_S4x2078x512_S4x2048x512_0_7_0) : (⟨S4x2078x512, .f32⟩ : BufTy).Contents (Elt F) → (⟨S4x2048x512, .f32⟩ : BufTy).Contents (Elt F)),
    unary main_v11 main_v64 ((extractStridedSlice S1x512 ![7, 0] · slices_S31x512_S1x512_7_0) : (⟨S31x512, .f32⟩ : BufTy).Contents (Elt F) → (⟨S1x512, .f32⟩ : BufTy).Contents (Elt F)),
    reshape main_v64 main_v65 (rfl : (.f32 : EltTy) = .f32) shapeCasts_S1x512_S512,
    unary main_v65 main_v66 (broadcastInDim S1x1x512 ![2] bcast_S512_S1x1x512_2 : (⟨S512, .f32⟩ : BufTy).Contents (Elt F) → (⟨S1x1x512, .f32⟩ : BufTy).Contents (Elt F)),
    unary main_v66 main_v67 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v63 main_v67 main_v68 (mulf : (⟨S4x2048x512, .f32⟩ : BufTy).Contents (Elt F) → (⟨S4x2048x512, .f32⟩ : BufTy).Contents (Elt F) → (⟨S4x2048x512, .f32⟩ : BufTy).Contents (Elt F)),
    binary main_v62 main_v68 main_v69 (addf : (⟨S4x2048x512, .f32⟩ : BufTy).Contents (Elt F) → (⟨S4x2048x512, .f32⟩ : BufTy).Contents (Elt F) → (⟨S4x2048x512, .f32⟩ : BufTy).Contents (Elt F)),
    unary main_v12 main_v70 ((extractStridedSlice S4x2048x512 ![0, 8, 0] · slices_S4x2078x512_S4x2048x512_0_8_0) : (⟨S4x2078x512, .f32⟩ : BufTy).Contents (Elt F) → (⟨S4x2048x512, .f32⟩ : BufTy).Contents (Elt F)),
    unary main_v11 main_v71 ((extractStridedSlice S1x512 ![8, 0] · slices_S31x512_S1x512_8_0) : (⟨S31x512, .f32⟩ : BufTy).Contents (Elt F) → (⟨S1x512, .f32⟩ : BufTy).Contents (Elt F)),
    reshape main_v71 main_v72 (rfl : (.f32 : EltTy) = .f32) shapeCasts_S1x512_S512,
    unary main_v72 main_v73 (broadcastInDim S1x1x512 ![2] bcast_S512_S1x1x512_2 : (⟨S512, .f32⟩ : BufTy).Contents (Elt F) → (⟨S1x1x512, .f32⟩ : BufTy).Contents (Elt F)),
    unary main_v73 main_v74 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v70 main_v74 main_v75 (mulf : (⟨S4x2048x512, .f32⟩ : BufTy).Contents (Elt F) → (⟨S4x2048x512, .f32⟩ : BufTy).Contents (Elt F) → (⟨S4x2048x512, .f32⟩ : BufTy).Contents (Elt F)),
    binary main_v69 main_v75 main_v76 (addf : (⟨S4x2048x512, .f32⟩ : BufTy).Contents (Elt F) → (⟨S4x2048x512, .f32⟩ : BufTy).Contents (Elt F) → (⟨S4x2048x512, .f32⟩ : BufTy).Contents (Elt F)),
    unary main_v12 main_v77 ((extractStridedSlice S4x2048x512 ![0, 9, 0] · slices_S4x2078x512_S4x2048x512_0_9_0) : (⟨S4x2078x512, .f32⟩ : BufTy).Contents (Elt F) → (⟨S4x2048x512, .f32⟩ : BufTy).Contents (Elt F)),
    unary main_v11 main_v78 ((extractStridedSlice S1x512 ![9, 0] · slices_S31x512_S1x512_9_0) : (⟨S31x512, .f32⟩ : BufTy).Contents (Elt F) → (⟨S1x512, .f32⟩ : BufTy).Contents (Elt F)),
    reshape main_v78 main_v79 (rfl : (.f32 : EltTy) = .f32) shapeCasts_S1x512_S512,
    unary main_v79 main_v80 (broadcastInDim S1x1x512 ![2] bcast_S512_S1x1x512_2 : (⟨S512, .f32⟩ : BufTy).Contents (Elt F) → (⟨S1x1x512, .f32⟩ : BufTy).Contents (Elt F)),
    unary main_v80 main_v81 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v77 main_v81 main_v82 (mulf : (⟨S4x2048x512, .f32⟩ : BufTy).Contents (Elt F) → (⟨S4x2048x512, .f32⟩ : BufTy).Contents (Elt F) → (⟨S4x2048x512, .f32⟩ : BufTy).Contents (Elt F)),
    binary main_v76 main_v82 main_v83 (addf : (⟨S4x2048x512, .f32⟩ : BufTy).Contents (Elt F) → (⟨S4x2048x512, .f32⟩ : BufTy).Contents (Elt F) → (⟨S4x2048x512, .f32⟩ : BufTy).Contents (Elt F))]
abbrev wr3 : List (Ref sig .tc) := [main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83]
theorem keep3 {r : Ref sig .tc} (hr : r ∉ wr3) (V : Valuation τ sig (Elt F)) : after (ops3 (F := F)) V (Proc.devRef .tc r) = V (Proc.devRef .tc r) :=
  after_unwritten wr3 rfl hr V
theorem sub3 : (ops3 : List (HloOp τ sig (Elt F))).Forall fun op => op.bufs ⊆ tcRefs τ sig := by simp [List.forall_cons]
set_option maxHeartbeats 4000000 in
theorem val3_v83 (V : Valuation τ sig (Elt F)) : after (ops3 (F := F)) V (Proc.devRef .tc main_v83) = (more (more (more (more (more (V (Proc.devRef .tc main_v48)) (extractStridedSlice S4x2048x512 ![0, 5, 0] (V (Proc.devRef .tc main_v12)) slices_S4x2078x512_S4x2048x512_0_5_0) (extractStridedSlice S1x512 ![5, 0] (V (Proc.devRef .tc main_v11)) slices_S31x512_S1x512_5_0)) (extractStridedSlice S4x2048x512 ![0, 6, 0] (V (Proc.devRef .tc main_v12)) slices_S4x2078x512_S4x2048x512_0_6_0) (extractStridedSlice S1x512 ![6, 0] (V (Proc.devRef .tc main_v11)) slices_S31x512_S1x512_6_0)) (extractStridedSlice S4x2048x512 ![0, 7, 0] (V (Proc.devRef .tc main_v12)) slices_S4x2078x512_S4x2048x512_0_7_0) (extractStridedSlice S1x512 ![7, 0] (V (Proc.devRef .tc main_v11)) slices_S31x512_S1x512_7_0)) (extractStridedSlice S4x2048x512 ![0, 8, 0] (V (Proc.devRef .tc main_v12)) slices_S4x2078x512_S4x2048x512_0_8_0) (extractStridedSlice S1x512 ![8, 0] (V (Proc.devRef .tc main_v11)) slices_S31x512_S1x512_8_0)) (extractStridedSlice S4x2048x512 ![0, 9, 0] (V (Proc.devRef .tc main_v12)) slices_S4x2078x512_S4x2048x512_0_9_0) (extractStridedSlice S1x512 ![9, 0] (V (Proc.devRef .tc main_v11)) slices_S31x512_S1x512_9_0)) := by
  after_results_entrywise []

/-- Part 4: its operations, what they write, that they keep the rest, and its value. -/
abbrev ops4 : List (HloOp τ sig (Elt F)) :=
  [ unary main_v12 main_v84 ((extractStridedSlice S4x2048x512 ![0, 10, 0] · slices_S4x2078x512_S4x2048x512_0_10_0) : (⟨S4x2078x512, .f32⟩ : BufTy).Contents (Elt F) → (⟨S4x2048x512, .f32⟩ : BufTy).Contents (Elt F)),
    unary main_v11 main_v85 ((extractStridedSlice S1x512 ![10, 0] · slices_S31x512_S1x512_10_0) : (⟨S31x512, .f32⟩ : BufTy).Contents (Elt F) → (⟨S1x512, .f32⟩ : BufTy).Contents (Elt F)),
    reshape main_v85 main_v86 (rfl : (.f32 : EltTy) = .f32) shapeCasts_S1x512_S512,
    unary main_v86 main_v87 (broadcastInDim S1x1x512 ![2] bcast_S512_S1x1x512_2 : (⟨S512, .f32⟩ : BufTy).Contents (Elt F) → (⟨S1x1x512, .f32⟩ : BufTy).Contents (Elt F)),
    unary main_v87 main_v88 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v84 main_v88 main_v89 (mulf : (⟨S4x2048x512, .f32⟩ : BufTy).Contents (Elt F) → (⟨S4x2048x512, .f32⟩ : BufTy).Contents (Elt F) → (⟨S4x2048x512, .f32⟩ : BufTy).Contents (Elt F)),
    binary main_v83 main_v89 main_v90 (addf : (⟨S4x2048x512, .f32⟩ : BufTy).Contents (Elt F) → (⟨S4x2048x512, .f32⟩ : BufTy).Contents (Elt F) → (⟨S4x2048x512, .f32⟩ : BufTy).Contents (Elt F)),
    unary main_v12 main_v91 ((extractStridedSlice S4x2048x512 ![0, 11, 0] · slices_S4x2078x512_S4x2048x512_0_11_0) : (⟨S4x2078x512, .f32⟩ : BufTy).Contents (Elt F) → (⟨S4x2048x512, .f32⟩ : BufTy).Contents (Elt F)),
    unary main_v11 main_v92 ((extractStridedSlice S1x512 ![11, 0] · slices_S31x512_S1x512_11_0) : (⟨S31x512, .f32⟩ : BufTy).Contents (Elt F) → (⟨S1x512, .f32⟩ : BufTy).Contents (Elt F)),
    reshape main_v92 main_v93 (rfl : (.f32 : EltTy) = .f32) shapeCasts_S1x512_S512,
    unary main_v93 main_v94 (broadcastInDim S1x1x512 ![2] bcast_S512_S1x1x512_2 : (⟨S512, .f32⟩ : BufTy).Contents (Elt F) → (⟨S1x1x512, .f32⟩ : BufTy).Contents (Elt F)),
    unary main_v94 main_v95 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v91 main_v95 main_v96 (mulf : (⟨S4x2048x512, .f32⟩ : BufTy).Contents (Elt F) → (⟨S4x2048x512, .f32⟩ : BufTy).Contents (Elt F) → (⟨S4x2048x512, .f32⟩ : BufTy).Contents (Elt F)),
    binary main_v90 main_v96 main_v97 (addf : (⟨S4x2048x512, .f32⟩ : BufTy).Contents (Elt F) → (⟨S4x2048x512, .f32⟩ : BufTy).Contents (Elt F) → (⟨S4x2048x512, .f32⟩ : BufTy).Contents (Elt F)),
    unary main_v12 main_v98 ((extractStridedSlice S4x2048x512 ![0, 12, 0] · slices_S4x2078x512_S4x2048x512_0_12_0) : (⟨S4x2078x512, .f32⟩ : BufTy).Contents (Elt F) → (⟨S4x2048x512, .f32⟩ : BufTy).Contents (Elt F)),
    unary main_v11 main_v99 ((extractStridedSlice S1x512 ![12, 0] · slices_S31x512_S1x512_12_0) : (⟨S31x512, .f32⟩ : BufTy).Contents (Elt F) → (⟨S1x512, .f32⟩ : BufTy).Contents (Elt F)),
    reshape main_v99 main_v100 (rfl : (.f32 : EltTy) = .f32) shapeCasts_S1x512_S512,
    unary main_v100 main_v101 (broadcastInDim S1x1x512 ![2] bcast_S512_S1x1x512_2 : (⟨S512, .f32⟩ : BufTy).Contents (Elt F) → (⟨S1x1x512, .f32⟩ : BufTy).Contents (Elt F)),
    unary main_v101 main_v102 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v98 main_v102 main_v103 (mulf : (⟨S4x2048x512, .f32⟩ : BufTy).Contents (Elt F) → (⟨S4x2048x512, .f32⟩ : BufTy).Contents (Elt F) → (⟨S4x2048x512, .f32⟩ : BufTy).Contents (Elt F)),
    binary main_v97 main_v103 main_v104 (addf : (⟨S4x2048x512, .f32⟩ : BufTy).Contents (Elt F) → (⟨S4x2048x512, .f32⟩ : BufTy).Contents (Elt F) → (⟨S4x2048x512, .f32⟩ : BufTy).Contents (Elt F)),
    unary main_v12 main_v105 ((extractStridedSlice S4x2048x512 ![0, 13, 0] · slices_S4x2078x512_S4x2048x512_0_13_0) : (⟨S4x2078x512, .f32⟩ : BufTy).Contents (Elt F) → (⟨S4x2048x512, .f32⟩ : BufTy).Contents (Elt F)),
    unary main_v11 main_v106 ((extractStridedSlice S1x512 ![13, 0] · slices_S31x512_S1x512_13_0) : (⟨S31x512, .f32⟩ : BufTy).Contents (Elt F) → (⟨S1x512, .f32⟩ : BufTy).Contents (Elt F)),
    reshape main_v106 main_v107 (rfl : (.f32 : EltTy) = .f32) shapeCasts_S1x512_S512,
    unary main_v107 main_v108 (broadcastInDim S1x1x512 ![2] bcast_S512_S1x1x512_2 : (⟨S512, .f32⟩ : BufTy).Contents (Elt F) → (⟨S1x1x512, .f32⟩ : BufTy).Contents (Elt F)),
    unary main_v108 main_v109 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v105 main_v109 main_v110 (mulf : (⟨S4x2048x512, .f32⟩ : BufTy).Contents (Elt F) → (⟨S4x2048x512, .f32⟩ : BufTy).Contents (Elt F) → (⟨S4x2048x512, .f32⟩ : BufTy).Contents (Elt F)),
    binary main_v104 main_v110 main_v111 (addf : (⟨S4x2048x512, .f32⟩ : BufTy).Contents (Elt F) → (⟨S4x2048x512, .f32⟩ : BufTy).Contents (Elt F) → (⟨S4x2048x512, .f32⟩ : BufTy).Contents (Elt F)),
    unary main_v12 main_v112 ((extractStridedSlice S4x2048x512 ![0, 14, 0] · slices_S4x2078x512_S4x2048x512_0_14_0) : (⟨S4x2078x512, .f32⟩ : BufTy).Contents (Elt F) → (⟨S4x2048x512, .f32⟩ : BufTy).Contents (Elt F)),
    unary main_v11 main_v113 ((extractStridedSlice S1x512 ![14, 0] · slices_S31x512_S1x512_14_0) : (⟨S31x512, .f32⟩ : BufTy).Contents (Elt F) → (⟨S1x512, .f32⟩ : BufTy).Contents (Elt F)),
    reshape main_v113 main_v114 (rfl : (.f32 : EltTy) = .f32) shapeCasts_S1x512_S512,
    unary main_v114 main_v115 (broadcastInDim S1x1x512 ![2] bcast_S512_S1x1x512_2 : (⟨S512, .f32⟩ : BufTy).Contents (Elt F) → (⟨S1x1x512, .f32⟩ : BufTy).Contents (Elt F)),
    unary main_v115 main_v116 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v112 main_v116 main_v117 (mulf : (⟨S4x2048x512, .f32⟩ : BufTy).Contents (Elt F) → (⟨S4x2048x512, .f32⟩ : BufTy).Contents (Elt F) → (⟨S4x2048x512, .f32⟩ : BufTy).Contents (Elt F)),
    binary main_v111 main_v117 main_v118 (addf : (⟨S4x2048x512, .f32⟩ : BufTy).Contents (Elt F) → (⟨S4x2048x512, .f32⟩ : BufTy).Contents (Elt F) → (⟨S4x2048x512, .f32⟩ : BufTy).Contents (Elt F))]
abbrev wr4 : List (Ref sig .tc) := [main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118]
theorem keep4 {r : Ref sig .tc} (hr : r ∉ wr4) (V : Valuation τ sig (Elt F)) : after (ops4 (F := F)) V (Proc.devRef .tc r) = V (Proc.devRef .tc r) :=
  after_unwritten wr4 rfl hr V
theorem sub4 : (ops4 : List (HloOp τ sig (Elt F))).Forall fun op => op.bufs ⊆ tcRefs τ sig := by simp [List.forall_cons]
set_option maxHeartbeats 4000000 in
theorem val4_v118 (V : Valuation τ sig (Elt F)) : after (ops4 (F := F)) V (Proc.devRef .tc main_v118) = (more (more (more (more (more (V (Proc.devRef .tc main_v83)) (extractStridedSlice S4x2048x512 ![0, 10, 0] (V (Proc.devRef .tc main_v12)) slices_S4x2078x512_S4x2048x512_0_10_0) (extractStridedSlice S1x512 ![10, 0] (V (Proc.devRef .tc main_v11)) slices_S31x512_S1x512_10_0)) (extractStridedSlice S4x2048x512 ![0, 11, 0] (V (Proc.devRef .tc main_v12)) slices_S4x2078x512_S4x2048x512_0_11_0) (extractStridedSlice S1x512 ![11, 0] (V (Proc.devRef .tc main_v11)) slices_S31x512_S1x512_11_0)) (extractStridedSlice S4x2048x512 ![0, 12, 0] (V (Proc.devRef .tc main_v12)) slices_S4x2078x512_S4x2048x512_0_12_0) (extractStridedSlice S1x512 ![12, 0] (V (Proc.devRef .tc main_v11)) slices_S31x512_S1x512_12_0)) (extractStridedSlice S4x2048x512 ![0, 13, 0] (V (Proc.devRef .tc main_v12)) slices_S4x2078x512_S4x2048x512_0_13_0) (extractStridedSlice S1x512 ![13, 0] (V (Proc.devRef .tc main_v11)) slices_S31x512_S1x512_13_0)) (extractStridedSlice S4x2048x512 ![0, 14, 0] (V (Proc.devRef .tc main_v12)) slices_S4x2078x512_S4x2048x512_0_14_0) (extractStridedSlice S1x512 ![14, 0] (V (Proc.devRef .tc main_v11)) slices_S31x512_S1x512_14_0)) := by
  after_results_entrywise []

/-- Part 5: its operations, what they write, that they keep the rest, and its value. -/
abbrev ops5 : List (HloOp τ sig (Elt F)) :=
  [ unary main_v12 main_v119 ((extractStridedSlice S4x2048x512 ![0, 15, 0] · slices_S4x2078x512_S4x2048x512_0_15_0) : (⟨S4x2078x512, .f32⟩ : BufTy).Contents (Elt F) → (⟨S4x2048x512, .f32⟩ : BufTy).Contents (Elt F)),
    unary main_v11 main_v120 ((extractStridedSlice S1x512 ![15, 0] · slices_S31x512_S1x512_15_0) : (⟨S31x512, .f32⟩ : BufTy).Contents (Elt F) → (⟨S1x512, .f32⟩ : BufTy).Contents (Elt F)),
    reshape main_v120 main_v121 (rfl : (.f32 : EltTy) = .f32) shapeCasts_S1x512_S512,
    unary main_v121 main_v122 (broadcastInDim S1x1x512 ![2] bcast_S512_S1x1x512_2 : (⟨S512, .f32⟩ : BufTy).Contents (Elt F) → (⟨S1x1x512, .f32⟩ : BufTy).Contents (Elt F)),
    unary main_v122 main_v123 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v119 main_v123 main_v124 (mulf : (⟨S4x2048x512, .f32⟩ : BufTy).Contents (Elt F) → (⟨S4x2048x512, .f32⟩ : BufTy).Contents (Elt F) → (⟨S4x2048x512, .f32⟩ : BufTy).Contents (Elt F)),
    binary main_v118 main_v124 main_v125 (addf : (⟨S4x2048x512, .f32⟩ : BufTy).Contents (Elt F) → (⟨S4x2048x512, .f32⟩ : BufTy).Contents (Elt F) → (⟨S4x2048x512, .f32⟩ : BufTy).Contents (Elt F)),
    unary main_v12 main_v126 ((extractStridedSlice S4x2048x512 ![0, 16, 0] · slices_S4x2078x512_S4x2048x512_0_16_0) : (⟨S4x2078x512, .f32⟩ : BufTy).Contents (Elt F) → (⟨S4x2048x512, .f32⟩ : BufTy).Contents (Elt F)),
    unary main_v11 main_v127 ((extractStridedSlice S1x512 ![16, 0] · slices_S31x512_S1x512_16_0) : (⟨S31x512, .f32⟩ : BufTy).Contents (Elt F) → (⟨S1x512, .f32⟩ : BufTy).Contents (Elt F)),
    reshape main_v127 main_v128 (rfl : (.f32 : EltTy) = .f32) shapeCasts_S1x512_S512,
    unary main_v128 main_v129 (broadcastInDim S1x1x512 ![2] bcast_S512_S1x1x512_2 : (⟨S512, .f32⟩ : BufTy).Contents (Elt F) → (⟨S1x1x512, .f32⟩ : BufTy).Contents (Elt F)),
    unary main_v129 main_v130 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v126 main_v130 main_v131 (mulf : (⟨S4x2048x512, .f32⟩ : BufTy).Contents (Elt F) → (⟨S4x2048x512, .f32⟩ : BufTy).Contents (Elt F) → (⟨S4x2048x512, .f32⟩ : BufTy).Contents (Elt F)),
    binary main_v125 main_v131 main_v132 (addf : (⟨S4x2048x512, .f32⟩ : BufTy).Contents (Elt F) → (⟨S4x2048x512, .f32⟩ : BufTy).Contents (Elt F) → (⟨S4x2048x512, .f32⟩ : BufTy).Contents (Elt F)),
    unary main_v12 main_v133 ((extractStridedSlice S4x2048x512 ![0, 17, 0] · slices_S4x2078x512_S4x2048x512_0_17_0) : (⟨S4x2078x512, .f32⟩ : BufTy).Contents (Elt F) → (⟨S4x2048x512, .f32⟩ : BufTy).Contents (Elt F)),
    unary main_v11 main_v134 ((extractStridedSlice S1x512 ![17, 0] · slices_S31x512_S1x512_17_0) : (⟨S31x512, .f32⟩ : BufTy).Contents (Elt F) → (⟨S1x512, .f32⟩ : BufTy).Contents (Elt F)),
    reshape main_v134 main_v135 (rfl : (.f32 : EltTy) = .f32) shapeCasts_S1x512_S512,
    unary main_v135 main_v136 (broadcastInDim S1x1x512 ![2] bcast_S512_S1x1x512_2 : (⟨S512, .f32⟩ : BufTy).Contents (Elt F) → (⟨S1x1x512, .f32⟩ : BufTy).Contents (Elt F)),
    unary main_v136 main_v137 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v133 main_v137 main_v138 (mulf : (⟨S4x2048x512, .f32⟩ : BufTy).Contents (Elt F) → (⟨S4x2048x512, .f32⟩ : BufTy).Contents (Elt F) → (⟨S4x2048x512, .f32⟩ : BufTy).Contents (Elt F)),
    binary main_v132 main_v138 main_v139 (addf : (⟨S4x2048x512, .f32⟩ : BufTy).Contents (Elt F) → (⟨S4x2048x512, .f32⟩ : BufTy).Contents (Elt F) → (⟨S4x2048x512, .f32⟩ : BufTy).Contents (Elt F)),
    unary main_v12 main_v140 ((extractStridedSlice S4x2048x512 ![0, 18, 0] · slices_S4x2078x512_S4x2048x512_0_18_0) : (⟨S4x2078x512, .f32⟩ : BufTy).Contents (Elt F) → (⟨S4x2048x512, .f32⟩ : BufTy).Contents (Elt F)),
    unary main_v11 main_v141 ((extractStridedSlice S1x512 ![18, 0] · slices_S31x512_S1x512_18_0) : (⟨S31x512, .f32⟩ : BufTy).Contents (Elt F) → (⟨S1x512, .f32⟩ : BufTy).Contents (Elt F)),
    reshape main_v141 main_v142 (rfl : (.f32 : EltTy) = .f32) shapeCasts_S1x512_S512,
    unary main_v142 main_v143 (broadcastInDim S1x1x512 ![2] bcast_S512_S1x1x512_2 : (⟨S512, .f32⟩ : BufTy).Contents (Elt F) → (⟨S1x1x512, .f32⟩ : BufTy).Contents (Elt F)),
    unary main_v143 main_v144 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v140 main_v144 main_v145 (mulf : (⟨S4x2048x512, .f32⟩ : BufTy).Contents (Elt F) → (⟨S4x2048x512, .f32⟩ : BufTy).Contents (Elt F) → (⟨S4x2048x512, .f32⟩ : BufTy).Contents (Elt F)),
    binary main_v139 main_v145 main_v146 (addf : (⟨S4x2048x512, .f32⟩ : BufTy).Contents (Elt F) → (⟨S4x2048x512, .f32⟩ : BufTy).Contents (Elt F) → (⟨S4x2048x512, .f32⟩ : BufTy).Contents (Elt F)),
    unary main_v12 main_v147 ((extractStridedSlice S4x2048x512 ![0, 19, 0] · slices_S4x2078x512_S4x2048x512_0_19_0) : (⟨S4x2078x512, .f32⟩ : BufTy).Contents (Elt F) → (⟨S4x2048x512, .f32⟩ : BufTy).Contents (Elt F)),
    unary main_v11 main_v148 ((extractStridedSlice S1x512 ![19, 0] · slices_S31x512_S1x512_19_0) : (⟨S31x512, .f32⟩ : BufTy).Contents (Elt F) → (⟨S1x512, .f32⟩ : BufTy).Contents (Elt F)),
    reshape main_v148 main_v149 (rfl : (.f32 : EltTy) = .f32) shapeCasts_S1x512_S512,
    unary main_v149 main_v150 (broadcastInDim S1x1x512 ![2] bcast_S512_S1x1x512_2 : (⟨S512, .f32⟩ : BufTy).Contents (Elt F) → (⟨S1x1x512, .f32⟩ : BufTy).Contents (Elt F)),
    unary main_v150 main_v151 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v147 main_v151 main_v152 (mulf : (⟨S4x2048x512, .f32⟩ : BufTy).Contents (Elt F) → (⟨S4x2048x512, .f32⟩ : BufTy).Contents (Elt F) → (⟨S4x2048x512, .f32⟩ : BufTy).Contents (Elt F)),
    binary main_v146 main_v152 main_v153 (addf : (⟨S4x2048x512, .f32⟩ : BufTy).Contents (Elt F) → (⟨S4x2048x512, .f32⟩ : BufTy).Contents (Elt F) → (⟨S4x2048x512, .f32⟩ : BufTy).Contents (Elt F))]
abbrev wr5 : List (Ref sig .tc) := [main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153]
theorem keep5 {r : Ref sig .tc} (hr : r ∉ wr5) (V : Valuation τ sig (Elt F)) : after (ops5 (F := F)) V (Proc.devRef .tc r) = V (Proc.devRef .tc r) :=
  after_unwritten wr5 rfl hr V
theorem sub5 : (ops5 : List (HloOp τ sig (Elt F))).Forall fun op => op.bufs ⊆ tcRefs τ sig := by simp [List.forall_cons]
set_option maxHeartbeats 4000000 in
theorem val5_v153 (V : Valuation τ sig (Elt F)) : after (ops5 (F := F)) V (Proc.devRef .tc main_v153) = (more (more (more (more (more (V (Proc.devRef .tc main_v118)) (extractStridedSlice S4x2048x512 ![0, 15, 0] (V (Proc.devRef .tc main_v12)) slices_S4x2078x512_S4x2048x512_0_15_0) (extractStridedSlice S1x512 ![15, 0] (V (Proc.devRef .tc main_v11)) slices_S31x512_S1x512_15_0)) (extractStridedSlice S4x2048x512 ![0, 16, 0] (V (Proc.devRef .tc main_v12)) slices_S4x2078x512_S4x2048x512_0_16_0) (extractStridedSlice S1x512 ![16, 0] (V (Proc.devRef .tc main_v11)) slices_S31x512_S1x512_16_0)) (extractStridedSlice S4x2048x512 ![0, 17, 0] (V (Proc.devRef .tc main_v12)) slices_S4x2078x512_S4x2048x512_0_17_0) (extractStridedSlice S1x512 ![17, 0] (V (Proc.devRef .tc main_v11)) slices_S31x512_S1x512_17_0)) (extractStridedSlice S4x2048x512 ![0, 18, 0] (V (Proc.devRef .tc main_v12)) slices_S4x2078x512_S4x2048x512_0_18_0) (extractStridedSlice S1x512 ![18, 0] (V (Proc.devRef .tc main_v11)) slices_S31x512_S1x512_18_0)) (extractStridedSlice S4x2048x512 ![0, 19, 0] (V (Proc.devRef .tc main_v12)) slices_S4x2078x512_S4x2048x512_0_19_0) (extractStridedSlice S1x512 ![19, 0] (V (Proc.devRef .tc main_v11)) slices_S31x512_S1x512_19_0)) := by
  after_results_entrywise []

/-- Part 6: its operations, what they write, that they keep the rest, and its value. -/
abbrev ops6 : List (HloOp τ sig (Elt F)) :=
  [ unary main_v12 main_v154 ((extractStridedSlice S4x2048x512 ![0, 20, 0] · slices_S4x2078x512_S4x2048x512_0_20_0) : (⟨S4x2078x512, .f32⟩ : BufTy).Contents (Elt F) → (⟨S4x2048x512, .f32⟩ : BufTy).Contents (Elt F)),
    unary main_v11 main_v155 ((extractStridedSlice S1x512 ![20, 0] · slices_S31x512_S1x512_20_0) : (⟨S31x512, .f32⟩ : BufTy).Contents (Elt F) → (⟨S1x512, .f32⟩ : BufTy).Contents (Elt F)),
    reshape main_v155 main_v156 (rfl : (.f32 : EltTy) = .f32) shapeCasts_S1x512_S512,
    unary main_v156 main_v157 (broadcastInDim S1x1x512 ![2] bcast_S512_S1x1x512_2 : (⟨S512, .f32⟩ : BufTy).Contents (Elt F) → (⟨S1x1x512, .f32⟩ : BufTy).Contents (Elt F)),
    unary main_v157 main_v158 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v154 main_v158 main_v159 (mulf : (⟨S4x2048x512, .f32⟩ : BufTy).Contents (Elt F) → (⟨S4x2048x512, .f32⟩ : BufTy).Contents (Elt F) → (⟨S4x2048x512, .f32⟩ : BufTy).Contents (Elt F)),
    binary main_v153 main_v159 main_v160 (addf : (⟨S4x2048x512, .f32⟩ : BufTy).Contents (Elt F) → (⟨S4x2048x512, .f32⟩ : BufTy).Contents (Elt F) → (⟨S4x2048x512, .f32⟩ : BufTy).Contents (Elt F)),
    unary main_v12 main_v161 ((extractStridedSlice S4x2048x512 ![0, 21, 0] · slices_S4x2078x512_S4x2048x512_0_21_0) : (⟨S4x2078x512, .f32⟩ : BufTy).Contents (Elt F) → (⟨S4x2048x512, .f32⟩ : BufTy).Contents (Elt F)),
    unary main_v11 main_v162 ((extractStridedSlice S1x512 ![21, 0] · slices_S31x512_S1x512_21_0) : (⟨S31x512, .f32⟩ : BufTy).Contents (Elt F) → (⟨S1x512, .f32⟩ : BufTy).Contents (Elt F)),
    reshape main_v162 main_v163 (rfl : (.f32 : EltTy) = .f32) shapeCasts_S1x512_S512,
    unary main_v163 main_v164 (broadcastInDim S1x1x512 ![2] bcast_S512_S1x1x512_2 : (⟨S512, .f32⟩ : BufTy).Contents (Elt F) → (⟨S1x1x512, .f32⟩ : BufTy).Contents (Elt F)),
    unary main_v164 main_v165 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v161 main_v165 main_v166 (mulf : (⟨S4x2048x512, .f32⟩ : BufTy).Contents (Elt F) → (⟨S4x2048x512, .f32⟩ : BufTy).Contents (Elt F) → (⟨S4x2048x512, .f32⟩ : BufTy).Contents (Elt F)),
    binary main_v160 main_v166 main_v167 (addf : (⟨S4x2048x512, .f32⟩ : BufTy).Contents (Elt F) → (⟨S4x2048x512, .f32⟩ : BufTy).Contents (Elt F) → (⟨S4x2048x512, .f32⟩ : BufTy).Contents (Elt F)),
    unary main_v12 main_v168 ((extractStridedSlice S4x2048x512 ![0, 22, 0] · slices_S4x2078x512_S4x2048x512_0_22_0) : (⟨S4x2078x512, .f32⟩ : BufTy).Contents (Elt F) → (⟨S4x2048x512, .f32⟩ : BufTy).Contents (Elt F)),
    unary main_v11 main_v169 ((extractStridedSlice S1x512 ![22, 0] · slices_S31x512_S1x512_22_0) : (⟨S31x512, .f32⟩ : BufTy).Contents (Elt F) → (⟨S1x512, .f32⟩ : BufTy).Contents (Elt F)),
    reshape main_v169 main_v170 (rfl : (.f32 : EltTy) = .f32) shapeCasts_S1x512_S512,
    unary main_v170 main_v171 (broadcastInDim S1x1x512 ![2] bcast_S512_S1x1x512_2 : (⟨S512, .f32⟩ : BufTy).Contents (Elt F) → (⟨S1x1x512, .f32⟩ : BufTy).Contents (Elt F)),
    unary main_v171 main_v172 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v168 main_v172 main_v173 (mulf : (⟨S4x2048x512, .f32⟩ : BufTy).Contents (Elt F) → (⟨S4x2048x512, .f32⟩ : BufTy).Contents (Elt F) → (⟨S4x2048x512, .f32⟩ : BufTy).Contents (Elt F)),
    binary main_v167 main_v173 main_v174 (addf : (⟨S4x2048x512, .f32⟩ : BufTy).Contents (Elt F) → (⟨S4x2048x512, .f32⟩ : BufTy).Contents (Elt F) → (⟨S4x2048x512, .f32⟩ : BufTy).Contents (Elt F)),
    unary main_v12 main_v175 ((extractStridedSlice S4x2048x512 ![0, 23, 0] · slices_S4x2078x512_S4x2048x512_0_23_0) : (⟨S4x2078x512, .f32⟩ : BufTy).Contents (Elt F) → (⟨S4x2048x512, .f32⟩ : BufTy).Contents (Elt F)),
    unary main_v11 main_v176 ((extractStridedSlice S1x512 ![23, 0] · slices_S31x512_S1x512_23_0) : (⟨S31x512, .f32⟩ : BufTy).Contents (Elt F) → (⟨S1x512, .f32⟩ : BufTy).Contents (Elt F)),
    reshape main_v176 main_v177 (rfl : (.f32 : EltTy) = .f32) shapeCasts_S1x512_S512,
    unary main_v177 main_v178 (broadcastInDim S1x1x512 ![2] bcast_S512_S1x1x512_2 : (⟨S512, .f32⟩ : BufTy).Contents (Elt F) → (⟨S1x1x512, .f32⟩ : BufTy).Contents (Elt F)),
    unary main_v178 main_v179 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v175 main_v179 main_v180 (mulf : (⟨S4x2048x512, .f32⟩ : BufTy).Contents (Elt F) → (⟨S4x2048x512, .f32⟩ : BufTy).Contents (Elt F) → (⟨S4x2048x512, .f32⟩ : BufTy).Contents (Elt F)),
    binary main_v174 main_v180 main_v181 (addf : (⟨S4x2048x512, .f32⟩ : BufTy).Contents (Elt F) → (⟨S4x2048x512, .f32⟩ : BufTy).Contents (Elt F) → (⟨S4x2048x512, .f32⟩ : BufTy).Contents (Elt F)),
    unary main_v12 main_v182 ((extractStridedSlice S4x2048x512 ![0, 24, 0] · slices_S4x2078x512_S4x2048x512_0_24_0) : (⟨S4x2078x512, .f32⟩ : BufTy).Contents (Elt F) → (⟨S4x2048x512, .f32⟩ : BufTy).Contents (Elt F)),
    unary main_v11 main_v183 ((extractStridedSlice S1x512 ![24, 0] · slices_S31x512_S1x512_24_0) : (⟨S31x512, .f32⟩ : BufTy).Contents (Elt F) → (⟨S1x512, .f32⟩ : BufTy).Contents (Elt F)),
    reshape main_v183 main_v184 (rfl : (.f32 : EltTy) = .f32) shapeCasts_S1x512_S512,
    unary main_v184 main_v185 (broadcastInDim S1x1x512 ![2] bcast_S512_S1x1x512_2 : (⟨S512, .f32⟩ : BufTy).Contents (Elt F) → (⟨S1x1x512, .f32⟩ : BufTy).Contents (Elt F)),
    unary main_v185 main_v186 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v182 main_v186 main_v187 (mulf : (⟨S4x2048x512, .f32⟩ : BufTy).Contents (Elt F) → (⟨S4x2048x512, .f32⟩ : BufTy).Contents (Elt F) → (⟨S4x2048x512, .f32⟩ : BufTy).Contents (Elt F)),
    binary main_v181 main_v187 main_v188 (addf : (⟨S4x2048x512, .f32⟩ : BufTy).Contents (Elt F) → (⟨S4x2048x512, .f32⟩ : BufTy).Contents (Elt F) → (⟨S4x2048x512, .f32⟩ : BufTy).Contents (Elt F))]
abbrev wr6 : List (Ref sig .tc) := [main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188]
theorem keep6 {r : Ref sig .tc} (hr : r ∉ wr6) (V : Valuation τ sig (Elt F)) : after (ops6 (F := F)) V (Proc.devRef .tc r) = V (Proc.devRef .tc r) :=
  after_unwritten wr6 rfl hr V
theorem sub6 : (ops6 : List (HloOp τ sig (Elt F))).Forall fun op => op.bufs ⊆ tcRefs τ sig := by simp [List.forall_cons]
set_option maxHeartbeats 4000000 in
theorem val6_v188 (V : Valuation τ sig (Elt F)) : after (ops6 (F := F)) V (Proc.devRef .tc main_v188) = (more (more (more (more (more (V (Proc.devRef .tc main_v153)) (extractStridedSlice S4x2048x512 ![0, 20, 0] (V (Proc.devRef .tc main_v12)) slices_S4x2078x512_S4x2048x512_0_20_0) (extractStridedSlice S1x512 ![20, 0] (V (Proc.devRef .tc main_v11)) slices_S31x512_S1x512_20_0)) (extractStridedSlice S4x2048x512 ![0, 21, 0] (V (Proc.devRef .tc main_v12)) slices_S4x2078x512_S4x2048x512_0_21_0) (extractStridedSlice S1x512 ![21, 0] (V (Proc.devRef .tc main_v11)) slices_S31x512_S1x512_21_0)) (extractStridedSlice S4x2048x512 ![0, 22, 0] (V (Proc.devRef .tc main_v12)) slices_S4x2078x512_S4x2048x512_0_22_0) (extractStridedSlice S1x512 ![22, 0] (V (Proc.devRef .tc main_v11)) slices_S31x512_S1x512_22_0)) (extractStridedSlice S4x2048x512 ![0, 23, 0] (V (Proc.devRef .tc main_v12)) slices_S4x2078x512_S4x2048x512_0_23_0) (extractStridedSlice S1x512 ![23, 0] (V (Proc.devRef .tc main_v11)) slices_S31x512_S1x512_23_0)) (extractStridedSlice S4x2048x512 ![0, 24, 0] (V (Proc.devRef .tc main_v12)) slices_S4x2078x512_S4x2048x512_0_24_0) (extractStridedSlice S1x512 ![24, 0] (V (Proc.devRef .tc main_v11)) slices_S31x512_S1x512_24_0)) := by
  after_results_entrywise []

/-- Part 7: its operations, what they write, that they keep the rest, and its value. -/
abbrev ops7 : List (HloOp τ sig (Elt F)) :=
  [ unary main_v12 main_v189 ((extractStridedSlice S4x2048x512 ![0, 25, 0] · slices_S4x2078x512_S4x2048x512_0_25_0) : (⟨S4x2078x512, .f32⟩ : BufTy).Contents (Elt F) → (⟨S4x2048x512, .f32⟩ : BufTy).Contents (Elt F)),
    unary main_v11 main_v190 ((extractStridedSlice S1x512 ![25, 0] · slices_S31x512_S1x512_25_0) : (⟨S31x512, .f32⟩ : BufTy).Contents (Elt F) → (⟨S1x512, .f32⟩ : BufTy).Contents (Elt F)),
    reshape main_v190 main_v191 (rfl : (.f32 : EltTy) = .f32) shapeCasts_S1x512_S512,
    unary main_v191 main_v192 (broadcastInDim S1x1x512 ![2] bcast_S512_S1x1x512_2 : (⟨S512, .f32⟩ : BufTy).Contents (Elt F) → (⟨S1x1x512, .f32⟩ : BufTy).Contents (Elt F)),
    unary main_v192 main_v193 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v189 main_v193 main_v194 (mulf : (⟨S4x2048x512, .f32⟩ : BufTy).Contents (Elt F) → (⟨S4x2048x512, .f32⟩ : BufTy).Contents (Elt F) → (⟨S4x2048x512, .f32⟩ : BufTy).Contents (Elt F)),
    binary main_v188 main_v194 main_v195 (addf : (⟨S4x2048x512, .f32⟩ : BufTy).Contents (Elt F) → (⟨S4x2048x512, .f32⟩ : BufTy).Contents (Elt F) → (⟨S4x2048x512, .f32⟩ : BufTy).Contents (Elt F)),
    unary main_v12 main_v196 ((extractStridedSlice S4x2048x512 ![0, 26, 0] · slices_S4x2078x512_S4x2048x512_0_26_0) : (⟨S4x2078x512, .f32⟩ : BufTy).Contents (Elt F) → (⟨S4x2048x512, .f32⟩ : BufTy).Contents (Elt F)),
    unary main_v11 main_v197 ((extractStridedSlice S1x512 ![26, 0] · slices_S31x512_S1x512_26_0) : (⟨S31x512, .f32⟩ : BufTy).Contents (Elt F) → (⟨S1x512, .f32⟩ : BufTy).Contents (Elt F)),
    reshape main_v197 main_v198 (rfl : (.f32 : EltTy) = .f32) shapeCasts_S1x512_S512,
    unary main_v198 main_v199 (broadcastInDim S1x1x512 ![2] bcast_S512_S1x1x512_2 : (⟨S512, .f32⟩ : BufTy).Contents (Elt F) → (⟨S1x1x512, .f32⟩ : BufTy).Contents (Elt F)),
    unary main_v199 main_v200 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v196 main_v200 main_v201 (mulf : (⟨S4x2048x512, .f32⟩ : BufTy).Contents (Elt F) → (⟨S4x2048x512, .f32⟩ : BufTy).Contents (Elt F) → (⟨S4x2048x512, .f32⟩ : BufTy).Contents (Elt F)),
    binary main_v195 main_v201 main_v202 (addf : (⟨S4x2048x512, .f32⟩ : BufTy).Contents (Elt F) → (⟨S4x2048x512, .f32⟩ : BufTy).Contents (Elt F) → (⟨S4x2048x512, .f32⟩ : BufTy).Contents (Elt F)),
    unary main_v12 main_v203 ((extractStridedSlice S4x2048x512 ![0, 27, 0] · slices_S4x2078x512_S4x2048x512_0_27_0) : (⟨S4x2078x512, .f32⟩ : BufTy).Contents (Elt F) → (⟨S4x2048x512, .f32⟩ : BufTy).Contents (Elt F)),
    unary main_v11 main_v204 ((extractStridedSlice S1x512 ![27, 0] · slices_S31x512_S1x512_27_0) : (⟨S31x512, .f32⟩ : BufTy).Contents (Elt F) → (⟨S1x512, .f32⟩ : BufTy).Contents (Elt F)),
    reshape main_v204 main_v205 (rfl : (.f32 : EltTy) = .f32) shapeCasts_S1x512_S512,
    unary main_v205 main_v206 (broadcastInDim S1x1x512 ![2] bcast_S512_S1x1x512_2 : (⟨S512, .f32⟩ : BufTy).Contents (Elt F) → (⟨S1x1x512, .f32⟩ : BufTy).Contents (Elt F)),
    unary main_v206 main_v207 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v203 main_v207 main_v208 (mulf : (⟨S4x2048x512, .f32⟩ : BufTy).Contents (Elt F) → (⟨S4x2048x512, .f32⟩ : BufTy).Contents (Elt F) → (⟨S4x2048x512, .f32⟩ : BufTy).Contents (Elt F)),
    binary main_v202 main_v208 main_v209 (addf : (⟨S4x2048x512, .f32⟩ : BufTy).Contents (Elt F) → (⟨S4x2048x512, .f32⟩ : BufTy).Contents (Elt F) → (⟨S4x2048x512, .f32⟩ : BufTy).Contents (Elt F)),
    unary main_v12 main_v210 ((extractStridedSlice S4x2048x512 ![0, 28, 0] · slices_S4x2078x512_S4x2048x512_0_28_0) : (⟨S4x2078x512, .f32⟩ : BufTy).Contents (Elt F) → (⟨S4x2048x512, .f32⟩ : BufTy).Contents (Elt F)),
    unary main_v11 main_v211 ((extractStridedSlice S1x512 ![28, 0] · slices_S31x512_S1x512_28_0) : (⟨S31x512, .f32⟩ : BufTy).Contents (Elt F) → (⟨S1x512, .f32⟩ : BufTy).Contents (Elt F)),
    reshape main_v211 main_v212 (rfl : (.f32 : EltTy) = .f32) shapeCasts_S1x512_S512,
    unary main_v212 main_v213 (broadcastInDim S1x1x512 ![2] bcast_S512_S1x1x512_2 : (⟨S512, .f32⟩ : BufTy).Contents (Elt F) → (⟨S1x1x512, .f32⟩ : BufTy).Contents (Elt F)),
    unary main_v213 main_v214 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v210 main_v214 main_v215 (mulf : (⟨S4x2048x512, .f32⟩ : BufTy).Contents (Elt F) → (⟨S4x2048x512, .f32⟩ : BufTy).Contents (Elt F) → (⟨S4x2048x512, .f32⟩ : BufTy).Contents (Elt F)),
    binary main_v209 main_v215 main_v216 (addf : (⟨S4x2048x512, .f32⟩ : BufTy).Contents (Elt F) → (⟨S4x2048x512, .f32⟩ : BufTy).Contents (Elt F) → (⟨S4x2048x512, .f32⟩ : BufTy).Contents (Elt F)),
    unary main_v12 main_v217 ((extractStridedSlice S4x2048x512 ![0, 29, 0] · slices_S4x2078x512_S4x2048x512_0_29_0) : (⟨S4x2078x512, .f32⟩ : BufTy).Contents (Elt F) → (⟨S4x2048x512, .f32⟩ : BufTy).Contents (Elt F)),
    unary main_v11 main_v218 ((extractStridedSlice S1x512 ![29, 0] · slices_S31x512_S1x512_29_0) : (⟨S31x512, .f32⟩ : BufTy).Contents (Elt F) → (⟨S1x512, .f32⟩ : BufTy).Contents (Elt F)),
    reshape main_v218 main_v219 (rfl : (.f32 : EltTy) = .f32) shapeCasts_S1x512_S512,
    unary main_v219 main_v220 (broadcastInDim S1x1x512 ![2] bcast_S512_S1x1x512_2 : (⟨S512, .f32⟩ : BufTy).Contents (Elt F) → (⟨S1x1x512, .f32⟩ : BufTy).Contents (Elt F)),
    unary main_v220 main_v221 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v217 main_v221 main_v222 (mulf : (⟨S4x2048x512, .f32⟩ : BufTy).Contents (Elt F) → (⟨S4x2048x512, .f32⟩ : BufTy).Contents (Elt F) → (⟨S4x2048x512, .f32⟩ : BufTy).Contents (Elt F)),
    binary main_v216 main_v222 main_v223 (addf : (⟨S4x2048x512, .f32⟩ : BufTy).Contents (Elt F) → (⟨S4x2048x512, .f32⟩ : BufTy).Contents (Elt F) → (⟨S4x2048x512, .f32⟩ : BufTy).Contents (Elt F)),
    unary main_v12 main_v224 ((extractStridedSlice S4x2048x512 ![0, 30, 0] · slices_S4x2078x512_S4x2048x512_0_30_0) : (⟨S4x2078x512, .f32⟩ : BufTy).Contents (Elt F) → (⟨S4x2048x512, .f32⟩ : BufTy).Contents (Elt F)),
    unary main_v11 main_v225 ((extractStridedSlice S1x512 ![30, 0] · slices_S31x512_S1x512_30_0) : (⟨S31x512, .f32⟩ : BufTy).Contents (Elt F) → (⟨S1x512, .f32⟩ : BufTy).Contents (Elt F)),
    reshape main_v225 main_v226 (rfl : (.f32 : EltTy) = .f32) shapeCasts_S1x512_S512,
    unary main_v226 main_v227 (broadcastInDim S1x1x512 ![2] bcast_S512_S1x1x512_2 : (⟨S512, .f32⟩ : BufTy).Contents (Elt F) → (⟨S1x1x512, .f32⟩ : BufTy).Contents (Elt F)),
    unary main_v227 main_v228 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v224 main_v228 main_v229 (mulf : (⟨S4x2048x512, .f32⟩ : BufTy).Contents (Elt F) → (⟨S4x2048x512, .f32⟩ : BufTy).Contents (Elt F) → (⟨S4x2048x512, .f32⟩ : BufTy).Contents (Elt F)),
    binary main_v223 main_v229 main_v230 (addf : (⟨S4x2048x512, .f32⟩ : BufTy).Contents (Elt F) → (⟨S4x2048x512, .f32⟩ : BufTy).Contents (Elt F) → (⟨S4x2048x512, .f32⟩ : BufTy).Contents (Elt F))]
abbrev wr7 : List (Ref sig .tc) := [main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230]
theorem keep7 {r : Ref sig .tc} (hr : r ∉ wr7) (V : Valuation τ sig (Elt F)) : after (ops7 (F := F)) V (Proc.devRef .tc r) = V (Proc.devRef .tc r) :=
  after_unwritten wr7 rfl hr V
theorem sub7 : (ops7 : List (HloOp τ sig (Elt F))).Forall fun op => op.bufs ⊆ tcRefs τ sig := by simp [List.forall_cons]
set_option maxHeartbeats 4000000 in
theorem val7_v230 (V : Valuation τ sig (Elt F)) : after (ops7 (F := F)) V (Proc.devRef .tc main_v230) = (more (more (more (more (more (more (V (Proc.devRef .tc main_v188)) (extractStridedSlice S4x2048x512 ![0, 25, 0] (V (Proc.devRef .tc main_v12)) slices_S4x2078x512_S4x2048x512_0_25_0) (extractStridedSlice S1x512 ![25, 0] (V (Proc.devRef .tc main_v11)) slices_S31x512_S1x512_25_0)) (extractStridedSlice S4x2048x512 ![0, 26, 0] (V (Proc.devRef .tc main_v12)) slices_S4x2078x512_S4x2048x512_0_26_0) (extractStridedSlice S1x512 ![26, 0] (V (Proc.devRef .tc main_v11)) slices_S31x512_S1x512_26_0)) (extractStridedSlice S4x2048x512 ![0, 27, 0] (V (Proc.devRef .tc main_v12)) slices_S4x2078x512_S4x2048x512_0_27_0) (extractStridedSlice S1x512 ![27, 0] (V (Proc.devRef .tc main_v11)) slices_S31x512_S1x512_27_0)) (extractStridedSlice S4x2048x512 ![0, 28, 0] (V (Proc.devRef .tc main_v12)) slices_S4x2078x512_S4x2048x512_0_28_0) (extractStridedSlice S1x512 ![28, 0] (V (Proc.devRef .tc main_v11)) slices_S31x512_S1x512_28_0)) (extractStridedSlice S4x2048x512 ![0, 29, 0] (V (Proc.devRef .tc main_v12)) slices_S4x2078x512_S4x2048x512_0_29_0) (extractStridedSlice S1x512 ![29, 0] (V (Proc.devRef .tc main_v11)) slices_S31x512_S1x512_29_0)) (extractStridedSlice S4x2048x512 ![0, 30, 0] (V (Proc.devRef .tc main_v12)) slices_S4x2078x512_S4x2048x512_0_30_0) (extractStridedSlice S1x512 ![30, 0] (V (Proc.devRef .tc main_v11)) slices_S31x512_S1x512_30_0)) := by
  after_results_entrywise []

/-- Part 8: its operations, what they write, that they keep the rest, and its value. -/
abbrev ops8 : List (HloOp τ sig (Elt F)) :=
  [ nullary main_c_4 (constantI S_ 32 0#32),
    nullary main_c_5 (constantI S_ 32 0#32),
    unaryIndexed main_arg3 ![main_v0, main_c_4, main_c_5] ⟨S_, .i32⟩ main_v231 ((fun x i => Host.dynamicSlice S1x1x512 x (fun k => (i k (Shape.Idx.first h_S_)).toInt) sliceFits_S4x1x512_S1x1x512) : (⟨S4x1x512, .f32⟩ : BufTy).Contents (Elt F) → (Fin 3 → (⟨S_, .i32⟩ : BufTy).Contents (Elt F)) → (⟨S1x1x512, .f32⟩ : BufTy).Contents (Elt F)),
    reshape main_v231 main_v232 (rfl : (.f32 : EltTy) = .f32) shapeCasts_S1x1x512_S1x512,
    unary main_v232 main_v233 (broadcastInDim S1x1x512 ![1, 2] bcast_S1x512_S1x1x512_1_2 : (⟨S1x512, .f32⟩ : BufTy).Contents (Elt F) → (⟨S1x1x512, .f32⟩ : BufTy).Contents (Elt F)),
    unary main_v233 main_v234 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v230 main_v234 main_v235 (addf : (⟨S4x2048x512, .f32⟩ : BufTy).Contents (Elt F) → (⟨S4x2048x512, .f32⟩ : BufTy).Contents (Elt F) → (⟨S4x2048x512, .f32⟩ : BufTy).Contents (Elt F))]
abbrev wr8 : List (Ref sig .tc) := [main_c_4, main_c_5, main_v231, main_v232, main_v233, main_v234, main_v235]
theorem keep8 {r : Ref sig .tc} (hr : r ∉ wr8) (V : Valuation τ sig (Elt F)) : after (ops8 (F := F)) V (Proc.devRef .tc r) = V (Proc.devRef .tc r) :=
  after_unwritten wr8 rfl hr V
theorem sub8 : (ops8 : List (HloOp τ sig (Elt F))).Forall fun op => op.bufs ⊆ tcRefs τ sig := by simp [List.forall_cons]
set_option maxHeartbeats 4000000 in
theorem val8_v235 (V : Valuation τ sig (Elt F)) : after (ops8 (F := F)) V (Proc.devRef .tc main_v235) = addf (V (Proc.devRef .tc main_v230)) (rows (vecp (V (Proc.devRef .tc main_arg3)) (V (Proc.devRef .tc main_v0)))) := by
  after_results_entrywise []

/-- Part 9: its operations, what they write, that they keep the rest, and its value. -/
abbrev ops9 : List (HloOp τ sig (Elt F)) :=
  [ nullary main_cst_6 (constant S_ .f32 0x00000000#32),
    binary main_v235 main_cst_6 main_v236 ((fun x v => Host.reduceAdd x v reducesTo_S4x2048x512_S4x2048_d2 h_S_) : (⟨S4x2048x512, .f32⟩ : BufTy).Contents (Elt F) → (⟨S_, .f32⟩ : BufTy).Contents (Elt F) → (⟨S4x2048, .f32⟩ : BufTy).Contents (Elt F)),
    unary main_v236 main_v237 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_7 (constant S_ .f32 0x44000000#32),
    unary main_cst_7 main_v238 (broadcastInDim S4x2048x1 ![] bcast_S_S4x2048x1 : (⟨S_, .f32⟩ : BufTy).Contents (Elt F) → (⟨S4x2048x1, .f32⟩ : BufTy).Contents (Elt F)),
    binary main_v237 main_v238 main_v239 (Host.divf : (⟨S4x2048x1, .f32⟩ : BufTy).Contents (Elt F) → (⟨S4x2048x1, .f32⟩ : BufTy).Contents (Elt F) → (⟨S4x2048x1, .f32⟩ : BufTy).Contents (Elt F)),
    unary main_v239 main_v240 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v235 main_v240 main_v241 (subf : (⟨S4x2048x512, .f32⟩ : BufTy).Contents (Elt F) → (⟨S4x2048x512, .f32⟩ : BufTy).Contents (Elt F) → (⟨S4x2048x512, .f32⟩ : BufTy).Contents (Elt F)),
    binary main_v241 main_v241 main_v242 (mulf : (⟨S4x2048x512, .f32⟩ : BufTy).Contents (Elt F) → (⟨S4x2048x512, .f32⟩ : BufTy).Contents (Elt F) → (⟨S4x2048x512, .f32⟩ : BufTy).Contents (Elt F)),
    nullary main_cst_8 (constant S_ .f32 0x00000000#32),
    binary main_v242 main_cst_8 main_v243 ((fun x v => Host.reduceAdd x v reducesTo_S4x2048x512_S4x2048_d2 h_S_) : (⟨S4x2048x512, .f32⟩ : BufTy).Contents (Elt F) → (⟨S_, .f32⟩ : BufTy).Contents (Elt F) → (⟨S4x2048, .f32⟩ : BufTy).Contents (Elt F)),
    unary main_v243 main_v244 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_9 (constant S_ .f32 0x44000000#32),
    unary main_cst_9 main_v245 (broadcastInDim S4x2048x1 ![] bcast_S_S4x2048x1 : (⟨S_, .f32⟩ : BufTy).Contents (Elt F) → (⟨S4x2048x1, .f32⟩ : BufTy).Contents (Elt F)),
    binary main_v244 main_v245 main_v246 (Host.divf : (⟨S4x2048x1, .f32⟩ : BufTy).Contents (Elt F) → (⟨S4x2048x1, .f32⟩ : BufTy).Contents (Elt F) → (⟨S4x2048x1, .f32⟩ : BufTy).Contents (Elt F)),
    nullary main_cst_10 (constant S_ .f32 0x358637BD#32),
    unary main_cst_10 main_v247 (broadcastInDim S4x2048x1 ![] bcast_S_S4x2048x1 : (⟨S_, .f32⟩ : BufTy).Contents (Elt F) → (⟨S4x2048x1, .f32⟩ : BufTy).Contents (Elt F)),
    binary main_v246 main_v247 main_v248 (addf : (⟨S4x2048x1, .f32⟩ : BufTy).Contents (Elt F) → (⟨S4x2048x1, .f32⟩ : BufTy).Contents (Elt F) → (⟨S4x2048x1, .f32⟩ : BufTy).Contents (Elt F)),
    unary main_v248 main_v249 (Host.rsqrt : (⟨S4x2048x1, .f32⟩ : BufTy).Contents (Elt F) → (⟨S4x2048x1, .f32⟩ : BufTy).Contents (Elt F)),
    unary main_v249 main_v250 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v241 main_v250 main_v251 (mulf : (⟨S4x2048x512, .f32⟩ : BufTy).Contents (Elt F) → (⟨S4x2048x512, .f32⟩ : BufTy).Contents (Elt F) → (⟨S4x2048x512, .f32⟩ : BufTy).Contents (Elt F))]
abbrev wr9 : List (Ref sig .tc) := [main_cst_6, main_v236, main_v237, main_cst_7, main_v238, main_v239, main_v240, main_v241, main_v242, main_cst_8, main_v243, main_v244, main_cst_9, main_v245, main_v246, main_cst_10, main_v247, main_v248, main_v249, main_v250, main_v251]
theorem keep9 {r : Ref sig .tc} (hr : r ∉ wr9) (V : Valuation τ sig (Elt F)) : after (ops9 (F := F)) V (Proc.devRef .tc r) = V (Proc.devRef .tc r) :=
  after_unwritten wr9 rfl hr V
theorem sub9 : (ops9 : List (HloOp τ sig (Elt F))).Forall fun op => op.bufs ⊆ tcRefs τ sig := by simp [List.forall_cons]
set_option maxHeartbeats 4000000 in
theorem val9_v251 (V : Valuation τ sig (Elt F)) : after (ops9 (F := F)) V (Proc.devRef .tc main_v251) = over (less (V (Proc.devRef .tc main_v235))) := by
  after_results_entrywise []

/-- Part 10: its operations, what they write, that they keep the rest, and its value. -/
abbrev ops10 : List (HloOp τ sig (Elt F)) :=
  [ nullary main_c_11 (constantI S_ 32 0#32),
    nullary main_c_12 (constantI S_ 32 0#32),
    unaryIndexed main_arg4 ![main_v0, main_c_11, main_c_12] ⟨S_, .i32⟩ main_v252 ((fun x i => Host.dynamicSlice S1x1x512 x (fun k => (i k (Shape.Idx.first h_S_)).toInt) sliceFits_S4x1x512_S1x1x512) : (⟨S4x1x512, .f32⟩ : BufTy).Contents (Elt F) → (Fin 3 → (⟨S_, .i32⟩ : BufTy).Contents (Elt F)) → (⟨S1x1x512, .f32⟩ : BufTy).Contents (Elt F)),
    reshape main_v252 main_v253 (rfl : (.f32 : EltTy) = .f32) shapeCasts_S1x1x512_S1x512,
    unary main_v253 main_v254 (broadcastInDim S1x1x512 ![1, 2] bcast_S1x512_S1x1x512_1_2 : (⟨S1x512, .f32⟩ : BufTy).Contents (Elt F) → (⟨S1x1x512, .f32⟩ : BufTy).Contents (Elt F)),
    unary main_v254 main_v255 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v251 main_v255 main_v256 (mulf : (⟨S4x2048x512, .f32⟩ : BufTy).Contents (Elt F) → (⟨S4x2048x512, .f32⟩ : BufTy).Contents (Elt F) → (⟨S4x2048x512, .f32⟩ : BufTy).Contents (Elt F)),
    nullary main_c_13 (constantI S_ 32 0#32),
    nullary main_c_14 (constantI S_ 32 0#32),
    unaryIndexed main_arg5 ![main_v0, main_c_13, main_c_14] ⟨S_, .i32⟩ main_v257 ((fun x i => Host.dynamicSlice S1x1x512 x (fun k => (i k (Shape.Idx.first h_S_)).toInt) sliceFits_S4x1x512_S1x1x512) : (⟨S4x1x512, .f32⟩ : BufTy).Contents (Elt F) → (Fin 3 → (⟨S_, .i32⟩ : BufTy).Contents (Elt F)) → (⟨S1x1x512, .f32⟩ : BufTy).Contents (Elt F)),
    reshape main_v257 main_v258 (rfl : (.f32 : EltTy) = .f32) shapeCasts_S1x1x512_S1x512,
    unary main_v258 main_v259 (broadcastInDim S1x1x512 ![1, 2] bcast_S1x512_S1x1x512_1_2 : (⟨S1x512, .f32⟩ : BufTy).Contents (Elt F) → (⟨S1x1x512, .f32⟩ : BufTy).Contents (Elt F)),
    unary main_v259 main_v260 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v256 main_v260 main_v261 (addf : (⟨S4x2048x512, .f32⟩ : BufTy).Contents (Elt F) → (⟨S4x2048x512, .f32⟩ : BufTy).Contents (Elt F) → (⟨S4x2048x512, .f32⟩ : BufTy).Contents (Elt F))]
abbrev wr10 : List (Ref sig .tc) := [main_c_11, main_c_12, main_v252, main_v253, main_v254, main_v255, main_v256, main_c_13, main_c_14, main_v257, main_v258, main_v259, main_v260, main_v261]
theorem keep10 {r : Ref sig .tc} (hr : r ∉ wr10) (V : Valuation τ sig (Elt F)) : after (ops10 (F := F)) V (Proc.devRef .tc r) = V (Proc.devRef .tc r) :=
  after_unwritten wr10 rfl hr V
theorem sub10 : (ops10 : List (HloOp τ sig (Elt F))).Forall fun op => op.bufs ⊆ tcRefs τ sig := by simp [List.forall_cons]
set_option maxHeartbeats 4000000 in
theorem val10_v261 (V : Valuation τ sig (Elt F)) : after (ops10 (F := F)) V (Proc.devRef .tc main_v261) = addf (mulf (V (Proc.devRef .tc main_v251)) (rows (vecp (V (Proc.devRef .tc main_arg4)) (V (Proc.devRef .tc main_v0))))) (rows (vecp (V (Proc.devRef .tc main_arg5)) (V (Proc.devRef .tc main_v0)))) := by
  after_results_entrywise []

/-- Part 11: its operations, what they write, that they keep the rest, and its value. -/
abbrev ops11 : List (HloOp τ sig (Elt F)) :=
  [ TRef.unary (TRef.of (T := ⟨S4x2048x512, .f32⟩) main_v261) (TRef.of (T := ⟨S4x2048x512, .f32⟩) main_call1_v0) Host.negf,
    TRef.unary (TRef.of (T := ⟨S4x2048x512, .f32⟩) main_call1_v0) (TRef.of (T := ⟨S4x2048x512, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S4x2048x512, .f32⟩) main_call1_v2) (broadcastInDim S4x2048x512 ![] bcast_S_S4x2048x512),
    TRef.binary (TRef.of (T := ⟨S4x2048x512, .f32⟩) main_call1_v2) (TRef.of (T := ⟨S4x2048x512, .f32⟩) main_call1_v1) (TRef.of (T := ⟨S4x2048x512, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S4x2048x512, .f32⟩) main_call1_v4) (broadcastInDim S4x2048x512 ![] bcast_S_S4x2048x512),
    TRef.binary (TRef.of (T := ⟨S4x2048x512, .f32⟩) main_call1_v4) (TRef.of (T := ⟨S4x2048x512, .f32⟩) main_call1_v3) (TRef.of (T := ⟨S4x2048x512, .f32⟩) main_call1_v5) Host.divf,
    TRef.binary (TRef.of (T := ⟨S4x2048x512, .f32⟩) main_v261) (TRef.of (T := ⟨S4x2048x512, .f32⟩) main_call1_v5) (TRef.of (T := ⟨S4x2048x512, .f32⟩) main_v262) mulf]
abbrev wr11 : List (Ref sig .tc) := [main_call1_v0, main_call1_v1, main_call1_cst, main_call1_v2, main_call1_v3, main_call1_cst_0, main_call1_v4, main_call1_v5, main_v262]
theorem keep11 {r : Ref sig .tc} (hr : r ∉ wr11) (V : Valuation τ sig (Elt F)) : after (ops11 (F := F)) V (Proc.devRef .tc r) = V (Proc.devRef .tc r) :=
  after_unwritten wr11 rfl hr V
theorem sub11 : (ops11 : List (HloOp τ sig (Elt F))).Forall fun op => op.bufs ⊆ tcRefs τ sig := by simp [List.forall_cons]
set_option maxHeartbeats 4000000 in
theorem val11_v262 (V : Valuation τ sig (Elt F)) : after (ops11 (F := F)) V (Proc.devRef .tc main_v262) = swish (V (Proc.devRef .tc main_v261)) := by
  after_results_entrywise []

/-- Part 12: its operations, what they write, that they keep the rest, and its value. -/
abbrev ops12 : List (HloOp τ sig (Elt F)) :=
  [ nullary main_c_15 (constantI S_ 32 0#32),
    nullary main_c_16 (constantI S_ 32 0#32),
    unaryIndexed main_arg6 ![main_v0, main_c_15, main_c_16] ⟨S_, .i32⟩ main_v263 ((fun x i => Host.dynamicSlice S1x1x512 x (fun k => (i k (Shape.Idx.first h_S_)).toInt) sliceFits_S4x1x512_S1x1x512) : (⟨S4x1x512, .f32⟩ : BufTy).Contents (Elt F) → (Fin 3 → (⟨S_, .i32⟩ : BufTy).Contents (Elt F)) → (⟨S1x1x512, .f32⟩ : BufTy).Contents (Elt F)),
    reshape main_v263 main_v264 (rfl : (.f32 : EltTy) = .f32) shapeCasts_S1x1x512_S1x512,
    binary main_v262 main_v262 main_v265 (mulf : (⟨S4x2048x512, .f32⟩ : BufTy).Contents (Elt F) → (⟨S4x2048x512, .f32⟩ : BufTy).Contents (Elt F) → (⟨S4x2048x512, .f32⟩ : BufTy).Contents (Elt F)),
    nullary main_cst_17 (constant S_ .f32 0x00000000#32),
    binary main_v265 main_cst_17 main_v266 ((fun x v => Host.reduceAdd x v reducesTo_S4x2048x512_S4x2048_d2 h_S_) : (⟨S4x2048x512, .f32⟩ : BufTy).Contents (Elt F) → (⟨S_, .f32⟩ : BufTy).Contents (Elt F) → (⟨S4x2048, .f32⟩ : BufTy).Contents (Elt F)),
    unary main_v266 main_v267 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_18 (constant S_ .f32 0x44000000#32),
    unary main_cst_18 main_v268 (broadcastInDim S4x2048x1 ![] bcast_S_S4x2048x1 : (⟨S_, .f32⟩ : BufTy).Contents (Elt F) → (⟨S4x2048x1, .f32⟩ : BufTy).Contents (Elt F)),
    binary main_v267 main_v268 main_v269 (Host.divf : (⟨S4x2048x1, .f32⟩ : BufTy).Contents (Elt F) → (⟨S4x2048x1, .f32⟩ : BufTy).Contents (Elt F) → (⟨S4x2048x1, .f32⟩ : BufTy).Contents (Elt F)),
    nullary main_cst_19 (constant S_ .f32 0x358637BD#32),
    unary main_cst_19 main_v270 (broadcastInDim S4x2048x1 ![] bcast_S_S4x2048x1 : (⟨S_, .f32⟩ : BufTy).Contents (Elt F) → (⟨S4x2048x1, .f32⟩ : BufTy).Contents (Elt F)),
    binary main_v269 main_v270 main_v271 (addf : (⟨S4x2048x1, .f32⟩ : BufTy).Contents (Elt F) → (⟨S4x2048x1, .f32⟩ : BufTy).Contents (Elt F) → (⟨S4x2048x1, .f32⟩ : BufTy).Contents (Elt F)),
    unary main_v271 main_v272 (Host.rsqrt : (⟨S4x2048x1, .f32⟩ : BufTy).Contents (Elt F) → (⟨S4x2048x1, .f32⟩ : BufTy).Contents (Elt F)),
    unary main_v272 main_v273 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v262 main_v273 main_v274 (mulf : (⟨S4x2048x512, .f32⟩ : BufTy).Contents (Elt F) → (⟨S4x2048x512, .f32⟩ : BufTy).Contents (Elt F) → (⟨S4x2048x512, .f32⟩ : BufTy).Contents (Elt F)),
    unary main_v264 main_v275 (broadcastInDim S1x1x512 ![1, 2] bcast_S1x512_S1x1x512_1_2 : (⟨S1x512, .f32⟩ : BufTy).Contents (Elt F) → (⟨S1x1x512, .f32⟩ : BufTy).Contents (Elt F)),
    unary main_v275 main_v276 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v274 main_v276 main_v277 (mulf : (⟨S4x2048x512, .f32⟩ : BufTy).Contents (Elt F) → (⟨S4x2048x512, .f32⟩ : BufTy).Contents (Elt F) → (⟨S4x2048x512, .f32⟩ : BufTy).Contents (Elt F)),
    unary main_v277 main_v278 ((truncf .bf16 · bitsLt_bf16_f32) : (⟨S4x2048x512, .f32⟩ : BufTy).Contents (Elt F) → (⟨S4x2048x512, .bf16⟩ : BufTy).Contents (Elt F))]
abbrev wr12 : List (Ref sig .tc) := [main_c_15, main_c_16, main_v263, main_v264, main_v265, main_cst_17, main_v266, main_v267, main_cst_18, main_v268, main_v269, main_cst_19, main_v270, main_v271, main_v272, main_v273, main_v274, main_v275, main_v276, main_v277, main_v278]
theorem keep12 {r : Ref sig .tc} (hr : r ∉ wr12) (V : Valuation τ sig (Elt F)) : after (ops12 (F := F)) V (Proc.devRef .tc r) = V (Proc.devRef .tc r) :=
  after_unwritten wr12 rfl hr V
theorem sub12 : (ops12 : List (HloOp τ sig (Elt F))).Forall fun op => op.bufs ⊆ tcRefs τ sig := by simp [List.forall_cons]
set_option maxHeartbeats 4000000 in
theorem val12_v278 (V : Valuation τ sig (Elt F)) : after (ops12 (F := F)) V (Proc.devRef .tc main_v278) = truncf .bf16 (mulf (over (V (Proc.devRef .tc main_v262))) (rows (vecp (V (Proc.devRef .tc main_arg6)) (V (Proc.devRef .tc main_v0))))) bitsLt_bf16_f32 := by
  after_results_entrywise []

/-- All of them, in order. -/
abbrev ops : List (HloOp τ sig (Elt F)) := ops1 ++ (ops2 ++ (ops3 ++ (ops4 ++ (ops5 ++ (ops6 ++ (ops7 ++ (ops8 ++ (ops9 ++ (ops10 ++ (ops11 ++ (ops12)))))))))))

theorem after_parts (l k : List (HloOp τ sig (Elt F))) (V : Valuation τ sig (Elt F)) : after (l ++ k) V = after k (after l V) := by
  induction l generalizing V with
  | nil => rfl
  | cons o l ih => exact ih (o.result V)

set_option maxRecDepth 16384 in
set_option maxHeartbeats 8000000 in
theorem main_ops (c : Dev nD) : main (F := F) c = seq ops := rfl

theorem noRefs : (Finset.univ.filter fun b : Ref sig .tc => b.isScoped) = ∅ := by decide
theorem noSems : (Finset.univ.filter fun sm : SemLoc sig => sm.isScoped .tc) = ∅ := by decide

/-- The sum of the taps over the padded input. -/
def summed (p : (⟨S4x2078x512, .f32⟩ : BufTy).Contents (Elt F)) (w : (⟨S31x512, .f32⟩ : BufTy).Contents (Elt F)) : (⟨S4x2048x512, .f32⟩ : BufTy).Contents (Elt F) :=
  (more (more (more (more (more (more (more (more (more (more (more (more (more (more (more (more (more (more (more (more (more (more (more (more (more (more (more (more (more (more (more (broadcastInDim S4x2048x512 ![] bcast_S_S4x2048x512 (constant S_ .f32 0x00000000#32)) (extractStridedSlice S4x2048x512 ![0, 0, 0] p slices_S4x2078x512_S4x2048x512_0_0_0) (extractStridedSlice S1x512 ![0, 0] w slices_S31x512_S1x512_0_0)) (extractStridedSlice S4x2048x512 ![0, 1, 0] p slices_S4x2078x512_S4x2048x512_0_1_0) (extractStridedSlice S1x512 ![1, 0] w slices_S31x512_S1x512_1_0)) (extractStridedSlice S4x2048x512 ![0, 2, 0] p slices_S4x2078x512_S4x2048x512_0_2_0) (extractStridedSlice S1x512 ![2, 0] w slices_S31x512_S1x512_2_0)) (extractStridedSlice S4x2048x512 ![0, 3, 0] p slices_S4x2078x512_S4x2048x512_0_3_0) (extractStridedSlice S1x512 ![3, 0] w slices_S31x512_S1x512_3_0)) (extractStridedSlice S4x2048x512 ![0, 4, 0] p slices_S4x2078x512_S4x2048x512_0_4_0) (extractStridedSlice S1x512 ![4, 0] w slices_S31x512_S1x512_4_0)) (extractStridedSlice S4x2048x512 ![0, 5, 0] p slices_S4x2078x512_S4x2048x512_0_5_0) (extractStridedSlice S1x512 ![5, 0] w slices_S31x512_S1x512_5_0)) (extractStridedSlice S4x2048x512 ![0, 6, 0] p slices_S4x2078x512_S4x2048x512_0_6_0) (extractStridedSlice S1x512 ![6, 0] w slices_S31x512_S1x512_6_0)) (extractStridedSlice S4x2048x512 ![0, 7, 0] p slices_S4x2078x512_S4x2048x512_0_7_0) (extractStridedSlice S1x512 ![7, 0] w slices_S31x512_S1x512_7_0)) (extractStridedSlice S4x2048x512 ![0, 8, 0] p slices_S4x2078x512_S4x2048x512_0_8_0) (extractStridedSlice S1x512 ![8, 0] w slices_S31x512_S1x512_8_0)) (extractStridedSlice S4x2048x512 ![0, 9, 0] p slices_S4x2078x512_S4x2048x512_0_9_0) (extractStridedSlice S1x512 ![9, 0] w slices_S31x512_S1x512_9_0)) (extractStridedSlice S4x2048x512 ![0, 10, 0] p slices_S4x2078x512_S4x2048x512_0_10_0) (extractStridedSlice S1x512 ![10, 0] w slices_S31x512_S1x512_10_0)) (extractStridedSlice S4x2048x512 ![0, 11, 0] p slices_S4x2078x512_S4x2048x512_0_11_0) (extractStridedSlice S1x512 ![11, 0] w slices_S31x512_S1x512_11_0)) (extractStridedSlice S4x2048x512 ![0, 12, 0] p slices_S4x2078x512_S4x2048x512_0_12_0) (extractStridedSlice S1x512 ![12, 0] w slices_S31x512_S1x512_12_0)) (extractStridedSlice S4x2048x512 ![0, 13, 0] p slices_S4x2078x512_S4x2048x512_0_13_0) (extractStridedSlice S1x512 ![13, 0] w slices_S31x512_S1x512_13_0)) (extractStridedSlice S4x2048x512 ![0, 14, 0] p slices_S4x2078x512_S4x2048x512_0_14_0) (extractStridedSlice S1x512 ![14, 0] w slices_S31x512_S1x512_14_0)) (extractStridedSlice S4x2048x512 ![0, 15, 0] p slices_S4x2078x512_S4x2048x512_0_15_0) (extractStridedSlice S1x512 ![15, 0] w slices_S31x512_S1x512_15_0)) (extractStridedSlice S4x2048x512 ![0, 16, 0] p slices_S4x2078x512_S4x2048x512_0_16_0) (extractStridedSlice S1x512 ![16, 0] w slices_S31x512_S1x512_16_0)) (extractStridedSlice S4x2048x512 ![0, 17, 0] p slices_S4x2078x512_S4x2048x512_0_17_0) (extractStridedSlice S1x512 ![17, 0] w slices_S31x512_S1x512_17_0)) (extractStridedSlice S4x2048x512 ![0, 18, 0] p slices_S4x2078x512_S4x2048x512_0_18_0) (extractStridedSlice S1x512 ![18, 0] w slices_S31x512_S1x512_18_0)) (extractStridedSlice S4x2048x512 ![0, 19, 0] p slices_S4x2078x512_S4x2048x512_0_19_0) (extractStridedSlice S1x512 ![19, 0] w slices_S31x512_S1x512_19_0)) (extractStridedSlice S4x2048x512 ![0, 20, 0] p slices_S4x2078x512_S4x2048x512_0_20_0) (extractStridedSlice S1x512 ![20, 0] w slices_S31x512_S1x512_20_0)) (extractStridedSlice S4x2048x512 ![0, 21, 0] p slices_S4x2078x512_S4x2048x512_0_21_0) (extractStridedSlice S1x512 ![21, 0] w slices_S31x512_S1x512_21_0)) (extractStridedSlice S4x2048x512 ![0, 22, 0] p slices_S4x2078x512_S4x2048x512_0_22_0) (extractStridedSlice S1x512 ![22, 0] w slices_S31x512_S1x512_22_0)) (extractStridedSlice S4x2048x512 ![0, 23, 0] p slices_S4x2078x512_S4x2048x512_0_23_0) (extractStridedSlice S1x512 ![23, 0] w slices_S31x512_S1x512_23_0)) (extractStridedSlice S4x2048x512 ![0, 24, 0] p slices_S4x2078x512_S4x2048x512_0_24_0) (extractStridedSlice S1x512 ![24, 0] w slices_S31x512_S1x512_24_0)) (extractStridedSlice S4x2048x512 ![0, 25, 0] p slices_S4x2078x512_S4x2048x512_0_25_0) (extractStridedSlice S1x512 ![25, 0] w slices_S31x512_S1x512_25_0)) (extractStridedSlice S4x2048x512 ![0, 26, 0] p slices_S4x2078x512_S4x2048x512_0_26_0) (extractStridedSlice S1x512 ![26, 0] w slices_S31x512_S1x512_26_0)) (extractStridedSlice S4x2048x512 ![0, 27, 0] p slices_S4x2078x512_S4x2048x512_0_27_0) (extractStridedSlice S1x512 ![27, 0] w slices_S31x512_S1x512_27_0)) (extractStridedSlice S4x2048x512 ![0, 28, 0] p slices_S4x2078x512_S4x2048x512_0_28_0) (extractStridedSlice S1x512 ![28, 0] w slices_S31x512_S1x512_28_0)) (extractStridedSlice S4x2048x512 ![0, 29, 0] p slices_S4x2078x512_S4x2048x512_0_29_0) (extractStridedSlice S1x512 ![29, 0] w slices_S31x512_S1x512_29_0)) (extractStridedSlice S4x2048x512 ![0, 30, 0] p slices_S4x2078x512_S4x2048x512_0_30_0) (extractStridedSlice S1x512 ![30, 0] w slices_S31x512_S1x512_30_0))

/-- The result, over the operands. -/
def res (x0 : (⟨S1, .i32⟩ : BufTy).Contents (Elt F)) (x1 : (⟨S4x2048x2048, .f32⟩ : BufTy).Contents (Elt F)) (x2 : (⟨S4x31x512, .f32⟩ : BufTy).Contents (Elt F)) (x3 : (⟨S4x1x512, .f32⟩ : BufTy).Contents (Elt F)) (x4 : (⟨S4x1x512, .f32⟩ : BufTy).Contents (Elt F)) (x5 : (⟨S4x1x512, .f32⟩ : BufTy).Contents (Elt F)) (x6 : (⟨S4x1x512, .f32⟩ : BufTy).Contents (Elt F)) : (⟨S4x2048x512, .bf16⟩ : BufTy).Contents (Elt F) :=
  truncf .bf16 (mulf (over (swish (addf (mulf (over (less (addf (summed (padded (gated x1)) (taps x2 (st (F := F) x0))) (rows (vecp x3 (st (F := F) x0)))))) (rows (vecp x4 (st (F := F) x0)))) (rows (vecp x5 (st (F := F) x0))))))
    (rows (vecp x6 (st (F := F) x0)))) bitsLt_bf16_f32

/-- What none of the operations writes is kept. -/
theorem keep {r : Ref sig .tc} (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) (h10 : r ∉ wr10) (h11 : r ∉ wr11) (h12 : r ∉ wr12) (V : Valuation τ sig (Elt F)) :
    after (ops (F := F)) V (Proc.devRef .tc r) = V (Proc.devRef .tc r) := by
  unfold ops
  rw [after_parts, after_parts, after_parts, after_parts, after_parts, after_parts, after_parts, after_parts, after_parts, after_parts, after_parts, keep12 h12, keep11 h11, keep10 h10, keep9 h9, keep8 h8, keep7 h7, keep6 h6, keep5 h5, keep4 h4, keep3 h3, keep2 h2, keep1 h1]

theorem val (V : Valuation τ sig (Elt F)) : after (ops (F := F)) V (Proc.devRef .tc main_v278)
    = res (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  unfold ops
  rw [after_parts, after_parts, after_parts, after_parts, after_parts, after_parts, after_parts, after_parts, after_parts, after_parts, after_parts]
  rw [val12_v278, val11_v262, keep11 (r := main_arg6) (by decide), keep11 (r := main_v0) (by decide), val10_v261, keep10 (r := main_arg6) (by decide), keep10 (r := main_v0) (by decide), val9_v251, keep9 (r := main_arg4) (by decide), keep9 (r := main_v0) (by decide), keep9 (r := main_arg5) (by decide), keep9 (r := main_arg6) (by decide), val8_v235, keep8 (r := main_arg4) (by decide), keep8 (r := main_v0) (by decide), keep8 (r := main_arg5) (by decide), keep8 (r := main_arg6) (by decide), val7_v230, keep7 (r := main_arg3) (by decide), keep7 (r := main_v0) (by decide), keep7 (r := main_arg4) (by decide), keep7 (r := main_arg5) (by decide), keep7 (r := main_arg6) (by decide), val6_v188, keep6 (r := main_v12) (by decide), keep6 (r := main_v11) (by decide), keep6 (r := main_arg3) (by decide), keep6 (r := main_v0) (by decide), keep6 (r := main_arg4) (by decide), keep6 (r := main_arg5) (by decide), keep6 (r := main_arg6) (by decide), val5_v153, keep5 (r := main_v12) (by decide), keep5 (r := main_v11) (by decide), keep5 (r := main_arg3) (by decide), keep5 (r := main_v0) (by decide), keep5 (r := main_arg4) (by decide), keep5 (r := main_arg5) (by decide), keep5 (r := main_arg6) (by decide), val4_v118, keep4 (r := main_v12) (by decide), keep4 (r := main_v11) (by decide), keep4 (r := main_arg3) (by decide), keep4 (r := main_v0) (by decide), keep4 (r := main_arg4) (by decide), keep4 (r := main_arg5) (by decide), keep4 (r := main_arg6) (by decide), val3_v83, keep3 (r := main_v12) (by decide), keep3 (r := main_v11) (by decide), keep3 (r := main_arg3) (by decide), keep3 (r := main_v0) (by decide), keep3 (r := main_arg4) (by decide), keep3 (r := main_arg5) (by decide), keep3 (r := main_arg6) (by decide), val2_v48, keep2 (r := main_v12) (by decide), keep2 (r := main_v11) (by decide), keep2 (r := main_arg3) (by decide), keep2 (r := main_v0) (by decide), keep2 (r := main_arg4) (by decide), keep2 (r := main_arg5) (by decide), keep2 (r := main_arg6) (by decide), val1_v12, val1_v11, keep1 (r := main_arg3) (by decide), val1_v0, keep1 (r := main_arg4) (by decide), keep1 (r := main_arg5) (by decide), keep1 (r := main_arg6) (by decide)]
  rfl

/-- The run: the result buffer holds the result, and the operands are as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v278) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v278).trans (val _),
      (h c main_arg0).trans (keep (by decide) (by decide) (by decide) (by decide) (by decide) (by decide) (by decide) (by decide) (by decide) (by decide) (by decide) (by decide) _),
      (h c main_arg1).trans (keep (by decide) (by decide) (by decide) (by decide) (by decide) (by decide) (by decide) (by decide) (by decide) (by decide) (by decide) (by decide) _),
      (h c main_arg2).trans (keep (by decide) (by decide) (by decide) (by decide) (by decide) (by decide) (by decide) (by decide) (by decide) (by decide) (by decide) (by decide) _),
      (h c main_arg3).trans (keep (by decide) (by decide) (by decide) (by decide) (by decide) (by decide) (by decide) (by decide) (by decide) (by decide) (by decide) (by decide) _),
      (h c main_arg4).trans (keep (by decide) (by decide) (by decide) (by decide) (by decide) (by decide) (by decide) (by decide) (by decide) (by decide) (by decide) (by decide) _),
      (h c main_arg5).trans (keep (by decide) (by decide) (by decide) (by decide) (by decide) (by decide) (by decide) (by decide) (by decide) (by decide) (by decide) (by decide) _),
      (h c main_arg6).trans (keep (by decide) (by decide) (by decide) (by decide) (by decide) (by decide) (by decide) (by decide) (by decide) (by decide) (by decide) (by decide) _)⟩)
    (run_seq noRefs noSems defs main (fun _ => ops) main_ops
      (fun _ => by simp only [ops, List.forall_append]; exact ⟨sub1, sub2, sub3, sub4, sub5, sub6, sub7, sub8, sub9, sub10, sub11, sub12⟩) m ρ)

end Cert.Proof.ConvQ

end
-- ==== Proof.ConvR.lean ====
module

public import proofs.«01_k».proof.Proof.ConvQ
public import proofs.«01_k».proof.Proof.ConvS
public import Idealize.ShloMosaic.Lib.DynamicIndex
public import Idealize.ShloMosaic.Lib.Pointwise

@[expose] public section

noncomputable section

/-! The result of the convolution's reference, entry by entry, over the extended reals. -/

namespace Cert.Proof.ConvR

open Cert.ConvReferenceIdeal Cert.ConvReferenceIdeal.Gen Idealize.ShloMosaic Cert.Proof.ConvQ

/-- Where a layer's parameters start. -/
theorem start (x0 : IVec S1 32) (L : Fin 4) (h : (x0 (ix1 0)).toNat = L.val) (k : Fin 3) : at3 (F := Ideal) (st (F := Ideal) x0) k = ((![L.val, 0, 0] : Fin 3 → ℕ) k : ℤ) := by
  match k with
  | ⟨0, _⟩ =>
    have e : st (F := Ideal) x0 (Shape.Idx.first h_S_) = x0 (ix1 0) := by
      unfold st shapeCast
      exact congrArg x0 (funext fun a => by match a with | ⟨0, _⟩ => exact Subsingleton.elim (α := Fin 1) _ _)
    show (st (F := Ideal) x0 (Shape.Idx.first h_S_)).toInt = (L.val : ℤ)
    rw [e, BitVec.toInt_eq_toNat_cond, if_pos (by omega), h]
  | ⟨1, _⟩ => rfl
  | ⟨2, _⟩ => rfl

variable (s : IVec S_ 32) (L : Fin 4) (h : ∀ k, at3 (F := Ideal) s k = ((![L.val, 0, 0] : Fin 3 → ℕ) k : ℤ))
include h

/-- The layer's parameters, entry by entry. -/
theorem vecp_eq (p : FVec Ideal S4x1x512 .f32) (d : Fin 512) : vecp (F := Ideal) p s (ix2 0 d) = p (ix3 L 0 d) := by
  unfold vecp
  rw [Host.dynamicSlice_eq_extractStridedSlice S1x1x512 p _ ![L.val, 0, 0] _ ⟨rfl, fun k => by
    match k with
    | ⟨0, _⟩ => show L.val + 1 ≤ 4; omega
    | ⟨1, _⟩ => show 0 + 1 ≤ 1; omega
    | ⟨2, _⟩ => show 0 + 512 ≤ 512; omega⟩ h]
  pointwise
theorem taps_eq (p : FVec Ideal S4x31x512 .f32) (k : Fin 31) (d : Fin 512) : taps (F := Ideal) p s (ix2 k d) = p (ix3 L k d) := by
  unfold taps
  rw [Host.dynamicSlice_eq_extractStridedSlice S1x31x512 p _ ![L.val, 0, 0] _ ⟨rfl, fun k => by
    match k with
    | ⟨0, _⟩ => show L.val + 1 ≤ 4; omega
    | ⟨1, _⟩ => show 0 + 31 ≤ 31; omega
    | ⟨2, _⟩ => show 0 + 512 ≤ 512; omega⟩ h]
  pointwise

omit h

/-- The reference's steps, entry by entry: the gated input, -/
theorem gated_eq (x : FVec Ideal S4x2048x2048 .f32) (b : Fin 4) (t : Fin 2048) (d : Fin 512) :
    gated (F := Ideal) x (ix3 b t d) = ConvS.glu x b t d := by
  unfold ConvS.glu
  simp only [zero_sub]
  pointwise [gated]

/-- it after the zero rows, -/
theorem padded_eq (x : FVec Ideal S4x2048x2048 .f32) (b : Fin 4) (n : Fin 2078) (d : Fin 512) :
    padded (F := Ideal) (gated (F := Ideal) x) (ix3 b n d) = ConvS.lagged x b n.val d := by
  unfold ConvS.lagged
  have e : ∀ u : FVec Ideal S4x2048x512 .f32, padded (F := Ideal) u (ix3 b n d) = if h : 30 ≤ n.val ∧ n.val - 30 < 2048 then u (ix3 b (⟨n.val - 30, h.2⟩ : Fin 2048) d) else 0 := by
    intro u
    pointwise [padded]
    have z : FloatOps.sitofp (F := Ideal) .f32 (0#32) = 0 := by
      show ((((0#32 : BitVec 32).toInt : ℝ)) : EReal) = 0
      simp
    rw [z]
  rw [e]
  simp only [gated_eq]

/-- one term more, -/
theorem more_eq (a : FVec Ideal S4x2048x512 .f32) (u : FVec Ideal S4x2048x512 .f32) (r : FVec Ideal S1x512 .f32) (b : Fin 4) (t : Fin 2048) (d : Fin 512) :
    more (F := Ideal) a u r (ix3 b t d) = a (ix3 b t d) + u (ix3 b t d) * r (ix2 0 d) := by
  pointwise [more]

/-- a vector on every row, the row less its mean, the row over the root of its mean square, and the gate. -/
theorem rows_eq (g : FVec Ideal S1x512 .f32) (b : Fin 4) (t : Fin 2048) (d : Fin 512) : rows (F := Ideal) g (ix3 b t d) = g (ix2 0 d) := by
  pointwise [rows]
theorem less_eq (y : FVec Ideal S4x2048x512 .f32) (b : Fin 4) (t : Fin 2048) (d : Fin 512) :
    less (F := Ideal) y (ix3 b t d) = ConvS.cen (fun k => y (ix3 b t k)) d := by
  pointwise [less]
  rfl
theorem over_eq (y : FVec Ideal S4x2048x512 .f32) (b : Fin 4) (t : Fin 2048) (d : Fin 512) :
    over (F := Ideal) y (ix3 b t d) = ConvS.unit (fun k => y (ix3 b t k)) d := by
  pointwise [over]
  rfl
theorem swish_eq (y : FVec Ideal S4x2048x512 .f32) (b : Fin 4) (t : Fin 2048) (d : Fin 512) :
    swish (F := Ideal) y (ix3 b t d) = ConvS.gate (y (ix3 b t d)) := by
  unfold ConvS.gate
  simp only [zero_sub]
  pointwise [swish]

/-- The rows and the taps read at a tap's number, -/
theorem slp_eq (x : FVec Ideal S4x2048x2048 .f32) (k : ℕ) (hs : S4x2078x512.Slices ![0, k, 0] S4x2048x512) (b : Fin 4) (t : Fin 2048) (d : Fin 512) :
    extractStridedSlice S4x2048x512 ![0, k, 0] (padded (F := Ideal) (gated (F := Ideal) x)) hs (ix3 b t d) = ConvS.lagged x b (t.val + k) d := by
  have hk : k + 2048 ≤ 2078 := hs.2 (1 : Fin 3)
  have ht : t.val < 2048 := t.isLt
  refine Eq.trans (b := padded (F := Ideal) (gated (F := Ideal) x) (ix3 b (⟨t.val + k, by omega⟩ : Fin 2078) d)) (congrArg (padded (F := Ideal) (gated (F := Ideal) x)) (funext fun a => Fin.ext ?_)) (padded_eq x b _ d)
  match a with
  | ⟨0, _⟩ => show 0 + b.val = b.val; omega
  | ⟨1, _⟩ => show k + t.val = t.val + k; omega
  | ⟨2, _⟩ => show 0 + d.val = d.val; omega
theorem slw_eq (h : ∀ k, at3 (F := Ideal) s k = ((![L.val, 0, 0] : Fin 3 → ℕ) k : ℤ)) (T : FVec Ideal S4x31x512 .f32) (k : ℕ) (hs : S31x512.Slices ![k, 0] S1x512) (d : Fin 512) :
    extractStridedSlice S1x512 ![k, 0] (taps (F := Ideal) T s) hs (ix2 0 d) = ConvS.tap L T k d := by
  have hk : k + 1 ≤ 31 := hs.2 (0 : Fin 2)
  unfold ConvS.tap
  rw [dif_pos (show k < 31 by omega)]
  refine Eq.trans (b := taps (F := Ideal) T s (ix2 (⟨k, by omega⟩ : Fin 31) d)) (congrArg (taps (F := Ideal) T s) (funext fun a => Fin.ext ?_)) (taps_eq s L h T _ d)
  match a with
  | ⟨0, _⟩ => show k + 0 = k; omega
  | ⟨1, _⟩ => show 0 + d.val = d.val; omega

/-- and the sum of the terms. -/
theorem summed_eq (h : ∀ k, at3 (F := Ideal) s k = ((![L.val, 0, 0] : Fin 3 → ℕ) k : ℤ)) (x : FVec Ideal S4x2048x2048 .f32) (T : FVec Ideal S4x31x512 .f32) (b : Fin 4) (t : Fin 2048) (d : Fin 512) :
    summed (F := Ideal) (padded (F := Ideal) (gated (F := Ideal) x)) (taps (F := Ideal) T s) (ix3 b t d) = ConvS.sums L x T b t d := by
  have z : broadcastInDim S4x2048x512 ![] bcast_S_S4x2048x512 (constant (F := Ideal) S_ .f32 0x00000000#32) (ix3 b t d) = (0 : EReal) := by pointwise
  unfold summed
  simp only [more_eq, slw_eq s L h, z]
  rw [slp_eq x 0, slp_eq x 1, slp_eq x 2, slp_eq x 3, slp_eq x 4, slp_eq x 5, slp_eq x 6, slp_eq x 7, slp_eq x 8, slp_eq x 9, slp_eq x 10, slp_eq x 11, slp_eq x 12, slp_eq x 13, slp_eq x 14, slp_eq x 15, slp_eq x 16, slp_eq x 17, slp_eq x 18, slp_eq x 19, slp_eq x 20, slp_eq x 21, slp_eq x 22, slp_eq x 23, slp_eq x 24, slp_eq x 25, slp_eq x 26, slp_eq x 27, slp_eq x 28, slp_eq x 29, slp_eq x 30]
  rfl

variable (x0 : IVec S1 32) (x1 : FVec Ideal S4x2048x2048 .f32) (x2 : FVec Ideal S4x31x512 .f32) (x3 x4 x5 x6 : FVec Ideal S4x1x512 .f32)

/-- The reference's result is the convolution. -/
theorem ref_eq (hL : (x0 (ix1 0)).toNat = L.val) : res (F := Ideal) x0 x1 x2 x3 x4 x5 x6 = ConvS.out L x1 x2 x3 x4 x5 x6 := by
  have h := start x0 L hL
  funext y
  obtain ⟨b, t, d, rfl⟩ : ∃ b t d, y = ix3 b t d := ⟨y 0, y 1, y 2, funext fun a => by
    match a with
    | ⟨0, _⟩ => rfl
    | ⟨1, _⟩ => rfl
    | ⟨2, _⟩ => rfl⟩
  unfold res
  show over (F := Ideal) _ (ix3 b t d) * rows (F := Ideal) _ (ix3 b t d) = _
  rw [over_eq, rows_eq, vecp_eq _ L h]
  have e1 : ∀ (u v w : FVec Ideal S4x2048x512 .f32) (k : Fin 512), addf (mulf u v) w (ix3 b t k) = u (ix3 b t k) * v (ix3 b t k) + w (ix3 b t k) := fun _ _ _ _ => rfl
  have e2 : ∀ (u v : FVec Ideal S4x2048x512 .f32) (k : Fin 512), addf u v (ix3 b t k) = u (ix3 b t k) + v (ix3 b t k) := fun _ _ _ => rfl
  simp only [swish_eq, e1, over_eq, less_eq, rows_eq, e2, vecp_eq _ L h, summed_eq _ L h]
  rfl

end Cert.Proof.ConvR

end
-- ==== Proof.ConvC.lean ====
module

public import proofs.«01_k».proof.Defs
public import proofs.«01_k».proof.Proof.ConvK
public import proofs.«01_k».proof.Proof.ConvN
public import proofs.«01_k».proof.Proof.ConvR
public import Idealize.ShloMosaic.Adequacy
public import Idealize.ShloMosaic.Init

@[expose] public section

noncomputable section

/-! The claims about the convolution. -/

namespace Cert.Proof.ConvC

open Idealize.ShloMosaic Idealize.ShloMosaic.TcCoe Idealize.SL.Sem

/-- The printed kernel runs, keeps its operands and ends with every counter at zero. -/
theorem frame_printed : Cert.quiescent_Conv := fun m g hpre => Cert.Conv.Gen.frame (F := Bits) m g (ConvK.ok m (ConvP.lt_of_pre _ _ _ _ _ _ _ (hpre 0)))

/-- So does the idealized kernel, -/
theorem lt (m : (ℓ : Loc Cert.ConvIdeal.nD Cert.ConvIdeal.τ Cert.ConvIdeal.sig) → Buf (Elt Ideal) ℓ) (hpre : Cert.Pre_ConvIdeal m) : (ConvI.lay m).toNat < 4 :=
  ConvP.lt_of_pre _ _ _ _ _ _ _ (hpre 0)
theorem frame_ideal : Cert.quiescent_ConvIdeal := fun m g hpre => Cert.ConvIdeal.Gen.frame (F := Ideal) m g (ConvI.ok m (lt m hpre))

/-- and the reference, which declares no counter. -/
theorem frame_ref : Cert.quiescent_ConvReferenceIdeal := fun m g _ =>
  (θ_run Cert.ConvReferenceIdeal.defs _ _).mono (fun r h => ⟨fun c => (h c).2, Idealize.ShloMosaic.sem_eq_zero_of_no_sems (by decide) r.2⟩) (ConvQ.run (F := Ideal) m g)
theorem frame_ref_pre : Cert.quiescent_ConvReferenceIdeal_pre_layer_in_conv := fun m g _ => frame_ref m g trivial

/-- The idealization rewrote nothing. -/
theorem preserves : Cert.preserves_Conv_ConvIdeal := trivial

/-- At a layer of the stack both programs end with the convolution on their operands. -/
theorem algebraic : Cert.algebraic_ConvIdeal_ConvReferenceIdeal := by
  intro m g m' g' hpre hag
  have hl := lt m hpre
  refine ⟨fun c => ConvS.out (ConvM.L m hl) (ConvM.ax m c) (ConvM.at_ m c) (ConvM.ab m c) (ConvM.ag m c) (ConvM.as_ m c) (ConvM.aq m c), ?_, ?_⟩
  · refine (θ_run Cert.ConvIdeal.defs _ _).mono (fun r h c => ⟨((h.1 c).1 7).trans (ConvN.final m hl c), h.2.1 c⟩)
      (θ_run_and (Cert.ConvIdeal.Gen.run_main (F := Ideal) m g (ConvI.ok m hl)) (Cert.ConvIdeal.Gen.frame (F := Ideal) m g (ConvI.ok m hl)))
  · refine (θ_run Cert.ConvReferenceIdeal.defs _ _).mono (fun r h c => ⟨(h c).1.trans ?_, (h c).2⟩) (ConvQ.run (F := Ideal) m' g')
    obtain ⟨h0, h1, h2, h3, h4, h5, h6⟩ := hag c
    rw [h0, h1, h2, h3, h4, h5, h6]
    have c0 : c = 0 := Subsingleton.elim _ _
    subst c0
    exact ConvR.ref_eq (ConvM.L m hl) _ _ _ _ _ _ _ rfl

end Cert.Proof.ConvC

end
-- ==== Proof.lean ====
module

public import proofs.«01_k».proof.Defs
public import proofs.«01_k».proof.Proof.AttnC
public import proofs.«01_k».proof.Proof.FfnC
public import proofs.«01_k».proof.Proof.QkvC
public import proofs.«01_k».proof.Proof.RestC
public import proofs.«01_k».proof.Proof.OutC
public import proofs.«01_k».proof.Proof.ConvC

@[expose] public section

namespace Cert.Proof

/-- Every claim of the certificate. -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Qkv.Gen.facts, Cert.QkvIdeal.Gen.facts, Cert.QkvReferenceIdeal.Gen.facts,
  Cert.Rest.Gen.facts, Cert.RestIdeal.Gen.facts, Cert.RestReferenceIdeal.Gen.facts,
  Cert.Outproj.Gen.facts, Cert.OutprojIdeal.Gen.facts, Cert.OutprojReferenceIdeal.Gen.facts,
  Cert.Conv.Gen.facts, Cert.ConvIdeal.Gen.facts, Cert.ConvReferenceIdeal.Gen.facts,
  Cert.Pre_finite_qk.Gen.facts, Cert.Pre_layer_in_stack.Gen.facts, Cert.Pre_layer_in_proj.Gen.facts, Cert.Pre_layer_in_outproj.Gen.facts, Cert.Pre_layer_in_conv.Gen.facts,
  AttnC.frame_kernel, AttnC.frame_kernelIdeal, AttnC.frame_kernelIdeal_pre, AttnC.frame_ref, AttnC.frame_ref_pre,
  FfnC.frame_ffn, FfnC.frame_ffnIdeal, FfnC.frame_ref, FfnC.frame_ref_pre,
  QkvC.frame_printed, QkvC.frame_ideal, QkvC.frame_ref, QkvC.frame_ref_pre,
  RestC.frame_printed, RestC.frame_ideal, RestC.frame_ref, RestC.frame_ref_pre,
  OutC.frame_printed, OutC.frame_ideal, OutC.frame_ref, OutC.frame_ref_pre,
  ConvC.frame_printed, ConvC.frame_ideal, ConvC.frame_ref, ConvC.frame_ref_pre,
  AttnC.preserves, AttnC.algebraic, FfnC.preserves, FfnC.algebraic,
  QkvC.preserves, QkvC.algebraic, RestC.preserves, RestC.algebraic, OutC.preserves, OutC.algebraic,
  ConvC.preserves, ConvC.algebraic⟩

end Cert.Proof
